-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDownLoss (m : (ℓ : Loc Cert.MlpDownLoss.nD Cert.MlpDownLoss.τ Cert.MlpDownLoss.sig) → Buf (Elt Bits) ℓ) : Prop :=
  True

def Pre_MlpDownLossIdeal (m : (ℓ : Loc Cert.MlpDownLossIdeal.nD Cert.MlpDownLossIdeal.τ Cert.MlpDownLossIdeal.sig) → Buf (Elt Ideal) ℓ) : Prop :=
  True

def Pre_MlpDownLossRefIdeal (m : (ℓ : Loc Cert.MlpDownLossRefIdeal.nD Cert.MlpDownLossRefIdeal.τ Cert.MlpDownLossRefIdeal.sig) → Buf (Elt Ideal) ℓ) : Prop :=
  True

def Pre_MlpDownWgrad (m : (ℓ : Loc Cert.MlpDownWgrad.nD Cert.MlpDownWgrad.τ Cert.MlpDownWgrad.sig) → Buf (Elt Bits) ℓ) : Prop :=
  True

def Pre_MlpDownWgradIdeal (m : (ℓ : Loc Cert.MlpDownWgradIdeal.nD Cert.MlpDownWgradIdeal.τ Cert.MlpDownWgradIdeal.sig) → Buf (Elt Ideal) ℓ) : Prop :=
  True

def Pre_MlpDownWgradRefIdeal (m : (ℓ : Loc Cert.MlpDownWgradRefIdeal.nD Cert.MlpDownWgradRefIdeal.τ Cert.MlpDownWgradRefIdeal.sig) → Buf (Elt Ideal) ℓ) : Prop :=
  True

def Pre_MlpDownBwd (m : (ℓ : Loc Cert.MlpDownBwd.nD Cert.MlpDownBwd.τ Cert.MlpDownBwd.sig) → Buf (Elt Bits) ℓ) : Prop :=
  True

def Pre_MlpDownBwdIdeal (m : (ℓ : Loc Cert.MlpDownBwdIdeal.nD Cert.MlpDownBwdIdeal.τ Cert.MlpDownBwdIdeal.sig) → Buf (Elt Ideal) ℓ) : Prop :=
  True

def Pre_MlpDownBwdRefIdeal (m : (ℓ : Loc Cert.MlpDownBwdRefIdeal.nD Cert.MlpDownBwdRefIdeal.τ Cert.MlpDownBwdRefIdeal.sig) → Buf (Elt Ideal) ℓ) : Prop :=
  True

def Pre_MlpUpWgrad (m : (ℓ : Loc Cert.MlpUpWgrad.nD Cert.MlpUpWgrad.τ Cert.MlpUpWgrad.sig) → Buf (Elt Bits) ℓ) : Prop :=
  True

def Pre_MlpUpWgradIdeal (m : (ℓ : Loc Cert.MlpUpWgradIdeal.nD Cert.MlpUpWgradIdeal.τ Cert.MlpUpWgradIdeal.sig) → Buf (Elt Ideal) ℓ) : Prop :=
  True

def Pre_MlpUpWgradRefIdeal (m : (ℓ : Loc Cert.MlpUpWgradRefIdeal.nD Cert.MlpUpWgradRefIdeal.τ Cert.MlpUpWgradRefIdeal.sig) → Buf (Elt Ideal) ℓ) : Prop :=
  True

def Pre_MlpUpBwd (m : (ℓ : Loc Cert.MlpUpBwd.nD Cert.MlpUpBwd.τ Cert.MlpUpBwd.sig) → Buf (Elt Bits) ℓ) : Prop :=
  True

def Pre_MlpUpBwdIdeal (m : (ℓ : Loc Cert.MlpUpBwdIdeal.nD Cert.MlpUpBwdIdeal.τ Cert.MlpUpBwdIdeal.sig) → Buf (Elt Ideal) ℓ) : Prop :=
  True

def Pre_MlpUpBwdRefIdeal (m : (ℓ : Loc Cert.MlpUpBwdRefIdeal.nD Cert.MlpUpBwdRefIdeal.τ Cert.MlpUpBwdRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjBwdRefIdeal (m : (ℓ : Loc Cert.InProjBwdRefIdeal.nD Cert.InProjBwdRefIdeal.τ Cert.InProjBwdRefIdeal.sig) → Buf (Elt Ideal) ℓ) : Prop :=
  True

def Pre_InProjWgradA (m : (ℓ : Loc Cert.InProjWgradA.nD Cert.InProjWgradA.τ Cert.InProjWgradA.sig) → Buf (Elt Bits) ℓ) : Prop :=
  True

def Pre_InProjWgradAIdeal (m : (ℓ : Loc Cert.InProjWgradAIdeal.nD Cert.InProjWgradAIdeal.τ Cert.InProjWgradAIdeal.sig) → Buf (Elt Ideal) ℓ) : Prop :=
  True

def Pre_InProjWgradARefIdeal (m : (ℓ : Loc Cert.InProjWgradARefIdeal.nD Cert.InProjWgradARefIdeal.τ Cert.InProjWgradARefIdeal.sig) → Buf (Elt Ideal) ℓ) : Prop :=
  True

def Pre_InProjWgradB (m : (ℓ : Loc Cert.InProjWgradB.nD Cert.InProjWgradB.τ Cert.InProjWgradB.sig) → Buf (Elt Bits) ℓ) : Prop :=
  True

def Pre_InProjWgradBIdeal (m : (ℓ : Loc Cert.InProjWgradBIdeal.nD Cert.InProjWgradBIdeal.τ Cert.InProjWgradBIdeal.sig) → Buf (Elt Ideal) ℓ) : Prop :=
  True

def Pre_InProjWgradBRefIdeal (m : (ℓ : Loc Cert.InProjWgradBRefIdeal.nD Cert.InProjWgradBRefIdeal.τ Cert.InProjWgradBRefIdeal.sig) → Buf (Elt Ideal) ℓ) : Prop :=
  True

def Pre_InProjWgradC (m : (ℓ : Loc Cert.InProjWgradC.nD Cert.InProjWgradC.τ Cert.InProjWgradC.sig) → Buf (Elt Bits) ℓ) : Prop :=
  True

def Pre_InProjWgradCIdeal (m : (ℓ : Loc Cert.InProjWgradCIdeal.nD Cert.InProjWgradCIdeal.τ Cert.InProjWgradCIdeal.sig) → Buf (Elt Ideal) ℓ) : Prop :=
  True

def Pre_InProjWgradCRefIdeal (m : (ℓ : Loc Cert.InProjWgradCRefIdeal.nD Cert.InProjWgradCRefIdeal.τ Cert.InProjWgradCRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjBwd (m : (ℓ : Loc Cert.OutProjBwd.nD Cert.OutProjBwd.τ Cert.OutProjBwd.sig) → Buf (Elt Bits) ℓ) : Prop :=
  True

def Pre_OutProjBwdIdeal (m : (ℓ : Loc Cert.OutProjBwdIdeal.nD Cert.OutProjBwdIdeal.τ Cert.OutProjBwdIdeal.sig) → Buf (Elt Ideal) ℓ) : Prop :=
  True

def Pre_OutProjBwdRefIdeal (m : (ℓ : Loc Cert.OutProjBwdRefIdeal.nD Cert.OutProjBwdRefIdeal.τ Cert.OutProjBwdRefIdeal.sig) → Buf (Elt Ideal) ℓ) : Prop :=
  True

def Pre_OutProjWgrad (m : (ℓ : Loc Cert.OutProjWgrad.nD Cert.OutProjWgrad.τ Cert.OutProjWgrad.sig) → Buf (Elt Bits) ℓ) : Prop :=
  True

def Pre_OutProjWgradIdeal (m : (ℓ : Loc Cert.OutProjWgradIdeal.nD Cert.OutProjWgradIdeal.τ Cert.OutProjWgradIdeal.sig) → Buf (Elt Ideal) ℓ) : Prop :=
  True

def Pre_OutProjWgradRefIdeal (m : (ℓ : Loc Cert.OutProjWgradRefIdeal.nD Cert.OutProjWgradRefIdeal.τ Cert.OutProjWgradRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_AttnOutBwd (m : (ℓ : Loc Cert.AttnOutBwd.nD Cert.AttnOutBwd.τ Cert.AttnOutBwd.sig) → Buf (Elt Bits) ℓ) : Prop :=
  True

def Pre_AttnOutBwdIdeal (m : (ℓ : Loc Cert.AttnOutBwdIdeal.nD Cert.AttnOutBwdIdeal.τ Cert.AttnOutBwdIdeal.sig) → Buf (Elt Ideal) ℓ) : Prop :=
  True

def Pre_AttnOutBwdRefIdeal (m : (ℓ : Loc Cert.AttnOutBwdRefIdeal.nD Cert.AttnOutBwdRefIdeal.τ Cert.AttnOutBwdRefIdeal.sig) → Buf (Elt Ideal) ℓ) : Prop :=
  True

def Pre_AttnOutWgrad (m : (ℓ : Loc Cert.AttnOutWgrad.nD Cert.AttnOutWgrad.τ Cert.AttnOutWgrad.sig) → Buf (Elt Bits) ℓ) : Prop :=
  True

def Pre_AttnOutWgradIdeal (m : (ℓ : Loc Cert.AttnOutWgradIdeal.nD Cert.AttnOutWgradIdeal.τ Cert.AttnOutWgradIdeal.sig) → Buf (Elt Ideal) ℓ) : Prop :=
  True

def Pre_AttnOutWgradRefIdeal (m : (ℓ : Loc Cert.AttnOutWgradRefIdeal.nD Cert.AttnOutWgradRefIdeal.τ Cert.AttnOutWgradRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDownLoss [hMlpDownLoss : Cert.MlpDownLoss.Facts] : Prop :=
  ∀ (m : (ℓ : Loc Cert.MlpDownLoss.nD Cert.MlpDownLoss.τ Cert.MlpDownLoss.sig) → Buf (Elt Bits) ℓ) (g : Dev Cert.MlpDownLoss.nD → PrngReg), Pre_MlpDownLoss m →
    θ_run (Cert.MlpDownLoss.defs (F := Bits)) (onTc (τ := Cert.MlpDownLoss.τ) (Cert.MlpDownLoss.main (F := Bits))) ⟨m, fun _ => 0, g⟩ (fun r => (∀ c : Dev Cert.MlpDownLoss.nD,
      r.2.mem ((c.tc : Thread Cert.MlpDownLoss.nD Cert.MlpDownLoss.τ).loc Cert.MlpDownLoss.main_arg0) = m ((c.tc : Thread Cert.MlpDownLoss.nD Cert.MlpDownLoss.τ).loc Cert.MlpDownLoss.main_arg0)
      ∧ r.2.mem ((c.tc : Thread Cert.MlpDownLoss.nD Cert.MlpDownLoss.τ).loc Cert.MlpDownLoss.main_arg1) = m ((c.tc : Thread Cert.MlpDownLoss.nD Cert.MlpDownLoss.τ).loc Cert.MlpDownLoss.main_arg1)
      ∧ r.2.mem ((c.tc : Thread Cert.MlpDownLoss.nD Cert.MlpDownLoss.τ).loc Cert.MlpDownLoss.main_arg2) = m ((c.tc : Thread Cert.MlpDownLoss.nD Cert.MlpDownLoss.τ).loc Cert.MlpDownLoss.main_arg2)
      ∧ r.2.mem ((c.tc : Thread Cert.MlpDownLoss.nD Cert.MlpDownLoss.τ).loc Cert.MlpDownLoss.main_arg3) = m ((c.tc : Thread Cert.MlpDownLoss.nD Cert.MlpDownLoss.τ).loc Cert.MlpDownLoss.main_arg3))
      ∧ r.2.sem = fun _ => 0)

def quiescent_MlpDownLossIdeal [hMlpDownLossIdeal : Cert.MlpDownLossIdeal.Facts] : Prop :=
  ∀ (m : (ℓ : Loc Cert.MlpDownLossIdeal.nD Cert.MlpDownLossIdeal.τ Cert.MlpDownLossIdeal.sig) → Buf (Elt Ideal) ℓ) (g : Dev Cert.MlpDownLossIdeal.nD → PrngReg), Pre_MlpDownLossIdeal m →
    θ_run (Cert.MlpDownLossIdeal.defs (F := Ideal)) (onTc (τ := Cert.MlpDownLossIdeal.τ) (Cert.MlpDownLossIdeal.main (F := Ideal))) ⟨m, fun _ => 0, g⟩ (fun r => (∀ c : Dev Cert.MlpDownLossIdeal.nD,
      r.2.mem ((c.tc : Thread Cert.MlpDownLossIdeal.nD Cert.MlpDownLossIdeal.τ).loc Cert.MlpDownLossIdeal.main_arg0) = m ((c.tc : Thread Cert.MlpDownLossIdeal.nD Cert.MlpDownLossIdeal.τ).loc Cert.MlpDownLossIdeal.main_arg0)
      ∧ r.2.mem ((c.tc : Thread Cert.MlpDownLossIdeal.nD Cert.MlpDownLossIdeal.τ).loc Cert.MlpDownLossIdeal.main_arg1) = m ((c.tc : Thread Cert.MlpDownLossIdeal.nD Cert.MlpDownLossIdeal.τ).loc Cert.MlpDownLossIdeal.main_arg1)
      ∧ r.2.mem ((c.tc : Thread Cert.MlpDownLossIdeal.nD Cert.MlpDownLossIdeal.τ).loc Cert.MlpDownLossIdeal.main_arg2) = m ((c.tc : Thread Cert.MlpDownLossIdeal.nD Cert.MlpDownLossIdeal.τ).loc Cert.MlpDownLossIdeal.main_arg2)
      ∧ r.2.mem ((c.tc : Thread Cert.MlpDownLossIdeal.nD Cert.MlpDownLossIdeal.τ).loc Cert.MlpDownLossIdeal.main_arg3) = m ((c.tc : Thread Cert.MlpDownLossIdeal.nD Cert.MlpDownLossIdeal.τ).loc Cert.MlpDownLossIdeal.main_arg3))
      ∧ r.2.sem = fun _ => 0)

def quiescent_MlpDownLossRefIdeal [hMlpDownLossRefIdeal : Cert.MlpDownLossRefIdeal.Facts] : Prop :=
  ∀ (m : (ℓ : Loc Cert.MlpDownLossRefIdeal.nD Cert.MlpDownLossRefIdeal.τ Cert.MlpDownLossRefIdeal.sig) → Buf (Elt Ideal) ℓ) (g : Dev Cert.MlpDownLossRefIdeal.nD → PrngReg), Pre_MlpDownLossRefIdeal m →
    θ_run (Cert.MlpDownLossRefIdeal.defs (F := Ideal)) (onTc (τ := Cert.MlpDownLossRefIdeal.τ) (Cert.MlpDownLossRefIdeal.main (F := Ideal))) ⟨m, fun _ => 0, g⟩ (fun r => (∀ c : Dev Cert.MlpDownLossRefIdeal.nD,
      r.2.mem ((c.tc : Thread Cert.MlpDownLossRefIdeal.nD Cert.MlpDownLossRefIdeal.τ).loc Cert.MlpDownLossRefIdeal.main_arg0) = m ((c.tc : Thread Cert.MlpDownLossRefIdeal.nD Cert.MlpDownLossRefIdeal.τ).loc Cert.MlpDownLossRefIdeal.main_arg0)
      ∧ r.2.mem ((c.tc : Thread Cert.MlpDownLossRefIdeal.nD Cert.MlpDownLossRefIdeal.τ).loc Cert.MlpDownLossRefIdeal.main_arg1) = m ((c.tc : Thread Cert.MlpDownLossRefIdeal.nD Cert.MlpDownLossRefIdeal.τ).loc Cert.MlpDownLossRefIdeal.main_arg1)
      ∧ r.2.mem ((c.tc : Thread Cert.MlpDownLossRefIdeal.nD Cert.MlpDownLossRefIdeal.τ).loc Cert.MlpDownLossRefIdeal.main_arg2) = m ((c.tc : Thread Cert.MlpDownLossRefIdeal.nD Cert.MlpDownLossRefIdeal.τ).loc Cert.MlpDownLossRefIdeal.main_arg2)
      ∧ r.2.mem ((c.tc : Thread Cert.MlpDownLossRefIdeal.nD Cert.MlpDownLossRefIdeal.τ).loc Cert.MlpDownLossRefIdeal.main_arg3) = m ((c.tc : Thread Cert.MlpDownLossRefIdeal.nD Cert.MlpDownLossRefIdeal.τ).loc Cert.MlpDownLossRefIdeal.main_arg3))
      ∧ r.2.sem = fun _ => 0)

def quiescent_MlpDownWgrad [hMlpDownWgrad : Cert.MlpDownWgrad.Facts] : Prop :=
  ∀ (m : (ℓ : Loc Cert.MlpDownWgrad.nD Cert.MlpDownWgrad.τ Cert.MlpDownWgrad.sig) → Buf (Elt Bits) ℓ) (g : Dev Cert.MlpDownWgrad.nD → PrngReg), Pre_MlpDownWgrad m →
    θ_run (Cert.MlpDownWgrad.defs (F := Bits)) (onTc (τ := Cert.MlpDownWgrad.τ) (Cert.MlpDownWgrad.main (F := Bits))) ⟨m, fun _ => 0, g⟩ (fun r => (∀ c : Dev Cert.MlpDownWgrad.nD,
      r.2.mem ((c.tc : Thread Cert.MlpDownWgrad.nD Cert.MlpDownWgrad.τ).loc Cert.MlpDownWgrad.main_arg0) = m ((c.tc : Thread Cert.MlpDownWgrad.nD Cert.MlpDownWgrad.τ).loc Cert.MlpDownWgrad.main_arg0)
      ∧ r.2.mem ((c.tc : Thread Cert.MlpDownWgrad.nD Cert.MlpDownWgrad.τ).loc Cert.MlpDownWgrad.main_arg1) = m ((c.tc : Thread Cert.MlpDownWgrad.nD Cert.MlpDownWgrad.τ).loc Cert.MlpDownWgrad.main_arg1))
      ∧ r.2.sem = fun _ => 0)

def quiescent_MlpDownWgradIdeal [hMlpDownWgradIdeal : Cert.MlpDownWgradIdeal.Facts] : Prop :=
  ∀ (m : (ℓ : Loc Cert.MlpDownWgradIdeal.nD Cert.MlpDownWgradIdeal.τ Cert.MlpDownWgradIdeal.sig) → Buf (Elt Ideal) ℓ) (g : Dev Cert.MlpDownWgradIdeal.nD → PrngReg), Pre_MlpDownWgradIdeal m →
    θ_run (Cert.MlpDownWgradIdeal.defs (F := Ideal)) (onTc (τ := Cert.MlpDownWgradIdeal.τ) (Cert.MlpDownWgradIdeal.main (F := Ideal))) ⟨m, fun _ => 0, g⟩ (fun r => (∀ c : Dev Cert.MlpDownWgradIdeal.nD,
      r.2.mem ((c.tc : Thread Cert.MlpDownWgradIdeal.nD Cert.MlpDownWgradIdeal.τ).loc Cert.MlpDownWgradIdeal.main_arg0) = m ((c.tc : Thread Cert.MlpDownWgradIdeal.nD Cert.MlpDownWgradIdeal.τ).loc Cert.MlpDownWgradIdeal.main_arg0)
      ∧ r.2.mem ((c.tc : Thread Cert.MlpDownWgradIdeal.nD Cert.MlpDownWgradIdeal.τ).loc Cert.MlpDownWgradIdeal.main_arg1) = m ((c.tc : Thread Cert.MlpDownWgradIdeal.nD Cert.MlpDownWgradIdeal.τ).loc Cert.MlpDownWgradIdeal.main_arg1))
      ∧ r.2.sem = fun _ => 0)

def quiescent_MlpDownWgradRefIdeal [hMlpDownWgradRefIdeal : Cert.MlpDownWgradRefIdeal.Facts] : Prop :=
  ∀ (m : (ℓ : Loc Cert.MlpDownWgradRefIdeal.nD Cert.MlpDownWgradRefIdeal.τ Cert.MlpDownWgradRefIdeal.sig) → Buf (Elt Ideal) ℓ) (g : Dev Cert.MlpDownWgradRefIdeal.nD → PrngReg), Pre_MlpDownWgradRefIdeal m →
    θ_run (Cert.MlpDownWgradRefIdeal.defs (F := Ideal)) (onTc (τ := Cert.MlpDownWgradRefIdeal.τ) (Cert.MlpDownWgradRefIdeal.main (F := Ideal))) ⟨m, fun _ => 0, g⟩ (fun r => (∀ c : Dev Cert.MlpDownWgradRefIdeal.nD,
      r.2.mem ((c.tc : Thread Cert.MlpDownWgradRefIdeal.nD Cert.MlpDownWgradRefIdeal.τ).loc Cert.MlpDownWgradRefIdeal.main_arg0) = m ((c.tc : Thread Cert.MlpDownWgradRefIdeal.nD Cert.MlpDownWgradRefIdeal.τ).loc Cert.MlpDownWgradRefIdeal.main_arg0)
      ∧ r.2.mem ((c.tc : Thread Cert.MlpDownWgradRefIdeal.nD Cert.MlpDownWgradRefIdeal.τ).loc Cert.MlpDownWgradRefIdeal.main_arg1) = m ((c.tc : Thread Cert.MlpDownWgradRefIdeal.nD Cert.MlpDownWgradRefIdeal.τ).loc Cert.MlpDownWgradRefIdeal.main_arg1))
      ∧ r.2.sem = fun _ => 0)

def quiescent_MlpDownBwd [hMlpDownBwd : Cert.MlpDownBwd.Facts] : Prop :=
  ∀ (m : (ℓ : Loc Cert.MlpDownBwd.nD Cert.MlpDownBwd.τ Cert.MlpDownBwd.sig) → Buf (Elt Bits) ℓ) (g : Dev Cert.MlpDownBwd.nD → PrngReg), Pre_MlpDownBwd m →
    θ_run (Cert.MlpDownBwd.defs (F := Bits)) (onTc (τ := Cert.MlpDownBwd.τ) (Cert.MlpDownBwd.main (F := Bits))) ⟨m, fun _ => 0, g⟩ (fun r => (∀ c : Dev Cert.MlpDownBwd.nD,
      r.2.mem ((c.tc : Thread Cert.MlpDownBwd.nD Cert.MlpDownBwd.τ).loc Cert.MlpDownBwd.main_arg0) = m ((c.tc : Thread Cert.MlpDownBwd.nD Cert.MlpDownBwd.τ).loc Cert.MlpDownBwd.main_arg0)
      ∧ r.2.mem ((c.tc : Thread Cert.MlpDownBwd.nD Cert.MlpDownBwd.τ).loc Cert.MlpDownBwd.main_arg1) = m ((c.tc : Thread Cert.MlpDownBwd.nD Cert.MlpDownBwd.τ).loc Cert.MlpDownBwd.main_arg1)
      ∧ r.2.mem ((c.tc : Thread Cert.MlpDownBwd.nD Cert.MlpDownBwd.τ).loc Cert.MlpDownBwd.main_arg2) = m ((c.tc : Thread Cert.MlpDownBwd.nD Cert.MlpDownBwd.τ).loc Cert.MlpDownBwd.main_arg2))
      ∧ r.2.sem = fun _ => 0)

def quiescent_MlpDownBwdIdeal [hMlpDownBwdIdeal : Cert.MlpDownBwdIdeal.Facts] : Prop :=
  ∀ (m : (ℓ : Loc Cert.MlpDownBwdIdeal.nD Cert.MlpDownBwdIdeal.τ Cert.MlpDownBwdIdeal.sig) → Buf (Elt Ideal) ℓ) (g : Dev Cert.MlpDownBwdIdeal.nD → PrngReg), Pre_MlpDownBwdIdeal m →
    θ_run (Cert.MlpDownBwdIdeal.defs (F := Ideal)) (onTc (τ := Cert.MlpDownBwdIdeal.τ) (Cert.MlpDownBwdIdeal.main (F := Ideal))) ⟨m, fun _ => 0, g⟩ (fun r => (∀ c : Dev Cert.MlpDownBwdIdeal.nD,
      r.2.mem ((c.tc : Thread Cert.MlpDownBwdIdeal.nD Cert.MlpDownBwdIdeal.τ).loc Cert.MlpDownBwdIdeal.main_arg0) = m ((c.tc : Thread Cert.MlpDownBwdIdeal.nD Cert.MlpDownBwdIdeal.τ).loc Cert.MlpDownBwdIdeal.main_arg0)
      ∧ r.2.mem ((c.tc : Thread Cert.MlpDownBwdIdeal.nD Cert.MlpDownBwdIdeal.τ).loc Cert.MlpDownBwdIdeal.main_arg1) = m ((c.tc : Thread Cert.MlpDownBwdIdeal.nD Cert.MlpDownBwdIdeal.τ).loc Cert.MlpDownBwdIdeal.main_arg1)
      ∧ r.2.mem ((c.tc : Thread Cert.MlpDownBwdIdeal.nD Cert.MlpDownBwdIdeal.τ).loc Cert.MlpDownBwdIdeal.main_arg2) = m ((c.tc : Thread Cert.MlpDownBwdIdeal.nD Cert.MlpDownBwdIdeal.τ).loc Cert.MlpDownBwdIdeal.main_arg2))
      ∧ r.2.sem = fun _ => 0)

def quiescent_MlpDownBwdRefIdeal [hMlpDownBwdRefIdeal : Cert.MlpDownBwdRefIdeal.Facts] : Prop :=
  ∀ (m : (ℓ : Loc Cert.MlpDownBwdRefIdeal.nD Cert.MlpDownBwdRefIdeal.τ Cert.MlpDownBwdRefIdeal.sig) → Buf (Elt Ideal) ℓ) (g : Dev Cert.MlpDownBwdRefIdeal.nD → PrngReg), Pre_MlpDownBwdRefIdeal m →
    θ_run (Cert.MlpDownBwdRefIdeal.defs (F := Ideal)) (onTc (τ := Cert.MlpDownBwdRefIdeal.τ) (Cert.MlpDownBwdRefIdeal.main (F := Ideal))) ⟨m, fun _ => 0, g⟩ (fun r => (∀ c : Dev Cert.MlpDownBwdRefIdeal.nD,
      r.2.mem ((c.tc : Thread Cert.MlpDownBwdRefIdeal.nD Cert.MlpDownBwdRefIdeal.τ).loc Cert.MlpDownBwdRefIdeal.main_arg0) = m ((c.tc : Thread Cert.MlpDownBwdRefIdeal.nD Cert.MlpDownBwdRefIdeal.τ).loc Cert.MlpDownBwdRefIdeal.main_arg0)
      ∧ r.2.mem ((c.tc : Thread Cert.MlpDownBwdRefIdeal.nD Cert.MlpDownBwdRefIdeal.τ).loc Cert.MlpDownBwdRefIdeal.main_arg1) = m ((c.tc : Thread Cert.MlpDownBwdRefIdeal.nD Cert.MlpDownBwdRefIdeal.τ).loc Cert.MlpDownBwdRefIdeal.main_arg1)
      ∧ r.2.mem ((c.tc : Thread Cert.MlpDownBwdRefIdeal.nD Cert.MlpDownBwdRefIdeal.τ).loc Cert.MlpDownBwdRefIdeal.main_arg2) = m ((c.tc : Thread Cert.MlpDownBwdRefIdeal.nD Cert.MlpDownBwdRefIdeal.τ).loc Cert.MlpDownBwdRefIdeal.main_arg2))
      ∧ r.2.sem = fun _ => 0)

def quiescent_MlpUpWgrad [hMlpUpWgrad : Cert.MlpUpWgrad.Facts] : Prop :=
  ∀ (m : (ℓ : Loc Cert.MlpUpWgrad.nD Cert.MlpUpWgrad.τ Cert.MlpUpWgrad.sig) → Buf (Elt Bits) ℓ) (g : Dev Cert.MlpUpWgrad.nD → PrngReg), Pre_MlpUpWgrad m →
    θ_run (Cert.MlpUpWgrad.defs (F := Bits)) (onTc (τ := Cert.MlpUpWgrad.τ) (Cert.MlpUpWgrad.main (F := Bits))) ⟨m, fun _ => 0, g⟩ (fun r => (∀ c : Dev Cert.MlpUpWgrad.nD,
      r.2.mem ((c.tc : Thread Cert.MlpUpWgrad.nD Cert.MlpUpWgrad.τ).loc Cert.MlpUpWgrad.main_arg0) = m ((c.tc : Thread Cert.MlpUpWgrad.nD Cert.MlpUpWgrad.τ).loc Cert.MlpUpWgrad.main_arg0)
      ∧ r.2.mem ((c.tc : Thread Cert.MlpUpWgrad.nD Cert.MlpUpWgrad.τ).loc Cert.MlpUpWgrad.main_arg1) = m ((c.tc : Thread Cert.MlpUpWgrad.nD Cert.MlpUpWgrad.τ).loc Cert.MlpUpWgrad.main_arg1))
      ∧ r.2.sem = fun _ => 0)

def quiescent_MlpUpWgradIdeal [hMlpUpWgradIdeal : Cert.MlpUpWgradIdeal.Facts] : Prop :=
  ∀ (m : (ℓ : Loc Cert.MlpUpWgradIdeal.nD Cert.MlpUpWgradIdeal.τ Cert.MlpUpWgradIdeal.sig) → Buf (Elt Ideal) ℓ) (g : Dev Cert.MlpUpWgradIdeal.nD → PrngReg), Pre_MlpUpWgradIdeal m →
    θ_run (Cert.MlpUpWgradIdeal.defs (F := Ideal)) (onTc (τ := Cert.MlpUpWgradIdeal.τ) (Cert.MlpUpWgradIdeal.main (F := Ideal))) ⟨m, fun _ => 0, g⟩ (fun r => (∀ c : Dev Cert.MlpUpWgradIdeal.nD,
      r.2.mem ((c.tc : Thread Cert.MlpUpWgradIdeal.nD Cert.MlpUpWgradIdeal.τ).loc Cert.MlpUpWgradIdeal.main_arg0) = m ((c.tc : Thread Cert.MlpUpWgradIdeal.nD Cert.MlpUpWgradIdeal.τ).loc Cert.MlpUpWgradIdeal.main_arg0)
      ∧ r.2.mem ((c.tc : Thread Cert.MlpUpWgradIdeal.nD Cert.MlpUpWgradIdeal.τ).loc Cert.MlpUpWgradIdeal.main_arg1) = m ((c.tc : Thread Cert.MlpUpWgradIdeal.nD Cert.MlpUpWgradIdeal.τ).loc Cert.MlpUpWgradIdeal.main_arg1))
      ∧ r.2.sem = fun _ => 0)

def quiescent_MlpUpWgradRefIdeal [hMlpUpWgradRefIdeal : Cert.MlpUpWgradRefIdeal.Facts] : Prop :=
  ∀ (m : (ℓ : Loc Cert.MlpUpWgradRefIdeal.nD Cert.MlpUpWgradRefIdeal.τ Cert.MlpUpWgradRefIdeal.sig) → Buf (Elt Ideal) ℓ) (g : Dev Cert.MlpUpWgradRefIdeal.nD → PrngReg), Pre_MlpUpWgradRefIdeal m →
    θ_run (Cert.MlpUpWgradRefIdeal.defs (F := Ideal)) (onTc (τ := Cert.MlpUpWgradRefIdeal.τ) (Cert.MlpUpWgradRefIdeal.main (F := Ideal))) ⟨m, fun _ => 0, g⟩ (fun r => (∀ c : Dev Cert.MlpUpWgradRefIdeal.nD,
      r.2.mem ((c.tc : Thread Cert.MlpUpWgradRefIdeal.nD Cert.MlpUpWgradRefIdeal.τ).loc Cert.MlpUpWgradRefIdeal.main_arg0) = m ((c.tc : Thread Cert.MlpUpWgradRefIdeal.nD Cert.MlpUpWgradRefIdeal.τ).loc Cert.MlpUpWgradRefIdeal.main_arg0)
      ∧ r.2.mem ((c.tc : Thread Cert.MlpUpWgradRefIdeal.nD Cert.MlpUpWgradRefIdeal.τ).loc Cert.MlpUpWgradRefIdeal.main_arg1) = m ((c.tc : Thread Cert.MlpUpWgradRefIdeal.nD Cert.MlpUpWgradRefIdeal.τ).loc Cert.MlpUpWgradRefIdeal.main_arg1))
      ∧ r.2.sem = fun _ => 0)

def quiescent_MlpUpBwd [hMlpUpBwd : Cert.MlpUpBwd.Facts] : Prop :=
  ∀ (m : (ℓ : Loc Cert.MlpUpBwd.nD Cert.MlpUpBwd.τ Cert.MlpUpBwd.sig) → Buf (Elt Bits) ℓ) (g : Dev Cert.MlpUpBwd.nD → PrngReg), Pre_MlpUpBwd m →
    θ_run (Cert.MlpUpBwd.defs (F := Bits)) (onTc (τ := Cert.MlpUpBwd.τ) (Cert.MlpUpBwd.main (F := Bits))) ⟨m, fun _ => 0, g⟩ (fun r => (∀ c : Dev Cert.MlpUpBwd.nD,
      r.2.mem ((c.tc : Thread Cert.MlpUpBwd.nD Cert.MlpUpBwd.τ).loc Cert.MlpUpBwd.main_arg0) = m ((c.tc : Thread Cert.MlpUpBwd.nD Cert.MlpUpBwd.τ).loc Cert.MlpUpBwd.main_arg0)
      ∧ r.2.mem ((c.tc : Thread Cert.MlpUpBwd.nD Cert.MlpUpBwd.τ).loc Cert.MlpUpBwd.main_arg1) = m ((c.tc : Thread Cert.MlpUpBwd.nD Cert.MlpUpBwd.τ).loc Cert.MlpUpBwd.main_arg1))
      ∧ r.2.sem = fun _ => 0)

def quiescent_MlpUpBwdIdeal [hMlpUpBwdIdeal : Cert.MlpUpBwdIdeal.Facts] : Prop :=
  ∀ (m : (ℓ : Loc Cert.MlpUpBwdIdeal.nD Cert.MlpUpBwdIdeal.τ Cert.MlpUpBwdIdeal.sig) → Buf (Elt Ideal) ℓ) (g : Dev Cert.MlpUpBwdIdeal.nD → PrngReg), Pre_MlpUpBwdIdeal m →
    θ_run (Cert.MlpUpBwdIdeal.defs (F := Ideal)) (onTc (τ := Cert.MlpUpBwdIdeal.τ) (Cert.MlpUpBwdIdeal.main (F := Ideal))) ⟨m, fun _ => 0, g⟩ (fun r => (∀ c : Dev Cert.MlpUpBwdIdeal.nD,
      r.2.mem ((c.tc : Thread Cert.MlpUpBwdIdeal.nD Cert.MlpUpBwdIdeal.τ).loc Cert.MlpUpBwdIdeal.main_arg0) = m ((c.tc : Thread Cert.MlpUpBwdIdeal.nD Cert.MlpUpBwdIdeal.τ).loc Cert.MlpUpBwdIdeal.main_arg0)
      ∧ r.2.mem ((c.tc : Thread Cert.MlpUpBwdIdeal.nD Cert.MlpUpBwdIdeal.τ).loc Cert.MlpUpBwdIdeal.main_arg1) = m ((c.tc : Thread Cert.MlpUpBwdIdeal.nD Cert.MlpUpBwdIdeal.τ).loc Cert.MlpUpBwdIdeal.main_arg1))
      ∧ r.2.sem = fun _ => 0)

def quiescent_MlpUpBwdRefIdeal [hMlpUpBwdRefIdeal : Cert.MlpUpBwdRefIdeal.Facts] : Prop :=
  ∀ (m : (ℓ : Loc Cert.MlpUpBwdRefIdeal.nD Cert.MlpUpBwdRefIdeal.τ Cert.MlpUpBwdRefIdeal.sig) → Buf (Elt Ideal) ℓ) (g : Dev Cert.MlpUpBwdRefIdeal.nD → PrngReg), Pre_MlpUpBwdRefIdeal m →
    θ_run (Cert.MlpUpBwdRefIdeal.defs (F := Ideal)) (onTc (τ := Cert.MlpUpBwdRefIdeal.τ) (Cert.MlpUpBwdRefIdeal.main (F := Ideal))) ⟨m, fun _ => 0, g⟩ (fun r => (∀ c : Dev Cert.MlpUpBwdRefIdeal.nD,
      r.2.mem ((c.tc : Thread Cert.MlpUpBwdRefIdeal.nD Cert.MlpUpBwdRefIdeal.τ).loc Cert.MlpUpBwdRefIdeal.main_arg0) = m ((c.tc : Thread Cert.MlpUpBwdRefIdeal.nD Cert.MlpUpBwdRefIdeal.τ).loc Cert.MlpUpBwdRefIdeal.main_arg0)
      ∧ r.2.mem ((c.tc : Thread Cert.MlpUpBwdRefIdeal.nD Cert.MlpUpBwdRefIdeal.τ).loc Cert.MlpUpBwdRefIdeal.main_arg1) = m ((c.tc : Thread Cert.MlpUpBwdRefIdeal.nD Cert.MlpUpBwdRefIdeal.τ).loc Cert.MlpUpBwdRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2))
      ∧ r.2.sem = fun _ => 0)

def quiescent_InProjBwdRefIdeal [hInProjBwdRefIdeal : Cert.InProjBwdRefIdeal.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2))
      ∧ r.2.sem = fun _ => 0)

def quiescent_InProjWgradA [hInProjWgradA : Cert.InProjWgradA.Facts] : Prop :=
  ∀ (m : (ℓ : Loc Cert.InProjWgradA.nD Cert.InProjWgradA.τ Cert.InProjWgradA.sig) → Buf (Elt Bits) ℓ) (g : Dev Cert.InProjWgradA.nD → PrngReg), Pre_InProjWgradA m →
    θ_run (Cert.InProjWgradA.defs (F := Bits)) (onTc (τ := Cert.InProjWgradA.τ) (Cert.InProjWgradA.main (F := Bits))) ⟨m, fun _ => 0, g⟩ (fun r => (∀ c : Dev Cert.InProjWgradA.nD,
      r.2.mem ((c.tc : Thread Cert.InProjWgradA.nD Cert.InProjWgradA.τ).loc Cert.InProjWgradA.main_arg0) = m ((c.tc : Thread Cert.InProjWgradA.nD Cert.InProjWgradA.τ).loc Cert.InProjWgradA.main_arg0)
      ∧ r.2.mem ((c.tc : Thread Cert.InProjWgradA.nD Cert.InProjWgradA.τ).loc Cert.InProjWgradA.main_arg1) = m ((c.tc : Thread Cert.InProjWgradA.nD Cert.InProjWgradA.τ).loc Cert.InProjWgradA.main_arg1))
      ∧ r.2.sem = fun _ => 0)

def quiescent_InProjWgradAIdeal [hInProjWgradAIdeal : Cert.InProjWgradAIdeal.Facts] : Prop :=
  ∀ (m : (ℓ : Loc Cert.InProjWgradAIdeal.nD Cert.InProjWgradAIdeal.τ Cert.InProjWgradAIdeal.sig) → Buf (Elt Ideal) ℓ) (g : Dev Cert.InProjWgradAIdeal.nD → PrngReg), Pre_InProjWgradAIdeal m →
    θ_run (Cert.InProjWgradAIdeal.defs (F := Ideal)) (onTc (τ := Cert.InProjWgradAIdeal.τ) (Cert.InProjWgradAIdeal.main (F := Ideal))) ⟨m, fun _ => 0, g⟩ (fun r => (∀ c : Dev Cert.InProjWgradAIdeal.nD,
      r.2.mem ((c.tc : Thread Cert.InProjWgradAIdeal.nD Cert.InProjWgradAIdeal.τ).loc Cert.InProjWgradAIdeal.main_arg0) = m ((c.tc : Thread Cert.InProjWgradAIdeal.nD Cert.InProjWgradAIdeal.τ).loc Cert.InProjWgradAIdeal.main_arg0)
      ∧ r.2.mem ((c.tc : Thread Cert.InProjWgradAIdeal.nD Cert.InProjWgradAIdeal.τ).loc Cert.InProjWgradAIdeal.main_arg1) = m ((c.tc : Thread Cert.InProjWgradAIdeal.nD Cert.InProjWgradAIdeal.τ).loc Cert.InProjWgradAIdeal.main_arg1))
      ∧ r.2.sem = fun _ => 0)

def quiescent_InProjWgradARefIdeal [hInProjWgradARefIdeal : Cert.InProjWgradARefIdeal.Facts] : Prop :=
  ∀ (m : (ℓ : Loc Cert.InProjWgradARefIdeal.nD Cert.InProjWgradARefIdeal.τ Cert.InProjWgradARefIdeal.sig) → Buf (Elt Ideal) ℓ) (g : Dev Cert.InProjWgradARefIdeal.nD → PrngReg), Pre_InProjWgradARefIdeal m →
    θ_run (Cert.InProjWgradARefIdeal.defs (F := Ideal)) (onTc (τ := Cert.InProjWgradARefIdeal.τ) (Cert.InProjWgradARefIdeal.main (F := Ideal))) ⟨m, fun _ => 0, g⟩ (fun r => (∀ c : Dev Cert.InProjWgradARefIdeal.nD,
      r.2.mem ((c.tc : Thread Cert.InProjWgradARefIdeal.nD Cert.InProjWgradARefIdeal.τ).loc Cert.InProjWgradARefIdeal.main_arg0) = m ((c.tc : Thread Cert.InProjWgradARefIdeal.nD Cert.InProjWgradARefIdeal.τ).loc Cert.InProjWgradARefIdeal.main_arg0)
      ∧ r.2.mem ((c.tc : Thread Cert.InProjWgradARefIdeal.nD Cert.InProjWgradARefIdeal.τ).loc Cert.InProjWgradARefIdeal.main_arg1) = m ((c.tc : Thread Cert.InProjWgradARefIdeal.nD Cert.InProjWgradARefIdeal.τ).loc Cert.InProjWgradARefIdeal.main_arg1))
      ∧ r.2.sem = fun _ => 0)

def quiescent_InProjWgradB [hInProjWgradB : Cert.InProjWgradB.Facts] : Prop :=
  ∀ (m : (ℓ : Loc Cert.InProjWgradB.nD Cert.InProjWgradB.τ Cert.InProjWgradB.sig) → Buf (Elt Bits) ℓ) (g : Dev Cert.InProjWgradB.nD → PrngReg), Pre_InProjWgradB m →
    θ_run (Cert.InProjWgradB.defs (F := Bits)) (onTc (τ := Cert.InProjWgradB.τ) (Cert.InProjWgradB.main (F := Bits))) ⟨m, fun _ => 0, g⟩ (fun r => (∀ c : Dev Cert.InProjWgradB.nD,
      r.2.mem ((c.tc : Thread Cert.InProjWgradB.nD Cert.InProjWgradB.τ).loc Cert.InProjWgradB.main_arg0) = m ((c.tc : Thread Cert.InProjWgradB.nD Cert.InProjWgradB.τ).loc Cert.InProjWgradB.main_arg0)
      ∧ r.2.mem ((c.tc : Thread Cert.InProjWgradB.nD Cert.InProjWgradB.τ).loc Cert.InProjWgradB.main_arg1) = m ((c.tc : Thread Cert.InProjWgradB.nD Cert.InProjWgradB.τ).loc Cert.InProjWgradB.main_arg1))
      ∧ r.2.sem = fun _ => 0)

def quiescent_InProjWgradBIdeal [hInProjWgradBIdeal : Cert.InProjWgradBIdeal.Facts] : Prop :=
  ∀ (m : (ℓ : Loc Cert.InProjWgradBIdeal.nD Cert.InProjWgradBIdeal.τ Cert.InProjWgradBIdeal.sig) → Buf (Elt Ideal) ℓ) (g : Dev Cert.InProjWgradBIdeal.nD → PrngReg), Pre_InProjWgradBIdeal m →
    θ_run (Cert.InProjWgradBIdeal.defs (F := Ideal)) (onTc (τ := Cert.InProjWgradBIdeal.τ) (Cert.InProjWgradBIdeal.main (F := Ideal))) ⟨m, fun _ => 0, g⟩ (fun r => (∀ c : Dev Cert.InProjWgradBIdeal.nD,
      r.2.mem ((c.tc : Thread Cert.InProjWgradBIdeal.nD Cert.InProjWgradBIdeal.τ).loc Cert.InProjWgradBIdeal.main_arg0) = m ((c.tc : Thread Cert.InProjWgradBIdeal.nD Cert.InProjWgradBIdeal.τ).loc Cert.InProjWgradBIdeal.main_arg0)
      ∧ r.2.mem ((c.tc : Thread Cert.InProjWgradBIdeal.nD Cert.InProjWgradBIdeal.τ).loc Cert.InProjWgradBIdeal.main_arg1) = m ((c.tc : Thread Cert.InProjWgradBIdeal.nD Cert.InProjWgradBIdeal.τ).loc Cert.InProjWgradBIdeal.main_arg1))
      ∧ r.2.sem = fun _ => 0)

def quiescent_InProjWgradBRefIdeal [hInProjWgradBRefIdeal : Cert.InProjWgradBRefIdeal.Facts] : Prop :=
  ∀ (m : (ℓ : Loc Cert.InProjWgradBRefIdeal.nD Cert.InProjWgradBRefIdeal.τ Cert.InProjWgradBRefIdeal.sig) → Buf (Elt Ideal) ℓ) (g : Dev Cert.InProjWgradBRefIdeal.nD → PrngReg), Pre_InProjWgradBRefIdeal m →
    θ_run (Cert.InProjWgradBRefIdeal.defs (F := Ideal)) (onTc (τ := Cert.InProjWgradBRefIdeal.τ) (Cert.InProjWgradBRefIdeal.main (F := Ideal))) ⟨m, fun _ => 0, g⟩ (fun r => (∀ c : Dev Cert.InProjWgradBRefIdeal.nD,
      r.2.mem ((c.tc : Thread Cert.InProjWgradBRefIdeal.nD Cert.InProjWgradBRefIdeal.τ).loc Cert.InProjWgradBRefIdeal.main_arg0) = m ((c.tc : Thread Cert.InProjWgradBRefIdeal.nD Cert.InProjWgradBRefIdeal.τ).loc Cert.InProjWgradBRefIdeal.main_arg0)
      ∧ r.2.mem ((c.tc : Thread Cert.InProjWgradBRefIdeal.nD Cert.InProjWgradBRefIdeal.τ).loc Cert.InProjWgradBRefIdeal.main_arg1) = m ((c.tc : Thread Cert.InProjWgradBRefIdeal.nD Cert.InProjWgradBRefIdeal.τ).loc Cert.InProjWgradBRefIdeal.main_arg1))
      ∧ r.2.sem = fun _ => 0)

def quiescent_InProjWgradC [hInProjWgradC : Cert.InProjWgradC.Facts] : Prop :=
  ∀ (m : (ℓ : Loc Cert.InProjWgradC.nD Cert.InProjWgradC.τ Cert.InProjWgradC.sig) → Buf (Elt Bits) ℓ) (g : Dev Cert.InProjWgradC.nD → PrngReg), Pre_InProjWgradC m →
    θ_run (Cert.InProjWgradC.defs (F := Bits)) (onTc (τ := Cert.InProjWgradC.τ) (Cert.InProjWgradC.main (F := Bits))) ⟨m, fun _ => 0, g⟩ (fun r => (∀ c : Dev Cert.InProjWgradC.nD,
      r.2.mem ((c.tc : Thread Cert.InProjWgradC.nD Cert.InProjWgradC.τ).loc Cert.InProjWgradC.main_arg0) = m ((c.tc : Thread Cert.InProjWgradC.nD Cert.InProjWgradC.τ).loc Cert.InProjWgradC.main_arg0)
      ∧ r.2.mem ((c.tc : Thread Cert.InProjWgradC.nD Cert.InProjWgradC.τ).loc Cert.InProjWgradC.main_arg1) = m ((c.tc : Thread Cert.InProjWgradC.nD Cert.InProjWgradC.τ).loc Cert.InProjWgradC.main_arg1))
      ∧ r.2.sem = fun _ => 0)

def quiescent_InProjWgradCIdeal [hInProjWgradCIdeal : Cert.InProjWgradCIdeal.Facts] : Prop :=
  ∀ (m : (ℓ : Loc Cert.InProjWgradCIdeal.nD Cert.InProjWgradCIdeal.τ Cert.InProjWgradCIdeal.sig) → Buf (Elt Ideal) ℓ) (g : Dev Cert.InProjWgradCIdeal.nD → PrngReg), Pre_InProjWgradCIdeal m →
    θ_run (Cert.InProjWgradCIdeal.defs (F := Ideal)) (onTc (τ := Cert.InProjWgradCIdeal.τ) (Cert.InProjWgradCIdeal.main (F := Ideal))) ⟨m, fun _ => 0, g⟩ (fun r => (∀ c : Dev Cert.InProjWgradCIdeal.nD,
      r.2.mem ((c.tc : Thread Cert.InProjWgradCIdeal.nD Cert.InProjWgradCIdeal.τ).loc Cert.InProjWgradCIdeal.main_arg0) = m ((c.tc : Thread Cert.InProjWgradCIdeal.nD Cert.InProjWgradCIdeal.τ).loc Cert.InProjWgradCIdeal.main_arg0)
      ∧ r.2.mem ((c.tc : Thread Cert.InProjWgradCIdeal.nD Cert.InProjWgradCIdeal.τ).loc Cert.InProjWgradCIdeal.main_arg1) = m ((c.tc : Thread Cert.InProjWgradCIdeal.nD Cert.InProjWgradCIdeal.τ).loc Cert.InProjWgradCIdeal.main_arg1))
      ∧ r.2.sem = fun _ => 0)

def quiescent_InProjWgradCRefIdeal [hInProjWgradCRefIdeal : Cert.InProjWgradCRefIdeal.Facts] : Prop :=
  ∀ (m : (ℓ : Loc Cert.InProjWgradCRefIdeal.nD Cert.InProjWgradCRefIdeal.τ Cert.InProjWgradCRefIdeal.sig) → Buf (Elt Ideal) ℓ) (g : Dev Cert.InProjWgradCRefIdeal.nD → PrngReg), Pre_InProjWgradCRefIdeal m →
    θ_run (Cert.InProjWgradCRefIdeal.defs (F := Ideal)) (onTc (τ := Cert.InProjWgradCRefIdeal.τ) (Cert.InProjWgradCRefIdeal.main (F := Ideal))) ⟨m, fun _ => 0, g⟩ (fun r => (∀ c : Dev Cert.InProjWgradCRefIdeal.nD,
      r.2.mem ((c.tc : Thread Cert.InProjWgradCRefIdeal.nD Cert.InProjWgradCRefIdeal.τ).loc Cert.InProjWgradCRefIdeal.main_arg0) = m ((c.tc : Thread Cert.InProjWgradCRefIdeal.nD Cert.InProjWgradCRefIdeal.τ).loc Cert.InProjWgradCRefIdeal.main_arg0)
      ∧ r.2.mem ((c.tc : Thread Cert.InProjWgradCRefIdeal.nD Cert.InProjWgradCRefIdeal.τ).loc Cert.InProjWgradCRefIdeal.main_arg1) = m ((c.tc : Thread Cert.InProjWgradCRefIdeal.nD Cert.InProjWgradCRefIdeal.τ).loc Cert.InProjWgradCRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_OutProjBwd [hOutProjBwd : Cert.OutProjBwd.Facts] : Prop :=
  ∀ (m : (ℓ : Loc Cert.OutProjBwd.nD Cert.OutProjBwd.τ Cert.OutProjBwd.sig) → Buf (Elt Bits) ℓ) (g : Dev Cert.OutProjBwd.nD → PrngReg), Pre_OutProjBwd m →
    θ_run (Cert.OutProjBwd.defs (F := Bits)) (onTc (τ := Cert.OutProjBwd.τ) (Cert.OutProjBwd.main (F := Bits))) ⟨m, fun _ => 0, g⟩ (fun r => (∀ c : Dev Cert.OutProjBwd.nD,
      r.2.mem ((c.tc : Thread Cert.OutProjBwd.nD Cert.OutProjBwd.τ).loc Cert.OutProjBwd.main_arg0) = m ((c.tc : Thread Cert.OutProjBwd.nD Cert.OutProjBwd.τ).loc Cert.OutProjBwd.main_arg0)
      ∧ r.2.mem ((c.tc : Thread Cert.OutProjBwd.nD Cert.OutProjBwd.τ).loc Cert.OutProjBwd.main_arg1) = m ((c.tc : Thread Cert.OutProjBwd.nD Cert.OutProjBwd.τ).loc Cert.OutProjBwd.main_arg1))
      ∧ r.2.sem = fun _ => 0)

def quiescent_OutProjBwdIdeal [hOutProjBwdIdeal : Cert.OutProjBwdIdeal.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg), Pre_OutProjBwdIdeal m →
    θ_run (Cert.OutProjBwdIdeal.defs (F := Ideal)) (onTc (τ := Cert.OutProjBwdIdeal.τ) (Cert.OutProjBwdIdeal.main (F := Ideal))) ⟨m, fun _ => 0, g⟩ (fun r => (∀ c : Dev Cert.OutProjBwdIdeal.nD,
      r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
      ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1))
      ∧ r.2.sem = fun _ => 0)

def quiescent_OutProjBwdRefIdeal [hOutProjBwdRefIdeal : Cert.OutProjBwdRefIdeal.Facts] : Prop :=
  ∀ (m : (ℓ : Loc Cert.OutProjBwdRefIdeal.nD Cert.OutProjBwdRefIdeal.τ Cert.OutProjBwdRefIdeal.sig) → Buf (Elt Ideal) ℓ) (g : Dev Cert.OutProjBwdRefIdeal.nD → PrngReg), Pre_OutProjBwdRefIdeal m →
    θ_run (Cert.OutProjBwdRefIdeal.defs (F := Ideal)) (onTc (τ := Cert.OutProjBwdRefIdeal.τ) (Cert.OutProjBwdRefIdeal.main (F := Ideal))) ⟨m, fun _ => 0, g⟩ (fun r => (∀ c : Dev Cert.OutProjBwdRefIdeal.nD,
      r.2.mem ((c.tc : Thread Cert.OutProjBwdRefIdeal.nD Cert.OutProjBwdRefIdeal.τ).loc Cert.OutProjBwdRefIdeal.main_arg0) = m ((c.tc : Thread Cert.OutProjBwdRefIdeal.nD Cert.OutProjBwdRefIdeal.τ).loc Cert.OutProjBwdRefIdeal.main_arg0)
      ∧ r.2.mem ((c.tc : Thread Cert.OutProjBwdRefIdeal.nD Cert.OutProjBwdRefIdeal.τ).loc Cert.OutProjBwdRefIdeal.main_arg1) = m ((c.tc : Thread Cert.OutProjBwdRefIdeal.nD Cert.OutProjBwdRefIdeal.τ).loc Cert.OutProjBwdRefIdeal.main_arg1))
      ∧ r.2.sem = fun _ => 0)

def quiescent_OutProjWgrad [hOutProjWgrad : Cert.OutProjWgrad.Facts] : Prop :=
  ∀ (m : (ℓ : Loc Cert.OutProjWgrad.nD Cert.OutProjWgrad.τ Cert.OutProjWgrad.sig) → Buf (Elt Bits) ℓ) (g : Dev Cert.OutProjWgrad.nD → PrngReg), Pre_OutProjWgrad m →
    θ_run (Cert.OutProjWgrad.defs (F := Bits)) (onTc (τ := Cert.OutProjWgrad.τ) (Cert.OutProjWgrad.main (F := Bits))) ⟨m, fun _ => 0, g⟩ (fun r => (∀ c : Dev Cert.OutProjWgrad.nD,
      r.2.mem ((c.tc : Thread Cert.OutProjWgrad.nD Cert.OutProjWgrad.τ).loc Cert.OutProjWgrad.main_arg0) = m ((c.tc : Thread Cert.OutProjWgrad.nD Cert.OutProjWgrad.τ).loc Cert.OutProjWgrad.main_arg0)
      ∧ r.2.mem ((c.tc : Thread Cert.OutProjWgrad.nD Cert.OutProjWgrad.τ).loc Cert.OutProjWgrad.main_arg1) = m ((c.tc : Thread Cert.OutProjWgrad.nD Cert.OutProjWgrad.τ).loc Cert.OutProjWgrad.main_arg1))
      ∧ r.2.sem = fun _ => 0)

def quiescent_OutProjWgradIdeal [hOutProjWgradIdeal : Cert.OutProjWgradIdeal.Facts] : Prop :=
  ∀ (m : (ℓ : Loc Cert.OutProjWgradIdeal.nD Cert.OutProjWgradIdeal.τ Cert.OutProjWgradIdeal.sig) → Buf (Elt Ideal) ℓ) (g : Dev Cert.OutProjWgradIdeal.nD → PrngReg), Pre_OutProjWgradIdeal m →
    θ_run (Cert.OutProjWgradIdeal.defs (F := Ideal)) (onTc (τ := Cert.OutProjWgradIdeal.τ) (Cert.OutProjWgradIdeal.main (F := Ideal))) ⟨m, fun _ => 0, g⟩ (fun r => (∀ c : Dev Cert.OutProjWgradIdeal.nD,
      r.2.mem ((c.tc : Thread Cert.OutProjWgradIdeal.nD Cert.OutProjWgradIdeal.τ).loc Cert.OutProjWgradIdeal.main_arg0) = m ((c.tc : Thread Cert.OutProjWgradIdeal.nD Cert.OutProjWgradIdeal.τ).loc Cert.OutProjWgradIdeal.main_arg0)
      ∧ r.2.mem ((c.tc : Thread Cert.OutProjWgradIdeal.nD Cert.OutProjWgradIdeal.τ).loc Cert.OutProjWgradIdeal.main_arg1) = m ((c.tc : Thread Cert.OutProjWgradIdeal.nD Cert.OutProjWgradIdeal.τ).loc Cert.OutProjWgradIdeal.main_arg1))
      ∧ r.2.sem = fun _ => 0)

def quiescent_OutProjWgradRefIdeal [hOutProjWgradRefIdeal : Cert.OutProjWgradRefIdeal.Facts] : Prop :=
  ∀ (m : (ℓ : Loc Cert.OutProjWgradRefIdeal.nD Cert.OutProjWgradRefIdeal.τ Cert.OutProjWgradRefIdeal.sig) → Buf (Elt Ideal) ℓ) (g : Dev Cert.OutProjWgradRefIdeal.nD → PrngReg), Pre_OutProjWgradRefIdeal m →
    θ_run (Cert.OutProjWgradRefIdeal.defs (F := Ideal)) (onTc (τ := Cert.OutProjWgradRefIdeal.τ) (Cert.OutProjWgradRefIdeal.main (F := Ideal))) ⟨m, fun _ => 0, g⟩ (fun r => (∀ c : Dev Cert.OutProjWgradRefIdeal.nD,
      r.2.mem ((c.tc : Thread Cert.OutProjWgradRefIdeal.nD Cert.OutProjWgradRefIdeal.τ).loc Cert.OutProjWgradRefIdeal.main_arg0) = m ((c.tc : Thread Cert.OutProjWgradRefIdeal.nD Cert.OutProjWgradRefIdeal.τ).loc Cert.OutProjWgradRefIdeal.main_arg0)
      ∧ r.2.mem ((c.tc : Thread Cert.OutProjWgradRefIdeal.nD Cert.OutProjWgradRefIdeal.τ).loc Cert.OutProjWgradRefIdeal.main_arg1) = m ((c.tc : Thread Cert.OutProjWgradRefIdeal.nD Cert.OutProjWgradRefIdeal.τ).loc Cert.OutProjWgradRefIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1))
      ∧ r.2.sem = fun _ => 0)

def quiescent_AttnOutBwd [hAttnOutBwd : Cert.AttnOutBwd.Facts] : Prop :=
  ∀ (m : (ℓ : Loc Cert.AttnOutBwd.nD Cert.AttnOutBwd.τ Cert.AttnOutBwd.sig) → Buf (Elt Bits) ℓ) (g : Dev Cert.AttnOutBwd.nD → PrngReg), Pre_AttnOutBwd m →
    θ_run (Cert.AttnOutBwd.defs (F := Bits)) (onTc (τ := Cert.AttnOutBwd.τ) (Cert.AttnOutBwd.main (F := Bits))) ⟨m, fun _ => 0, g⟩ (fun r => (∀ c : Dev Cert.AttnOutBwd.nD,
      r.2.mem ((c.tc : Thread Cert.AttnOutBwd.nD Cert.AttnOutBwd.τ).loc Cert.AttnOutBwd.main_arg0) = m ((c.tc : Thread Cert.AttnOutBwd.nD Cert.AttnOutBwd.τ).loc Cert.AttnOutBwd.main_arg0)
      ∧ r.2.mem ((c.tc : Thread Cert.AttnOutBwd.nD Cert.AttnOutBwd.τ).loc Cert.AttnOutBwd.main_arg1) = m ((c.tc : Thread Cert.AttnOutBwd.nD Cert.AttnOutBwd.τ).loc Cert.AttnOutBwd.main_arg1))
      ∧ r.2.sem = fun _ => 0)

def quiescent_AttnOutBwdIdeal [hAttnOutBwdIdeal : Cert.AttnOutBwdIdeal.Facts] : Prop :=
  ∀ (m : (ℓ : Loc Cert.AttnOutBwdIdeal.nD Cert.AttnOutBwdIdeal.τ Cert.AttnOutBwdIdeal.sig) → Buf (Elt Ideal) ℓ) (g : Dev Cert.AttnOutBwdIdeal.nD → PrngReg), Pre_AttnOutBwdIdeal m →
    θ_run (Cert.AttnOutBwdIdeal.defs (F := Ideal)) (onTc (τ := Cert.AttnOutBwdIdeal.τ) (Cert.AttnOutBwdIdeal.main (F := Ideal))) ⟨m, fun _ => 0, g⟩ (fun r => (∀ c : Dev Cert.AttnOutBwdIdeal.nD,
      r.2.mem ((c.tc : Thread Cert.AttnOutBwdIdeal.nD Cert.AttnOutBwdIdeal.τ).loc Cert.AttnOutBwdIdeal.main_arg0) = m ((c.tc : Thread Cert.AttnOutBwdIdeal.nD Cert.AttnOutBwdIdeal.τ).loc Cert.AttnOutBwdIdeal.main_arg0)
      ∧ r.2.mem ((c.tc : Thread Cert.AttnOutBwdIdeal.nD Cert.AttnOutBwdIdeal.τ).loc Cert.AttnOutBwdIdeal.main_arg1) = m ((c.tc : Thread Cert.AttnOutBwdIdeal.nD Cert.AttnOutBwdIdeal.τ).loc Cert.AttnOutBwdIdeal.main_arg1))
      ∧ r.2.sem = fun _ => 0)

def quiescent_AttnOutBwdRefIdeal [hAttnOutBwdRefIdeal : Cert.AttnOutBwdRefIdeal.Facts] : Prop :=
  ∀ (m : (ℓ : Loc Cert.AttnOutBwdRefIdeal.nD Cert.AttnOutBwdRefIdeal.τ Cert.AttnOutBwdRefIdeal.sig) → Buf (Elt Ideal) ℓ) (g : Dev Cert.AttnOutBwdRefIdeal.nD → PrngReg), Pre_AttnOutBwdRefIdeal m →
    θ_run (Cert.AttnOutBwdRefIdeal.defs (F := Ideal)) (onTc (τ := Cert.AttnOutBwdRefIdeal.τ) (Cert.AttnOutBwdRefIdeal.main (F := Ideal))) ⟨m, fun _ => 0, g⟩ (fun r => (∀ c : Dev Cert.AttnOutBwdRefIdeal.nD,
      r.2.mem ((c.tc : Thread Cert.AttnOutBwdRefIdeal.nD Cert.AttnOutBwdRefIdeal.τ).loc Cert.AttnOutBwdRefIdeal.main_arg0) = m ((c.tc : Thread Cert.AttnOutBwdRefIdeal.nD Cert.AttnOutBwdRefIdeal.τ).loc Cert.AttnOutBwdRefIdeal.main_arg0)
      ∧ r.2.mem ((c.tc : Thread Cert.AttnOutBwdRefIdeal.nD Cert.AttnOutBwdRefIdeal.τ).loc Cert.AttnOutBwdRefIdeal.main_arg1) = m ((c.tc : Thread Cert.AttnOutBwdRefIdeal.nD Cert.AttnOutBwdRefIdeal.τ).loc Cert.AttnOutBwdRefIdeal.main_arg1))
      ∧ r.2.sem = fun _ => 0)

def quiescent_AttnOutWgrad [hAttnOutWgrad : Cert.AttnOutWgrad.Facts] : Prop :=
  ∀ (m : (ℓ : Loc Cert.AttnOutWgrad.nD Cert.AttnOutWgrad.τ Cert.AttnOutWgrad.sig) → Buf (Elt Bits) ℓ) (g : Dev Cert.AttnOutWgrad.nD → PrngReg), Pre_AttnOutWgrad m →
    θ_run (Cert.AttnOutWgrad.defs (F := Bits)) (onTc (τ := Cert.AttnOutWgrad.τ) (Cert.AttnOutWgrad.main (F := Bits))) ⟨m, fun _ => 0, g⟩ (fun r => (∀ c : Dev Cert.AttnOutWgrad.nD,
      r.2.mem ((c.tc : Thread Cert.AttnOutWgrad.nD Cert.AttnOutWgrad.τ).loc Cert.AttnOutWgrad.main_arg0) = m ((c.tc : Thread Cert.AttnOutWgrad.nD Cert.AttnOutWgrad.τ).loc Cert.AttnOutWgrad.main_arg0)
      ∧ r.2.mem ((c.tc : Thread Cert.AttnOutWgrad.nD Cert.AttnOutWgrad.τ).loc Cert.AttnOutWgrad.main_arg1) = m ((c.tc : Thread Cert.AttnOutWgrad.nD Cert.AttnOutWgrad.τ).loc Cert.AttnOutWgrad.main_arg1))
      ∧ r.2.sem = fun _ => 0)

def quiescent_AttnOutWgradIdeal [hAttnOutWgradIdeal : Cert.AttnOutWgradIdeal.Facts] : Prop :=
  ∀ (m : (ℓ : Loc Cert.AttnOutWgradIdeal.nD Cert.AttnOutWgradIdeal.τ Cert.AttnOutWgradIdeal.sig) → Buf (Elt Ideal) ℓ) (g : Dev Cert.AttnOutWgradIdeal.nD → PrngReg), Pre_AttnOutWgradIdeal m →
    θ_run (Cert.AttnOutWgradIdeal.defs (F := Ideal)) (onTc (τ := Cert.AttnOutWgradIdeal.τ) (Cert.AttnOutWgradIdeal.main (F := Ideal))) ⟨m, fun _ => 0, g⟩ (fun r => (∀ c : Dev Cert.AttnOutWgradIdeal.nD,
      r.2.mem ((c.tc : Thread Cert.AttnOutWgradIdeal.nD Cert.AttnOutWgradIdeal.τ).loc Cert.AttnOutWgradIdeal.main_arg0) = m ((c.tc : Thread Cert.AttnOutWgradIdeal.nD Cert.AttnOutWgradIdeal.τ).loc Cert.AttnOutWgradIdeal.main_arg0)
      ∧ r.2.mem ((c.tc : Thread Cert.AttnOutWgradIdeal.nD Cert.AttnOutWgradIdeal.τ).loc Cert.AttnOutWgradIdeal.main_arg1) = m ((c.tc : Thread Cert.AttnOutWgradIdeal.nD Cert.AttnOutWgradIdeal.τ).loc Cert.AttnOutWgradIdeal.main_arg1))
      ∧ r.2.sem = fun _ => 0)

def quiescent_AttnOutWgradRefIdeal [hAttnOutWgradRefIdeal : Cert.AttnOutWgradRefIdeal.Facts] : Prop :=
  ∀ (m : (ℓ : Loc Cert.AttnOutWgradRefIdeal.nD Cert.AttnOutWgradRefIdeal.τ Cert.AttnOutWgradRefIdeal.sig) → Buf (Elt Ideal) ℓ) (g : Dev Cert.AttnOutWgradRefIdeal.nD → PrngReg), Pre_AttnOutWgradRefIdeal m →
    θ_run (Cert.AttnOutWgradRefIdeal.defs (F := Ideal)) (onTc (τ := Cert.AttnOutWgradRefIdeal.τ) (Cert.AttnOutWgradRefIdeal.main (F := Ideal))) ⟨m, fun _ => 0, g⟩ (fun r => (∀ c : Dev Cert.AttnOutWgradRefIdeal.nD,
      r.2.mem ((c.tc : Thread Cert.AttnOutWgradRefIdeal.nD Cert.AttnOutWgradRefIdeal.τ).loc Cert.AttnOutWgradRefIdeal.main_arg0) = m ((c.tc : Thread Cert.AttnOutWgradRefIdeal.nD Cert.AttnOutWgradRefIdeal.τ).loc Cert.AttnOutWgradRefIdeal.main_arg0)
      ∧ r.2.mem ((c.tc : Thread Cert.AttnOutWgradRefIdeal.nD Cert.AttnOutWgradRefIdeal.τ).loc Cert.AttnOutWgradRefIdeal.main_arg1) = m ((c.tc : Thread Cert.AttnOutWgradRefIdeal.nD Cert.AttnOutWgradRefIdeal.τ).loc Cert.AttnOutWgradRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3)
      ∧ r.2.mem ((c.tc : Thread Cert.GateBwdRefIdeal.nD Cert.GateBwdRefIdeal.τ).loc Cert.GateBwdRefIdeal.main_arg4) = m ((c.tc : Thread Cert.GateBwdRefIdeal.nD Cert.GateBwdRefIdeal.τ).loc Cert.GateBwdRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)) (v3 : (c : Dev Cert.KernelIdeal.nD) → Buf (Elt Ideal) ((c.tc : Thread Cert.KernelIdeal.nD Cert.KernelIdeal.τ).loc Cert.KernelIdeal.main_v40_3)) (v4 : (c : Dev Cert.KernelIdeal.nD) → Buf (Elt Ideal) ((c.tc : Thread Cert.KernelIdeal.nD Cert.KernelIdeal.τ).loc Cert.KernelIdeal.main_v40_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_v40_3) = v3 c
          ∧ r.2.mem ((c.tc : Thread Cert.KernelIdeal.nD Cert.KernelIdeal.τ).loc Cert.KernelIdeal.main_v40_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v102) = v3 c
          ∧ r.2.mem ((c.tc : Thread Cert.ReferenceIdeal.nD Cert.ReferenceIdeal.τ).loc Cert.ReferenceIdeal.main_v104) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v2) = v0 c
          ∧ r.2.mem ((c.tc : Thread Cert.MlpUpRefIdeal.nD Cert.MlpUpRefIdeal.τ).loc Cert.MlpUpRefIdeal.main_v5) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDownLoss_MlpDownLossIdeal : Prop :=
  True

def algebraic_MlpDownLossIdeal_MlpDownLossRefIdeal [hMlpDownLossIdeal : Cert.MlpDownLossIdeal.Facts] [hMlpDownLossRefIdeal : Cert.MlpDownLossRefIdeal.Facts] : Prop :=
  ∀ (m : (ℓ : Loc Cert.MlpDownLossIdeal.nD Cert.MlpDownLossIdeal.τ Cert.MlpDownLossIdeal.sig) → Buf (Elt Ideal) ℓ) (g : Dev Cert.MlpDownLossIdeal.nD → PrngReg)
    (m' : (ℓ : Loc Cert.MlpDownLossRefIdeal.nD Cert.MlpDownLossRefIdeal.τ Cert.MlpDownLossRefIdeal.sig) → Buf (Elt Ideal) ℓ) (g' : Dev Cert.MlpDownLossRefIdeal.nD → PrngReg), Pre_MlpDownLossIdeal m →
    (∀ c : Dev Cert.MlpDownLossIdeal.nD,
      m' ((c.tc : Thread Cert.MlpDownLossRefIdeal.nD Cert.MlpDownLossRefIdeal.τ).loc Cert.MlpDownLossRefIdeal.main_arg0) = m ((c.tc : Thread Cert.MlpDownLossIdeal.nD Cert.MlpDownLossIdeal.τ).loc Cert.MlpDownLossIdeal.main_arg0)
      ∧ m' ((c.tc : Thread Cert.MlpDownLossRefIdeal.nD Cert.MlpDownLossRefIdeal.τ).loc Cert.MlpDownLossRefIdeal.main_arg1) = m ((c.tc : Thread Cert.MlpDownLossIdeal.nD Cert.MlpDownLossIdeal.τ).loc Cert.MlpDownLossIdeal.main_arg1)
      ∧ m' ((c.tc : Thread Cert.MlpDownLossRefIdeal.nD Cert.MlpDownLossRefIdeal.τ).loc Cert.MlpDownLossRefIdeal.main_arg2) = m ((c.tc : Thread Cert.MlpDownLossIdeal.nD Cert.MlpDownLossIdeal.τ).loc Cert.MlpDownLossIdeal.main_arg2)
      ∧ m' ((c.tc : Thread Cert.MlpDownLossRefIdeal.nD Cert.MlpDownLossRefIdeal.τ).loc Cert.MlpDownLossRefIdeal.main_arg3) = m ((c.tc : Thread Cert.MlpDownLossIdeal.nD Cert.MlpDownLossIdeal.τ).loc Cert.MlpDownLossIdeal.main_arg3)) →
    ∃ (v0 : (c : Dev Cert.MlpDownLossIdeal.nD) → Buf (Elt Ideal) ((c.tc : Thread Cert.MlpDownLossIdeal.nD Cert.MlpDownLossIdeal.τ).loc Cert.MlpDownLossIdeal.main_v3_0)) (v1 : (c : Dev Cert.MlpDownLossIdeal.nD) → Buf (Elt Ideal) ((c.tc : Thread Cert.MlpDownLossIdeal.nD Cert.MlpDownLossIdeal.τ).loc Cert.MlpDownLossIdeal.main_v3_1)),
      θ_run (Cert.MlpDownLossIdeal.defs (F := Ideal)) (onTc (τ := Cert.MlpDownLossIdeal.τ) (Cert.MlpDownLossIdeal.main (F := Ideal))) ⟨m, fun _ => 0, g⟩ (fun r => ∀ c : Dev Cert.MlpDownLossIdeal.nD,
          r.2.mem ((c.tc : Thread Cert.MlpDownLossIdeal.nD Cert.MlpDownLossIdeal.τ).loc Cert.MlpDownLossIdeal.main_v3_0) = v0 c
          ∧ r.2.mem ((c.tc : Thread Cert.MlpDownLossIdeal.nD Cert.MlpDownLossIdeal.τ).loc Cert.MlpDownLossIdeal.main_v3_1) = v1 c
          ∧ r.2.mem ((c.tc : Thread Cert.MlpDownLossIdeal.nD Cert.MlpDownLossIdeal.τ).loc Cert.MlpDownLossIdeal.main_arg0) = m ((c.tc : Thread Cert.MlpDownLossIdeal.nD Cert.MlpDownLossIdeal.τ).loc Cert.MlpDownLossIdeal.main_arg0)
          ∧ r.2.mem ((c.tc : Thread Cert.MlpDownLossIdeal.nD Cert.MlpDownLossIdeal.τ).loc Cert.MlpDownLossIdeal.main_arg1) = m ((c.tc : Thread Cert.MlpDownLossIdeal.nD Cert.MlpDownLossIdeal.τ).loc Cert.MlpDownLossIdeal.main_arg1)
          ∧ r.2.mem ((c.tc : Thread Cert.MlpDownLossIdeal.nD Cert.MlpDownLossIdeal.τ).loc Cert.MlpDownLossIdeal.main_arg2) = m ((c.tc : Thread Cert.MlpDownLossIdeal.nD Cert.MlpDownLossIdeal.τ).loc Cert.MlpDownLossIdeal.main_arg2)
          ∧ r.2.mem ((c.tc : Thread Cert.MlpDownLossIdeal.nD Cert.MlpDownLossIdeal.τ).loc Cert.MlpDownLossIdeal.main_arg3) = m ((c.tc : Thread Cert.MlpDownLossIdeal.nD Cert.MlpDownLossIdeal.τ).loc Cert.MlpDownLossIdeal.main_arg3))
      ∧ θ_run (Cert.MlpDownLossRefIdeal.defs (F := Ideal)) (onTc (τ := Cert.MlpDownLossRefIdeal.τ) (Cert.MlpDownLossRefIdeal.main (F := Ideal))) ⟨m', fun _ => 0, g'⟩ (fun r => ∀ c : Dev Cert.MlpDownLossRefIdeal.nD,
          r.2.mem ((c.tc : Thread Cert.MlpDownLossRefIdeal.nD Cert.MlpDownLossRefIdeal.τ).loc Cert.MlpDownLossRefIdeal.main_v20) = v0 c
          ∧ r.2.mem ((c.tc : Thread Cert.MlpDownLossRefIdeal.nD Cert.MlpDownLossRefIdeal.τ).loc Cert.MlpDownLossRefIdeal.main_v21) = v1 c
          ∧ r.2.mem ((c.tc : Thread Cert.MlpDownLossRefIdeal.nD Cert.MlpDownLossRefIdeal.τ).loc Cert.MlpDownLossRefIdeal.main_arg0) = m' ((c.tc : Thread Cert.MlpDownLossRefIdeal.nD Cert.MlpDownLossRefIdeal.τ).loc Cert.MlpDownLossRefIdeal.main_arg0)
          ∧ r.2.mem ((c.tc : Thread Cert.MlpDownLossRefIdeal.nD Cert.MlpDownLossRefIdeal.τ).loc Cert.MlpDownLossRefIdeal.main_arg1) = m' ((c.tc : Thread Cert.MlpDownLossRefIdeal.nD Cert.MlpDownLossRefIdeal.τ).loc Cert.MlpDownLossRefIdeal.main_arg1)
          ∧ r.2.mem ((c.tc : Thread Cert.MlpDownLossRefIdeal.nD Cert.MlpDownLossRefIdeal.τ).loc Cert.MlpDownLossRefIdeal.main_arg2) = m' ((c.tc : Thread Cert.MlpDownLossRefIdeal.nD Cert.MlpDownLossRefIdeal.τ).loc Cert.MlpDownLossRefIdeal.main_arg2)
          ∧ r.2.mem ((c.tc : Thread Cert.MlpDownLossRefIdeal.nD Cert.MlpDownLossRefIdeal.τ).loc Cert.MlpDownLossRefIdeal.main_arg3) = m' ((c.tc : Thread Cert.MlpDownLossRefIdeal.nD Cert.MlpDownLossRefIdeal.τ).loc Cert.MlpDownLossRefIdeal.main_arg3))

def preserves_MlpDownWgrad_MlpDownWgradIdeal : Prop :=
  True

def algebraic_MlpDownWgradIdeal_MlpDownWgradRefIdeal [hMlpDownWgradIdeal : Cert.MlpDownWgradIdeal.Facts] [hMlpDownWgradRefIdeal : Cert.MlpDownWgradRefIdeal.Facts] : Prop :=
  ∀ (m : (ℓ : Loc Cert.MlpDownWgradIdeal.nD Cert.MlpDownWgradIdeal.τ Cert.MlpDownWgradIdeal.sig) → Buf (Elt Ideal) ℓ) (g : Dev Cert.MlpDownWgradIdeal.nD → PrngReg)
    (m' : (ℓ : Loc Cert.MlpDownWgradRefIdeal.nD Cert.MlpDownWgradRefIdeal.τ Cert.MlpDownWgradRefIdeal.sig) → Buf (Elt Ideal) ℓ) (g' : Dev Cert.MlpDownWgradRefIdeal.nD → PrngReg), Pre_MlpDownWgradIdeal m →
    (∀ c : Dev Cert.MlpDownWgradIdeal.nD,
      m' ((c.tc : Thread Cert.MlpDownWgradRefIdeal.nD Cert.MlpDownWgradRefIdeal.τ).loc Cert.MlpDownWgradRefIdeal.main_arg0) = m ((c.tc : Thread Cert.MlpDownWgradIdeal.nD Cert.MlpDownWgradIdeal.τ).loc Cert.MlpDownWgradIdeal.main_arg0)
      ∧ m' ((c.tc : Thread Cert.MlpDownWgradRefIdeal.nD Cert.MlpDownWgradRefIdeal.τ).loc Cert.MlpDownWgradRefIdeal.main_arg1) = m ((c.tc : Thread Cert.MlpDownWgradIdeal.nD Cert.MlpDownWgradIdeal.τ).loc Cert.MlpDownWgradIdeal.main_arg1)) →
    ∃ (v0 : (c : Dev Cert.MlpDownWgradIdeal.nD) → Buf (Elt Ideal) ((c.tc : Thread Cert.MlpDownWgradIdeal.nD Cert.MlpDownWgradIdeal.τ).loc Cert.MlpDownWgradIdeal.main_v0)),
      θ_run (Cert.MlpDownWgradIdeal.defs (F := Ideal)) (onTc (τ := Cert.MlpDownWgradIdeal.τ) (Cert.MlpDownWgradIdeal.main (F := Ideal))) ⟨m, fun _ => 0, g⟩ (fun r => ∀ c : Dev Cert.MlpDownWgradIdeal.nD,
          r.2.mem ((c.tc : Thread Cert.MlpDownWgradIdeal.nD Cert.MlpDownWgradIdeal.τ).loc Cert.MlpDownWgradIdeal.main_v0) = v0 c
          ∧ r.2.mem ((c.tc : Thread Cert.MlpDownWgradIdeal.nD Cert.MlpDownWgradIdeal.τ).loc Cert.MlpDownWgradIdeal.main_arg0) = m ((c.tc : Thread Cert.MlpDownWgradIdeal.nD Cert.MlpDownWgradIdeal.τ).loc Cert.MlpDownWgradIdeal.main_arg0)
          ∧ r.2.mem ((c.tc : Thread Cert.MlpDownWgradIdeal.nD Cert.MlpDownWgradIdeal.τ).loc Cert.MlpDownWgradIdeal.main_arg1) = m ((c.tc : Thread Cert.MlpDownWgradIdeal.nD Cert.MlpDownWgradIdeal.τ).loc Cert.MlpDownWgradIdeal.main_arg1))
      ∧ θ_run (Cert.MlpDownWgradRefIdeal.defs (F := Ideal)) (onTc (τ := Cert.MlpDownWgradRefIdeal.τ) (Cert.MlpDownWgradRefIdeal.main (F := Ideal))) ⟨m', fun _ => 0, g'⟩ (fun r => ∀ c : Dev Cert.MlpDownWgradRefIdeal.nD,
          r.2.mem ((c.tc : Thread Cert.MlpDownWgradRefIdeal.nD Cert.MlpDownWgradRefIdeal.τ).loc Cert.MlpDownWgradRefIdeal.main_v6) = v0 c
          ∧ r.2.mem ((c.tc : Thread Cert.MlpDownWgradRefIdeal.nD Cert.MlpDownWgradRefIdeal.τ).loc Cert.MlpDownWgradRefIdeal.main_arg0) = m' ((c.tc : Thread Cert.MlpDownWgradRefIdeal.nD Cert.MlpDownWgradRefIdeal.τ).loc Cert.MlpDownWgradRefIdeal.main_arg0)
          ∧ r.2.mem ((c.tc : Thread Cert.MlpDownWgradRefIdeal.nD Cert.MlpDownWgradRefIdeal.τ).loc Cert.MlpDownWgradRefIdeal.main_arg1) = m' ((c.tc : Thread Cert.MlpDownWgradRefIdeal.nD Cert.MlpDownWgradRefIdeal.τ).loc Cert.MlpDownWgradRefIdeal.main_arg1))

def preserves_MlpDownBwd_MlpDownBwdIdeal : Prop :=
  True

def algebraic_MlpDownBwdIdeal_MlpDownBwdRefIdeal [hMlpDownBwdIdeal : Cert.MlpDownBwdIdeal.Facts] [hMlpDownBwdRefIdeal : Cert.MlpDownBwdRefIdeal.Facts] : Prop :=
  ∀ (m : (ℓ : Loc Cert.MlpDownBwdIdeal.nD Cert.MlpDownBwdIdeal.τ Cert.MlpDownBwdIdeal.sig) → Buf (Elt Ideal) ℓ) (g : Dev Cert.MlpDownBwdIdeal.nD → PrngReg)
    (m' : (ℓ : Loc Cert.MlpDownBwdRefIdeal.nD Cert.MlpDownBwdRefIdeal.τ Cert.MlpDownBwdRefIdeal.sig) → Buf (Elt Ideal) ℓ) (g' : Dev Cert.MlpDownBwdRefIdeal.nD → PrngReg), Pre_MlpDownBwdIdeal m →
    (∀ c : Dev Cert.MlpDownBwdIdeal.nD,
      m' ((c.tc : Thread Cert.MlpDownBwdRefIdeal.nD Cert.MlpDownBwdRefIdeal.τ).loc Cert.MlpDownBwdRefIdeal.main_arg0) = m ((c.tc : Thread Cert.MlpDownBwdIdeal.nD Cert.MlpDownBwdIdeal.τ).loc Cert.MlpDownBwdIdeal.main_arg0)
      ∧ m' ((c.tc : Thread Cert.MlpDownBwdRefIdeal.nD Cert.MlpDownBwdRefIdeal.τ).loc Cert.MlpDownBwdRefIdeal.main_arg1) = m ((c.tc : Thread Cert.MlpDownBwdIdeal.nD Cert.MlpDownBwdIdeal.τ).loc Cert.MlpDownBwdIdeal.main_arg1)
      ∧ m' ((c.tc : Thread Cert.MlpDownBwdRefIdeal.nD Cert.MlpDownBwdRefIdeal.τ).loc Cert.MlpDownBwdRefIdeal.main_arg2) = m ((c.tc : Thread Cert.MlpDownBwdIdeal.nD Cert.MlpDownBwdIdeal.τ).loc Cert.MlpDownBwdIdeal.main_arg2)) →
    ∃ (v0 : (c : Dev Cert.MlpDownBwdIdeal.nD) → Buf (Elt Ideal) ((c.tc : Thread Cert.MlpDownBwdIdeal.nD Cert.MlpDownBwdIdeal.τ).loc Cert.MlpDownBwdIdeal.main_v0)),
      θ_run (Cert.MlpDownBwdIdeal.defs (F := Ideal)) (onTc (τ := Cert.MlpDownBwdIdeal.τ) (Cert.MlpDownBwdIdeal.main (F := Ideal))) ⟨m, fun _ => 0, g⟩ (fun r => ∀ c : Dev Cert.MlpDownBwdIdeal.nD,
          r.2.mem ((c.tc : Thread Cert.MlpDownBwdIdeal.nD Cert.MlpDownBwdIdeal.τ).loc Cert.MlpDownBwdIdeal.main_v0) = v0 c
          ∧ r.2.mem ((c.tc : Thread Cert.MlpDownBwdIdeal.nD Cert.MlpDownBwdIdeal.τ).loc Cert.MlpDownBwdIdeal.main_arg0) = m ((c.tc : Thread Cert.MlpDownBwdIdeal.nD Cert.MlpDownBwdIdeal.τ).loc Cert.MlpDownBwdIdeal.main_arg0)
          ∧ r.2.mem ((c.tc : Thread Cert.MlpDownBwdIdeal.nD Cert.MlpDownBwdIdeal.τ).loc Cert.MlpDownBwdIdeal.main_arg1) = m ((c.tc : Thread Cert.MlpDownBwdIdeal.nD Cert.MlpDownBwdIdeal.τ).loc Cert.MlpDownBwdIdeal.main_arg1)
          ∧ r.2.mem ((c.tc : Thread Cert.MlpDownBwdIdeal.nD Cert.MlpDownBwdIdeal.τ).loc Cert.MlpDownBwdIdeal.main_arg2) = m ((c.tc : Thread Cert.MlpDownBwdIdeal.nD Cert.MlpDownBwdIdeal.τ).loc Cert.MlpDownBwdIdeal.main_arg2))
      ∧ θ_run (Cert.MlpDownBwdRefIdeal.defs (F := Ideal)) (onTc (τ := Cert.MlpDownBwdRefIdeal.τ) (Cert.MlpDownBwdRefIdeal.main (F := Ideal))) ⟨m', fun _ => 0, g'⟩ (fun r => ∀ c : Dev Cert.MlpDownBwdRefIdeal.nD,
          r.2.mem ((c.tc : Thread Cert.MlpDownBwdRefIdeal.nD Cert.MlpDownBwdRefIdeal.τ).loc Cert.MlpDownBwdRefIdeal.main_v14) = v0 c
          ∧ r.2.mem ((c.tc : Thread Cert.MlpDownBwdRefIdeal.nD Cert.MlpDownBwdRefIdeal.τ).loc Cert.MlpDownBwdRefIdeal.main_arg0) = m' ((c.tc : Thread Cert.MlpDownBwdRefIdeal.nD Cert.MlpDownBwdRefIdeal.τ).loc Cert.MlpDownBwdRefIdeal.main_arg0)
          ∧ r.2.mem ((c.tc : Thread Cert.MlpDownBwdRefIdeal.nD Cert.MlpDownBwdRefIdeal.τ).loc Cert.MlpDownBwdRefIdeal.main_arg1) = m' ((c.tc : Thread Cert.MlpDownBwdRefIdeal.nD Cert.MlpDownBwdRefIdeal.τ).loc Cert.MlpDownBwdRefIdeal.main_arg1)
          ∧ r.2.mem ((c.tc : Thread Cert.MlpDownBwdRefIdeal.nD Cert.MlpDownBwdRefIdeal.τ).loc Cert.MlpDownBwdRefIdeal.main_arg2) = m' ((c.tc : Thread Cert.MlpDownBwdRefIdeal.nD Cert.MlpDownBwdRefIdeal.τ).loc Cert.MlpDownBwdRefIdeal.main_arg2))

def preserves_MlpUpWgrad_MlpUpWgradIdeal : Prop :=
  True

def algebraic_MlpUpWgradIdeal_MlpUpWgradRefIdeal [hMlpUpWgradIdeal : Cert.MlpUpWgradIdeal.Facts] [hMlpUpWgradRefIdeal : Cert.MlpUpWgradRefIdeal.Facts] : Prop :=
  ∀ (m : (ℓ : Loc Cert.MlpUpWgradIdeal.nD Cert.MlpUpWgradIdeal.τ Cert.MlpUpWgradIdeal.sig) → Buf (Elt Ideal) ℓ) (g : Dev Cert.MlpUpWgradIdeal.nD → PrngReg)
    (m' : (ℓ : Loc Cert.MlpUpWgradRefIdeal.nD Cert.MlpUpWgradRefIdeal.τ Cert.MlpUpWgradRefIdeal.sig) → Buf (Elt Ideal) ℓ) (g' : Dev Cert.MlpUpWgradRefIdeal.nD → PrngReg), Pre_MlpUpWgradIdeal m →
    (∀ c : Dev Cert.MlpUpWgradIdeal.nD,
      m' ((c.tc : Thread Cert.MlpUpWgradRefIdeal.nD Cert.MlpUpWgradRefIdeal.τ).loc Cert.MlpUpWgradRefIdeal.main_arg0) = m ((c.tc : Thread Cert.MlpUpWgradIdeal.nD Cert.MlpUpWgradIdeal.τ).loc Cert.MlpUpWgradIdeal.main_arg0)
      ∧ m' ((c.tc : Thread Cert.MlpUpWgradRefIdeal.nD Cert.MlpUpWgradRefIdeal.τ).loc Cert.MlpUpWgradRefIdeal.main_arg1) = m ((c.tc : Thread Cert.MlpUpWgradIdeal.nD Cert.MlpUpWgradIdeal.τ).loc Cert.MlpUpWgradIdeal.main_arg1)) →
    ∃ (v0 : (c : Dev Cert.MlpUpWgradIdeal.nD) → Buf (Elt Ideal) ((c.tc : Thread Cert.MlpUpWgradIdeal.nD Cert.MlpUpWgradIdeal.τ).loc Cert.MlpUpWgradIdeal.main_v0)),
      θ_run (Cert.MlpUpWgradIdeal.defs (F := Ideal)) (onTc (τ := Cert.MlpUpWgradIdeal.τ) (Cert.MlpUpWgradIdeal.main (F := Ideal))) ⟨m, fun _ => 0, g⟩ (fun r => ∀ c : Dev Cert.MlpUpWgradIdeal.nD,
          r.2.mem ((c.tc : Thread Cert.MlpUpWgradIdeal.nD Cert.MlpUpWgradIdeal.τ).loc Cert.MlpUpWgradIdeal.main_v0) = v0 c
          ∧ r.2.mem ((c.tc : Thread Cert.MlpUpWgradIdeal.nD Cert.MlpUpWgradIdeal.τ).loc Cert.MlpUpWgradIdeal.main_arg0) = m ((c.tc : Thread Cert.MlpUpWgradIdeal.nD Cert.MlpUpWgradIdeal.τ).loc Cert.MlpUpWgradIdeal.main_arg0)
          ∧ r.2.mem ((c.tc : Thread Cert.MlpUpWgradIdeal.nD Cert.MlpUpWgradIdeal.τ).loc Cert.MlpUpWgradIdeal.main_arg1) = m ((c.tc : Thread Cert.MlpUpWgradIdeal.nD Cert.MlpUpWgradIdeal.τ).loc Cert.MlpUpWgradIdeal.main_arg1))
      ∧ θ_run (Cert.MlpUpWgradRefIdeal.defs (F := Ideal)) (onTc (τ := Cert.MlpUpWgradRefIdeal.τ) (Cert.MlpUpWgradRefIdeal.main (F := Ideal))) ⟨m', fun _ => 0, g'⟩ (fun r => ∀ c : Dev Cert.MlpUpWgradRefIdeal.nD,
          r.2.mem ((c.tc : Thread Cert.MlpUpWgradRefIdeal.nD Cert.MlpUpWgradRefIdeal.τ).loc Cert.MlpUpWgradRefIdeal.main_v8) = v0 c
          ∧ r.2.mem ((c.tc : Thread Cert.MlpUpWgradRefIdeal.nD Cert.MlpUpWgradRefIdeal.τ).loc Cert.MlpUpWgradRefIdeal.main_arg0) = m' ((c.tc : Thread Cert.MlpUpWgradRefIdeal.nD Cert.MlpUpWgradRefIdeal.τ).loc Cert.MlpUpWgradRefIdeal.main_arg0)
          ∧ r.2.mem ((c.tc : Thread Cert.MlpUpWgradRefIdeal.nD Cert.MlpUpWgradRefIdeal.τ).loc Cert.MlpUpWgradRefIdeal.main_arg1) = m' ((c.tc : Thread Cert.MlpUpWgradRefIdeal.nD Cert.MlpUpWgradRefIdeal.τ).loc Cert.MlpUpWgradRefIdeal.main_arg1))

def preserves_MlpUpBwd_MlpUpBwdIdeal : Prop :=
  True

def algebraic_MlpUpBwdIdeal_MlpUpBwdRefIdeal [hMlpUpBwdIdeal : Cert.MlpUpBwdIdeal.Facts] [hMlpUpBwdRefIdeal : Cert.MlpUpBwdRefIdeal.Facts] : Prop :=
  ∀ (m : (ℓ : Loc Cert.MlpUpBwdIdeal.nD Cert.MlpUpBwdIdeal.τ Cert.MlpUpBwdIdeal.sig) → Buf (Elt Ideal) ℓ) (g : Dev Cert.MlpUpBwdIdeal.nD → PrngReg)
    (m' : (ℓ : Loc Cert.MlpUpBwdRefIdeal.nD Cert.MlpUpBwdRefIdeal.τ Cert.MlpUpBwdRefIdeal.sig) → Buf (Elt Ideal) ℓ) (g' : Dev Cert.MlpUpBwdRefIdeal.nD → PrngReg), Pre_MlpUpBwdIdeal m →
    (∀ c : Dev Cert.MlpUpBwdIdeal.nD,
      m' ((c.tc : Thread Cert.MlpUpBwdRefIdeal.nD Cert.MlpUpBwdRefIdeal.τ).loc Cert.MlpUpBwdRefIdeal.main_arg0) = m ((c.tc : Thread Cert.MlpUpBwdIdeal.nD Cert.MlpUpBwdIdeal.τ).loc Cert.MlpUpBwdIdeal.main_arg0)
      ∧ m' ((c.tc : Thread Cert.MlpUpBwdRefIdeal.nD Cert.MlpUpBwdRefIdeal.τ).loc Cert.MlpUpBwdRefIdeal.main_arg1) = m ((c.tc : Thread Cert.MlpUpBwdIdeal.nD Cert.MlpUpBwdIdeal.τ).loc Cert.MlpUpBwdIdeal.main_arg1)) →
    ∃ (v0 : (c : Dev Cert.MlpUpBwdIdeal.nD) → Buf (Elt Ideal) ((c.tc : Thread Cert.MlpUpBwdIdeal.nD Cert.MlpUpBwdIdeal.τ).loc Cert.MlpUpBwdIdeal.main_v0)),
      θ_run (Cert.MlpUpBwdIdeal.defs (F := Ideal)) (onTc (τ := Cert.MlpUpBwdIdeal.τ) (Cert.MlpUpBwdIdeal.main (F := Ideal))) ⟨m, fun _ => 0, g⟩ (fun r => ∀ c : Dev Cert.MlpUpBwdIdeal.nD,
          r.2.mem ((c.tc : Thread Cert.MlpUpBwdIdeal.nD Cert.MlpUpBwdIdeal.τ).loc Cert.MlpUpBwdIdeal.main_v0) = v0 c
          ∧ r.2.mem ((c.tc : Thread Cert.MlpUpBwdIdeal.nD Cert.MlpUpBwdIdeal.τ).loc Cert.MlpUpBwdIdeal.main_arg0) = m ((c.tc : Thread Cert.MlpUpBwdIdeal.nD Cert.MlpUpBwdIdeal.τ).loc Cert.MlpUpBwdIdeal.main_arg0)
          ∧ r.2.mem ((c.tc : Thread Cert.MlpUpBwdIdeal.nD Cert.MlpUpBwdIdeal.τ).loc Cert.MlpUpBwdIdeal.main_arg1) = m ((c.tc : Thread Cert.MlpUpBwdIdeal.nD Cert.MlpUpBwdIdeal.τ).loc Cert.MlpUpBwdIdeal.main_arg1))
      ∧ θ_run (Cert.MlpUpBwdRefIdeal.defs (F := Ideal)) (onTc (τ := Cert.MlpUpBwdRefIdeal.τ) (Cert.MlpUpBwdRefIdeal.main (F := Ideal))) ⟨m', fun _ => 0, g'⟩ (fun r => ∀ c : Dev Cert.MlpUpBwdRefIdeal.nD,
          r.2.mem ((c.tc : Thread Cert.MlpUpBwdRefIdeal.nD Cert.MlpUpBwdRefIdeal.τ).loc Cert.MlpUpBwdRefIdeal.main_v4) = v0 c
          ∧ r.2.mem ((c.tc : Thread Cert.MlpUpBwdRefIdeal.nD Cert.MlpUpBwdRefIdeal.τ).loc Cert.MlpUpBwdRefIdeal.main_arg0) = m' ((c.tc : Thread Cert.MlpUpBwdRefIdeal.nD Cert.MlpUpBwdRefIdeal.τ).loc Cert.MlpUpBwdRefIdeal.main_arg0)
          ∧ r.2.mem ((c.tc : Thread Cert.MlpUpBwdRefIdeal.nD Cert.MlpUpBwdRefIdeal.τ).loc Cert.MlpUpBwdRefIdeal.main_arg1) = m' ((c.tc : Thread Cert.MlpUpBwdRefIdeal.nD Cert.MlpUpBwdRefIdeal.τ).loc Cert.MlpUpBwdRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InProjBwd_InProjBwdIdeal : Prop :=
  True

def algebraic_InProjBwdIdeal_InProjBwdRefIdeal [hInProjBwdIdeal : Cert.InProjBwdIdeal.Facts] [hInProjBwdRefIdeal : Cert.InProjBwdRefIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjBwdRefIdeal.nD Cert.InProjBwdRefIdeal.τ Cert.InProjBwdRefIdeal.sig) → Buf (Elt Ideal) ℓ) (g' : Dev Cert.InProjBwdRefIdeal.nD → PrngReg), Pre_InProjBwdIdeal m →
    (∀ c : Dev Cert.InProjBwdIdeal.nD,
      m' ((c.tc : Thread Cert.InProjBwdRefIdeal.nD Cert.InProjBwdRefIdeal.τ).loc Cert.InProjBwdRefIdeal.main_arg0) = m ((c.tc : Thread Cert.InProjBwdIdeal.nD Cert.InProjBwdIdeal.τ).loc Cert.InProjBwdIdeal.main_arg0)
      ∧ m' ((c.tc : Thread Cert.InProjBwdRefIdeal.nD Cert.InProjBwdRefIdeal.τ).loc Cert.InProjBwdRefIdeal.main_arg1) = m ((c.tc : Thread Cert.InProjBwdIdeal.nD Cert.InProjBwdIdeal.τ).loc Cert.InProjBwdIdeal.main_arg1)
      ∧ m' ((c.tc : Thread Cert.InProjBwdRefIdeal.nD Cert.InProjBwdRefIdeal.τ).loc Cert.InProjBwdRefIdeal.main_arg2) = m ((c.tc : Thread Cert.InProjBwdIdeal.nD Cert.InProjBwdIdeal.τ).loc Cert.InProjBwdIdeal.main_arg2)) →
    ∃ (v0 : (c : Dev Cert.InProjBwdIdeal.nD) → Buf (Elt Ideal) ((c.tc : Thread Cert.InProjBwdIdeal.nD Cert.InProjBwdIdeal.τ).loc Cert.InProjBwdIdeal.main_v0)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v0) = v0 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2))
      ∧ θ_run (Cert.InProjBwdRefIdeal.defs (F := Ideal)) (onTc (τ := Cert.InProjBwdRefIdeal.τ) (Cert.InProjBwdRefIdeal.main (F := Ideal))) ⟨m', fun _ => 0, g'⟩ (fun r => ∀ c : Dev Cert.InProjBwdRefIdeal.nD,
          r.2.mem ((c.tc : Thread Cert.InProjBwdRefIdeal.nD Cert.InProjBwdRefIdeal.τ).loc Cert.InProjBwdRefIdeal.main_v5) = v0 c
          ∧ r.2.mem ((c.tc : Thread Cert.InProjBwdRefIdeal.nD Cert.InProjBwdRefIdeal.τ).loc Cert.InProjBwdRefIdeal.main_arg0) = m' ((c.tc : Thread Cert.InProjBwdRefIdeal.nD Cert.InProjBwdRefIdeal.τ).loc Cert.InProjBwdRefIdeal.main_arg0)
          ∧ r.2.mem ((c.tc : Thread Cert.InProjBwdRefIdeal.nD Cert.InProjBwdRefIdeal.τ).loc Cert.InProjBwdRefIdeal.main_arg1) = m' ((c.tc : Thread Cert.InProjBwdRefIdeal.nD Cert.InProjBwdRefIdeal.τ).loc Cert.InProjBwdRefIdeal.main_arg1)
          ∧ r.2.mem ((c.tc : Thread Cert.InProjBwdRefIdeal.nD Cert.InProjBwdRefIdeal.τ).loc Cert.InProjBwdRefIdeal.main_arg2) = m' ((c.tc : Thread Cert.InProjBwdRefIdeal.nD Cert.InProjBwdRefIdeal.τ).loc Cert.InProjBwdRefIdeal.main_arg2))

def preserves_InProjWgradA_InProjWgradAIdeal : Prop :=
  True

def algebraic_InProjWgradAIdeal_InProjWgradARefIdeal [hInProjWgradAIdeal : Cert.InProjWgradAIdeal.Facts] [hInProjWgradARefIdeal : Cert.InProjWgradARefIdeal.Facts] : Prop :=
  ∀ (m : (ℓ : Loc Cert.InProjWgradAIdeal.nD Cert.InProjWgradAIdeal.τ Cert.InProjWgradAIdeal.sig) → Buf (Elt Ideal) ℓ) (g : Dev Cert.InProjWgradAIdeal.nD → PrngReg)
    (m' : (ℓ : Loc Cert.InProjWgradARefIdeal.nD Cert.InProjWgradARefIdeal.τ Cert.InProjWgradARefIdeal.sig) → Buf (Elt Ideal) ℓ) (g' : Dev Cert.InProjWgradARefIdeal.nD → PrngReg), Pre_InProjWgradAIdeal m →
    (∀ c : Dev Cert.InProjWgradAIdeal.nD,
      m' ((c.tc : Thread Cert.InProjWgradARefIdeal.nD Cert.InProjWgradARefIdeal.τ).loc Cert.InProjWgradARefIdeal.main_arg0) = m ((c.tc : Thread Cert.InProjWgradAIdeal.nD Cert.InProjWgradAIdeal.τ).loc Cert.InProjWgradAIdeal.main_arg0)
      ∧ m' ((c.tc : Thread Cert.InProjWgradARefIdeal.nD Cert.InProjWgradARefIdeal.τ).loc Cert.InProjWgradARefIdeal.main_arg1) = m ((c.tc : Thread Cert.InProjWgradAIdeal.nD Cert.InProjWgradAIdeal.τ).loc Cert.InProjWgradAIdeal.main_arg1)) →
    ∃ (v0 : (c : Dev Cert.InProjWgradAIdeal.nD) → Buf (Elt Ideal) ((c.tc : Thread Cert.InProjWgradAIdeal.nD Cert.InProjWgradAIdeal.τ).loc Cert.InProjWgradAIdeal.main_v1)),
      θ_run (Cert.InProjWgradAIdeal.defs (F := Ideal)) (onTc (τ := Cert.InProjWgradAIdeal.τ) (Cert.InProjWgradAIdeal.main (F := Ideal))) ⟨m, fun _ => 0, g⟩ (fun r => ∀ c : Dev Cert.InProjWgradAIdeal.nD,
          r.2.mem ((c.tc : Thread Cert.InProjWgradAIdeal.nD Cert.InProjWgradAIdeal.τ).loc Cert.InProjWgradAIdeal.main_v1) = v0 c
          ∧ r.2.mem ((c.tc : Thread Cert.InProjWgradAIdeal.nD Cert.InProjWgradAIdeal.τ).loc Cert.InProjWgradAIdeal.main_arg0) = m ((c.tc : Thread Cert.InProjWgradAIdeal.nD Cert.InProjWgradAIdeal.τ).loc Cert.InProjWgradAIdeal.main_arg0)
          ∧ r.2.mem ((c.tc : Thread Cert.InProjWgradAIdeal.nD Cert.InProjWgradAIdeal.τ).loc Cert.InProjWgradAIdeal.main_arg1) = m ((c.tc : Thread Cert.InProjWgradAIdeal.nD Cert.InProjWgradAIdeal.τ).loc Cert.InProjWgradAIdeal.main_arg1))
      ∧ θ_run (Cert.InProjWgradARefIdeal.defs (F := Ideal)) (onTc (τ := Cert.InProjWgradARefIdeal.τ) (Cert.InProjWgradARefIdeal.main (F := Ideal))) ⟨m', fun _ => 0, g'⟩ (fun r => ∀ c : Dev Cert.InProjWgradARefIdeal.nD,
          r.2.mem ((c.tc : Thread Cert.InProjWgradARefIdeal.nD Cert.InProjWgradARefIdeal.τ).loc Cert.InProjWgradARefIdeal.main_v6) = v0 c
          ∧ r.2.mem ((c.tc : Thread Cert.InProjWgradARefIdeal.nD Cert.InProjWgradARefIdeal.τ).loc Cert.InProjWgradARefIdeal.main_arg0) = m' ((c.tc : Thread Cert.InProjWgradARefIdeal.nD Cert.InProjWgradARefIdeal.τ).loc Cert.InProjWgradARefIdeal.main_arg0)
          ∧ r.2.mem ((c.tc : Thread Cert.InProjWgradARefIdeal.nD Cert.InProjWgradARefIdeal.τ).loc Cert.InProjWgradARefIdeal.main_arg1) = m' ((c.tc : Thread Cert.InProjWgradARefIdeal.nD Cert.InProjWgradARefIdeal.τ).loc Cert.InProjWgradARefIdeal.main_arg1))

def preserves_InProjWgradB_InProjWgradBIdeal : Prop :=
  True

def algebraic_InProjWgradBIdeal_InProjWgradBRefIdeal [hInProjWgradBIdeal : Cert.InProjWgradBIdeal.Facts] [hInProjWgradBRefIdeal : Cert.InProjWgradBRefIdeal.Facts] : Prop :=
  ∀ (m : (ℓ : Loc Cert.InProjWgradBIdeal.nD Cert.InProjWgradBIdeal.τ Cert.InProjWgradBIdeal.sig) → Buf (Elt Ideal) ℓ) (g : Dev Cert.InProjWgradBIdeal.nD → PrngReg)
    (m' : (ℓ : Loc Cert.InProjWgradBRefIdeal.nD Cert.InProjWgradBRefIdeal.τ Cert.InProjWgradBRefIdeal.sig) → Buf (Elt Ideal) ℓ) (g' : Dev Cert.InProjWgradBRefIdeal.nD → PrngReg), Pre_InProjWgradBIdeal m →
    (∀ c : Dev Cert.InProjWgradBIdeal.nD,
      m' ((c.tc : Thread Cert.InProjWgradBRefIdeal.nD Cert.InProjWgradBRefIdeal.τ).loc Cert.InProjWgradBRefIdeal.main_arg0) = m ((c.tc : Thread Cert.InProjWgradBIdeal.nD Cert.InProjWgradBIdeal.τ).loc Cert.InProjWgradBIdeal.main_arg0)
      ∧ m' ((c.tc : Thread Cert.InProjWgradBRefIdeal.nD Cert.InProjWgradBRefIdeal.τ).loc Cert.InProjWgradBRefIdeal.main_arg1) = m ((c.tc : Thread Cert.InProjWgradBIdeal.nD Cert.InProjWgradBIdeal.τ).loc Cert.InProjWgradBIdeal.main_arg1)) →
    ∃ (v0 : (c : Dev Cert.InProjWgradBIdeal.nD) → Buf (Elt Ideal) ((c.tc : Thread Cert.InProjWgradBIdeal.nD Cert.InProjWgradBIdeal.τ).loc Cert.InProjWgradBIdeal.main_v1)),
      θ_run (Cert.InProjWgradBIdeal.defs (F := Ideal)) (onTc (τ := Cert.InProjWgradBIdeal.τ) (Cert.InProjWgradBIdeal.main (F := Ideal))) ⟨m, fun _ => 0, g⟩ (fun r => ∀ c : Dev Cert.InProjWgradBIdeal.nD,
          r.2.mem ((c.tc : Thread Cert.InProjWgradBIdeal.nD Cert.InProjWgradBIdeal.τ).loc Cert.InProjWgradBIdeal.main_v1) = v0 c
          ∧ r.2.mem ((c.tc : Thread Cert.InProjWgradBIdeal.nD Cert.InProjWgradBIdeal.τ).loc Cert.InProjWgradBIdeal.main_arg0) = m ((c.tc : Thread Cert.InProjWgradBIdeal.nD Cert.InProjWgradBIdeal.τ).loc Cert.InProjWgradBIdeal.main_arg0)
          ∧ r.2.mem ((c.tc : Thread Cert.InProjWgradBIdeal.nD Cert.InProjWgradBIdeal.τ).loc Cert.InProjWgradBIdeal.main_arg1) = m ((c.tc : Thread Cert.InProjWgradBIdeal.nD Cert.InProjWgradBIdeal.τ).loc Cert.InProjWgradBIdeal.main_arg1))
      ∧ θ_run (Cert.InProjWgradBRefIdeal.defs (F := Ideal)) (onTc (τ := Cert.InProjWgradBRefIdeal.τ) (Cert.InProjWgradBRefIdeal.main (F := Ideal))) ⟨m', fun _ => 0, g'⟩ (fun r => ∀ c : Dev Cert.InProjWgradBRefIdeal.nD,
          r.2.mem ((c.tc : Thread Cert.InProjWgradBRefIdeal.nD Cert.InProjWgradBRefIdeal.τ).loc Cert.InProjWgradBRefIdeal.main_v6) = v0 c
          ∧ r.2.mem ((c.tc : Thread Cert.InProjWgradBRefIdeal.nD Cert.InProjWgradBRefIdeal.τ).loc Cert.InProjWgradBRefIdeal.main_arg0) = m' ((c.tc : Thread Cert.InProjWgradBRefIdeal.nD Cert.InProjWgradBRefIdeal.τ).loc Cert.InProjWgradBRefIdeal.main_arg0)
          ∧ r.2.mem ((c.tc : Thread Cert.InProjWgradBRefIdeal.nD Cert.InProjWgradBRefIdeal.τ).loc Cert.InProjWgradBRefIdeal.main_arg1) = m' ((c.tc : Thread Cert.InProjWgradBRefIdeal.nD Cert.InProjWgradBRefIdeal.τ).loc Cert.InProjWgradBRefIdeal.main_arg1))

def preserves_InProjWgradC_InProjWgradCIdeal : Prop :=
  True

def algebraic_InProjWgradCIdeal_InProjWgradCRefIdeal [hInProjWgradCIdeal : Cert.InProjWgradCIdeal.Facts] [hInProjWgradCRefIdeal : Cert.InProjWgradCRefIdeal.Facts] : Prop :=
  ∀ (m : (ℓ : Loc Cert.InProjWgradCIdeal.nD Cert.InProjWgradCIdeal.τ Cert.InProjWgradCIdeal.sig) → Buf (Elt Ideal) ℓ) (g : Dev Cert.InProjWgradCIdeal.nD → PrngReg)
    (m' : (ℓ : Loc Cert.InProjWgradCRefIdeal.nD Cert.InProjWgradCRefIdeal.τ Cert.InProjWgradCRefIdeal.sig) → Buf (Elt Ideal) ℓ) (g' : Dev Cert.InProjWgradCRefIdeal.nD → PrngReg), Pre_InProjWgradCIdeal m →
    (∀ c : Dev Cert.InProjWgradCIdeal.nD,
      m' ((c.tc : Thread Cert.InProjWgradCRefIdeal.nD Cert.InProjWgradCRefIdeal.τ).loc Cert.InProjWgradCRefIdeal.main_arg0) = m ((c.tc : Thread Cert.InProjWgradCIdeal.nD Cert.InProjWgradCIdeal.τ).loc Cert.InProjWgradCIdeal.main_arg0)
      ∧ m' ((c.tc : Thread Cert.InProjWgradCRefIdeal.nD Cert.InProjWgradCRefIdeal.τ).loc Cert.InProjWgradCRefIdeal.main_arg1) = m ((c.tc : Thread Cert.InProjWgradCIdeal.nD Cert.InProjWgradCIdeal.τ).loc Cert.InProjWgradCIdeal.main_arg1)) →
    ∃ (v0 : (c : Dev Cert.InProjWgradCIdeal.nD) → Buf (Elt Ideal) ((c.tc : Thread Cert.InProjWgradCIdeal.nD Cert.InProjWgradCIdeal.τ).loc Cert.InProjWgradCIdeal.main_v1)),
      θ_run (Cert.InProjWgradCIdeal.defs (F := Ideal)) (onTc (τ := Cert.InProjWgradCIdeal.τ) (Cert.InProjWgradCIdeal.main (F := Ideal))) ⟨m, fun _ => 0, g⟩ (fun r => ∀ c : Dev Cert.InProjWgradCIdeal.nD,
          r.2.mem ((c.tc : Thread Cert.InProjWgradCIdeal.nD Cert.InProjWgradCIdeal.τ).loc Cert.InProjWgradCIdeal.main_v1) = v0 c
          ∧ r.2.mem ((c.tc : Thread Cert.InProjWgradCIdeal.nD Cert.InProjWgradCIdeal.τ).loc Cert.InProjWgradCIdeal.main_arg0) = m ((c.tc : Thread Cert.InProjWgradCIdeal.nD Cert.InProjWgradCIdeal.τ).loc Cert.InProjWgradCIdeal.main_arg0)
          ∧ r.2.mem ((c.tc : Thread Cert.InProjWgradCIdeal.nD Cert.InProjWgradCIdeal.τ).loc Cert.InProjWgradCIdeal.main_arg1) = m ((c.tc : Thread Cert.InProjWgradCIdeal.nD Cert.InProjWgradCIdeal.τ).loc Cert.InProjWgradCIdeal.main_arg1))
      ∧ θ_run (Cert.InProjWgradCRefIdeal.defs (F := Ideal)) (onTc (τ := Cert.InProjWgradCRefIdeal.τ) (Cert.InProjWgradCRefIdeal.main (F := Ideal))) ⟨m', fun _ => 0, g'⟩ (fun r => ∀ c : Dev Cert.InProjWgradCRefIdeal.nD,
          r.2.mem ((c.tc : Thread Cert.InProjWgradCRefIdeal.nD Cert.InProjWgradCRefIdeal.τ).loc Cert.InProjWgradCRefIdeal.main_v6) = v0 c
          ∧ r.2.mem ((c.tc : Thread Cert.InProjWgradCRefIdeal.nD Cert.InProjWgradCRefIdeal.τ).loc Cert.InProjWgradCRefIdeal.main_arg0) = m' ((c.tc : Thread Cert.InProjWgradCRefIdeal.nD Cert.InProjWgradCRefIdeal.τ).loc Cert.InProjWgradCRefIdeal.main_arg0)
          ∧ r.2.mem ((c.tc : Thread Cert.InProjWgradCRefIdeal.nD Cert.InProjWgradCRefIdeal.τ).loc Cert.InProjWgradCRefIdeal.main_arg1) = m' ((c.tc : Thread Cert.InProjWgradCRefIdeal.nD Cert.InProjWgradCRefIdeal.τ).loc Cert.InProjWgradCRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_OutProjBwd_OutProjBwdIdeal : Prop :=
  True

def algebraic_OutProjBwdIdeal_OutProjBwdRefIdeal [hOutProjBwdIdeal : Cert.OutProjBwdIdeal.Facts] [hOutProjBwdRefIdeal : Cert.OutProjBwdRefIdeal.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg)
    (m' : (ℓ : Loc Cert.OutProjBwdRefIdeal.nD Cert.OutProjBwdRefIdeal.τ Cert.OutProjBwdRefIdeal.sig) → Buf (Elt Ideal) ℓ) (g' : Dev Cert.OutProjBwdRefIdeal.nD → PrngReg), Pre_OutProjBwdIdeal m →
    (∀ c : Dev Cert.OutProjBwdIdeal.nD,
      m' ((c.tc : Thread Cert.OutProjBwdRefIdeal.nD Cert.OutProjBwdRefIdeal.τ).loc Cert.OutProjBwdRefIdeal.main_arg0) = m ((c.tc : Thread Cert.OutProjBwdIdeal.nD Cert.OutProjBwdIdeal.τ).loc Cert.OutProjBwdIdeal.main_arg0)
      ∧ m' ((c.tc : Thread Cert.OutProjBwdRefIdeal.nD Cert.OutProjBwdRefIdeal.τ).loc Cert.OutProjBwdRefIdeal.main_arg1) = m ((c.tc : Thread Cert.OutProjBwdIdeal.nD Cert.OutProjBwdIdeal.τ).loc Cert.OutProjBwdIdeal.main_arg1)) →
    ∃ (v0 : (c : Dev Cert.OutProjBwdIdeal.nD) → Buf (Elt Ideal) ((c.tc : Thread Cert.OutProjBwdIdeal.nD Cert.OutProjBwdIdeal.τ).loc Cert.OutProjBwdIdeal.main_v0)),
      θ_run (Cert.OutProjBwdIdeal.defs (F := Ideal)) (onTc (τ := Cert.OutProjBwdIdeal.τ) (Cert.OutProjBwdIdeal.main (F := Ideal))) ⟨m, fun _ => 0, g⟩ (fun r => ∀ c : Dev Cert.OutProjBwdIdeal.nD,
          r.2.mem ((c.tc : Thread Cert.OutProjBwdIdeal.nD Cert.OutProjBwdIdeal.τ).loc Cert.OutProjBwdIdeal.main_v0) = v0 c
          ∧ r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
          ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1))
      ∧ θ_run (Cert.OutProjBwdRefIdeal.defs (F := Ideal)) (onTc (τ := Cert.OutProjBwdRefIdeal.τ) (Cert.OutProjBwdRefIdeal.main (F := Ideal))) ⟨m', fun _ => 0, g'⟩ (fun r => ∀ c : Dev Cert.OutProjBwdRefIdeal.nD,
          r.2.mem ((c.tc : Thread Cert.OutProjBwdRefIdeal.nD Cert.OutProjBwdRefIdeal.τ).loc Cert.OutProjBwdRefIdeal.main_v4) = v0 c
          ∧ r.2.mem ((c.tc : Thread Cert.OutProjBwdRefIdeal.nD Cert.OutProjBwdRefIdeal.τ).loc Cert.OutProjBwdRefIdeal.main_arg0) = m' ((c.tc : Thread Cert.OutProjBwdRefIdeal.nD Cert.OutProjBwdRefIdeal.τ).loc Cert.OutProjBwdRefIdeal.main_arg0)
          ∧ r.2.mem ((c.tc : Thread Cert.OutProjBwdRefIdeal.nD Cert.OutProjBwdRefIdeal.τ).loc Cert.OutProjBwdRefIdeal.main_arg1) = m' ((c.tc : Thread Cert.OutProjBwdRefIdeal.nD Cert.OutProjBwdRefIdeal.τ).loc Cert.OutProjBwdRefIdeal.main_arg1))

def preserves_OutProjWgrad_OutProjWgradIdeal : Prop :=
  True

def algebraic_OutProjWgradIdeal_OutProjWgradRefIdeal [hOutProjWgradIdeal : Cert.OutProjWgradIdeal.Facts] [hOutProjWgradRefIdeal : Cert.OutProjWgradRefIdeal.Facts] : Prop :=
  ∀ (m : (ℓ : Loc Cert.OutProjWgradIdeal.nD Cert.OutProjWgradIdeal.τ Cert.OutProjWgradIdeal.sig) → Buf (Elt Ideal) ℓ) (g : Dev Cert.OutProjWgradIdeal.nD → PrngReg)
    (m' : (ℓ : Loc Cert.OutProjWgradRefIdeal.nD Cert.OutProjWgradRefIdeal.τ Cert.OutProjWgradRefIdeal.sig) → Buf (Elt Ideal) ℓ) (g' : Dev Cert.OutProjWgradRefIdeal.nD → PrngReg), Pre_OutProjWgradIdeal m →
    (∀ c : Dev Cert.OutProjWgradIdeal.nD,
      m' ((c.tc : Thread Cert.OutProjWgradRefIdeal.nD Cert.OutProjWgradRefIdeal.τ).loc Cert.OutProjWgradRefIdeal.main_arg0) = m ((c.tc : Thread Cert.OutProjWgradIdeal.nD Cert.OutProjWgradIdeal.τ).loc Cert.OutProjWgradIdeal.main_arg0)
      ∧ m' ((c.tc : Thread Cert.OutProjWgradRefIdeal.nD Cert.OutProjWgradRefIdeal.τ).loc Cert.OutProjWgradRefIdeal.main_arg1) = m ((c.tc : Thread Cert.OutProjWgradIdeal.nD Cert.OutProjWgradIdeal.τ).loc Cert.OutProjWgradIdeal.main_arg1)) →
    ∃ (v0 : (c : Dev Cert.OutProjWgradIdeal.nD) → Buf (Elt Ideal) ((c.tc : Thread Cert.OutProjWgradIdeal.nD Cert.OutProjWgradIdeal.τ).loc Cert.OutProjWgradIdeal.main_v0)),
      θ_run (Cert.OutProjWgradIdeal.defs (F := Ideal)) (onTc (τ := Cert.OutProjWgradIdeal.τ) (Cert.OutProjWgradIdeal.main (F := Ideal))) ⟨m, fun _ => 0, g⟩ (fun r => ∀ c : Dev Cert.OutProjWgradIdeal.nD,
          r.2.mem ((c.tc : Thread Cert.OutProjWgradIdeal.nD Cert.OutProjWgradIdeal.τ).loc Cert.OutProjWgradIdeal.main_v0) = v0 c
          ∧ r.2.mem ((c.tc : Thread Cert.OutProjWgradIdeal.nD Cert.OutProjWgradIdeal.τ).loc Cert.OutProjWgradIdeal.main_arg0) = m ((c.tc : Thread Cert.OutProjWgradIdeal.nD Cert.OutProjWgradIdeal.τ).loc Cert.OutProjWgradIdeal.main_arg0)
          ∧ r.2.mem ((c.tc : Thread Cert.OutProjWgradIdeal.nD Cert.OutProjWgradIdeal.τ).loc Cert.OutProjWgradIdeal.main_arg1) = m ((c.tc : Thread Cert.OutProjWgradIdeal.nD Cert.OutProjWgradIdeal.τ).loc Cert.OutProjWgradIdeal.main_arg1))
      ∧ θ_run (Cert.OutProjWgradRefIdeal.defs (F := Ideal)) (onTc (τ := Cert.OutProjWgradRefIdeal.τ) (Cert.OutProjWgradRefIdeal.main (F := Ideal))) ⟨m', fun _ => 0, g'⟩ (fun r => ∀ c : Dev Cert.OutProjWgradRefIdeal.nD,
          r.2.mem ((c.tc : Thread Cert.OutProjWgradRefIdeal.nD Cert.OutProjWgradRefIdeal.τ).loc Cert.OutProjWgradRefIdeal.main_v6) = v0 c
          ∧ r.2.mem ((c.tc : Thread Cert.OutProjWgradRefIdeal.nD Cert.OutProjWgradRefIdeal.τ).loc Cert.OutProjWgradRefIdeal.main_arg0) = m' ((c.tc : Thread Cert.OutProjWgradRefIdeal.nD Cert.OutProjWgradRefIdeal.τ).loc Cert.OutProjWgradRefIdeal.main_arg0)
          ∧ r.2.mem ((c.tc : Thread Cert.OutProjWgradRefIdeal.nD Cert.OutProjWgradRefIdeal.τ).loc Cert.OutProjWgradRefIdeal.main_arg1) = m' ((c.tc : Thread Cert.OutProjWgradRefIdeal.nD Cert.OutProjWgradRefIdeal.τ).loc Cert.OutProjWgradRefIdeal.main_arg1))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v3) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1))

def preserves_AttnOutBwd_AttnOutBwdIdeal : Prop :=
  True

def algebraic_AttnOutBwdIdeal_AttnOutBwdRefIdeal [hAttnOutBwdIdeal : Cert.AttnOutBwdIdeal.Facts] [hAttnOutBwdRefIdeal : Cert.AttnOutBwdRefIdeal.Facts] : Prop :=
  ∀ (m : (ℓ : Loc Cert.AttnOutBwdIdeal.nD Cert.AttnOutBwdIdeal.τ Cert.AttnOutBwdIdeal.sig) → Buf (Elt Ideal) ℓ) (g : Dev Cert.AttnOutBwdIdeal.nD → PrngReg)
    (m' : (ℓ : Loc Cert.AttnOutBwdRefIdeal.nD Cert.AttnOutBwdRefIdeal.τ Cert.AttnOutBwdRefIdeal.sig) → Buf (Elt Ideal) ℓ) (g' : Dev Cert.AttnOutBwdRefIdeal.nD → PrngReg), Pre_AttnOutBwdIdeal m →
    (∀ c : Dev Cert.AttnOutBwdIdeal.nD,
      m' ((c.tc : Thread Cert.AttnOutBwdRefIdeal.nD Cert.AttnOutBwdRefIdeal.τ).loc Cert.AttnOutBwdRefIdeal.main_arg0) = m ((c.tc : Thread Cert.AttnOutBwdIdeal.nD Cert.AttnOutBwdIdeal.τ).loc Cert.AttnOutBwdIdeal.main_arg0)
      ∧ m' ((c.tc : Thread Cert.AttnOutBwdRefIdeal.nD Cert.AttnOutBwdRefIdeal.τ).loc Cert.AttnOutBwdRefIdeal.main_arg1) = m ((c.tc : Thread Cert.AttnOutBwdIdeal.nD Cert.AttnOutBwdIdeal.τ).loc Cert.AttnOutBwdIdeal.main_arg1)) →
    ∃ (v0 : (c : Dev Cert.AttnOutBwdIdeal.nD) → Buf (Elt Ideal) ((c.tc : Thread Cert.AttnOutBwdIdeal.nD Cert.AttnOutBwdIdeal.τ).loc Cert.AttnOutBwdIdeal.main_v0)),
      θ_run (Cert.AttnOutBwdIdeal.defs (F := Ideal)) (onTc (τ := Cert.AttnOutBwdIdeal.τ) (Cert.AttnOutBwdIdeal.main (F := Ideal))) ⟨m, fun _ => 0, g⟩ (fun r => ∀ c : Dev Cert.AttnOutBwdIdeal.nD,
          r.2.mem ((c.tc : Thread Cert.AttnOutBwdIdeal.nD Cert.AttnOutBwdIdeal.τ).loc Cert.AttnOutBwdIdeal.main_v0) = v0 c
          ∧ r.2.mem ((c.tc : Thread Cert.AttnOutBwdIdeal.nD Cert.AttnOutBwdIdeal.τ).loc Cert.AttnOutBwdIdeal.main_arg0) = m ((c.tc : Thread Cert.AttnOutBwdIdeal.nD Cert.AttnOutBwdIdeal.τ).loc Cert.AttnOutBwdIdeal.main_arg0)
          ∧ r.2.mem ((c.tc : Thread Cert.AttnOutBwdIdeal.nD Cert.AttnOutBwdIdeal.τ).loc Cert.AttnOutBwdIdeal.main_arg1) = m ((c.tc : Thread Cert.AttnOutBwdIdeal.nD Cert.AttnOutBwdIdeal.τ).loc Cert.AttnOutBwdIdeal.main_arg1))
      ∧ θ_run (Cert.AttnOutBwdRefIdeal.defs (F := Ideal)) (onTc (τ := Cert.AttnOutBwdRefIdeal.τ) (Cert.AttnOutBwdRefIdeal.main (F := Ideal))) ⟨m', fun _ => 0, g'⟩ (fun r => ∀ c : Dev Cert.AttnOutBwdRefIdeal.nD,
          r.2.mem ((c.tc : Thread Cert.AttnOutBwdRefIdeal.nD Cert.AttnOutBwdRefIdeal.τ).loc Cert.AttnOutBwdRefIdeal.main_v4) = v0 c
          ∧ r.2.mem ((c.tc : Thread Cert.AttnOutBwdRefIdeal.nD Cert.AttnOutBwdRefIdeal.τ).loc Cert.AttnOutBwdRefIdeal.main_arg0) = m' ((c.tc : Thread Cert.AttnOutBwdRefIdeal.nD Cert.AttnOutBwdRefIdeal.τ).loc Cert.AttnOutBwdRefIdeal.main_arg0)
          ∧ r.2.mem ((c.tc : Thread Cert.AttnOutBwdRefIdeal.nD Cert.AttnOutBwdRefIdeal.τ).loc Cert.AttnOutBwdRefIdeal.main_arg1) = m' ((c.tc : Thread Cert.AttnOutBwdRefIdeal.nD Cert.AttnOutBwdRefIdeal.τ).loc Cert.AttnOutBwdRefIdeal.main_arg1))

def preserves_AttnOutWgrad_AttnOutWgradIdeal : Prop :=
  True

def algebraic_AttnOutWgradIdeal_AttnOutWgradRefIdeal [hAttnOutWgradIdeal : Cert.AttnOutWgradIdeal.Facts] [hAttnOutWgradRefIdeal : Cert.AttnOutWgradRefIdeal.Facts] : Prop :=
  ∀ (m : (ℓ : Loc Cert.AttnOutWgradIdeal.nD Cert.AttnOutWgradIdeal.τ Cert.AttnOutWgradIdeal.sig) → Buf (Elt Ideal) ℓ) (g : Dev Cert.AttnOutWgradIdeal.nD → PrngReg)
    (m' : (ℓ : Loc Cert.AttnOutWgradRefIdeal.nD Cert.AttnOutWgradRefIdeal.τ Cert.AttnOutWgradRefIdeal.sig) → Buf (Elt Ideal) ℓ) (g' : Dev Cert.AttnOutWgradRefIdeal.nD → PrngReg), Pre_AttnOutWgradIdeal m →
    (∀ c : Dev Cert.AttnOutWgradIdeal.nD,
      m' ((c.tc : Thread Cert.AttnOutWgradRefIdeal.nD Cert.AttnOutWgradRefIdeal.τ).loc Cert.AttnOutWgradRefIdeal.main_arg0) = m ((c.tc : Thread Cert.AttnOutWgradIdeal.nD Cert.AttnOutWgradIdeal.τ).loc Cert.AttnOutWgradIdeal.main_arg0)
      ∧ m' ((c.tc : Thread Cert.AttnOutWgradRefIdeal.nD Cert.AttnOutWgradRefIdeal.τ).loc Cert.AttnOutWgradRefIdeal.main_arg1) = m ((c.tc : Thread Cert.AttnOutWgradIdeal.nD Cert.AttnOutWgradIdeal.τ).loc Cert.AttnOutWgradIdeal.main_arg1)) →
    ∃ (v0 : (c : Dev Cert.AttnOutWgradIdeal.nD) → Buf (Elt Ideal) ((c.tc : Thread Cert.AttnOutWgradIdeal.nD Cert.AttnOutWgradIdeal.τ).loc Cert.AttnOutWgradIdeal.main_v0)),
      θ_run (Cert.AttnOutWgradIdeal.defs (F := Ideal)) (onTc (τ := Cert.AttnOutWgradIdeal.τ) (Cert.AttnOutWgradIdeal.main (F := Ideal))) ⟨m, fun _ => 0, g⟩ (fun r => ∀ c : Dev Cert.AttnOutWgradIdeal.nD,
          r.2.mem ((c.tc : Thread Cert.AttnOutWgradIdeal.nD Cert.AttnOutWgradIdeal.τ).loc Cert.AttnOutWgradIdeal.main_v0) = v0 c
          ∧ r.2.mem ((c.tc : Thread Cert.AttnOutWgradIdeal.nD Cert.AttnOutWgradIdeal.τ).loc Cert.AttnOutWgradIdeal.main_arg0) = m ((c.tc : Thread Cert.AttnOutWgradIdeal.nD Cert.AttnOutWgradIdeal.τ).loc Cert.AttnOutWgradIdeal.main_arg0)
          ∧ r.2.mem ((c.tc : Thread Cert.AttnOutWgradIdeal.nD Cert.AttnOutWgradIdeal.τ).loc Cert.AttnOutWgradIdeal.main_arg1) = m ((c.tc : Thread Cert.AttnOutWgradIdeal.nD Cert.AttnOutWgradIdeal.τ).loc Cert.AttnOutWgradIdeal.main_arg1))
      ∧ θ_run (Cert.AttnOutWgradRefIdeal.defs (F := Ideal)) (onTc (τ := Cert.AttnOutWgradRefIdeal.τ) (Cert.AttnOutWgradRefIdeal.main (F := Ideal))) ⟨m', fun _ => 0, g'⟩ (fun r => ∀ c : Dev Cert.AttnOutWgradRefIdeal.nD,
          r.2.mem ((c.tc : Thread Cert.AttnOutWgradRefIdeal.nD Cert.AttnOutWgradRefIdeal.τ).loc Cert.AttnOutWgradRefIdeal.main_v8) = v0 c
          ∧ r.2.mem ((c.tc : Thread Cert.AttnOutWgradRefIdeal.nD Cert.AttnOutWgradRefIdeal.τ).loc Cert.AttnOutWgradRefIdeal.main_arg0) = m' ((c.tc : Thread Cert.AttnOutWgradRefIdeal.nD Cert.AttnOutWgradRefIdeal.τ).loc Cert.AttnOutWgradRefIdeal.main_arg0)
          ∧ r.2.mem ((c.tc : Thread Cert.AttnOutWgradRefIdeal.nD Cert.AttnOutWgradRefIdeal.τ).loc Cert.AttnOutWgradRefIdeal.main_arg1) = m' ((c.tc : Thread Cert.AttnOutWgradRefIdeal.nD Cert.AttnOutWgradRefIdeal.τ).loc Cert.AttnOutWgradRefIdeal.main_arg1))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)) →
    ∃ (v0 : (c : Dev Cert.GateFwdIdeal.nD) → Buf (Elt Ideal) ((c.tc : Thread Cert.GateFwdIdeal.nD Cert.GateFwdIdeal.τ).loc Cert.GateFwdIdeal.main_v0)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v20) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3))

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)
      ∧ m' ((c.tc : Thread Cert.GateBwdRefIdeal.nD Cert.GateBwdRefIdeal.τ).loc Cert.GateBwdRefIdeal.main_arg4) = m ((c.tc : Thread Cert.GateBwdIdeal.nD Cert.GateBwdIdeal.τ).loc Cert.GateBwdIdeal.main_arg4)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)) (v2 : (c : Dev Cert.GateBwdIdeal.nD) → Buf (Elt Ideal) ((c.tc : Thread Cert.GateBwdIdeal.nD Cert.GateBwdIdeal.τ).loc Cert.GateBwdIdeal.main_v0_2)) (v3 : (c : Dev Cert.GateBwdIdeal.nD) → Buf (Elt Ideal) ((c.tc : Thread Cert.GateBwdIdeal.nD Cert.GateBwdIdeal.τ).loc Cert.GateBwdIdeal.main_v0_3)) (v4 : (c : Dev Cert.GateBwdIdeal.nD) → Buf (Elt Ideal) ((c.tc : Thread Cert.GateBwdIdeal.nD Cert.GateBwdIdeal.τ).loc Cert.GateBwdIdeal.main_v0_4)) (v5 : (c : Dev Cert.GateBwdIdeal.nD) → Buf (Elt Ideal) ((c.tc : Thread Cert.GateBwdIdeal.nD Cert.GateBwdIdeal.τ).loc Cert.GateBwdIdeal.main_v0_5)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_v0_2) = v2 c
          ∧ r.2.mem ((c.tc : Thread Cert.GateBwdIdeal.nD Cert.GateBwdIdeal.τ).loc Cert.GateBwdIdeal.main_v0_3) = v3 c
          ∧ r.2.mem ((c.tc : Thread Cert.GateBwdIdeal.nD Cert.GateBwdIdeal.τ).loc Cert.GateBwdIdeal.main_v0_4) = v4 c
          ∧ r.2.mem ((c.tc : Thread Cert.GateBwdIdeal.nD Cert.GateBwdIdeal.τ).loc Cert.GateBwdIdeal.main_v0_5) = v5 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v38) = v0 c
          ∧ r.2.mem ((c.tc : Thread Cert.GateBwdRefIdeal.nD Cert.GateBwdRefIdeal.τ).loc Cert.GateBwdRefIdeal.main_v39) = v1 c
          ∧ r.2.mem ((c.tc : Thread Cert.GateBwdRefIdeal.nD Cert.GateBwdRefIdeal.τ).loc Cert.GateBwdRefIdeal.main_v41) = v2 c
          ∧ r.2.mem ((c.tc : Thread Cert.GateBwdRefIdeal.nD Cert.GateBwdRefIdeal.τ).loc Cert.GateBwdRefIdeal.main_v42) = v3 c
          ∧ r.2.mem ((c.tc : Thread Cert.GateBwdRefIdeal.nD Cert.GateBwdRefIdeal.τ).loc Cert.GateBwdRefIdeal.main_v43) = v4 c
          ∧ r.2.mem ((c.tc : Thread Cert.GateBwdRefIdeal.nD Cert.GateBwdRefIdeal.τ).loc Cert.GateBwdRefIdeal.main_v44) = v5 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3)
          ∧ r.2.mem ((c.tc : Thread Cert.GateBwdRefIdeal.nD Cert.GateBwdRefIdeal.τ).loc Cert.GateBwdRefIdeal.main_arg4) = m' ((c.tc : Thread Cert.GateBwdRefIdeal.nD Cert.GateBwdRefIdeal.τ).loc Cert.GateBwdRefIdeal.main_arg4))

def Claim : Prop :=
  ∃ (hKernel : Cert.Kernel.Facts) (hKernelIdeal : Cert.KernelIdeal.Facts) (hReferenceIdeal : Cert.ReferenceIdeal.Facts) (hMlpUp : Cert.MlpUp.Facts) (hMlpUpIdeal : Cert.MlpUpIdeal.Facts) (hMlpUpRefIdeal : Cert.MlpUpRefIdeal.Facts) (hMlpDownLoss : Cert.MlpDownLoss.Facts) (hMlpDownLossIdeal : Cert.MlpDownLossIdeal.Facts) (hMlpDownLossRefIdeal : Cert.MlpDownLossRefIdeal.Facts) (hMlpDownWgrad : Cert.MlpDownWgrad.Facts) (hMlpDownWgradIdeal : Cert.MlpDownWgradIdeal.Facts) (hMlpDownWgradRefIdeal : Cert.MlpDownWgradRefIdeal.Facts) (hMlpDownBwd : Cert.MlpDownBwd.Facts) (hMlpDownBwdIdeal : Cert.MlpDownBwdIdeal.Facts) (hMlpDownBwdRefIdeal : Cert.MlpDownBwdRefIdeal.Facts) (hMlpUpWgrad : Cert.MlpUpWgrad.Facts) (hMlpUpWgradIdeal : Cert.MlpUpWgradIdeal.Facts) (hMlpUpWgradRefIdeal : Cert.MlpUpWgradRefIdeal.Facts) (hMlpUpBwd : Cert.MlpUpBwd.Facts) (hMlpUpBwdIdeal : Cert.MlpUpBwdIdeal.Facts) (hMlpUpBwdRefIdeal : Cert.MlpUpBwdRefIdeal.Facts) (hInProj : Cert.InProj.Facts) (hInProjIdeal : Cert.InProjIdeal.Facts) (hInProjRefIdeal : Cert.InProjRefIdeal.Facts) (hInProjBwd : Cert.InProjBwd.Facts) (hInProjBwdIdeal : Cert.InProjBwdIdeal.Facts) (hInProjBwdRefIdeal : Cert.InProjBwdRefIdeal.Facts) (hInProjWgradA : Cert.InProjWgradA.Facts) (hInProjWgradAIdeal : Cert.InProjWgradAIdeal.Facts) (hInProjWgradARefIdeal : Cert.InProjWgradARefIdeal.Facts) (hInProjWgradB : Cert.InProjWgradB.Facts) (hInProjWgradBIdeal : Cert.InProjWgradBIdeal.Facts) (hInProjWgradBRefIdeal : Cert.InProjWgradBRefIdeal.Facts) (hInProjWgradC : Cert.InProjWgradC.Facts) (hInProjWgradCIdeal : Cert.InProjWgradCIdeal.Facts) (hInProjWgradCRefIdeal : Cert.InProjWgradCRefIdeal.Facts) (hOutProj : Cert.OutProj.Facts) (hOutProjIdeal : Cert.OutProjIdeal.Facts) (hOutProjRefIdeal : Cert.OutProjRefIdeal.Facts) (hOutProjBwd : Cert.OutProjBwd.Facts) (hOutProjBwdIdeal : Cert.OutProjBwdIdeal.Facts) (hOutProjBwdRefIdeal : Cert.OutProjBwdRefIdeal.Facts) (hOutProjWgrad : Cert.OutProjWgrad.Facts) (hOutProjWgradIdeal : Cert.OutProjWgradIdeal.Facts) (hOutProjWgradRefIdeal : Cert.OutProjWgradRefIdeal.Facts) (hAttnOut : Cert.AttnOut.Facts) (hAttnOutIdeal : Cert.AttnOutIdeal.Facts) (hAttnOutRefIdeal : Cert.AttnOutRefIdeal.Facts) (hAttnOutBwd : Cert.AttnOutBwd.Facts) (hAttnOutBwdIdeal : Cert.AttnOutBwdIdeal.Facts) (hAttnOutBwdRefIdeal : Cert.AttnOutBwdRefIdeal.Facts) (hAttnOutWgrad : Cert.AttnOutWgrad.Facts) (hAttnOutWgradIdeal : Cert.AttnOutWgradIdeal.Facts) (hAttnOutWgradRefIdeal : Cert.AttnOutWgradRefIdeal.Facts) (hGateFwd : Cert.GateFwd.Facts) (hGateFwdIdeal : Cert.GateFwdIdeal.Facts) (hGateFwdRefIdeal : Cert.GateFwdRefIdeal.Facts) (hGateBwd : Cert.GateBwd.Facts) (hGateBwdIdeal : Cert.GateBwdIdeal.Facts) (hGateBwdRefIdeal : Cert.GateBwdRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDownLoss (hMlpDownLoss := hMlpDownLoss)
    ∧ quiescent_MlpDownLossIdeal (hMlpDownLossIdeal := hMlpDownLossIdeal)
    ∧ quiescent_MlpDownLossRefIdeal (hMlpDownLossRefIdeal := hMlpDownLossRefIdeal)
    ∧ quiescent_MlpDownWgrad (hMlpDownWgrad := hMlpDownWgrad)
    ∧ quiescent_MlpDownWgradIdeal (hMlpDownWgradIdeal := hMlpDownWgradIdeal)
    ∧ quiescent_MlpDownWgradRefIdeal (hMlpDownWgradRefIdeal := hMlpDownWgradRefIdeal)
    ∧ quiescent_MlpDownBwd (hMlpDownBwd := hMlpDownBwd)
    ∧ quiescent_MlpDownBwdIdeal (hMlpDownBwdIdeal := hMlpDownBwdIdeal)
    ∧ quiescent_MlpDownBwdRefIdeal (hMlpDownBwdRefIdeal := hMlpDownBwdRefIdeal)
    ∧ quiescent_MlpUpWgrad (hMlpUpWgrad := hMlpUpWgrad)
    ∧ quiescent_MlpUpWgradIdeal (hMlpUpWgradIdeal := hMlpUpWgradIdeal)
    ∧ quiescent_MlpUpWgradRefIdeal (hMlpUpWgradRefIdeal := hMlpUpWgradRefIdeal)
    ∧ quiescent_MlpUpBwd (hMlpUpBwd := hMlpUpBwd)
    ∧ quiescent_MlpUpBwdIdeal (hMlpUpBwdIdeal := hMlpUpBwdIdeal)
    ∧ quiescent_MlpUpBwdRefIdeal (hMlpUpBwdRefIdeal := hMlpUpBwdRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjBwd (hInProjBwd := hInProjBwd)
    ∧ quiescent_InProjBwdIdeal (hInProjBwdIdeal := hInProjBwdIdeal)
    ∧ quiescent_InProjBwdRefIdeal (hInProjBwdRefIdeal := hInProjBwdRefIdeal)
    ∧ quiescent_InProjWgradA (hInProjWgradA := hInProjWgradA)
    ∧ quiescent_InProjWgradAIdeal (hInProjWgradAIdeal := hInProjWgradAIdeal)
    ∧ quiescent_InProjWgradARefIdeal (hInProjWgradARefIdeal := hInProjWgradARefIdeal)
    ∧ quiescent_InProjWgradB (hInProjWgradB := hInProjWgradB)
    ∧ quiescent_InProjWgradBIdeal (hInProjWgradBIdeal := hInProjWgradBIdeal)
    ∧ quiescent_InProjWgradBRefIdeal (hInProjWgradBRefIdeal := hInProjWgradBRefIdeal)
    ∧ quiescent_InProjWgradC (hInProjWgradC := hInProjWgradC)
    ∧ quiescent_InProjWgradCIdeal (hInProjWgradCIdeal := hInProjWgradCIdeal)
    ∧ quiescent_InProjWgradCRefIdeal (hInProjWgradCRefIdeal := hInProjWgradCRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjBwd (hOutProjBwd := hOutProjBwd)
    ∧ quiescent_OutProjBwdIdeal (hOutProjBwdIdeal := hOutProjBwdIdeal)
    ∧ quiescent_OutProjBwdRefIdeal (hOutProjBwdRefIdeal := hOutProjBwdRefIdeal)
    ∧ quiescent_OutProjWgrad (hOutProjWgrad := hOutProjWgrad)
    ∧ quiescent_OutProjWgradIdeal (hOutProjWgradIdeal := hOutProjWgradIdeal)
    ∧ quiescent_OutProjWgradRefIdeal (hOutProjWgradRefIdeal := hOutProjWgradRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_AttnOutBwd (hAttnOutBwd := hAttnOutBwd)
    ∧ quiescent_AttnOutBwdIdeal (hAttnOutBwdIdeal := hAttnOutBwdIdeal)
    ∧ quiescent_AttnOutBwdRefIdeal (hAttnOutBwdRefIdeal := hAttnOutBwdRefIdeal)
    ∧ quiescent_AttnOutWgrad (hAttnOutWgrad := hAttnOutWgrad)
    ∧ quiescent_AttnOutWgradIdeal (hAttnOutWgradIdeal := hAttnOutWgradIdeal)
    ∧ quiescent_AttnOutWgradRefIdeal (hAttnOutWgradRefIdeal := hAttnOutWgradRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_GateBwd (hGateBwd := hGateBwd)
    ∧ quiescent_GateBwdIdeal (hGateBwdIdeal := hGateBwdIdeal)
    ∧ quiescent_GateBwdRefIdeal (hGateBwdRefIdeal := hGateBwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MlpUp_MlpUpIdeal
    ∧ algebraic_MlpUpIdeal_MlpUpRefIdeal (hMlpUpIdeal := hMlpUpIdeal) (hMlpUpRefIdeal := hMlpUpRefIdeal)
    ∧ preserves_MlpDownLoss_MlpDownLossIdeal
    ∧ algebraic_MlpDownLossIdeal_MlpDownLossRefIdeal (hMlpDownLossIdeal := hMlpDownLossIdeal) (hMlpDownLossRefIdeal := hMlpDownLossRefIdeal)
    ∧ preserves_MlpDownWgrad_MlpDownWgradIdeal
    ∧ algebraic_MlpDownWgradIdeal_MlpDownWgradRefIdeal (hMlpDownWgradIdeal := hMlpDownWgradIdeal) (hMlpDownWgradRefIdeal := hMlpDownWgradRefIdeal)
    ∧ preserves_MlpDownBwd_MlpDownBwdIdeal
    ∧ algebraic_MlpDownBwdIdeal_MlpDownBwdRefIdeal (hMlpDownBwdIdeal := hMlpDownBwdIdeal) (hMlpDownBwdRefIdeal := hMlpDownBwdRefIdeal)
    ∧ preserves_MlpUpWgrad_MlpUpWgradIdeal
    ∧ algebraic_MlpUpWgradIdeal_MlpUpWgradRefIdeal (hMlpUpWgradIdeal := hMlpUpWgradIdeal) (hMlpUpWgradRefIdeal := hMlpUpWgradRefIdeal)
    ∧ preserves_MlpUpBwd_MlpUpBwdIdeal
    ∧ algebraic_MlpUpBwdIdeal_MlpUpBwdRefIdeal (hMlpUpBwdIdeal := hMlpUpBwdIdeal) (hMlpUpBwdRefIdeal := hMlpUpBwdRefIdeal)
    ∧ preserves_InProj_InProjIdeal
    ∧ algebraic_InProjIdeal_InProjRefIdeal (hInProjIdeal := hInProjIdeal) (hInProjRefIdeal := hInProjRefIdeal)
    ∧ preserves_InProjBwd_InProjBwdIdeal
    ∧ algebraic_InProjBwdIdeal_InProjBwdRefIdeal (hInProjBwdIdeal := hInProjBwdIdeal) (hInProjBwdRefIdeal := hInProjBwdRefIdeal)
    ∧ preserves_InProjWgradA_InProjWgradAIdeal
    ∧ algebraic_InProjWgradAIdeal_InProjWgradARefIdeal (hInProjWgradAIdeal := hInProjWgradAIdeal) (hInProjWgradARefIdeal := hInProjWgradARefIdeal)
    ∧ preserves_InProjWgradB_InProjWgradBIdeal
    ∧ algebraic_InProjWgradBIdeal_InProjWgradBRefIdeal (hInProjWgradBIdeal := hInProjWgradBIdeal) (hInProjWgradBRefIdeal := hInProjWgradBRefIdeal)
    ∧ preserves_InProjWgradC_InProjWgradCIdeal
    ∧ algebraic_InProjWgradCIdeal_InProjWgradCRefIdeal (hInProjWgradCIdeal := hInProjWgradCIdeal) (hInProjWgradCRefIdeal := hInProjWgradCRefIdeal)
    ∧ preserves_OutProj_OutProjIdeal
    ∧ algebraic_OutProjIdeal_OutProjRefIdeal (hOutProjIdeal := hOutProjIdeal) (hOutProjRefIdeal := hOutProjRefIdeal)
    ∧ preserves_OutProjBwd_OutProjBwdIdeal
    ∧ algebraic_OutProjBwdIdeal_OutProjBwdRefIdeal (hOutProjBwdIdeal := hOutProjBwdIdeal) (hOutProjBwdRefIdeal := hOutProjBwdRefIdeal)
    ∧ preserves_OutProjWgrad_OutProjWgradIdeal
    ∧ algebraic_OutProjWgradIdeal_OutProjWgradRefIdeal (hOutProjWgradIdeal := hOutProjWgradIdeal) (hOutProjWgradRefIdeal := hOutProjWgradRefIdeal)
    ∧ preserves_AttnOut_AttnOutIdeal
    ∧ algebraic_AttnOutIdeal_AttnOutRefIdeal (hAttnOutIdeal := hAttnOutIdeal) (hAttnOutRefIdeal := hAttnOutRefIdeal)
    ∧ preserves_AttnOutBwd_AttnOutBwdIdeal
    ∧ algebraic_AttnOutBwdIdeal_AttnOutBwdRefIdeal (hAttnOutBwdIdeal := hAttnOutBwdIdeal) (hAttnOutBwdRefIdeal := hAttnOutBwdRefIdeal)
    ∧ preserves_AttnOutWgrad_AttnOutWgradIdeal
    ∧ algebraic_AttnOutWgradIdeal_AttnOutWgradRefIdeal (hAttnOutWgradIdeal := hAttnOutWgradIdeal) (hAttnOutWgradRefIdeal := hAttnOutWgradRefIdeal)
    ∧ preserves_GateFwd_GateFwdIdeal
    ∧ algebraic_GateFwdIdeal_GateFwdRefIdeal (hGateFwdIdeal := hGateFwdIdeal) (hGateFwdRefIdeal := hGateFwdRefIdeal)
    ∧ preserves_GateBwd_GateBwdIdeal
    ∧ algebraic_GateBwdIdeal_GateBwdRefIdeal (hGateBwdIdeal := hGateBwdIdeal) (hGateBwdRefIdeal := hGateBwdRefIdeal)
-- ==== Pre_finite.lean ====
abbrev S4224x1024 : Shape := ⟨2, ![4224, 1024]⟩
abbrev S4224x8 : Shape := ⟨2, ![4224, 8]⟩
abbrev S_ : Shape := ⟨0, ![]⟩

class Facts : Prop where
  bitsLt_bf16_f32 : FTy.bits .bf16 < FTy.bits .f32
  bcast_S_S4224x1024 : S_.BroadcastsInDim S4224x1024 (![] : Fin 0 → Fin S4224x1024.rank)
  reducesTo_S4224x1024_S_d0_1 : S4224x1024.ReducesTo [0, 1] S_
  h_S_ : 0 < S_.numel
  bcast_S_S4224x8 : S_.BroadcastsInDim S4224x8 (![] : Fin 0 → Fin S4224x8.rank)
  reducesTo_S4224x8_S_d0_1 : S4224x8.ReducesTo [0, 1] S_

variable [Facts]

def fn_part1 {F : FTy → Type} [FloatOps F] (main_arg4 : FVec F S4224x1024 .f32) (main_v16 : IVec S_ 1) (main_v17 : FVec F S4224x8 .f32) : IVec S_ 1 :=
  let main_cst_4 : FVec F S_ .f32 := constant S_ .f32 0x7F800000#32
  let main_v18 : FVec F S4224x8 .f32 := broadcastInDim S4224x8 ![] bcast_S_S4224x8 main_cst_4
  let main_v19 : IVec S4224x8 1 := cmpf .olt main_v17 main_v18
  let main_c_5 : IVec S_ 1 := constantI S_ 1 1#1
  let main_v20 : IVec S_ 1 := (fun x v => Host.reduce IntOp.andi x v reducesTo_S4224x8_S_d0_1 h_S_) main_v19 main_c_5
  let main_v21 : IVec S_ 1 := andi main_v16 main_v20
  let main_v22 : FVec F S4224x1024 .f32 := Host.absf main_arg4
  let main_cst_6 : FVec F S_ .f32 := constant S_ .f32 0x7F800000#32
  let main_v23 : FVec F S4224x1024 .f32 := broadcastInDim S4224x1024 ![] bcast_S_S4224x1024 main_cst_6
  let main_v24 : IVec S4224x1024 1 := cmpf .olt main_v22 main_v23
  let main_c_7 : IVec S_ 1 := constantI S_ 1 1#1
  let main_v25 : IVec S_ 1 := (fun x v => Host.reduce IntOp.andi x v reducesTo_S4224x1024_S_d0_1 h_S_) main_v24 main_c_7
  let main_v26 : IVec S_ 1 := andi main_v21 main_v25
  main_v26

def fn {F : FTy → Type} [FloatOps F] (main_arg0 : FVec F S4224x1024 .bf16) (main_arg1 : FVec F S4224x1024 .bf16) (main_arg2 : FVec F S4224x1024 .bf16) (main_arg3 : FVec F S4224x8 .f32) (main_arg4 : FVec F S4224x1024 .f32) : IVec S_ 1 :=
  let main_v0 : FVec F S4224x1024 .f32 := (extf .f32 · bitsLt_bf16_f32) main_arg0
  let main_v1 : FVec F S4224x1024 .f32 := Host.absf main_v0
  let main_cst : FVec F S_ .f32 := constant S_ .f32 0x7F800000#32
  let main_v2 : FVec F S4224x1024 .f32 := broadcastInDim S4224x1024 ![] bcast_S_S4224x1024 main_cst
  let main_v3 : IVec S4224x1024 1 := cmpf .olt main_v1 main_v2
  let main_c : IVec S_ 1 := constantI S_ 1 1#1
  let main_v4 : IVec S_ 1 := (fun x v => Host.reduce IntOp.andi x v reducesTo_S4224x1024_S_d0_1 h_S_) main_v3 main_c
  let main_v5 : FVec F S4224x1024 .f32 := (extf .f32 · bitsLt_bf16_f32) main_arg1
  let main_v6 : FVec F S4224x1024 .f32 := Host.absf main_v5
  let main_cst_0 : FVec F S_ .f32 := constant S_ .f32 0x7F800000#32
  let main_v7 : FVec F S4224x1024 .f32 := broadcastInDim S4224x1024 ![] bcast_S_S4224x1024 main_cst_0
  let main_v8 : IVec S4224x1024 1 := cmpf .olt main_v6 main_v7
  let main_c_1 : IVec S_ 1 := constantI S_ 1 1#1
  let main_v9 : IVec S_ 1 := (fun x v => Host.reduce IntOp.andi x v reducesTo_S4224x1024_S_d0_1 h_S_) main_v8 main_c_1
  let main_v10 : IVec S_ 1 := andi main_v4 main_v9
  let main_v11 : FVec F S4224x1024 .f32 := (extf .f32 · bitsLt_bf16_f32) main_arg2
  let main_v12 : FVec F S4224x1024 .f32 := Host.absf main_v11
  let main_cst_2 : FVec F S_ .f32 := constant S_ .f32 0x7F800000#32
  let main_v13 : FVec F S4224x1024 .f32 := broadcastInDim S4224x1024 ![] bcast_S_S4224x1024 main_cst_2
  let main_v14 : IVec S4224x1024 1 := cmpf .olt main_v12 main_v13
  let main_c_3 : IVec S_ 1 := constantI S_ 1 1#1
  let main_v15 : IVec S_ 1 := (fun x v => Host.reduce IntOp.andi x v reducesTo_S4224x1024_S_d0_1 h_S_) main_v14 main_c_3
  let main_v16 : IVec S_ 1 := andi main_v10 main_v15
  let main_v17 : FVec F S4224x8 .f32 := Host.absf main_arg3
  fn_part1 (F := F) main_arg4 main_v16 main_v17
-- ==== Kernel.lean ====
abbrev S4224x1024 : Shape := ⟨2, ![4224, 1024]⟩
abbrev S4224x8 : Shape := ⟨2, ![4224, 8]⟩
abbrev S4224x8x128 : Shape := ⟨3, ![4224, 8, 128]⟩
abbrev S8x4224x4224 : Shape := ⟨3, ![8, 4224, 4224]⟩
abbrev S_ : Shape := ⟨0, ![]⟩
abbrev S8x4224 : Shape := ⟨2, ![8, 4224]⟩
abbrev S8x1x4224 : Shape := ⟨3, ![8, 1, 4224]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S1x4224x4224 : Shape := ⟨3, ![1, 4224, 4224]⟩
abbrev S8x4224x1 : Shape := ⟨3, ![8, 4224, 1]⟩
abbrev S8x4224x128 : Shape := ⟨3, ![8, 4224, 128]⟩
abbrev S4224x128 : Shape := ⟨2, ![4224, 128]⟩
abbrev S384x128 : Shape := ⟨2, ![384, 128]⟩
abbrev S1x4224x1 : Shape := ⟨3, ![1, 4224, 1]⟩
abbrev S1x1x384 : Shape := ⟨3, ![1, 1, 384]⟩
abbrev S1x384 : Shape := ⟨2, ![1, 384]⟩
abbrev S384x384 : Shape := ⟨2, ![384, 384]⟩
abbrev S1x384x1 : Shape := ⟨3, ![1, 384, 1]⟩
abbrev S384x1 : Shape := ⟨2, ![384, 1]⟩
abbrev S384 : Shape := ⟨1, ![384]⟩

abbrev nBuf : Space → Nat
  | .hbm => 58
  | .vmem => 24
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x1024, .bf16⟩
  | .hbm, ⟨3, _⟩ => ⟨S4224x8, .f32⟩
  | .hbm, ⟨4, _⟩ => ⟨S4224x1024, .f32⟩
  | .hbm, ⟨5, _⟩ => ⟨S4224x1024, .f32⟩
  | .hbm, ⟨6, _⟩ => ⟨S4224x8x128, .f32⟩
  | .hbm, ⟨7, _⟩ => ⟨S4224x1024, .f32⟩
  | .hbm, ⟨8, _⟩ => ⟨S4224x8x128, .f32⟩
  | .hbm, ⟨9, _⟩ => ⟨S8x4224x4224, .f32⟩
  | .hbm, ⟨10, _⟩ => ⟨S_, .f32⟩
  | .hbm, ⟨11, _⟩ => ⟨S8x4224x4224, .f32⟩
  | .hbm, ⟨12, _⟩ => ⟨S8x4224x4224, .f32⟩
  | .hbm, ⟨13, _⟩ => ⟨S8x4224, .f32⟩
  | .hbm, ⟨14, _⟩ => ⟨S8x1x4224, .f32⟩
  | .hbm, ⟨15, _⟩ => ⟨S8x4224x4224, .f32⟩
  | .hbm, ⟨16, _⟩ => ⟨S8x4224x4224, .f32⟩
  | .hbm, ⟨17, _⟩ => ⟨S4224, .i32⟩
  | .hbm, ⟨18, _⟩ => ⟨S1x4224, .i32⟩
  | .hbm, ⟨19, _⟩ => ⟨S4224x1, .i32⟩
  | .hbm, ⟨20, _⟩ => ⟨S4224x4224, .i32⟩
  | .hbm, ⟨21, _⟩ => ⟨S4224x4224, .i32⟩
  | .hbm, ⟨22, _⟩ => ⟨S4224x4224, .i1⟩
  | .hbm, ⟨23, _⟩ => ⟨S1x4224x4224, .i1⟩
  | .hbm, ⟨24, _⟩ => ⟨S_, .f32⟩
  | .hbm, ⟨25, _⟩ => ⟨S_, .f32⟩
  | .hbm, ⟨26, _⟩ => ⟨S8x4224x4224, .i1⟩
  | .hbm, ⟨27, _⟩ => ⟨S8x4224x4224, .f32⟩
  | .hbm, ⟨28, _⟩ => ⟨S8x4224x4224, .f32⟩
  | .hbm, ⟨29, _⟩ => ⟨S_, .f32⟩
  | .hbm, ⟨30, _⟩ => ⟨S8x4224, .f32⟩
  | .hbm, ⟨31, _⟩ => ⟨S8x4224x1, .f32⟩
  | .hbm, ⟨32, _⟩ => ⟨S8x4224x4224, .f32⟩
  | .hbm, ⟨33, _⟩ => ⟨S8x4224x4224, .f32⟩
  | .hbm, ⟨34, _⟩ => ⟨S8x4224x4224, .f32⟩
  | .hbm, ⟨35, _⟩ => ⟨S_, .f32⟩
  | .hbm, ⟨36, _⟩ => ⟨S8x4224, .f32⟩
  | .hbm, ⟨37, _⟩ => ⟨S8x4224x1, .f32⟩
  | .hbm, ⟨38, _⟩ => ⟨S8x4224x4224, .f32⟩
  | .hbm, ⟨39, _⟩ => ⟨S8x4224x4224, .f32⟩
  | .hbm, ⟨40, _⟩ => ⟨S4224x1024, .f32⟩
  | .hbm, ⟨41, _⟩ => ⟨S4224x8x128, .f32⟩
  | .hbm, ⟨42, _⟩ => ⟨S8x4224x128, .f32⟩
  | .hbm, ⟨43, _⟩ => ⟨S4224x8x128, .f32⟩
  | .hbm, ⟨44, _⟩ => ⟨S8x4224x128, .f32⟩
  | .hbm, ⟨45, _⟩ => ⟨S8x4224x128, .f32⟩
  | .hbm, ⟨46, _⟩ => ⟨S_, .f32⟩
  | .hbm, ⟨47, _⟩ => ⟨S8x4224, .f32⟩
  | .hbm, ⟨48, _⟩ => ⟨S8x4224x1, .f32⟩
  | .hbm, ⟨49, _⟩ => ⟨S8x4224x1, .f32⟩
  | .hbm, ⟨50, _⟩ => ⟨S8x4224x1, .f32⟩
  | .hbm, ⟨51, _⟩ => ⟨S8x4224, .f32⟩
  | .hbm, ⟨52, _⟩ => ⟨S8x1x4224, .f32⟩
  | .hbm, ⟨53, _⟩ => ⟨S4224x1024, .f32⟩
  | .hbm, ⟨54, _⟩ => ⟨S4224x1024, .f32⟩
  | .hbm, ⟨55, _⟩ => ⟨S4224x1024, .bf16⟩
  | .hbm, ⟨56, _⟩ => ⟨S8x1x4224, .f32⟩
  | .hbm, ⟨57, _⟩ => ⟨S8x4224x1, .f32⟩
  | .local _ .vmem, ⟨0, _⟩ => ⟨S4224x128, .bf16⟩
  | .local _ .vmem, ⟨1, _⟩ => ⟨S4224x128, .bf16⟩
  | .local _ .vmem, ⟨2, _⟩ => ⟨S384x128, .bf16⟩
  | .local _ .vmem, ⟨3, _⟩ => ⟨S384x128, .bf16⟩
  | .local _ .vmem, ⟨4, _⟩ => ⟨S384x128, .bf16⟩
  | .local _ .vmem, ⟨5, _⟩ => ⟨S384x128, .bf16⟩
  | .local _ .vmem, ⟨6, _⟩ => ⟨S4224x128, .f32⟩
  | .local _ .vmem, ⟨7, _⟩ => ⟨S4224x128, .f32⟩
  | .local _ .vmem, ⟨8, _⟩ => ⟨S1x4224x1, .f32⟩
  | .local _ .vmem, ⟨9, _⟩ => ⟨S1x4224x1, .f32⟩
  | .local _ .vmem, ⟨10, _⟩ => ⟨S1x4224x1, .f32⟩
  | .local _ .vmem, ⟨11, _⟩ => ⟨S1x4224x1, .f32⟩
  | .local _ .vmem, ⟨12, _⟩ => ⟨S1x1x384, .f32⟩
  | .local _ .vmem, ⟨13, _⟩ => ⟨S1x1x384, .f32⟩
  | .local _ .vmem, ⟨14, _⟩ => ⟨S4224x128, .f32⟩
  | .local _ .vmem, ⟨15, _⟩ => ⟨S4224x128, .f32⟩
  | .local _ .vmem, ⟨16, _⟩ => ⟨S384x128, .f32⟩
  | .local _ .vmem, ⟨17, _⟩ => ⟨S384x128, .f32⟩
  | .local _ .vmem, ⟨18, _⟩ => ⟨S384x128, .bf16⟩
  | .local _ .vmem, ⟨19, _⟩ => ⟨S384x128, .bf16⟩
  | .local _ .vmem, ⟨20, _⟩ => ⟨S1x1x384, .f32⟩
  | .local _ .vmem, ⟨21, _⟩ => ⟨S1x1x384, .f32⟩
  | .local _ .vmem, ⟨22, _⟩ => ⟨S1x4224x1, .f32⟩
  | .local _ .vmem, ⟨23, _⟩ => ⟨S1x4224x1, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40_0 : Ref sig .tc := ⟨.hbm, 53, rfl⟩
abbrev main_v40_1 : Ref sig .tc := ⟨.hbm, 54, rfl⟩
abbrev main_v40_2 : Ref sig .tc := ⟨.hbm, 55, rfl⟩
abbrev main_v40_3 : Ref sig .tc := ⟨.hbm, 56, rfl⟩
abbrev main_v40_4 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 11], ![false, false]⟩

def k0_mult1 (i : grid0.Coords) : BitVec 32 :=
  let arg1 : BitVec 32 := BitVec.ofNat 32 (i 1).val
  let c384_i32 : BitVec 32 := 384#32
  let v10 : BitVec 32 := Scalar.muli arg1 c384_i32
  v10
def k0_off1 (i : grid0.Coords) : Fin 2 → Nat :=
  let arg1 : BitVec 32 := BitVec.ofNat 32 (i 1).val
  let c384_i32 : BitVec 32 := 384#32
  let v10 : BitVec 32 := Scalar.muli arg1 c384_i32
  let v11 : BitVec 32 := v10
  let v12 : Index := Scalar.indexCast v11
  let c0_9 : Index := 0#32
  ![v12.toNat, 0]
def k0_off2 (i : grid0.Coords) : Fin 3 → Nat :=
  let c0_13 : Index := 0#32
  let arg1 : BitVec 32 := BitVec.ofNat 32 (i 1).val
  let c384_i32 : BitVec 32 := 384#32
  let v10 : BitVec 32 := Scalar.muli arg1 c384_i32
  let v11 : BitVec 32 := v10
  let v22 : Index := Scalar.indexCast v11
  let c0_14 : Index := 0#32
  ![0, v22.toNat, 0]
@[reducible] def k0_t1_loop (i : grid0.Coords) : Scf.Loop 32 :=
  let arg1 : BitVec 32 := BitVec.ofNat 32 (i 1).val
  let c1_i32 : BitVec 32 := 1#32
  let v72 : BitVec 32 := Scalar.addi arg1 c1_i32
  let c11_i32 : BitVec 32 := 11#32
  let v73 : BitVec 32 := Scalar.subi c11_i32 v72
  let c1_i32_33 : BitVec 32 := 1#32
  let v75 : BitVec 32 := Scalar.divsi v73 c1_i32_33
  let v76 : BitVec 32 := Scalar.muli v75 c1_i32_33
  let v77 : BitVec 32 := Scalar.addi v72 v76
  let c1_i32_34 : BitVec 32 := 1#32
  ⟨v72, v77, c1_i32_34⟩
def k0_mult2 (i : grid0.Coords) (k0_t1 : Fin (k0_t1_loop i).trips) : BitVec 32 :=
  let arg1 : BitVec 32 := BitVec.ofNat 32 (i 1).val
  let c1_i32 : BitVec 32 := 1#32
  let v72 : BitVec 32 := Scalar.addi arg1 c1_i32
  let c1_i32_34 : BitVec 32 := 1#32
  let arg14 : BitVec 32 := Scf.iv v72 c1_i32_34 k0_t1
  let c384_i32_45 : BitVec 32 := 384#32
  let v90 : BitVec 32 := Scalar.muli arg14 c384_i32_45
  v90
def k0_off3 (i : grid0.Coords) (k0_t1 : Fin (k0_t1_loop i).trips) : Fin 2 → Nat :=
  let arg1 : BitVec 32 := BitVec.ofNat 32 (i 1).val
  let c1_i32 : BitVec 32 := 1#32
  let v72 : BitVec 32 := Scalar.addi arg1 c1_i32
  let c1_i32_34 : BitVec 32 := 1#32
  let arg14 : BitVec 32 := Scf.iv v72 c1_i32_34 k0_t1
  let c384_i32_45 : BitVec 32 := 384#32
  let v90 : BitVec 32 := Scalar.muli arg14 c384_i32_45
  let v91 : BitVec 32 := v90
  let v92 : Index := Scalar.indexCast v91
  let c0_46 : Index := 0#32
  ![v92.toNat, 0]
def k0_off4 (i : grid0.Coords) (k0_t1 : Fin (k0_t1_loop i).trips) : Fin 3 → Nat :=
  let c0_50 : Index := 0#32
  let arg1 : BitVec 32 := BitVec.ofNat 32 (i 1).val
  let c1_i32 : BitVec 32 := 1#32
  let v72 : BitVec 32 := Scalar.addi arg1 c1_i32
  let c1_i32_34 : BitVec 32 := 1#32
  let arg14 : BitVec 32 := Scf.iv v72 c1_i32_34 k0_t1
  let c384_i32_45 : BitVec 32 := 384#32
  let v90 : BitVec 32 := Scalar.muli arg14 c384_i32_45
  let v91 : BitVec 32 := v90
  let v102 : Index := Scalar.indexCast v91
  let c0_51 : Index := 0#32
  ![0, v102.toNat, 0]
@[reducible] def k0_t2_loop (i : grid0.Coords) : Scf.Loop 32 :=
  let arg1 : BitVec 32 := BitVec.ofNat 32 (i 1).val
  let c1_i32 : BitVec 32 := 1#32
  let v72 : BitVec 32 := Scalar.addi arg1 c1_i32
  let c11_i32 : BitVec 32 := 11#32
  let v73 : BitVec 32 := Scalar.subi c11_i32 v72
  let c1_i32_33 : BitVec 32 := 1#32
  let v75 : BitVec 32 := Scalar.divsi v73 c1_i32_33
  let v76 : BitVec 32 := Scalar.muli v75 c1_i32_33
  let v77 : BitVec 32 := Scalar.addi v72 v76
  let v74 : BitVec 32 := Scalar.addi v72 v73
  let c1_i32_35 : BitVec 32 := 1#32
  ⟨v77, v74, c1_i32_35⟩
def k0_mult3 (i : grid0.Coords) (k0_t2 : Fin (k0_t2_loop i).trips) : BitVec 32 :=
  let arg1 : BitVec 32 := BitVec.ofNat 32 (i 1).val
  let c1_i32 : BitVec 32 := 1#32
  let v72 : BitVec 32 := Scalar.addi arg1 c1_i32
  let c11_i32 : BitVec 32 := 11#32
  let v73 : BitVec 32 := Scalar.subi c11_i32 v72
  let c1_i32_33 : BitVec 32 := 1#32
  let v75 : BitVec 32 := Scalar.divsi v73 c1_i32_33
  let v76 : BitVec 32 := Scalar.muli v75 c1_i32_33
  let v77 : BitVec 32 := Scalar.addi v72 v76
  let c1_i32_35 : BitVec 32 := 1#32
  let arg14 : BitVec 32 := Scf.iv v77 c1_i32_35 k0_t2
  let c384_i32_45 : BitVec 32 := 384#32
  let v90 : BitVec 32 := Scalar.muli arg14 c384_i32_45
  v90
def k0_off5 (i : grid0.Coords) (k0_t2 : Fin (k0_t2_loop i).trips) : Fin 2 → Nat :=
  let arg1 : BitVec 32 := BitVec.ofNat 32 (i 1).val
  let c1_i32 : BitVec 32 := 1#32
  let v72 : BitVec 32 := Scalar.addi arg1 c1_i32
  let c11_i32 : BitVec 32 := 11#32
  let v73 : BitVec 32 := Scalar.subi c11_i32 v72
  let c1_i32_33 : BitVec 32 := 1#32
  let v75 : BitVec 32 := Scalar.divsi v73 c1_i32_33
  let v76 : BitVec 32 := Scalar.muli v75 c1_i32_33
  let v77 : BitVec 32 := Scalar.addi v72 v76
  let c1_i32_35 : BitVec 32 := 1#32
  let arg14 : BitVec 32 := Scf.iv v77 c1_i32_35 k0_t2
  let c384_i32_45 : BitVec 32 := 384#32
  let v90 : BitVec 32 := Scalar.muli arg14 c384_i32_45
  let v91 : BitVec 32 := v90
  let v92 : Index := Scalar.indexCast v91
  let c0_46 : Index := 0#32
  ![v92.toNat, 0]
def k0_off6 (i : grid0.Coords) (k0_t2 : Fin (k0_t2_loop i).trips) : Fin 3 → Nat :=
  let c0_50 : Index := 0#32
  let arg1 : BitVec 32 := BitVec.ofNat 32 (i 1).val
  let c1_i32 : BitVec 32 := 1#32
  let v72 : BitVec 32 := Scalar.addi arg1 c1_i32
  let c11_i32 : BitVec 32 := 11#32
  let v73 : BitVec 32 := Scalar.subi c11_i32 v72
  let c1_i32_33 : BitVec 32 := 1#32
  let v75 : BitVec 32 := Scalar.divsi v73 c1_i32_33
  let v76 : BitVec 32 := Scalar.muli v75 c1_i32_33
  let v77 : BitVec 32 := Scalar.addi v72 v76
  let c1_i32_35 : BitVec 32 := 1#32
  let arg14 : BitVec 32 := Scf.iv v77 c1_i32_35 k0_t2
  let c384_i32_45 : BitVec 32 := 384#32
  let v90 : BitVec 32 := Scalar.muli arg14 c384_i32_45
  let v91 : BitVec 32 := v90
  let v102 : Index := Scalar.indexCast v91
  let c0_51 : Index := 0#32
  ![0, v102.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4224x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4224x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4224x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4224x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4224x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S384x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S384x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4224x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S4224x1024 : Shape := ⟨2, ![4224, 1024]⟩
abbrev S4224x8 : Shape := ⟨2, ![4224, 8]⟩
abbrev S4224x8x128 : Shape := ⟨3, ![4224, 8, 128]⟩
abbrev S8x4224x4224 : Shape := ⟨3, ![8, 4224, 4224]⟩
abbrev S_ : Shape := ⟨0, ![]⟩
abbrev S8x4224 : Shape := ⟨2, ![8, 4224]⟩
abbrev S8x4224x1 : Shape := ⟨3, ![8, 4224, 1]⟩
abbrev S8x1x4224 : Shape := ⟨3, ![8, 1, 4224]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S1x4224x4224 : Shape := ⟨3, ![1, 4224, 4224]⟩
abbrev S8x128x4224 : Shape := ⟨3, ![8, 128, 4224]⟩
abbrev S8x4224x128 : Shape := ⟨3, ![8, 4224, 128]⟩

abbrev nBuf : Space → Nat
  | .hbm => 136
  | .vmem => 0
  | .smem => 0
  | _ => 0

abbrev hbmTy0_0 (i : Nat) : BufTy := match i % 128 with
  | 0 => ⟨S4224x1024, .bf16⟩
  | 1 => ⟨S4224x1024, .bf16⟩
  | 2 => ⟨S4224x1024, .bf16⟩
  | 3 => ⟨S4224x8, .f32⟩
  | 4 => ⟨S4224x1024, .f32⟩
  | 5 => ⟨S4224x1024, .f32⟩
  | 6 => ⟨S4224x1024, .f32⟩
  | 7 => ⟨S4224x1024, .f32⟩
  | 8 => ⟨S4224x8x128, .f32⟩
  | 9 => ⟨S4224x8x128, .f32⟩
  | 10 => ⟨S4224x8x128, .f32⟩
  | 11 => ⟨S8x4224x4224, .f32⟩
  | 12 => ⟨S8x4224x4224, .bf16⟩
  | 13 => ⟨S8x4224x4224, .f32⟩
  | 14 => ⟨S_, .f32⟩
  | 15 => ⟨S8x4224x4224, .f32⟩
  | 16 => ⟨S8x4224x4224, .f32⟩
  | 17 => ⟨S8x4224, .f32⟩
  | 18 => ⟨S8x4224x1, .f32⟩
  | 19 => ⟨S8x4224x4224, .f32⟩
  | 20 => ⟨S8x4224x4224, .f32⟩
  | 21 => ⟨S8x4224, .f32⟩
  | 22 => ⟨S8x1x4224, .f32⟩
  | 23 => ⟨S8x4224x4224, .f32⟩
  | 24 => ⟨S8x4224x4224, .f32⟩
  | 25 => ⟨S4224, .i32⟩
  | 26 => ⟨S1x4224, .i32⟩
  | 27 => ⟨S4224x1, .i32⟩
  | 28 => ⟨S4224x4224, .i32⟩
  | 29 => ⟨S4224x4224, .i32⟩
  | 30 => ⟨S4224x4224, .i1⟩
  | 31 => ⟨S1x4224x4224, .i1⟩
  | 32 => ⟨S_, .f32⟩
  | 33 => ⟨S_, .f32⟩
  | 34 => ⟨S8x4224x4224, .i1⟩
  | 35 => ⟨S8x4224x4224, .f32⟩
  | 36 => ⟨S8x4224x4224, .f32⟩
  | 37 => ⟨S_, .f32⟩
  | 38 => ⟨S8x4224x4224, .f32⟩
  | 39 => ⟨S_, .f32⟩
  | 40 => ⟨S8x4224, .f32⟩
  | 41 => ⟨S8x4224x1, .f32⟩
  | 42 => ⟨S8x4224x4224, .f32⟩
  | 43 => ⟨S8x4224x4224, .i1⟩
  | 44 => ⟨S8x4224x4224, .f32⟩
  | 45 => ⟨S_, .f32⟩
  | 46 => ⟨S8x4224, .f32⟩
  | 47 => ⟨S_, .f32⟩
  | 48 => ⟨S8x4224, .f32⟩
  | 49 => ⟨S8x4224, .f32⟩
  | 50 => ⟨S_, .f32⟩
  | 51 => ⟨S8x4224, .f32⟩
  | 52 => ⟨S8x4224, .i1⟩
  | 53 => ⟨S_, .f32⟩
  | 54 => ⟨S8x4224, .f32⟩
  | 55 => ⟨S8x4224, .i1⟩
  | 56 => ⟨S_, .f32⟩
  | 57 => ⟨S8x4224, .f32⟩
  | 58 => ⟨S_, .f32⟩
  | 59 => ⟨S8x4224, .f32⟩
  | 60 => ⟨S_, .f32⟩
  | 61 => ⟨S8x4224, .f32⟩
  | 62 => ⟨S8x4224, .f32⟩
  | 63 => ⟨S8x4224, .f32⟩
  | 64 => ⟨S8x4224x1, .f32⟩
  | 65 => ⟨S8x4224x4224, .f32⟩
  | 66 => ⟨S8x4224x4224, .f32⟩
  | 67 => ⟨S8x4224x4224, .f32⟩
  | 68 => ⟨S_, .f32⟩
  | 69 => ⟨S8x4224, .f32⟩
  | 70 => ⟨S8x4224x1, .f32⟩
  | 71 => ⟨S8x4224x4224, .f32⟩
  | 72 => ⟨S8x4224x4224, .f32⟩
  | 73 => ⟨S8x4224x1, .f32⟩
  | 74 => ⟨S_, .f32⟩
  | 75 => ⟨S8x4224x1, .f32⟩
  | 76 => ⟨S8x4224x1, .f32⟩
  | 77 => ⟨S8x4224x4224, .bf16⟩
  | 78 => ⟨S8x4224x4224, .f32⟩
  | 79 => ⟨S8x128x4224, .f32⟩
  | 80 => ⟨S4224x8x128, .f32⟩
  | 81 => ⟨S4224x1024, .f32⟩
  | 82 => ⟨S4224x8x128, .f32⟩
  | 83 => ⟨S8x128x4224, .f32⟩
  | 84 => ⟨S8x4224x4224, .f32⟩
  | 85 => ⟨S8x128x4224, .f32⟩
  | 86 => ⟨S4224x8x128, .f32⟩
  | 87 => ⟨S8x4224x4224, .bf16⟩
  | 88 => ⟨S8x4224x4224, .f32⟩
  | 89 => ⟨S8x4224x4224, .f32⟩
  | 90 => ⟨S8x4224x4224, .f32⟩
  | 91 => ⟨S8x4224x4224, .f32⟩
  | 92 => ⟨S_, .f32⟩
  | 93 => ⟨S8x4224, .f32⟩
  | 94 => ⟨S8x4224x1, .f32⟩
  | 95 => ⟨S8x4224x1, .f32⟩
  | 96 => ⟨S8x4224x4224, .f32⟩
  | 97 => ⟨S8x4224x4224, .f32⟩
  | 98 => ⟨S_, .f32⟩
  | 99 => ⟨S8x4224, .f32⟩
  | 100 => ⟨S8x4224x4224, .f32⟩
  | 101 => ⟨S8x4224x4224, .f32⟩
  | 102 => ⟨S8x4224x4224, .f32⟩
  | 103 => ⟨S_, .f32⟩
  | 104 => ⟨S8x4224x4224, .f32⟩
  | 105 => ⟨S8x4224x4224, .f32⟩
  | 106 => ⟨S8x4224x4224, .f32⟩
  | 107 => ⟨S_, .f32⟩
  | 108 => ⟨S8x4224, .f32⟩
  | 109 => ⟨S8x1x4224, .f32⟩
  | 110 => ⟨S_, .f32⟩
  | 111 => ⟨S8x4224, .f32⟩
  | 112 => ⟨S4224x8, .f32⟩
  | 113 => ⟨S_, .f32⟩
  | 114 => ⟨S8x4224, .f32⟩
  | 115 => ⟨S8x4224x1, .f32⟩
  | 116 => ⟨S_, .f32⟩
  | 117 => ⟨S8x4224, .f32⟩
  | 118 => ⟨S4224x8, .f32⟩
  | 119 => ⟨S_, .f32⟩
  | 120 => ⟨S8x4224x4224, .f32⟩
  | 121 => ⟨S8x4224x4224, .f32⟩
  | 122 => ⟨S8x4224x4224, .bf16⟩
  | 123 => ⟨S8x4224x4224, .f32⟩
  | 124 => ⟨S8x4224x128, .f32⟩
  | 125 => ⟨S4224x8x128, .f32⟩
  | 126 => ⟨S8x4224x128, .f32⟩
  | 127 => ⟨S4224x8x128, .f32⟩
  | _ => ⟨S4224x1024, .bf16⟩

abbrev hbmTy0_1 (i : Nat) : BufTy := match i % 128 with
  | 0 => ⟨S4224x1024, .f32⟩
  | 1 => ⟨S4224x1024, .f32⟩
  | 2 => ⟨S4224x1024, .f32⟩
  | 3 => ⟨S4224x1024, .bf16⟩
  | 4 => ⟨S8x4224, .f32⟩
  | 5 => ⟨S8x1x4224, .f32⟩
  | 6 => ⟨S8x4224, .f32⟩
  | 7 => ⟨S8x4224x1, .f32⟩
  | _ => ⟨S4224x1024, .bf16⟩

abbrev hbmTy (i : Nat) : BufTy := match i / 128 with
  | 0 => hbmTy0_0 i
  | 1 => hbmTy0_1 i
  | _ => ⟨S4224x1024, .bf16⟩

abbrev bufTy : (tb : Table) → Fin (tcTables nBuf tb) → BufTy
  | .hbm, ⟨i, _⟩ => hbmTy i
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_call0_v0 : Ref sig .tc := ⟨.hbm, 33, rfl⟩
abbrev main_v26_1 : Ref sig .tc := ⟨.hbm, 34, rfl⟩
abbrev main_call0_v2 : Ref sig .tc := ⟨.hbm, 35, rfl⟩
abbrev main_v26_0 : Ref sig .tc := ⟨.hbm, 36, rfl⟩
abbrev main_call0_cst : Ref sig .tc := ⟨.hbm, 37, rfl⟩
abbrev main_v26_2 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_11 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_12 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_call1_cst : Ref sig .tc := ⟨.hbm, 103, rfl⟩
abbrev main_call1_v0 : Ref sig .tc := ⟨.hbm, 104, rfl⟩
abbrev main_v79 : Ref sig .tc := ⟨.hbm, 105, rfl⟩
abbrev main_v80 : Ref sig .tc := ⟨.hbm, 106, rfl⟩
abbrev main_cst_13 : Ref sig .tc := ⟨.hbm, 107, rfl⟩
abbrev main_v81 : Ref sig .tc := ⟨.hbm, 108, rfl⟩
abbrev main_v82 : Ref sig .tc := ⟨.hbm, 109, rfl⟩
abbrev main_cst_14 : Ref sig .tc := ⟨.hbm, 110, rfl⟩
abbrev main_v83 : Ref sig .tc := ⟨.hbm, 111, rfl⟩
abbrev main_v84 : Ref sig .tc := ⟨.hbm, 112, rfl⟩
abbrev main_cst_15 : Ref sig .tc := ⟨.hbm, 113, rfl⟩
abbrev main_v85 : Ref sig .tc := ⟨.hbm, 114, rfl⟩
abbrev main_v86 : Ref sig .tc := ⟨.hbm, 115, rfl⟩
abbrev main_cst_16 : Ref sig .tc := ⟨.hbm, 116, rfl⟩
abbrev main_v87 : Ref sig .tc := ⟨.hbm, 117, rfl⟩
abbrev main_v88 : Ref sig .tc := ⟨.hbm, 118, rfl⟩
abbrev main_cst_17 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩

abbrev nD : Nat := 1
abbrev τ : Topo := Topo.v7x

variable {F : FTy → Type} [FloatOps F]
-- ==== MlpUp.lean ====
abbrev S4224x2048 : Shape := ⟨2, ![4224, 2048]⟩
abbrev S2048x8192 : Shape := ⟨2, ![2048, 8192]⟩
abbrev S4224x8192 : Shape := ⟨2, ![4224, 8192]⟩
abbrev S1408x2048 : Shape := ⟨2, ![1408, 2048]⟩
abbrev S2048x512 : Shape := ⟨2, ![2048, 512]⟩
abbrev S1408x512 : Shape := ⟨2, ![1408, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x2048, .bf16⟩
  | .hbm, ⟨1, _⟩ => ⟨S2048x8192, .bf16⟩
  | .hbm, ⟨2, _⟩ => ⟨S4224x8192, .f32⟩
  | .hbm, ⟨3, _⟩ => ⟨S4224x8192, .bf16⟩
  | .local _ .vmem, ⟨0, _⟩ => ⟨S1408x2048, .bf16⟩
  | .local _ .vmem, ⟨1, _⟩ => ⟨S1408x2048, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .bf16⟩
  | .local _ .vmem, ⟨7, _⟩ => ⟨S1408x512, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpRefIdeal.lean ====
abbrev S4224x2048 : Shape := ⟨2, ![4224, 2048]⟩
abbrev S2048x8192 : Shape := ⟨2, ![2048, 8192]⟩
abbrev S4224x8192 : Shape := ⟨2, ![4224, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x8192, .bf16⟩
  | .hbm, ⟨2, _⟩ => ⟨S4224x2048, .f32⟩
  | .hbm, ⟨3, _⟩ => ⟨S2048x8192, .f32⟩
  | .hbm, ⟨4, _⟩ => ⟨S4224x8192, .f32⟩
  | .hbm, ⟨5, _⟩ => ⟨S_, .f32⟩
  | .hbm, ⟨6, _⟩ => ⟨S4224x8192, .f32⟩
  | .hbm, ⟨7, _⟩ => ⟨S4224x8192, .f32⟩
  | .hbm, ⟨8, _⟩ => ⟨S4224x8192, .f32⟩
  | .hbm, ⟨9, _⟩ => ⟨S4224x8192, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MlpDownLoss.lean ====
abbrev S4224x8192 : Shape := ⟨2, ![4224, 8192]⟩
abbrev S8192x2048 : Shape := ⟨2, ![8192, 2048]⟩
abbrev S4224x2048 : Shape := ⟨2, ![4224, 2048]⟩
abbrev S4096x2048 : Shape := ⟨2, ![4096, 2048]⟩
abbrev S_ : Shape := ⟨0, ![]⟩
abbrev S16x2048 : Shape := ⟨2, ![16, 2048]⟩
abbrev S112x2048 : Shape := ⟨2, ![112, 2048]⟩
abbrev S1408x2048 : Shape := ⟨2, ![1408, 2048]⟩
abbrev S2048x512 : Shape := ⟨2, ![2048, 512]⟩
abbrev S1408x512 : Shape := ⟨2, ![1408, 512]⟩

abbrev nBuf : Space → Nat
  | .hbm => 11
  | .vmem => 13
  | .smem => 0
  | _ => 0

abbrev bufTy : (tb : Table) → Fin (tcTables nBuf tb) → BufTy
  | .hbm, ⟨0, _⟩ => ⟨S4224x8192, .bf16⟩
  | .hbm, ⟨1, _⟩ => ⟨S8192x2048, .bf16⟩
  | .hbm, ⟨2, _⟩ => ⟨S4224x2048, .f32⟩
  | .hbm, ⟨3, _⟩ => ⟨S4096x2048, .f32⟩
  | .hbm, ⟨4, _⟩ => ⟨S_, .f32⟩
  | .hbm, ⟨5, _⟩ => ⟨S16x2048, .f32⟩
  | .hbm, ⟨6, _⟩ => ⟨S_, .f32⟩
  | .hbm, ⟨7, _⟩ => ⟨S112x2048, .f32⟩
  | .hbm, ⟨8, _⟩ => ⟨S4224x2048, .f32⟩
  | .hbm, ⟨9, _⟩ => ⟨S4224x2048, .f32⟩
  | .hbm, ⟨10, _⟩ => ⟨S4224x2048, .bf16⟩
  | .local _ .vmem, ⟨0, _⟩ => ⟨S1408x2048, .bf16⟩
  | .local _ .vmem, ⟨1, _⟩ => ⟨S1408x2048, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | .local _ .vmem, ⟨7, _⟩ => ⟨S1408x512, .f32⟩
  | .local _ .vmem, ⟨8, _⟩ => ⟨S1408x512, .f32⟩
  | .local _ .vmem, ⟨9, _⟩ => ⟨S1408x512, .f32⟩
  | .local _ .vmem, ⟨10, _⟩ => ⟨S1408x512, .bf16⟩
  | .local _ .vmem, ⟨11, _⟩ => ⟨S1408x512, .bf16⟩
  | .local _ .vmem, ⟨12, _⟩ => ⟨S1408x512, .f32⟩
  | _, _ => ⟨S4224x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![3, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1408x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1408x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MlpDownLossRefIdeal.lean ====
abbrev S4224x8192 : Shape := ⟨2, ![4224, 8192]⟩
abbrev S8192x2048 : Shape := ⟨2, ![8192, 2048]⟩
abbrev S4224x2048 : Shape := ⟨2, ![4224, 2048]⟩
abbrev S4096x2048 : Shape := ⟨2, ![4096, 2048]⟩
abbrev S_ : Shape := ⟨0, ![]⟩
abbrev S4096 : Shape := ⟨1, ![4096]⟩

abbrev nBuf : Space → Nat
  | .hbm => 35
  | .vmem => 0
  | .smem => 0
  | _ => 0

abbrev bufTy : (tb : Table) → Fin (tcTables nBuf tb) → BufTy
  | .hbm, ⟨0, _⟩ => ⟨S4224x8192, .bf16⟩
  | .hbm, ⟨1, _⟩ => ⟨S8192x2048, .bf16⟩
  | .hbm, ⟨2, _⟩ => ⟨S4224x2048, .f32⟩
  | .hbm, ⟨3, _⟩ => ⟨S4096x2048, .f32⟩
  | .hbm, ⟨4, _⟩ => ⟨S4224x8192, .f32⟩
  | .hbm, ⟨5, _⟩ => ⟨S8192x2048, .f32⟩
  | .hbm, ⟨6, _⟩ => ⟨S4224x2048, .f32⟩
  | .hbm, ⟨7, _⟩ => ⟨S4224x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4224x2048, .f32⟩
  | .hbm, ⟨34, _⟩ => ⟨S4224x2048, .bf16⟩
  | _, _ => ⟨S4224x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== MlpDownWgrad.lean ====
abbrev S4224x8192 : Shape := ⟨2, ![4224, 8192]⟩
abbrev S4224x2048 : Shape := ⟨2, ![4224, 2048]⟩
abbrev S8192x2048 : Shape := ⟨2, ![8192, 2048]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x8192, .bf16⟩
  | .hbm, ⟨1, _⟩ => ⟨S4224x2048, .bf16⟩
  | .hbm, ⟨2, _⟩ => ⟨S8192x2048, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4224x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownWgradRefIdeal.lean ====
abbrev S4224x8192 : Shape := ⟨2, ![4224, 8192]⟩
abbrev S4224x2048 : Shape := ⟨2, ![4224, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4224x8192, .bf16⟩
  | .hbm, ⟨1, _⟩ => ⟨S4224x2048, .bf16⟩
  | .hbm, ⟨2, _⟩ => ⟨S_, .f32⟩
  | .hbm, ⟨3, _⟩ => ⟨S8192x2048, .f32⟩
  | .hbm, ⟨4, _⟩ => ⟨S4224x8192, .f32⟩
  | .hbm, ⟨5, _⟩ => ⟨S4224x2048, .f32⟩
  | .hbm, ⟨6, _⟩ => ⟨S4224x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4224x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpDownBwd.lean ====
abbrev S4224x2048 : Shape := ⟨2, ![4224, 2048]⟩
abbrev S8192x2048 : Shape := ⟨2, ![8192, 2048]⟩
abbrev S4224x8192 : Shape := ⟨2, ![4224, 8192]⟩
abbrev S1408x2048 : Shape := ⟨2, ![1408, 2048]⟩
abbrev S512x2048 : Shape := ⟨2, ![512, 2048]⟩
abbrev S1408x512 : Shape := ⟨2, ![1408, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x2048, .bf16⟩
  | .hbm, ⟨1, _⟩ => ⟨S8192x2048, .bf16⟩
  | .hbm, ⟨2, _⟩ => ⟨S4224x8192, .f32⟩
  | .hbm, ⟨3, _⟩ => ⟨S4224x8192, .bf16⟩
  | .local _ .vmem, ⟨0, _⟩ => ⟨S1408x2048, .bf16⟩
  | .local _ .vmem, ⟨1, _⟩ => ⟨S1408x2048, .bf16⟩
  | .local _ .vmem, ⟨2, _⟩ => ⟨S512x2048, .bf16⟩
  | .local _ .vmem, ⟨3, _⟩ => ⟨S512x2048, .bf16⟩
  | .local _ .vmem, ⟨4, _⟩ => ⟨S1408x512, .f32⟩
  | .local _ .vmem, ⟨5, _⟩ => ⟨S1408x512, .f32⟩
  | .local _ .vmem, ⟨6, _⟩ => ⟨S1408x512, .bf16⟩
  | .local _ .vmem, ⟨7, _⟩ => ⟨S1408x512, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownBwdRefIdeal.lean ====
abbrev S4224x2048 : Shape := ⟨2, ![4224, 2048]⟩
abbrev S8192x2048 : Shape := ⟨2, ![8192, 2048]⟩
abbrev S4224x8192 : Shape := ⟨2, ![4224, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S8192x2048, .bf16⟩
  | .hbm, ⟨2, _⟩ => ⟨S4224x8192, .f32⟩
  | .hbm, ⟨3, _⟩ => ⟨S_, .f32⟩
  | .hbm, ⟨4, _⟩ => ⟨S4224x8192, .f32⟩
  | .hbm, ⟨5, _⟩ => ⟨S4224x8192, .f32⟩
  | .hbm, ⟨6, _⟩ => ⟨S_, .f32⟩
  | .hbm, ⟨7, _⟩ => ⟨S4224x8192, .f32⟩
  | .hbm, ⟨8, _⟩ => ⟨S4224x8192, .i1⟩
  | .hbm, ⟨9, _⟩ => ⟨S_, .f32⟩
  | .hbm, ⟨10, _⟩ => ⟨S4224x8192, .f32⟩
  | .hbm, ⟨11, _⟩ => ⟨S4224x8192, .f32⟩
  | .hbm, ⟨12, _⟩ => ⟨S_, .f32⟩
  | .hbm, ⟨13, _⟩ => ⟨S4224x8192, .f32⟩
  | .hbm, ⟨14, _⟩ => ⟨S4224x8192, .f32⟩
  | .hbm, ⟨15, _⟩ => ⟨S8192x2048, .f32⟩
  | .hbm, ⟨16, _⟩ => ⟨S4224x2048, .f32⟩
  | .hbm, ⟨17, _⟩ => ⟨S4224x2048, .f32⟩
  | .hbm, ⟨18, _⟩ => ⟨S4224x8192, .f32⟩
  | .hbm, ⟨19, _⟩ => ⟨S4224x8192, .f32⟩
  | .hbm, ⟨20, _⟩ => ⟨S_, .f32⟩
  | .hbm, ⟨21, _⟩ => ⟨S4224x8192, .f32⟩
  | .hbm, ⟨22, _⟩ => ⟨S4224x8192, .f32⟩
  | .hbm, ⟨23, _⟩ => ⟨S4224x8192, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== MlpUpWgrad.lean ====
abbrev S4224x2048 : Shape := ⟨2, ![4224, 2048]⟩
abbrev S4224x8192 : Shape := ⟨2, ![4224, 8192]⟩
abbrev S8x2048x1024 : Shape := ⟨3, ![8, 2048, 1024]⟩
abbrev S1408x1024 : Shape := ⟨2, ![1408, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x8192, .bf16⟩
  | .hbm, ⟨2, _⟩ => ⟨S8x2048x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpWgradRefIdeal.lean ====
abbrev S4224x2048 : Shape := ⟨2, ![4224, 2048]⟩
abbrev S4224x8192 : Shape := ⟨2, ![4224, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x8192, .bf16⟩
  | .hbm, ⟨2, _⟩ => ⟨S_, .f32⟩
  | .hbm, ⟨3, _⟩ => ⟨S2048x8192, .f32⟩
  | .hbm, ⟨4, _⟩ => ⟨S4224x2048, .f32⟩
  | .hbm, ⟨5, _⟩ => ⟨S4224x8192, .f32⟩
  | .hbm, ⟨6, _⟩ => ⟨S4224x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x8x1024, .bf16⟩
  | .hbm, ⟨11, _⟩ => ⟨S8x2048x1024, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MlpUpBwd.lean ====
abbrev S4224x8192 : Shape := ⟨2, ![4224, 8192]⟩
abbrev S2048x8192 : Shape := ⟨2, ![2048, 8192]⟩
abbrev S4224x2048 : Shape := ⟨2, ![4224, 2048]⟩
abbrev S1408x2048 : Shape := ⟨2, ![1408, 2048]⟩
abbrev S1024x2048 : Shape := ⟨2, ![1024, 2048]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x8192, .bf16⟩
  | .hbm, ⟨1, _⟩ => ⟨S2048x8192, .bf16⟩
  | .hbm, ⟨2, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpBwdRefIdeal.lean ====
abbrev S4224x8192 : Shape := ⟨2, ![4224, 8192]⟩
abbrev S2048x8192 : Shape := ⟨2, ![2048, 8192]⟩
abbrev S_ : Shape := ⟨0, ![]⟩
abbrev S4224x2048 : Shape := ⟨2, ![4224, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4224x8192, .bf16⟩
  | .hbm, ⟨1, _⟩ => ⟨S2048x8192, .bf16⟩
  | .hbm, ⟨2, _⟩ => ⟨S_, .f32⟩
  | .hbm, ⟨3, _⟩ => ⟨S4224x2048, .f32⟩
  | .hbm, ⟨4, _⟩ => ⟨S2048x8192, .f32⟩
  | .hbm, ⟨5, _⟩ => ⟨S4224x8192, .f32⟩
  | .hbm, ⟨6, _⟩ => ⟨S4224x8192, .f32⟩
  | .hbm, ⟨7, _⟩ => ⟨S4224x2048, .f32⟩
  | _, _ => ⟨S4224x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProj.lean ====
abbrev S4224x2048 : Shape := ⟨2, ![4224, 2048]⟩
abbrev S10240x2048 : Shape := ⟨2, ![10240, 2048]⟩
abbrev S4224x10240 : Shape := ⟨2, ![4224, 10240]⟩
abbrev S1408x2048 : Shape := ⟨2, ![1408, 2048]⟩
abbrev S512x2048 : Shape := ⟨2, ![512, 2048]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S10240x2048, .bf16⟩
  | .hbm, ⟨2, _⟩ => ⟨S4224x10240, .bf16⟩
  | .local _ .vmem, ⟨0, _⟩ => ⟨S1408x2048, .bf16⟩
  | .local _ .vmem, ⟨1, _⟩ => ⟨S1408x2048, .bf16⟩
  | .local _ .vmem, ⟨2, _⟩ => ⟨S512x2048, .bf16⟩
  | .local _ .vmem, ⟨3, _⟩ => ⟨S512x2048, .bf16⟩
  | .local _ .vmem, ⟨4, _⟩ => ⟨S1408x512, .bf16⟩
  | .local _ .vmem, ⟨5, _⟩ => ⟨S1408x512, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 20, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4224x2048 : Shape := ⟨2, ![4224, 2048]⟩
abbrev S10240x2048 : Shape := ⟨2, ![10240, 2048]⟩
abbrev S4224x10240 : Shape := ⟨2, ![4224, 10240]⟩

abbrev nBuf : Space → Nat
  | .hbm => 6
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S10240x2048, .bf16⟩
  | .hbm, ⟨2, _⟩ => ⟨S4224x2048, .f32⟩
  | .hbm, ⟨3, _⟩ => ⟨S10240x2048, .f32⟩
  | .hbm, ⟨4, _⟩ => ⟨S4224x10240, .f32⟩
  | .hbm, ⟨5, _⟩ => ⟨S4224x10240, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProjBwd.lean ====
abbrev S4224x10240 : Shape := ⟨2, ![4224, 10240]⟩
abbrev S10240x2048 : Shape := ⟨2, ![10240, 2048]⟩
abbrev S4224x2048 : Shape := ⟨2, ![4224, 2048]⟩
abbrev S1408x2048 : Shape := ⟨2, ![1408, 2048]⟩
abbrev S2048x512 : Shape := ⟨2, ![2048, 512]⟩
abbrev S1408x512 : Shape := ⟨2, ![1408, 512]⟩

abbrev nBuf : Space → Nat
  | .hbm => 4
  | .vmem => 9
  | .smem => 0
  | _ => 0

abbrev bufTy : (tb : Table) → Fin (tcTables nBuf tb) → BufTy
  | .hbm, ⟨0, _⟩ => ⟨S4224x10240, .bf16⟩
  | .hbm, ⟨1, _⟩ => ⟨S10240x2048, .bf16⟩
  | .hbm, ⟨2, _⟩ => ⟨S4224x2048, .f32⟩
  | .hbm, ⟨3, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | .local _ .vmem, ⟨7, _⟩ => ⟨S1408x512, .f32⟩
  | .local _ .vmem, ⟨8, _⟩ => ⟨S1408x512, .f32⟩
  | _, _ => ⟨S4224x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InProjBwdRefIdeal.lean ====
abbrev S4224x10240 : Shape := ⟨2, ![4224, 10240]⟩
abbrev S10240x2048 : Shape := ⟨2, ![10240, 2048]⟩
abbrev S4224x2048 : Shape := ⟨2, ![4224, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4224x10240, .bf16⟩
  | .hbm, ⟨1, _⟩ => ⟨S10240x2048, .bf16⟩
  | .hbm, ⟨2, _⟩ => ⟨S4224x2048, .f32⟩
  | .hbm, ⟨3, _⟩ => ⟨S_, .f32⟩
  | .hbm, ⟨4, _⟩ => ⟨S4224x2048, .f32⟩
  | .hbm, ⟨5, _⟩ => ⟨S10240x2048, .f32⟩
  | .hbm, ⟨6, _⟩ => ⟨S4224x10240, .f32⟩
  | .hbm, ⟨7, _⟩ => ⟨S4224x10240, .f32⟩
  | .hbm, ⟨8, _⟩ => ⟨S4224x2048, .f32⟩
  | .hbm, ⟨9, _⟩ => ⟨S4224x2048, .f32⟩
  | _, _ => ⟨S4224x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InProjWgradA.lean ====
abbrev S4224x10240 : Shape := ⟨2, ![4224, 10240]⟩
abbrev S4224x2048 : Shape := ⟨2, ![4224, 2048]⟩
abbrev S4224x384 : Shape := ⟨2, ![4224, 384]⟩
abbrev S10240x384 : Shape := ⟨2, ![10240, 384]⟩
abbrev S1408x1024 : Shape := ⟨2, ![1408, 1024]⟩
abbrev S1408x384 : Shape := ⟨2, ![1408, 384]⟩
abbrev S1024x384 : Shape := ⟨2, ![1024, 384]⟩

abbrev nBuf : Space → Nat
  | .hbm => 4
  | .vmem => 7
  | .smem => 0
  | _ => 0

abbrev bufTy : (tb : Table) → Fin (tcTables nBuf tb) → BufTy
  | .hbm, ⟨0, _⟩ => ⟨S4224x10240, .bf16⟩
  | .hbm, ⟨1, _⟩ => ⟨S4224x2048, .bf16⟩
  | .hbm, ⟨2, _⟩ => ⟨S4224x384, .bf16⟩
  | .hbm, ⟨3, _⟩ => ⟨S10240x384, .bf16⟩
  | .local _ .vmem, ⟨0, _⟩ => ⟨S1408x1024, .bf16⟩
  | .local _ .vmem, ⟨1, _⟩ => ⟨S1408x1024, .bf16⟩
  | .local _ .vmem, ⟨2, _⟩ => ⟨S1408x384, .bf16⟩
  | .local _ .vmem, ⟨3, _⟩ => ⟨S1408x384, .bf16⟩
  | .local _ .vmem, ⟨4, _⟩ => ⟨S1024x384, .bf16⟩
  | .local _ .vmem, ⟨5, _⟩ => ⟨S1024x384, .bf16⟩
  | .local _ .vmem, ⟨6, _⟩ => ⟨S1024x384, .f32⟩
  | _, _ => ⟨S4224x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjWgradAIdeal.lean ====
abbrev S4224x10240 : Shape := ⟨2, ![4224, 10240]⟩
abbrev S4224x2048 : Shape := ⟨2, ![4224, 2048]⟩
abbrev S4224x384 : Shape := ⟨2, ![4224, 384]⟩
abbrev S10240x384 : Shape := ⟨2, ![10240, 384]⟩
abbrev S1408x1024 : Shape := ⟨2, ![1408, 1024]⟩
abbrev S1408x384 : Shape := ⟨2, ![1408, 384]⟩
abbrev S1024x384 : Shape := ⟨2, ![1024, 384]⟩

abbrev nBuf : Space → Nat
  | .hbm => 4
  | .vmem => 7
  | .smem => 0
  | _ => 0

abbrev bufTy : (tb : Table) → Fin (tcTables nBuf tb) → BufTy
  | .hbm, ⟨0, _⟩ => ⟨S4224x10240, .bf16⟩
  | .hbm, ⟨1, _⟩ => ⟨S4224x2048, .bf16⟩
  | .hbm, ⟨2, _⟩ => ⟨S4224x384, .bf16⟩
  | .hbm, ⟨3, _⟩ => ⟨S10240x384, .bf16⟩
  | .local _ .vmem, ⟨0, _⟩ => ⟨S1408x1024, .bf16⟩
  | .local _ .vmem, ⟨1, _⟩ => ⟨S1408x1024, .bf16⟩
  | .local _ .vmem, ⟨2, _⟩ => ⟨S1408x384, .bf16⟩
  | .local _ .vmem, ⟨3, _⟩ => ⟨S1408x384, .bf16⟩
  | .local _ .vmem, ⟨4, _⟩ => ⟨S1024x384, .bf16⟩
  | .local _ .vmem, ⟨5, _⟩ => ⟨S1024x384, .bf16⟩
  | .local _ .vmem, ⟨6, _⟩ => ⟨S1024x384, .f32⟩
  | _, _ => ⟨S4224x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjWgradARefIdeal.lean ====
abbrev S4224x10240 : Shape := ⟨2, ![4224, 10240]⟩
abbrev S4224x2048 : Shape := ⟨2, ![4224, 2048]⟩
abbrev S_ : Shape := ⟨0, ![]⟩
abbrev S10240x2048 : Shape := ⟨2, ![10240, 2048]⟩
abbrev S10240x384 : Shape := ⟨2, ![10240, 384]⟩

abbrev nBuf : Space → Nat
  | .hbm => 10
  | .vmem => 0
  | .smem => 0
  | _ => 0

abbrev bufTy : (tb : Table) → Fin (tcTables nBuf tb) → BufTy
  | .hbm, ⟨0, _⟩ => ⟨S4224x10240, .bf16⟩
  | .hbm, ⟨1, _⟩ => ⟨S4224x2048, .bf16⟩
  | .hbm, ⟨2, _⟩ => ⟨S_, .f32⟩
  | .hbm, ⟨3, _⟩ => ⟨S10240x2048, .f32⟩
  | .hbm, ⟨4, _⟩ => ⟨S4224x2048, .f32⟩
  | .hbm, ⟨5, _⟩ => ⟨S4224x10240, .f32⟩
  | .hbm, ⟨6, _⟩ => ⟨S4224x10240, .f32⟩
  | .hbm, ⟨7, _⟩ => ⟨S10240x2048, .f32⟩
  | .hbm, ⟨8, _⟩ => ⟨S10240x384, .f32⟩
  | .hbm, ⟨9, _⟩ => ⟨S10240x384, .bf16⟩
  | _, _ => ⟨S4224x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProjWgradB.lean ====
abbrev S4224x10240 : Shape := ⟨2, ![4224, 10240]⟩
abbrev S4224x2048 : Shape := ⟨2, ![4224, 2048]⟩
abbrev S4224x640 : Shape := ⟨2, ![4224, 640]⟩
abbrev S10240x640 : Shape := ⟨2, ![10240, 640]⟩
abbrev S1408x1024 : Shape := ⟨2, ![1408, 1024]⟩
abbrev S1408x640 : Shape := ⟨2, ![1408, 640]⟩
abbrev S1024x640 : Shape := ⟨2, ![1024, 640]⟩

abbrev nBuf : Space → Nat
  | .hbm => 4
  | .vmem => 7
  | .smem => 0
  | _ => 0

abbrev bufTy : (tb : Table) → Fin (tcTables nBuf tb) → BufTy
  | .hbm, ⟨0, _⟩ => ⟨S4224x10240, .bf16⟩
  | .hbm, ⟨1, _⟩ => ⟨S4224x2048, .bf16⟩
  | .hbm, ⟨2, _⟩ => ⟨S4224x640, .bf16⟩
  | .hbm, ⟨3, _⟩ => ⟨S10240x640, .bf16⟩
  | .local _ .vmem, ⟨0, _⟩ => ⟨S1408x1024, .bf16⟩
  | .local _ .vmem, ⟨1, _⟩ => ⟨S1408x1024, .bf16⟩
  | .local _ .vmem, ⟨2, _⟩ => ⟨S1408x640, .bf16⟩
  | .local _ .vmem, ⟨3, _⟩ => ⟨S1408x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S4224x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjWgradBIdeal.lean ====
abbrev S4224x10240 : Shape := ⟨2, ![4224, 10240]⟩
abbrev S4224x2048 : Shape := ⟨2, ![4224, 2048]⟩
abbrev S4224x640 : Shape := ⟨2, ![4224, 640]⟩
abbrev S10240x640 : Shape := ⟨2, ![10240, 640]⟩
abbrev S1408x1024 : Shape := ⟨2, ![1408, 1024]⟩
abbrev S1408x640 : Shape := ⟨2, ![1408, 640]⟩
abbrev S1024x640 : Shape := ⟨2, ![1024, 640]⟩

abbrev nBuf : Space → Nat
  | .hbm => 4
  | .vmem => 7
  | .smem => 0
  | _ => 0

abbrev bufTy : (tb : Table) → Fin (tcTables nBuf tb) → BufTy
  | .hbm, ⟨0, _⟩ => ⟨S4224x10240, .bf16⟩
  | .hbm, ⟨1, _⟩ => ⟨S4224x2048, .bf16⟩
  | .hbm, ⟨2, _⟩ => ⟨S4224x640, .bf16⟩
  | .hbm, ⟨3, _⟩ => ⟨S10240x640, .bf16⟩
  | .local _ .vmem, ⟨0, _⟩ => ⟨S1408x1024, .bf16⟩
  | .local _ .vmem, ⟨1, _⟩ => ⟨S1408x1024, .bf16⟩
  | .local _ .vmem, ⟨2, _⟩ => ⟨S1408x640, .bf16⟩
  | .local _ .vmem, ⟨3, _⟩ => ⟨S1408x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S4224x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjWgradBRefIdeal.lean ====
abbrev S4224x10240 : Shape := ⟨2, ![4224, 10240]⟩
abbrev S4224x2048 : Shape := ⟨2, ![4224, 2048]⟩
abbrev S_ : Shape := ⟨0, ![]⟩
abbrev S10240x2048 : Shape := ⟨2, ![10240, 2048]⟩
abbrev S10240x640 : Shape := ⟨2, ![10240, 640]⟩

abbrev nBuf : Space → Nat
  | .hbm => 10
  | .vmem => 0
  | .smem => 0
  | _ => 0

abbrev bufTy : (tb : Table) → Fin (tcTables nBuf tb) → BufTy
  | .hbm, ⟨0, _⟩ => ⟨S4224x10240, .bf16⟩
  | .hbm, ⟨1, _⟩ => ⟨S4224x2048, .bf16⟩
  | .hbm, ⟨2, _⟩ => ⟨S_, .f32⟩
  | .hbm, ⟨3, _⟩ => ⟨S10240x2048, .f32⟩
  | .hbm, ⟨4, _⟩ => ⟨S4224x2048, .f32⟩
  | .hbm, ⟨5, _⟩ => ⟨S4224x10240, .f32⟩
  | .hbm, ⟨6, _⟩ => ⟨S4224x10240, .f32⟩
  | .hbm, ⟨7, _⟩ => ⟨S10240x2048, .f32⟩
  | .hbm, ⟨8, _⟩ => ⟨S10240x640, .f32⟩
  | .hbm, ⟨9, _⟩ => ⟨S10240x640, .bf16⟩
  | _, _ => ⟨S4224x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProjWgradC.lean ====
abbrev S4224x10240 : Shape := ⟨2, ![4224, 10240]⟩
abbrev S4224x2048 : Shape := ⟨2, ![4224, 2048]⟩
abbrev S4224x1024 : Shape := ⟨2, ![4224, 1024]⟩
abbrev S10240x1024 : Shape := ⟨2, ![10240, 1024]⟩
abbrev S1408x1024 : Shape := ⟨2, ![1408, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4224x10240, .bf16⟩
  | .hbm, ⟨1, _⟩ => ⟨S4224x2048, .bf16⟩
  | .hbm, ⟨2, _⟩ => ⟨S4224x1024, .bf16⟩
  | .hbm, ⟨3, _⟩ => ⟨S10240x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4224x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjWgradCRefIdeal.lean ====
abbrev S4224x10240 : Shape := ⟨2, ![4224, 10240]⟩
abbrev S4224x2048 : Shape := ⟨2, ![4224, 2048]⟩
abbrev S_ : Shape := ⟨0, ![]⟩
abbrev S10240x2048 : Shape := ⟨2, ![10240, 2048]⟩
abbrev S10240x1024 : Shape := ⟨2, ![10240, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4224x10240, .bf16⟩
  | .hbm, ⟨1, _⟩ => ⟨S4224x2048, .bf16⟩
  | .hbm, ⟨2, _⟩ => ⟨S_, .f32⟩
  | .hbm, ⟨3, _⟩ => ⟨S10240x2048, .f32⟩
  | .hbm, ⟨4, _⟩ => ⟨S4224x2048, .f32⟩
  | .hbm, ⟨5, _⟩ => ⟨S4224x10240, .f32⟩
  | .hbm, ⟨6, _⟩ => ⟨S4224x10240, .f32⟩
  | .hbm, ⟨7, _⟩ => ⟨S10240x2048, .f32⟩
  | .hbm, ⟨8, _⟩ => ⟨S10240x1024, .f32⟩
  | .hbm, ⟨9, _⟩ => ⟨S10240x1024, .bf16⟩
  | _, _ => ⟨S4224x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutProj.lean ====
abbrev S4224x2048 : Shape := ⟨2, ![4224, 2048]⟩
abbrev S2048x2048 : Shape := ⟨2, ![2048, 2048]⟩
abbrev S1408x2048 : Shape := ⟨2, ![1408, 2048]⟩
abbrev S2048x512 : Shape := ⟨2, ![2048, 512]⟩
abbrev S1408x512 : Shape := ⟨2, ![1408, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | .local _ .vmem, ⟨7, _⟩ => ⟨S1408x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4224x2048 : Shape := ⟨2, ![4224, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S4224x2048, .f32⟩
  | .hbm, ⟨4, _⟩ => ⟨S2048x2048, .f32⟩
  | .hbm, ⟨5, _⟩ => ⟨S4224x2048, .f32⟩
  | .hbm, ⟨6, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutProjBwd.lean ====
abbrev S4224x2048 : Shape := ⟨2, ![4224, 2048]⟩
abbrev S2048x2048 : Shape := ⟨2, ![2048, 2048]⟩
abbrev S1408x2048 : Shape := ⟨2, ![1408, 2048]⟩
abbrev S512x2048 : Shape := ⟨2, ![512, 2048]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S512x2048, .bf16⟩
  | .local _ .vmem, ⟨3, _⟩ => ⟨S512x2048, .bf16⟩
  | .local _ .vmem, ⟨4, _⟩ => ⟨S1408x512, .f32⟩
  | .local _ .vmem, ⟨5, _⟩ => ⟨S1408x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjBwdRefIdeal.lean ====
abbrev S4224x2048 : Shape := ⟨2, ![4224, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S_, .f32⟩
  | .hbm, ⟨3, _⟩ => ⟨S4224x2048, .f32⟩
  | .hbm, ⟨4, _⟩ => ⟨S2048x2048, .f32⟩
  | .hbm, ⟨5, _⟩ => ⟨S4224x2048, .f32⟩
  | .hbm, ⟨6, _⟩ => ⟨S4224x2048, .f32⟩
  | .hbm, ⟨7, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutProjWgrad.lean ====
abbrev S4224x2048 : Shape := ⟨2, ![4224, 2048]⟩
abbrev S2048x2048 : Shape := ⟨2, ![2048, 2048]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S2048x2048, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjWgradRefIdeal.lean ====
abbrev S4224x2048 : Shape := ⟨2, ![4224, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S_, .f32⟩
  | .hbm, ⟨3, _⟩ => ⟨S2048x2048, .f32⟩
  | .hbm, ⟨4, _⟩ => ⟨S4224x2048, .f32⟩
  | .hbm, ⟨5, _⟩ => ⟨S4224x2048, .f32⟩
  | .hbm, ⟨6, _⟩ => ⟨S4224x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnOut.lean ====
abbrev S4224x1024 : Shape := ⟨2, ![4224, 1024]⟩
abbrev S1024x2048 : Shape := ⟨2, ![1024, 2048]⟩
abbrev S4224x2048 : Shape := ⟨2, ![4224, 2048]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S1024x2048, .bf16⟩
  | .hbm, ⟨2, _⟩ => ⟨S4224x2048, .bf16⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .bf16⟩
  | .local _ .vmem, ⟨5, _⟩ => ⟨S1408x512, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutRefIdeal.lean ====
abbrev S4224x1024 : Shape := ⟨2, ![4224, 1024]⟩
abbrev S1024x2048 : Shape := ⟨2, ![1024, 2048]⟩
abbrev S4224x2048 : Shape := ⟨2, ![4224, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x2048, .bf16⟩
  | .hbm, ⟨2, _⟩ => ⟨S4224x1024, .f32⟩
  | .hbm, ⟨3, _⟩ => ⟨S1024x2048, .f32⟩
  | .hbm, ⟨4, _⟩ => ⟨S4224x2048, .f32⟩
  | .hbm, ⟨5, _⟩ => ⟨S4224x2048, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AttnOutBwd.lean ====
abbrev S4224x2048 : Shape := ⟨2, ![4224, 2048]⟩
abbrev S1024x2048 : Shape := ⟨2, ![1024, 2048]⟩
abbrev S4224x1024 : Shape := ⟨2, ![4224, 1024]⟩
abbrev S1408x2048 : Shape := ⟨2, ![1408, 2048]⟩
abbrev S512x2048 : Shape := ⟨2, ![512, 2048]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S1024x2048, .bf16⟩
  | .hbm, ⟨2, _⟩ => ⟨S4224x1024, .f32⟩
  | .local _ .vmem, ⟨0, _⟩ => ⟨S1408x2048, .bf16⟩
  | .local _ .vmem, ⟨1, _⟩ => ⟨S1408x2048, .bf16⟩
  | .local _ .vmem, ⟨2, _⟩ => ⟨S512x2048, .bf16⟩
  | .local _ .vmem, ⟨3, _⟩ => ⟨S512x2048, .bf16⟩
  | .local _ .vmem, ⟨4, _⟩ => ⟨S1408x512, .f32⟩
  | .local _ .vmem, ⟨5, _⟩ => ⟨S1408x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutBwdRefIdeal.lean ====
abbrev S4224x2048 : Shape := ⟨2, ![4224, 2048]⟩
abbrev S1024x2048 : Shape := ⟨2, ![1024, 2048]⟩
abbrev S_ : Shape := ⟨0, ![]⟩
abbrev S4224x1024 : Shape := ⟨2, ![4224, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S1024x2048, .bf16⟩
  | .hbm, ⟨2, _⟩ => ⟨S_, .f32⟩
  | .hbm, ⟨3, _⟩ => ⟨S4224x1024, .f32⟩
  | .hbm, ⟨4, _⟩ => ⟨S1024x2048, .f32⟩
  | .hbm, ⟨5, _⟩ => ⟨S4224x2048, .f32⟩
  | .hbm, ⟨6, _⟩ => ⟨S4224x2048, .f32⟩
  | .hbm, ⟨7, _⟩ => ⟨S4224x1024, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnOutWgrad.lean ====
abbrev S4224x1024 : Shape := ⟨2, ![4224, 1024]⟩
abbrev S4224x2048 : Shape := ⟨2, ![4224, 2048]⟩
abbrev S8x1024x256 : Shape := ⟨3, ![8, 1024, 256]⟩
abbrev S4224x256 : Shape := ⟨2, ![4224, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S4224x2048, .bf16⟩
  | .hbm, ⟨2, _⟩ => ⟨S8x1024x256, .bf16⟩
  | .local _ .vmem, ⟨0, _⟩ => ⟨S4224x1024, .bf16⟩
  | .local _ .vmem, ⟨1, _⟩ => ⟨S4224x256, .bf16⟩
  | .local _ .vmem, ⟨2, _⟩ => ⟨S4224x256, .bf16⟩
  | .local _ .vmem, ⟨3, _⟩ => ⟨S1x1024x256, .bf16⟩
  | .local _ .vmem, ⟨4, _⟩ => ⟨S1x1024x256, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutWgradRefIdeal.lean ====
abbrev S4224x1024 : Shape := ⟨2, ![4224, 1024]⟩
abbrev S4224x2048 : Shape := ⟨2, ![4224, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x2048, .bf16⟩
  | .hbm, ⟨2, _⟩ => ⟨S_, .f32⟩
  | .hbm, ⟨3, _⟩ => ⟨S1024x2048, .f32⟩
  | .hbm, ⟨4, _⟩ => ⟨S4224x1024, .f32⟩
  | .hbm, ⟨5, _⟩ => ⟨S4224x2048, .f32⟩
  | .hbm, ⟨6, _⟩ => ⟨S4224x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | .hbm, ⟨10, _⟩ => ⟨S1024x8x256, .bf16⟩
  | .hbm, ⟨11, _⟩ => ⟨S8x1024x256, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GateFwd.lean ====
abbrev S4224x2048 : Shape := ⟨2, ![4224, 2048]⟩
abbrev S4224x10240 : Shape := ⟨2, ![4224, 10240]⟩
abbrev S1x4096 : Shape := ⟨2, ![1, 4096]⟩
abbrev S384x512 : Shape := ⟨2, ![384, 512]⟩
abbrev S1x512 : Shape := ⟨2, ![1, 512]⟩

abbrev nBuf : Space → Nat
  | .hbm => 5
  | .vmem => 14
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S4224x10240, .bf16⟩
  | .hbm, ⟨3, _⟩ => ⟨S1x4096, .f32⟩
  | .hbm, ⟨4, _⟩ => ⟨S4224x2048, .bf16⟩
  | .local _ .vmem, ⟨0, _⟩ => ⟨S384x512, .bf16⟩
  | .local _ .vmem, ⟨1, _⟩ => ⟨S384x512, .bf16⟩
  | .local _ .vmem, ⟨2, _⟩ => ⟨S384x512, .bf16⟩
  | .local _ .vmem, ⟨3, _⟩ => ⟨S384x512, .bf16⟩
  | .local _ .vmem, ⟨4, _⟩ => ⟨S384x512, .bf16⟩
  | .local _ .vmem, ⟨5, _⟩ => ⟨S384x512, .bf16⟩
  | .local _ .vmem, ⟨6, _⟩ => ⟨S384x512, .bf16⟩
  | .local _ .vmem, ⟨7, _⟩ => ⟨S384x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S384x512, .bf16⟩
  | .local _ .vmem, ⟨13, _⟩ => ⟨S384x512, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S384x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateFwdRefIdeal.lean ====
abbrev S4224x2048 : Shape := ⟨2, ![4224, 2048]⟩
abbrev S4224x10240 : Shape := ⟨2, ![4224, 10240]⟩
abbrev S1x4096 : Shape := ⟨2, ![1, 4096]⟩
abbrev S4224x4096 : Shape := ⟨2, ![4224, 4096]⟩
abbrev S_ : Shape := ⟨0, ![]⟩
abbrev S4224x2x2048 : Shape := ⟨3, ![4224, 2, 2048]⟩
abbrev S4224x1x2048 : Shape := ⟨3, ![4224, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S4224x10240, .bf16⟩
  | .hbm, ⟨3, _⟩ => ⟨S1x4096, .f32⟩
  | .hbm, ⟨4, _⟩ => ⟨S4224x2048, .f32⟩
  | .hbm, ⟨5, _⟩ => ⟨S4224x2048, .f32⟩
  | .hbm, ⟨6, _⟩ => ⟨S4224x4096, .bf16⟩
  | .hbm, ⟨7, _⟩ => ⟨S4224x4096, .f32⟩
  | .hbm, ⟨8, _⟩ => ⟨S4224x4096, .f32⟩
  | .hbm, ⟨9, _⟩ => ⟨S4224x4096, .f32⟩
  | .hbm, ⟨10, _⟩ => ⟨S4224x4096, .f32⟩
  | .hbm, ⟨11, _⟩ => ⟨S4224x4096, .f32⟩
  | .hbm, ⟨12, _⟩ => ⟨S_, .f32⟩
  | .hbm, ⟨13, _⟩ => ⟨S4224x4096, .f32⟩
  | .hbm, ⟨14, _⟩ => ⟨S4224x4096, .f32⟩
  | .hbm, ⟨15, _⟩ => ⟨S_, .f32⟩
  | .hbm, ⟨16, _⟩ => ⟨S4224x4096, .f32⟩
  | .hbm, ⟨17, _⟩ => ⟨S4224x4096, .f32⟩
  | .hbm, ⟨18, _⟩ => ⟨S4224x2x2048, .f32⟩
  | .hbm, ⟨19, _⟩ => ⟨S4224x1x2048, .f32⟩
  | .hbm, ⟨20, _⟩ => ⟨S4224x2048, .f32⟩
  | .hbm, ⟨21, _⟩ => ⟨S4224x2048, .f32⟩
  | .hbm, ⟨22, _⟩ => ⟨S4224x1x2048, .f32⟩
  | .hbm, ⟨23, _⟩ => ⟨S4224x2048, .f32⟩
  | .hbm, ⟨24, _⟩ => ⟨S4224x2048, .f32⟩
  | .hbm, ⟨25, _⟩ => ⟨S4224x2048, .f32⟩
  | .hbm, ⟨26, _⟩ => ⟨S4224x2048, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== GateBwd.lean ====
abbrev S4224x2048 : Shape := ⟨2, ![4224, 2048]⟩
abbrev S4224x10240 : Shape := ⟨2, ![4224, 10240]⟩
abbrev S1x4096 : Shape := ⟨2, ![1, 4096]⟩
abbrev S1x2048 : Shape := ⟨2, ![1, 2048]⟩
abbrev S384x512 : Shape := ⟨2, ![384, 512]⟩
abbrev S1x512 : Shape := ⟨2, ![1, 512]⟩
abbrev S512 : Shape := ⟨1, ![512]⟩

abbrev nBuf : Space → Nat
  | .hbm => 11
  | .vmem => 26
  | .smem => 0
  | _ => 0

abbrev bufTy : (tb : Table) → Fin (tcTables nBuf tb) → BufTy
  | .hbm, ⟨0, _⟩ => ⟨S4224x2048, .f32⟩
  | .hbm, ⟨1, _⟩ => ⟨S4224x2048, .bf16⟩
  | .hbm, ⟨2, _⟩ => ⟨S4224x2048, .bf16⟩
  | .hbm, ⟨3, _⟩ => ⟨S4224x10240, .bf16⟩
  | .hbm, ⟨4, _⟩ => ⟨S1x4096, .f32⟩
  | .hbm, ⟨5, _⟩ => ⟨S4224x2048, .bf16⟩
  | .hbm, ⟨6, _⟩ => ⟨S4224x2048, .bf16⟩
  | .hbm, ⟨7, _⟩ => ⟨S4224x2048, .bf16⟩
  | .hbm, ⟨8, _⟩ => ⟨S4224x2048, .bf16⟩
  | .hbm, ⟨9, _⟩ => ⟨S1x2048, .f32⟩
  | .hbm, ⟨10, _⟩ => ⟨S1x2048, .f32⟩
  | .local _ .vmem, ⟨0, _⟩ => ⟨S384x512, .f32⟩
  | .local _ .vmem, ⟨1, _⟩ => ⟨S384x512, .f32⟩
  | .local _ .vmem, ⟨2, _⟩ => ⟨S384x512, .bf16⟩
  | .local _ .vmem, ⟨3, _⟩ => ⟨S384x512, .bf16⟩
  | .local _ .vmem, ⟨4, _⟩ => ⟨S384x512, .bf16⟩
  | .local _ .vmem, ⟨5, _⟩ => ⟨S384x512, .bf16⟩
  | .local _ .vmem, ⟨6, _⟩ => ⟨S384x512, .bf16⟩
  | .local _ .vmem, ⟨7, _⟩ => ⟨S384x512, .bf16⟩
  | .local _ .vmem, ⟨8, _⟩ => ⟨S384x512, .bf16⟩
  | .local _ .vmem, ⟨9, _⟩ => ⟨S384x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S384x512, .bf16⟩
  | .local _ .vmem, ⟨15, _⟩ => ⟨S384x512, .bf16⟩
  | .local _ .vmem, ⟨16, _⟩ => ⟨S384x512, .bf16⟩
  | .local _ .vmem, ⟨17, _⟩ => ⟨S384x512, .bf16⟩
  | .local _ .vmem, ⟨18, _⟩ => ⟨S384x512, .bf16⟩
  | .local _ .vmem, ⟨19, _⟩ => ⟨S384x512, .bf16⟩
  | .local _ .vmem, ⟨20, _⟩ => ⟨S384x512, .bf16⟩
  | .local _ .vmem, ⟨21, _⟩ => ⟨S384x512, .bf16⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S384x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S384x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S384x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S384x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== GateBwdRefIdeal.lean ====
abbrev S4224x2048 : Shape := ⟨2, ![4224, 2048]⟩
abbrev S4224x10240 : Shape := ⟨2, ![4224, 10240]⟩
abbrev S1x4096 : Shape := ⟨2, ![1, 4096]⟩
abbrev S4224x4096 : Shape := ⟨2, ![4224, 4096]⟩
abbrev S_ : Shape := ⟨0, ![]⟩
abbrev S4224x2x2048 : Shape := ⟨3, ![4224, 2, 2048]⟩
abbrev S4224x1x2048 : Shape := ⟨3, ![4224, 1, 2048]⟩
abbrev S4096 : Shape := ⟨1, ![4096]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .bf16⟩
  | .hbm, ⟨2, _⟩ => ⟨S4224x2048, .bf16⟩
  | .hbm, ⟨3, _⟩ => ⟨S4224x10240, .bf16⟩
  | .hbm, ⟨4, _⟩ => ⟨S1x4096, .f32⟩
  | .hbm, ⟨5, _⟩ => ⟨S4224x2048, .f32⟩
  | .hbm, ⟨6, _⟩ => ⟨S4224x2048, .f32⟩
  | .hbm, ⟨7, _⟩ => ⟨S4224x4096, .bf16⟩
  | .hbm, ⟨8, _⟩ => ⟨S4224x4096, .f32⟩
  | .hbm, ⟨9, _⟩ => ⟨S4224x4096, .f32⟩
  | .hbm, ⟨10, _⟩ => ⟨S4224x4096, .f32⟩
  | .hbm, ⟨11, _⟩ => ⟨S4224x4096, .f32⟩
  | .hbm, ⟨12, _⟩ => ⟨S4224x4096, .f32⟩
  | .hbm, ⟨13, _⟩ => ⟨S_, .f32⟩
  | .hbm, ⟨14, _⟩ => ⟨S4224x4096, .f32⟩
  | .hbm, ⟨15, _⟩ => ⟨S4224x4096, .f32⟩
  | .hbm, ⟨16, _⟩ => ⟨S_, .f32⟩
  | .hbm, ⟨17, _⟩ => ⟨S4224x4096, .f32⟩
  | .hbm, ⟨18, _⟩ => ⟨S4224x4096, .f32⟩
  | .hbm, ⟨19, _⟩ => ⟨S_, .f32⟩
  | .hbm, ⟨20, _⟩ => ⟨S4224x4096, .f32⟩
  | .hbm, ⟨21, _⟩ => ⟨S4224x4096, .f32⟩
  | .hbm, ⟨22, _⟩ => ⟨S4224x4096, .f32⟩
  | .hbm, ⟨23, _⟩ => ⟨S4224x2x2048, .f32⟩
  | .hbm, ⟨24, _⟩ => ⟨S4224x1x2048, .f32⟩
  | .hbm, ⟨25, _⟩ => ⟨S4224x2048, .f32⟩
  | .hbm, ⟨26, _⟩ => ⟨S4224x2048, .f32⟩
  | .hbm, ⟨27, _⟩ => ⟨S4224x1x2048, .f32⟩
  | .hbm, ⟨28, _⟩ => ⟨S4224x2048, .f32⟩
  | .hbm, ⟨29, _⟩ => ⟨S4224x2048, .f32⟩
  | .hbm, ⟨30, _⟩ => ⟨S4224x2048, .f32⟩
  | .hbm, ⟨31, _⟩ => ⟨S4224x2048, .f32⟩
  | .hbm, ⟨32, _⟩ => ⟨S4224x2048, .f32⟩
  | .hbm, ⟨33, _⟩ => ⟨S4224x2048, .f32⟩
  | .hbm, ⟨34, _⟩ => ⟨S4224x2048, .f32⟩
  | .hbm, ⟨35, _⟩ => ⟨S4224x1x2048, .f32⟩
  | .hbm, ⟨36, _⟩ => ⟨S_, .f32⟩
  | .hbm, ⟨37, _⟩ => ⟨S4224x2x2048, .f32⟩
  | .hbm, ⟨38, _⟩ => ⟨S4224x2048, .f32⟩
  | .hbm, ⟨39, _⟩ => ⟨S4224x2048, .f32⟩
  | .hbm, ⟨40, _⟩ => ⟨S4224x1x2048, .f32⟩
  | .hbm, ⟨41, _⟩ => ⟨S_, .f32⟩
  | .hbm, ⟨42, _⟩ => ⟨S4224x2x2048, .f32⟩
  | .hbm, ⟨43, _⟩ => ⟨S4224x2x2048, .f32⟩
  | .hbm, ⟨44, _⟩ => ⟨S4224x4096, .f32⟩
  | .hbm, ⟨45, _⟩ => ⟨S4224x4096, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S4224x2048, .bf16⟩
  | .hbm, ⟨50, _⟩ => ⟨S4224x2048, .bf16⟩
  | .hbm, ⟨51, _⟩ => ⟨S4224x4096, .bf16⟩
  | .hbm, ⟨52, _⟩ => ⟨S4224x2048, .bf16⟩
  | .hbm, ⟨53, _⟩ => ⟨S4224x2048, .bf16⟩
  | .hbm, ⟨54, _⟩ => ⟨S1x2048, .f32⟩
  | .hbm, ⟨55, _⟩ => ⟨S1x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Loops
public import Idealize.ShloMosaic.Lib.LoopRemainder
public import Idealize.ShloMosaic.Lib.Exec
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # One grid point of the attention gradient, as a function of what it finds

A grid point is one head and one tile of 384 keys. It handles the query tile on the diagonal under the
causal mask, then every later query tile without a mask. It carries the gradients of its own keys, values
and column sums, and adds into the running gradients of the head's queries and row sums. -/

local notation "𝕄" => MT nD τ sig Unit (Elt F) ℕ (UR sig nD τ) ℕ

/-- The gradients of the point's keys, values and column sums while its query tiles go by. -/
abbrev Carried (F : FTy → Type) : Type := FVec F S384x128 .f32 × FVec F S384x128 .f32 × FVec F S1x384 .f32

/-- What a query tile changes: the carried sums, and the head's running query gradients and row sums. -/
abbrev State (F : FTy → Type) : Type := Carried F × FVec F S4224x128 .f32 × FVec F S1x4224x1 .f32

/-- The rows of the diagonal query tile, in a matrix of rows and in a column. -/
abbrev rowsD (i : grid0.Coords) : Rect S4224x128 := Rect.unit (k0_off1 i) S384x128.size (k0_off1_inb i)
abbrev colD (i : grid0.Coords) : Rect S1x4224x1 := Rect.unit (k0_off2 i) S1x384x1.size (k0_off2_inb i)
/-- The rows of the query tile of trip `k`. -/
abbrev rowsK (i : grid0.Coords) (k : Fin (k0_t1_loop i).trips) : Rect S4224x128 :=
  Rect.unit (k0_off3 i k) S384x128.size (k0_off3_inb i k)
abbrev colK (i : grid0.Coords) (k : Fin (k0_t1_loop i).trips) : Rect S1x4224x1 :=
  Rect.unit (k0_off4 i k) S1x384x1.size (k0_off4_inb i k)

/-- One query tile below the diagonal. -/
def trip (i : grid0.Coords) (v3 v4 : Vec F S384x128 .bf16) (v6 : FVec F S1x384 .f32) (x0 : Vec F S4224x128 .bf16)
    (x3 : Vec F S4224x128 .f32) (x4 x5 : Vec F S1x4224x1 .f32) (k : Fin (k0_t1_loop i).trips) (s : State F) : State F :=
  ((k0_pay2 s.1.1 (View.ld x0 (rowsK i k))
      (k0_pay15 v3 v4 v6 (View.ld x0 (rowsK i k)) (View.ld x3 (rowsK i k)) (View.ld x4 (colK i k)) (View.ld x5 (colK i k))),
    k0_pay3 s.1.2.1 (k0_pay12 (View.ld x3 (rowsK i k))) (k0_pay13 v3 v6 (View.ld x0 (rowsK i k)) (View.ld x4 (colK i k))),
    k0_pay4 s.1.2.2
      (k0_pay14 v3 v4 v6 (View.ld x0 (rowsK i k)) (View.ld x3 (rowsK i k)) (View.ld x4 (colK i k)) (View.ld x5 (colK i k)))),
   (rowsK i k).overlay s.2.1
      (k0_pay16 v3 v4 v6 (View.ld x0 (rowsK i k)) (View.ld x3 (rowsK i k)) (View.ld x4 (colK i k)) (View.ld x5 (colK i k))
        (View.ld s.2.1 (rowsK i k))),
   (colK i k).overlay s.2.2
      (k0_pay1 (k0_pay17 v3 v4 v6 (View.ld x0 (rowsK i k)) (View.ld x3 (rowsK i k)) (View.ld x4 (colK i k))
        (View.ld x5 (colK i k)) (View.ld s.2.2 (colK i k)))))

/-- The state before trip `k`. -/
def trips (i : grid0.Coords) (v3 v4 : Vec F S384x128 .bf16) (v6 : FVec F S1x384 .f32) (x0 : Vec F S4224x128 .bf16)
    (x3 : Vec F S4224x128 .f32) (x4 x5 : Vec F S1x4224x1 .f32) (s : State F) : ℕ → State F
  | 0 => s
  | k + 1 => if h : k < (k0_t1_loop i).trips then trip i v3 v4 v6 x0 x3 x4 x5 ⟨k, h⟩ (trips i v3 v4 v6 x0 x3 x4 x5 s k)
      else trips i v3 v4 v6 x0 x3 x4 x5 s k

/-- The query tile on the diagonal, from the running sums the point finds. -/
def diag (i : grid0.Coords) (x0 : Vec F S4224x128 .bf16) (x1 : Vec F S384x128 .bf16) (x2 : Vec F S384x128 .bf16) (x3 : Vec F S4224x128 .f32) (x4 : Vec F S1x4224x1 .f32) (x5 : Vec F S1x4224x1 .f32) (x6 : Vec F S1x1x384 .f32) (x7 : Vec F S4224x128 .f32) (x11 : Vec F S1x4224x1 .f32) : State F :=
  ((k0_pay38 x2 k0_pay27 (View.ld x0 (rowsD i)) (k0_pay30 (View.ld x3 (rowsD i)))
      (k0_pay31 x1 x6 (View.ld x0 (rowsD i)) (View.ld x4 (colD i))) k0_pay32 (Scalar.ofBits .f32 0x00000000#32) (View.ld x5 (colD i)),
    k0_pay39 k0_pay28 (k0_pay30 (View.ld x3 (rowsD i)))
      (k0_pay31 x1 x6 (View.ld x0 (rowsD i)) (View.ld x4 (colD i))) k0_pay32 (Scalar.ofBits .f32 0x00000000#32),
    k0_pay40 x2 k0_pay29 (k0_pay30 (View.ld x3 (rowsD i)))
      (k0_pay31 x1 x6 (View.ld x0 (rowsD i)) (View.ld x4 (colD i))) k0_pay32 (Scalar.ofBits .f32 0x00000000#32) (View.ld x5 (colD i))),
   (rowsD i).overlay x7 (k0_pay36 x1 x2 (k0_pay30 (View.ld x3 (rowsD i)))
      (k0_pay31 x1 x6 (View.ld x0 (rowsD i)) (View.ld x4 (colD i))) k0_pay32 (Scalar.ofBits .f32 0x00000000#32) (View.ld x5 (colD i))
      (View.ld x7 (rowsD i))),
   (colD i).overlay x11 (k0_pay37 x2 (k0_pay30 (View.ld x3 (rowsD i)))
      (k0_pay31 x1 x6 (View.ld x0 (rowsD i)) (View.ld x4 (colD i))) k0_pay32 (Scalar.ofBits .f32 0x00000000#32) (View.ld x5 (colD i))
      (View.ld x11 (colD i))))

/-- The point is its head's first. -/
abbrev first (i : grid0.Coords) : Prop :=
  Scalar.cmpi .ne (Scalar.extui (Scalar.cmpi .eq (BitVec.ofNat 32 (i 1).val) 0#32)) 0#32 = 1#1

/-- The whole point: the running sums start at zero when the point is a head's first. -/
def point (i : grid0.Coords) (x0 : Vec F S4224x128 .bf16) (x1 : Vec F S384x128 .bf16) (x2 : Vec F S384x128 .bf16) (x3 : Vec F S4224x128 .f32) (x4 : Vec F S1x4224x1 .f32) (x5 : Vec F S1x4224x1 .f32) (x6 : Vec F S1x1x384 .f32) (x7 : Vec F S4224x128 .f32) (x11 : Vec F S1x4224x1 .f32) : State F :=
  trips i x1 x2 (k0_pay26 x6) x0 x3 x4 x5
    (diag i x0 x1 x2 x3 x4 x5 x6 (if first i then k0_pay24 else x7) (if first i then k0_pay25 else x11))
    (k0_t1_loop i).trips

/-- A store read back: the stored rectangle over what was there. -/
theorem read_writes_overlay {s : Shape} {e : EltTy} {κ : Kind} {sp : Space} (v : View sig κ sp s e) (f : v.ty.Contents (Elt F))
    (r : Rect s) (w : r.shape.Idx → Elt F e) (L : List (View.Piece (Elt F) s e)) :
    v.read (Elt F) (v.writes (Elt F) f (⟨r, w⟩ :: L)) = r.overlay (v.read (Elt F) (v.writes (Elt F) f L)) w := by
  funext y
  by_cases hy : y ∈ r.set
  · rw [← Rect.map_emb_univ] at hy; obtain ⟨x, -, rfl⟩ := Finset.mem_map.mp hy
    rw [View.read_writes_cons_emb, Rect.overlay_emb]
  · rw [View.read_writes_cons_miss _ _ _ _ _ hy, Rect.overlay_of_not_mem _ _ _ hy]

theorem zero2 : (![0, 0] : Fin 2 → ℕ) = fun _ => 0 := by funext a; fin_cases a <;> rfl
theorem zero3 : (![0, 0, 0] : Fin 3 → ℕ) = fun _ => 0 := by funext a; fin_cases a <;> rfl

/-- A rectangle that is the whole shape covers what was there. -/
theorem overlay_whole {S : Shape} {α : Type} {off : Fin S.rank → ℕ} (h : off = fun _ => 0) (inb : ∀ a, off a + S.size a ≤ S.size a)
    (X : S.Idx → α) (w : S.Idx → α) : (Rect.unit off S.size inb).overlay X w = w := by
  subst h; funext y
  have e := (Rect.whole S).overlay_emb X w y
  rw [Rect.emb_whole_apply] at e
  exact e

theorem over_mat {α : Type} (X w : S4224x128.Idx → α) :
    (Rect.unit (s := S4224x128) ![0, 0] ![4224, 128] inb_S4224x128_S4224x128_0_0).overlay X w = w := overlay_whole zero2 _ X w
theorem over_col {α : Type} (X w : S1x4224x1.Idx → α) :
    (Rect.unit (s := S1x4224x1) ![0, 0, 0] ![1, 4224, 1] inb_S1x4224x1_S1x4224x1_0_0_0).overlay X w = w := overlay_whole zero3 _ X w
theorem ld_tile {e : EltTy} (X : S384x128.Idx → Elt F e) :
    View.ld (Val := Elt F) X (Rect.unit (s := S384x128) ![0, 0] ![384, 128] inb_S384x128_S384x128_0_0) = X :=
  View.ld_unit_zero zero2 _ X
theorem ld_row {e : EltTy} (X : S1x1x384.Idx → Elt F e) :
    View.ld (Val := Elt F) X (Rect.unit (s := S1x1x384) ![0, 0, 0] ![1, 1, 384] inb_S1x1x384_S1x1x384_0_0_0) = X :=
  View.ld_unit_zero zero3 _ X

theorem read_whole2 {e : EltTy} {κ : Kind} {sp : Space} (v : View sig κ sp S384x128 e) (f : v.ty.Contents (Elt F)) (w : S384x128.Idx → Elt F e)
    (L : List (View.Piece (Elt F) S384x128 e)) :
    v.read (Elt F) (v.writes (Elt F) f (⟨Rect.unit ![0, 0] S384x128.size inb_S384x128_S384x128_0_0, w⟩ :: L)) = w := by
  rw [read_writes_overlay, overlay_whole zero2]
theorem read_whole3 {e : EltTy} {κ : Kind} {sp : Space} (v : View sig κ sp S1x1x384 e) (f : v.ty.Contents (Elt F)) (w : S1x1x384.Idx → Elt F e)
    (L : List (View.Piece (Elt F) S1x1x384 e)) :
    v.read (Elt F) (v.writes (Elt F) f (⟨Rect.unit ![0, 0, 0] S1x1x384.size inb_S1x1x384_S1x1x384_0_0_0, w⟩ :: L)) = w := by
  rw [read_writes_overlay, overlay_whole zero3]

theorem read_ite {s : Shape} {e : EltTy} {κ : Kind} {sp : Space} (v : View sig κ sp s e) (p : Prop) [Decidable p] (f g : v.ty.Contents (Elt F)) :
    v.read (Elt F) (if _ : p then f else g) = if p then v.read (Elt F) f else v.read (Elt F) g := by
  by_cases h : p <;> simp only [h, dif_pos, dif_neg, if_pos, if_neg, not_false_eq_true]

theorem trip_read (𝒱 : Variants) (c : Dev nD) (bd : Option 𝒱.V) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S1x4224x1 .f32) (harg6 : arg6.IsWhole) (arg7 : Memref sig .tc .vmem S1x4224x1 .f32) (harg7 : arg7.IsWhole) (arg8 : Memref sig .tc .vmem S1x1x384 .f32) (harg8 : arg8.IsWhole) (arg9 : Memref sig .tc .vmem S4224x128 .f32) (harg9 : arg9.IsWhole) (arg10 : Memref sig .tc .vmem S384x128 .f32) (harg10 : arg10.IsWhole) (arg11 : Memref sig .tc .vmem S384x128 .bf16) (harg11 : arg11.IsWhole) (arg12 : Memref sig .tc .vmem S1x1x384 .f32) (harg12 : arg12.IsWhole) (arg13 : Memref sig .tc .vmem S1x4224x1 .f32) (harg13 : arg13.IsWhole) (v3 v4 : Vec F S384x128 .bf16) (v6 : FVec F S1x384 .f32) (v72 : BitVec 32)
    (x0 : Vec F S4224x128 .bf16) (x3 : Vec F S4224x128 .f32) (x4 x5 : Vec F S1x4224x1 .f32) (k : Fin (k0_t1_loop i).trips) (acc : Carried F) (f9) (f13) :
    (tripR_k0_t1 𝒱 c bd i arg2 harg2 arg3 harg3 arg4 harg4 arg5 harg5 arg6 harg6 arg7 harg7 arg8 harg8 arg9 harg9 arg10 harg10 arg11 harg11 arg12 harg12 arg13 harg13 v3 v4 v6 v72 (harg2.unread x0) (harg5.unread x3) (harg6.unread x4) (harg7.unread x5) k acc f9 f13,
      arg9.view.read (Elt F) (arg9.view.writes (Elt F) f9 (tripL_k0_t1 𝒱 c bd i arg2 harg2 arg3 harg3 arg4 harg4 arg5 harg5 arg6 harg6 arg7 harg7 arg8 harg8 arg9 harg9 arg10 harg10 arg11 harg11 arg12 harg12 arg13 harg13 v3 v4 v6 v72 (harg2.unread x0) (harg5.unread x3) (harg6.unread x4) (harg7.unread x5) k acc f9 f13).1),
      arg13.view.read (Elt F) (arg13.view.writes (Elt F) f13 (tripL_k0_t1 𝒱 c bd i arg2 harg2 arg3 harg3 arg4 harg4 arg5 harg5 arg6 harg6 arg7 harg7 arg8 harg8 arg9 harg9 arg10 harg10 arg11 harg11 arg12 harg12 arg13 harg13 v3 v4 v6 v72 (harg2.unread x0) (harg5.unread x3) (harg6.unread x4) (harg7.unread x5) k acc f9 f13).2))
    = trip i v3 v4 v6 x0 x3 x4 x5 k (acc, arg9.view.read (Elt F) f9, arg13.view.read (Elt F) f13) := by
  unfold tripR_k0_t1 tripL_k0_t1 trip_k0_t1
  dsimp only
  rw [read_writes_overlay, read_writes_overlay]
  have e2 := harg2.read_unread (Val := Elt F) x0
  have e5 := harg5.read_unread (Val := Elt F) x3
  have e6 := harg6.read_unread (Val := Elt F) x4
  have e7 := harg7.read_unread (Val := Elt F) x5
  unfold trip trip_k0_t1.sl.r trip_k0_t1.sl.r_1 trip_k0_t1.sl.r_2 trip_k0_t1.sl.r_3 trip_k0_t1.sl.r_4 trip_k0_t1.sl.r_5
  simp only [View.readAt_eq_ld, e2, e5, e6, e7, View.writes_nil]

theorem st_read (𝒱 : Variants) (c : Dev nD) (bd : Option 𝒱.V) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S1x4224x1 .f32) (harg6 : arg6.IsWhole) (arg7 : Memref sig .tc .vmem S1x4224x1 .f32) (harg7 : arg7.IsWhole) (arg8 : Memref sig .tc .vmem S1x1x384 .f32) (harg8 : arg8.IsWhole) (arg9 : Memref sig .tc .vmem S4224x128 .f32) (harg9 : arg9.IsWhole) (arg10 : Memref sig .tc .vmem S384x128 .f32) (harg10 : arg10.IsWhole) (arg11 : Memref sig .tc .vmem S384x128 .bf16) (harg11 : arg11.IsWhole) (arg12 : Memref sig .tc .vmem S1x1x384 .f32) (harg12 : arg12.IsWhole) (arg13 : Memref sig .tc .vmem S1x4224x1 .f32) (harg13 : arg13.IsWhole) (v3 v4 : Vec F S384x128 .bf16) (v6 : FVec F S1x384 .f32) (v72 : BitVec 32)
    (x0 : Vec F S4224x128 .bf16) (x3 : Vec F S4224x128 .f32) (x4 x5 : Vec F S1x4224x1 .f32) (f9) (f13) (init : Carried F) (k : ℕ) :
    ((st_k0_t1 𝒱 c bd i arg2 harg2 arg3 harg3 arg4 harg4 arg5 harg5 arg6 harg6 arg7 harg7 arg8 harg8 arg9 harg9 arg10 harg10 arg11 harg11 arg12 harg12 arg13 harg13 v3 v4 v6 v72 (harg2.unread x0) (harg5.unread x3) (harg6.unread x4) (harg7.unread x5) f9 f13 init k).1,
      arg9.view.read (Elt F) (arg9.view.writes (Elt F) f9 (st_k0_t1 𝒱 c bd i arg2 harg2 arg3 harg3 arg4 harg4 arg5 harg5 arg6 harg6 arg7 harg7 arg8 harg8 arg9 harg9 arg10 harg10 arg11 harg11 arg12 harg12 arg13 harg13 v3 v4 v6 v72 (harg2.unread x0) (harg5.unread x3) (harg6.unread x4) (harg7.unread x5) f9 f13 init k).2.1),
      arg13.view.read (Elt F) (arg13.view.writes (Elt F) f13 (st_k0_t1 𝒱 c bd i arg2 harg2 arg3 harg3 arg4 harg4 arg5 harg5 arg6 harg6 arg7 harg7 arg8 harg8 arg9 harg9 arg10 harg10 arg11 harg11 arg12 harg12 arg13 harg13 v3 v4 v6 v72 (harg2.unread x0) (harg5.unread x3) (harg6.unread x4) (harg7.unread x5) f9 f13 init k).2.2))
    = trips i v3 v4 v6 x0 x3 x4 x5 (init, arg9.view.read (Elt F) f9, arg13.view.read (Elt F) f13) k := by
  induction k with
  | zero => rfl
  | succ k ih =>
    rw [st_k0_t1.eq_2]; unfold st_k0_t1Step
    rw [trips]
    by_cases h : k < (k0_t1_loop i).trips
    · rw [dif_pos h, dif_pos h]
      dsimp only
      rw [View.writes_append, View.writes_append, ← ih]
      exact trip_read 𝒱 c bd i arg2 harg2 arg3 harg3 arg4 harg4 arg5 harg5 arg6 harg6 arg7 harg7 arg8 harg8 arg9 harg9 arg10 harg10 arg11 harg11 arg12 harg12 arg13 harg13 v3 v4 v6 v72 x0 x3 x4 x5 ⟨k, h⟩ _ _ _
    · rw [dif_neg h, dif_neg h]
      exact ih

set_option maxHeartbeats 2000000 in
/-- The body on whole staging buffers: it leaves its inputs, and its five outputs at the point's sums. -/
theorem run (c : Dev nD) (i : grid0.Coords) (arg2 : Memref sig .tc .vmem S4224x128 .bf16) (harg2 : arg2.IsWhole) (arg3 : Memref sig .tc .vmem S384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S1x4224x1 .f32) (harg6 : arg6.IsWhole) (arg7 : Memref sig .tc .vmem S1x4224x1 .f32) (harg7 : arg7.IsWhole) (arg8 : Memref sig .tc .vmem S1x1x384 .f32) (harg8 : arg8.IsWhole) (arg9 : Memref sig .tc .vmem S4224x128 .f32) (harg9 : arg9.IsWhole) (arg10 : Memref sig .tc .vmem S384x128 .f32) (harg10 : arg10.IsWhole) (arg11 : Memref sig .tc .vmem S384x128 .bf16) (harg11 : arg11.IsWhole) (arg12 : Memref sig .tc .vmem S1x1x384 .f32) (harg12 : arg12.IsWhole) (arg13 : Memref sig .tc .vmem S1x4224x1 .f32) (harg13 : arg13.IsWhole) (x0 : Vec F S4224x128 .bf16) (x1 : Vec F S384x128 .bf16) (x2 : Vec F S384x128 .bf16) (x3 : Vec F S4224x128 .f32) (x4 : Vec F S1x4224x1 .f32) (x5 : Vec F S1x4224x1 .f32) (x6 : Vec F S1x1x384 .f32) (x7 : Vec F S4224x128 .f32) (x11 : Vec F S1x4224x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (point i x0 x1 x2 x3 x4 x5 x6 x7 x11).2.1 ∗ owns (c : Thread nD τ) arg10 fullShare (k0_pay9 (point i x0 x1 x2 x3 x4 x5 x6 x7 x11).1.1) ∗ owns (c : Thread nD τ) arg11 fullShare (k0_pay10 (point i x0 x1 x2 x3 x4 x5 x6 x7 x11).1.2.1) ∗ owns (c : Thread nD τ) arg12 fullShare (k0_pay11 (point i x0 x1 x2 x3 x4 x5 x6 x7 x11).1.2.2) ∗ owns (c : Thread nD τ) arg13 fullShare (point i x0 x1 x2 x3 x4 x5 x6 x7 x11).2.2) -∗ K ⟨⟩))
          ⊢ wp frame (wpE (defs₀ (F := F)) Variants.none c none) E (cc0_attention_bwd i arg2 harg2 arg3 harg3 arg4 harg4 arg5 harg5 arg6 harg6 arg7 harg7 arg8 harg8 arg9 harg9 arg10 harg10 arg11 harg11 arg12 harg12 arg13 harg13) K := by
    simp only [cc0_attention_bwd_eq_skeleton]; unfold cc0_attention_bwd_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hf7; obtain rfl := harg13.eq_unread hf11
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    iexists _; isplitr; swap; iexact H7
    ipureintro; rw [View.writes_append]
    refine (congrArg (fun s : State F => s.2.1) (st_read Variants.none c none i arg2 harg2 arg3 harg3 arg4 harg4 arg5 harg5 arg6 harg6 arg7 harg7 arg8 harg8 arg9 harg9 arg10 harg10 arg11 harg11 arg12 harg12 arg13 harg13 _ _ _ _ x0 x3 x4 x5 _ _ _ _)).trans (congrArg (fun s : State F => s.2.1) ?_)
    rotate_left
    isplitl [H8]
    iexists _; isplitr; swap; iexact H8
    ipureintro; refine (read_whole2 _ _ _ _).trans ?_
    refine (congrArg (fun s : State F => k0_pay9 s.1.1) (st_read Variants.none c none i arg2 harg2 arg3 harg3 arg4 harg4 arg5 harg5 arg6 harg6 arg7 harg7 arg8 harg8 arg9 harg9 arg10 harg10 arg11 harg11 arg12 harg12 arg13 harg13 _ _ _ _ x0 x3 x4 x5 _ _ _ _)).trans (congrArg (fun s : State F => k0_pay9 s.1.1) ?_)
    rotate_left
    isplitl [H9]
    iexists _; isplitr; swap; iexact H9
    ipureintro; refine (read_whole2 _ _ _ _).trans ?_
    refine (congrArg (fun s : State F => k0_pay10 s.1.2.1) (st_read Variants.none c none i arg2 harg2 arg3 harg3 arg4 harg4 arg5 harg5 arg6 harg6 arg7 harg7 arg8 harg8 arg9 harg9 arg10 harg10 arg11 harg11 arg12 harg12 arg13 harg13 _ _ _ _ x0 x3 x4 x5 _ _ _ _)).trans (congrArg (fun s : State F => k0_pay10 s.1.2.1) ?_)
    rotate_left
    isplitl [H10]
    iexists _; isplitr; swap; iexact H10
    ipureintro; refine (read_whole3 _ _ _ _).trans ?_
    refine (congrArg (fun s : State F => k0_pay11 s.1.2.2) (st_read Variants.none c none i arg2 harg2 arg3 harg3 arg4 harg4 arg5 harg5 arg6 harg6 arg7 harg7 arg8 harg8 arg9 harg9 arg10 harg10 arg11 harg11 arg12 harg12 arg13 harg13 _ _ _ _ x0 x3 x4 x5 _ _ _ _)).trans (congrArg (fun s : State F => k0_pay11 s.1.2.2) ?_)
    rotate_left
    iexists _; isplitr; swap; iexact H11
    ipureintro; rw [View.writes_append]
    refine (congrArg (fun s : State F => s.2.2) (st_read Variants.none c none i arg2 harg2 arg3 harg3 arg4 harg4 arg5 harg5 arg6 harg6 arg7 harg7 arg8 harg8 arg9 harg9 arg10 harg10 arg11 harg11 arg12 harg12 arg13 harg13 _ _ _ _ x0 x3 x4 x5 _ _ _ _)).trans (congrArg (fun s : State F => s.2.2) ?_)
    all_goals
      unfold run.sl.r_6 run.sl.r_7 run.sl.r_8 run.sl.v46 run.sl.v55 run.sl.v2 run.sl.cst_17
      unfold run.sl.r_5 run.sl.r_4 run.sl.r_3 run.sl.r_2 run.sl.v1
      unfold run.sl.r_1 run.sl.r run.sl.v0
      have hp : point i x0 x1 x2 x3 x4 x5 x6 x7 x11 = point i x0 x1 x2 x3 x4 x5 x6 x7 x11 := rfl
      conv_rhs at hp => unfold point diag
      rw [hp]
      by_cases hc : first i
      · simp only [first] at hc
        simp only [first, dif_pos hc, if_pos hc, View.readAt_eq_ld, read_writes_overlay, View.writes_nil, harg2.read_unread, harg3.read_unread, harg4.read_unread, harg5.read_unread, harg6.read_unread, harg7.read_unread, harg8.read_unread, over_mat, over_col, harg9.read_unread, harg13.read_unread, ld_tile, ld_row]
      · simp only [first] at hc
        simp only [first, dif_neg hc, if_neg hc, View.readAt_eq_ld, read_writes_overlay, View.writes_nil, harg2.read_unread, harg3.read_unread, harg4.read_unread, harg5.read_unread, harg6.read_unread, harg7.read_unread, harg8.read_unread, over_mat, over_col, harg9.read_unread, harg13.read_unread, ld_tile, ld_row]

end Cert.KernelIdeal.Hand
-- ==== Proof.Launch.lean ====
module

public import proofs.«01_k».proof.Proof.Gen.KernelIdeal.Frame
public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The run of the whole launch

The grid goes through the heads one by one, and through a head's key tiles in order. The two running sums of a
head (query gradients, row sums) stay in place from its first key tile to its last. -/

local notation "𝕄" => MT nD τ sig Unit (Elt F) ℕ (UR sig nD τ) ℕ

variable (m : (ℓ : Loc nD τ sig) → Buf (Elt F) ℓ) (ρ : Dev nD → PrngReg)

/-- A head's first point is where its tile number is zero. -/
theorem first_iff : ∀ t : Fin cfg0.N, first (grid0.coords t) ↔ t.val % 11 = 0 :=
  (by decide +kernel : ∀ t : Fin grid0.N, first (grid0.coords t) ↔ t.val % 11 = 0)

/-- The point at `t` on its seven blocks, from given running sums. -/
def pointAt (c : Dev nD) (t : Fin cfg0.N) (y : FVec F S4224x128 .f32 × FVec F S1x4224x1 .f32) : State F :=
  point (grid0.coords t) (iblk m c 0 t) (iblk m c 1 t) (iblk m c 2 t) (iblk m c 3 t) (iblk m c 4 t) (iblk m c 5 t) (iblk m c 6 t) y.1 y.2

/-- The running sums before point `n`. -/
def sums (c : Dev nD) : ℕ → FVec F S4224x128 .f32 × FVec F S1x4224x1 .f32
  | 0 => (k0_pay24, k0_pay25)
  | n + 1 => if h : n < cfg0.N then (pointAt m c ⟨n, h⟩ (sums c n)).2 else sums c n

/-- What point `t` leaves. -/
def left (c : Dev nD) (t : Fin cfg0.N) : State F := pointAt m c t (sums m c t.val)

theorem sums_succ (c : Dev nD) (t : Fin cfg0.N) : sums m c (t.val + 1) = (left m c t).2 := by
  rw [sums, dif_pos t.isLt]; rfl

/-- A head's first point does not read the running sums it finds. -/
theorem pointAt_first (c : Dev nD) (t : Fin cfg0.N) (h : t.val % 11 = 0) (y y' : FVec F S4224x128 .f32 × FVec F S1x4224x1 .f32) :
    pointAt m c t y = pointAt m c t y' := by
  unfold pointAt point
  rw [if_pos ((first_iff t).mpr h), if_pos ((first_iff t).mpr h), if_pos ((first_iff t).mpr h), if_pos ((first_iff t).mpr h)]

/-- The proof data of the launch: inputs in place, outputs at what each point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (left m c t).2.1
    | ⟨8, _⟩ => k0_pay9 (left m c t).1.1
    | ⟨9, _⟩ => k0_pay10 (left m c t).1.2.1
    | ⟨10, _⟩ => k0_pay11 (left m c t).1.2.2
    | ⟨11, _⟩ => (left m c t).2.2
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (left m c t).2.1 := by dsimp only [dats]
theorem after_8 (c : Dev nD) (t : Fin cfg0.N) : (dats m 0 c).after 8 t = k0_pay9 (left m c t).1.1 := by dsimp only [dats]
theorem after_9 (c : Dev nD) (t : Fin cfg0.N) : (dats m 0 c).after 9 t = k0_pay10 (left m c t).1.2.1 := by dsimp only [dats]
theorem after_10 (c : Dev nD) (t : Fin cfg0.N) : (dats m 0 c).after 10 t = k0_pay11 (left m c t).1.2.2 := by dsimp only [dats]
theorem after_11 (c : Dev nD) (t : Fin cfg0.N) : (dats m 0 c).after 11 t = (left m c t).2.2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- Away from a head's first point, a running sum's buffer holds what the point before left. -/
theorem before_7 (c : Dev nD) (t : Fin cfg0.N) (h : ¬ t.val % 11 = 0) (d) : (dats m 0 c).before 7 t d = (sums m c t.val).1 := by
  obtain ⟨t, ht⟩ := t
  obtain ⟨n, rfl⟩ : ∃ n, t = n + 1 := ⟨t - 1, by dsimp only at h; omega⟩
  have hn : n < cfg0.N := by omega
  refine ((dats m 0 c).before_out_kept 7 rfl ⟨n + 1, ht⟩ (Nat.succ_ne_zero n) ?_ (fun _ => rfl) (fun _ _ => rfl) d).trans ?_
  · refine Bool.eq_false_iff.mpr fun hf => h ?_
    have := (flush0_7 _).mp hf
    dsimp only at this ⊢; omega
  · exact (after_7 m c _).trans (congrArg Prod.fst (sums_succ m c ⟨n, hn⟩)).symm
theorem before_11 (c : Dev nD) (t : Fin cfg0.N) (h : ¬ t.val % 11 = 0) (d) : (dats m 0 c).before 11 t d = (sums m c t.val).2 := by
  obtain ⟨t, ht⟩ := t
  obtain ⟨n, rfl⟩ : ∃ n, t = n + 1 := ⟨t - 1, by dsimp only at h; omega⟩
  have hn : n < cfg0.N := by omega
  refine ((dats m 0 c).before_out_kept 11 rfl ⟨n + 1, ht⟩ (Nat.succ_ne_zero n) ?_ (fun _ => rfl) (fun _ _ => rfl) d).trans ?_
  · refine Bool.eq_false_iff.mpr fun hf => h ?_
    have := (flush0_11 _).mp hf
    dsimp only at this ⊢; omega
  · exact (after_11 m c _).trans (congrArg Prod.snd (sums_succ m c ⟨n, hn⟩)).symm

/-- So the point at what it finds is the point at the running sums. -/
theorem pointAt_before (c : Dev nD) (t : Fin cfg0.N) (d7 d11) :
    pointAt m c t ((dats m 0 c).before 7 t d7, (dats m 0 c).before 11 t d11) = left m c t := by
  by_cases h : t.val % 11 = 0
  · exact pointAt_first m c t h _ _
  · rw [before_7 m c t h, before_11 m c t h]; rfl

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [← pointAt_before m c t d7 d11]
  unfold pointAt
  iapply (run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7) ((dats m 0 c).before 11 t d11) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array the windows name ends at what the points left, and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.Hand
-- ==== Proof.Twin.lean ====
module

public import proofs.«01_k».proof.Proof.Gen.Kernel
public import proofs.«01_k».proof.Proof.Gen.KernelIdeal
public import Idealize.ShloMosaic.Lib.Claim

@[expose] public section

set_option maxRecDepth 16384

noncomputable section

namespace Cert.Twin

open Idealize.ShloMosaic Idealize.SL.Sem

variable {F : FTy → Type} [FloatOps F]

/-! # The kernel and its idealization have one text

The two programs are equal, each under its own name, so what is proved of the one over any floats is the other's too. -/

set_option maxHeartbeats 2000000 in
theorem bodies : Cert.Kernel.defs₀ (F := F) = Cert.KernelIdeal.defs₀ := by
  unfold Cert.Kernel.defs₀ Cert.KernelIdeal.defs₀
  refine congrArg Defs.onTc ?_
  funext l x
  match l, x with
  | 0, (t, s) => rfl

set_option maxHeartbeats 2000000 in
theorem mains : Cert.Kernel.main (F := F) = Cert.KernelIdeal.main := rfl

set_option maxHeartbeats 2000000 in
theorem tables : Cert.Kernel.defs (F := F) = Cert.KernelIdeal.defs :=
  congrArg (Pipeline.defs Cert.Kernel.pcfgs) bodies

/-- A run of equal programs. -/
theorem run_of_eq {nD : Nat} {τ : Topo} {sig : RefSig} {Val : EltTy → Type} {Λ : Labels} {d d' : Defs nD τ sig Val Λ}
    {p p' : Dev nD → Prog (TpuEff nD τ sig Val Λ .tc) PUnit} {s Q} (hd : d = d') (hp : p = p')
    (h : θ_run d' (onTc (τ := τ) p') s Q) : θ_run d (onTc (τ := τ) p) s Q := by
  subst hd hp
  exact h

end Cert.Twin
-- ==== Proof.Tile.lean ====
module

public import proofs.«01_k».proof.Proof.Body
public import Idealize.ShloMosaic.Lib.Pipeline.ValueKit
public import Idealize.ShloMosaic.Lib.Pointwise

@[expose] public section

set_option maxRecDepth 16384

noncomputable section

namespace Cert.KernelIdeal.Hand

open Idealize Idealize.ShloMosaic
open Cert.KernelIdeal Cert.KernelIdeal.Gen

/-! # What one tile computes, entry by entry, over the extended reals -/

/-- The scale of the scores, 1/√128 as the float word it is written with. -/
abbrev scale : EReal := Scalar.ofBits (F := Ideal) .f32 0x3DB504F3#32

section
variable (v3 v4 : Vec Ideal S384x128 .bf16) (v6 : FVec Ideal S1x384 .f32) (v93 : Vec Ideal S384x128 .bf16)
  (v95 : Vec Ideal S384x128 .f32) (v103 v110 : Vec Ideal S1x384x1 .f32)

/-- The weight of key `b` for query `a`. -/
theorem pay13_apply (a b : Fin 384) : k0_pay13 v3 v6 v93 v103 (ix2 a b) =
    Ideal.exp ((∑ d : Fin 128, v93 (ix2 a d) * v3 (ix2 b d)) * scale - v6 (ix2 0 b) - v103 (ix3 0 a 0)) := by
  pointwise [k0_pay13]

theorem pay14_apply (a b : Fin 384) : k0_pay14 v3 v4 v6 v93 v95 v103 v110 (ix2 a b) =
    k0_pay13 v3 v6 v93 v103 (ix2 a b) * ((∑ d : Fin 128, v95 (ix2 a d) * v4 (ix2 b d)) - v110 (ix3 0 a 0)) := by
  pointwise [k0_pay14, k0_pay12]

theorem pay2_apply (x : FVec Ideal S384x128 .f32) (w : FVec Ideal S384x384 .bf16) (b : Fin 384) (d : Fin 128) :
    k0_pay2 x v93 w (ix2 b d) = x (ix2 b d) + ∑ a : Fin 384, w (ix2 a b) * v93 (ix2 a d) := by
  pointwise [k0_pay2]

theorem pay4_apply (x : FVec Ideal S1x384 .f32) (w : FVec Ideal S384x384 .f32) (b : Fin 384) :
    k0_pay4 x w (ix2 0 b) = x (ix2 0 b) + ∑ a : Fin 384, w (ix2 a b) := by
  pointwise [k0_pay4]

theorem pay17_apply (x : Vec Ideal S1x384x1 .f32) (a : Fin 384) :
    k0_pay1 (k0_pay17 v3 v4 v6 v93 v95 v103 v110 x) (ix3 0 a 0)
      = x (ix3 0 a 0) + ∑ b : Fin 384, k0_pay14 v3 v4 v6 v93 v95 v103 v110 (ix2 a b) := by
  pointwise [k0_pay1, k0_pay17]

theorem pay16_apply (x : Vec Ideal S384x128 .f32) (a : Fin 384) (d : Fin 128) :
    k0_pay16 v3 v4 v6 v93 v95 v103 v110 x (ix2 a d)
      = x (ix2 a d) + (∑ b : Fin 384, k0_pay14 v3 v4 v6 v93 v95 v103 v110 (ix2 a b) * v3 (ix2 b d)) * scale := by
  pointwise [k0_pay16, k0_pay15]

theorem pay32_apply (a b : Fin 384) : k0_pay32 (ix2 a b) = if b.val ≤ a.val then 1#1 else 0#1 := by
  pointwise [k0_pay32]
  rw [show ∀ n : ℕ, IntOp.addi 0#32 (BitVec.ofNat 32 n) = BitVec.ofNat 32 n from fun n => BitVec.zero_add _,
    show ∀ n : ℕ, IntOp.addi 0#32 (BitVec.ofNat 32 n) = BitVec.ofNat 32 n from fun n => BitVec.zero_add _]
  by_cases h : b.val ≤ a.val
  · rw [if_pos h, WordCmp.cmpi_sle_ofNat_eq_one_iff (by omega) (by omega)]; exact h
  · rw [if_neg h, WordCmp.cmpi_sle_ofNat_eq_zero_iff (by omega) (by omega)]; omega

end

/-! ## Where the tiles lie -/

theorem off1 (i : grid0.Coords) : k0_off1 i = ![(i 1).val * 384, 0] := by
  unfold k0_off1; dsimp only; generalize i 1 = j; revert j; decide

theorem off2 (i : grid0.Coords) : k0_off2 i = ![0, (i 1).val * 384, 0] := by
  unfold k0_off2; dsimp only; generalize i 1 = j; revert j; decide

theorem trips_eq (i : grid0.Coords) : (k0_t1_loop i).trips = 10 - (i 1).val := by
  unfold k0_t1_loop; dsimp only; generalize i 1 = j; revert j; decide

theorem off3 (i : grid0.Coords) (k : Fin (k0_t1_loop i).trips) : k0_off3 i k = ![((i 1).val + 1 + k.val) * 384, 0] := by
  have hk := lt_of_lt_of_eq k.isLt (trips_eq i)
  unfold k0_off3; dsimp only; generalize k.val = n at *; generalize i 1 = j at *
  exact (by decide : ∀ j n : Fin 11, n.val < 10 - j.val →
    ![(Scalar.indexCast (Scalar.muli (Scf.iv (Scalar.addi (BitVec.ofNat 32 j.val) 1#32) 1#32 n.val) 384#32)).toNat, 0]
      = ![(j.val + 1 + n.val) * 384, 0]) j ⟨n, by omega⟩ hk

theorem off4 (i : grid0.Coords) (k : Fin (k0_t1_loop i).trips) : k0_off4 i k = ![0, ((i 1).val + 1 + k.val) * 384, 0] := by
  unfold k0_off4
  exact congrArg (fun x => ![0, x, 0]) (congrFun (off3 i k) 0)

theorem ld_rows {e : EltTy} {n : ℕ} {off : Fin 2 → ℕ} (h : off = ![n, 0]) (inb) (hn : n + 384 ≤ 4224) (X : S4224x128.Idx → Elt Ideal e)
    (a : Fin 384) (d : Fin 128) : View.ld X (Rect.unit (s := S4224x128) off S384x128.size inb) (ix2 a d) = X (ix2 ⟨n + a.val, by omega⟩ d) := by
  subst h
  pointwise

theorem ld_cols {n : ℕ} {off : Fin 3 → ℕ} (h : off = ![0, n, 0]) (inb) (hn : n + 384 ≤ 4224) (X : Vec Ideal S1x4224x1 .f32)
    (a : Fin 384) : View.ld X (Rect.unit (s := S1x4224x1) off S1x384x1.size inb) (ix3 0 a 0) = X (ix3 0 ⟨n + a.val, by omega⟩ 0) := by
  subst h
  pointwise

theorem over_rows {n : ℕ} {off : Fin 2 → ℕ} (h : off = ![n, 0]) (inb) (X : FVec Ideal S4224x128 .f32) (w : FVec Ideal S384x128 .f32)
    (r : Fin 4224) (d : Fin 128) : (Rect.unit (s := S4224x128) off S384x128.size inb).overlay X w (ix2 r d) =
      if hr : n ≤ r.val ∧ r.val < n + 384 then w (ix2 ⟨r.val - n, by omega⟩ d) else X (ix2 r d) := by
  subst h
  split
  next hr =>
    refine Eq.trans ?_ (Rect.overlay_emb (Rect.unit (s := S4224x128) ![n, 0] S384x128.size inb) X w (ix2 ⟨r.val - n, by omega⟩ d))
    congr 1
    refine (Rect.emb_eq_of_coords _ _ _ fun a => ?_).symm
    fin_cases a
    · show r.val = n + 1 * (r.val - n)
      omega
    · show d.val = 0 + 1 * d.val
      omega
  next hr =>
    refine Rect.overlay_of_not_mem _ _ _ (Rect.not_mem_set_of_axis _ _ 0 n 384 rfl rfl rfl ?_)
    show r.val < n ∨ n + 384 ≤ r.val
    omega

theorem over_cols {n : ℕ} {off : Fin 3 → ℕ} (h : off = ![0, n, 0]) (inb) (X : FVec Ideal S1x4224x1 .f32) (w : FVec Ideal S1x384x1 .f32)
    (r : Fin 4224) : (Rect.unit (s := S1x4224x1) off S1x384x1.size inb).overlay X w (ix3 0 r 0) =
      if hr : n ≤ r.val ∧ r.val < n + 384 then w (ix3 0 ⟨r.val - n, by omega⟩ 0) else X (ix3 0 r 0) := by
  subst h
  split
  next hr =>
    refine Eq.trans ?_ (Rect.overlay_emb (Rect.unit (s := S1x4224x1) ![0, n, 0] S1x384x1.size inb) X w (ix3 0 ⟨r.val - n, by omega⟩ 0))
    congr 1
    refine (Rect.emb_eq_of_coords _ _ _ fun a => ?_).symm
    fin_cases a
    · rfl
    · show r.val = n + 1 * (r.val - n)
      omega
    · rfl
  next hr =>
    refine Rect.overlay_of_not_mem _ _ _ (Rect.not_mem_set_of_axis _ _ 1 n 384 rfl rfl rfl ?_)
    show r.val < n ∨ n + 384 ≤ r.val
    omega

end Cert.KernelIdeal.Hand
-- ==== Proof.Point.lean ====
module

public import proofs.«01_k».proof.Proof.Tile

@[expose] public section

set_option maxRecDepth 16384

noncomputable section

namespace Cert.KernelIdeal.Hand

open Idealize Idealize.ShloMosaic
open Cert.KernelIdeal Cert.KernelIdeal.Gen

/-! # What a whole grid point computes

The point of key tile `kj` weighs every query row `r` against its 384 keys: `wgt`, zero where the key comes after the
query. The four query-tile products then add up to sums over all 4224 rows. -/

/-- The seven blocks a point reads: queries, its keys and values, the incoming gradient, each row's log-sum and
    its gradient's row sum, the keys' forget sums. -/
structure Blocks where
  q : Vec Ideal S4224x128 .bf16
  k : Vec Ideal S384x128 .bf16
  v : Vec Ideal S384x128 .bf16
  g : Vec Ideal S4224x128 .f32
  lse : Vec Ideal S1x4224x1 .f32
  delta : Vec Ideal S1x4224x1 .f32
  ck : Vec Ideal S1x1x384 .f32

variable (B : Blocks) (j : ℕ)

namespace Blocks

/-- The unmasked weight of key `b` for row `r`. -/
def raw (r : Fin 4224) (b : Fin 384) : EReal :=
  Ideal.exp ((∑ d : Fin 128, B.q (ix2 r d) * B.k (ix2 b d)) * scale - B.ck (ix3 0 0 b) - B.lse (ix3 0 r 0))

/-- The weight under the causal mask. -/
def wgt (r : Fin 4224) (b : Fin 384) : EReal := if j * 384 + b.val ≤ r.val then B.raw r b else 0

/-- The gradient of the score. -/
def grad (r : Fin 4224) (b : Fin 384) : EReal :=
  B.wgt j r b * ((∑ d : Fin 128, B.g (ix2 r d) * B.v (ix2 b d)) - B.delta (ix3 0 r 0))

theorem wgt_early (r : Fin 4224) (b : Fin 384) (h : r.val < j * 384) : B.wgt j r b = 0 := if_neg (by omega)
theorem grad_early (r : Fin 4224) (b : Fin 384) (h : r.val < j * 384) : B.grad j r b = 0 := by
  rw [grad, wgt_early B j r b h, zero_mul]

/-- What the keys give back to row `r`: to its query's gradient, and to its row sum. -/
def toQ (r : Fin 4224) (d : Fin 128) : EReal := (∑ b : Fin 384, B.grad j r b * B.k (ix2 b d)) * scale
def toRow (r : Fin 4224) : EReal := ∑ b : Fin 384, B.grad j r b

theorem toQ_early (r : Fin 4224) (d : Fin 128) (h : r.val < j * 384) : B.toQ j r d = 0 := by
  rw [toQ, Finset.sum_eq_zero fun b _ => by rw [grad_early B j r b h, zero_mul], zero_mul]
theorem toRow_early (r : Fin 4224) (h : r.val < j * 384) : B.toRow j r = 0 :=
  Finset.sum_eq_zero fun b _ => grad_early B j r b h

/-- One query tile, the rows from `n`: what it does to the state. -/
structure Step (n : ℕ) (hn : n + 384 ≤ 4224) (s s' : State Ideal) : Prop where
  dk (b d) : s'.1.1 (ix2 b d) = s.1.1 (ix2 b d) + ∑ a : Fin 384, B.grad j ⟨n + a.val, by omega⟩ b * B.q (ix2 ⟨n + a.val, by omega⟩ d)
  dv (b d) : s'.1.2.1 (ix2 b d) = s.1.2.1 (ix2 b d) + ∑ a : Fin 384, B.wgt j ⟨n + a.val, by omega⟩ b * B.g (ix2 ⟨n + a.val, by omega⟩ d)
  dck (b) : s'.1.2.2 (ix2 0 b) = s.1.2.2 (ix2 0 b) + ∑ a : Fin 384, B.grad j ⟨n + a.val, by omega⟩ b
  dq (r d) : s'.2.1 (ix2 r d) = if n ≤ r.val ∧ r.val < n + 384 then s.2.1 (ix2 r d) + B.toQ j r d else s.2.1 (ix2 r d)
  row (r) : s'.2.2 (ix3 0 r 0) = if n ≤ r.val ∧ r.val < n + 384 then s.2.2 (ix3 0 r 0) + B.toRow j r else s.2.2 (ix3 0 r 0)

end Blocks

/-! ## Sums over the rows seen so far -/

/-- The sum over the rows before `n`. -/
def upto (f : Fin 4224 → EReal) (n : ℕ) : EReal := ∑ i ∈ Finset.range n, if h : i < 4224 then f ⟨i, h⟩ else 0

theorem upto_tile (f : Fin 4224 → EReal) (n : ℕ) (hn : n + 384 ≤ 4224) :
    upto f (n + 384) = upto f n + ∑ a : Fin 384, f ⟨n + a.val, by omega⟩ := by
  rw [upto, Finset.sum_range_add, upto, Finset.sum_range (n := 384)]
  refine congrArg (_ + ·) (Finset.sum_congr rfl fun a _ => ?_)
  rw [dif_pos (show n + a.val < 4224 by omega)]

theorem upto_all (f : Fin 4224 → EReal) : upto f 4224 = ∑ r, f r := by
  rw [upto, Finset.sum_range]
  exact Finset.sum_congr rfl fun a _ => dif_pos a.isLt

theorem upto_zero (f : Fin 4224 → EReal) (n : ℕ) (h : ∀ r : Fin 4224, r.val < n → f r = 0) : upto f n = 0 := by
  refine Finset.sum_eq_zero fun i hi => ?_
  split
  · exact h _ (Finset.mem_range.mp hi)
  · rfl

namespace Blocks

/-- The state when the rows before `n` have been handled, from running sums `x7` and `x11`. -/
structure Seen (x7 : FVec Ideal S4224x128 .f32) (x11 : FVec Ideal S1x4224x1 .f32) (n : ℕ) (s : State Ideal) : Prop where
  dk (b d) : s.1.1 (ix2 b d) = upto (fun r => B.grad j r b * B.q (ix2 r d)) n
  dv (b d) : s.1.2.1 (ix2 b d) = upto (fun r => B.wgt j r b * B.g (ix2 r d)) n
  dck (b) : s.1.2.2 (ix2 0 b) = upto (fun r => B.grad j r b) n
  dq (r d) : s.2.1 (ix2 r d) = if r.val < n then x7 (ix2 r d) + B.toQ j r d else x7 (ix2 r d)
  row (r) : s.2.2 (ix3 0 r 0) = if r.val < n then x11 (ix3 0 r 0) + B.toRow j r else x11 (ix3 0 r 0)

variable {B j} {x7 : FVec Ideal S4224x128 .f32} {x11 : FVec Ideal S1x4224x1 .f32} {s s' : State Ideal} {n : ℕ}

theorem Seen.step {hn : n + 384 ≤ 4224} (h : B.Seen j x7 x11 n s) (hs : B.Step j n hn s s') : B.Seen j x7 x11 (n + 384) s' where
  dk b d := by rw [hs.dk, h.dk, upto_tile _ _ hn]
  dv b d := by rw [hs.dv, h.dv, upto_tile _ _ hn]
  dck b := by rw [hs.dck, h.dck, upto_tile _ _ hn]
  dq r d := by
    rw [hs.dq, h.dq]
    split_ifs <;> first | rfl | omega
  row r := by
    rw [hs.row, h.row]
    split_ifs <;> first | rfl | omega

/-- Before the diagonal tile nothing counts: every earlier row comes before every key of the tile. -/
theorem seen_start (x7 : FVec Ideal S4224x128 .f32) (x11 : FVec Ideal S1x4224x1 .f32) :
    B.Seen j x7 x11 (j * 384) ((k0_pay27, k0_pay28, k0_pay29), x7, x11) where
  dk b d := by
    rw [upto_zero _ _ fun r hr => by rw [grad_early B j r b hr, zero_mul]]
    pointwise [k0_pay27]
  dv b d := by
    rw [upto_zero _ _ fun r hr => by rw [wgt_early B j r b hr, zero_mul]]
    pointwise [k0_pay28]
  dck b := by
    rw [upto_zero _ _ fun r hr => grad_early B j r b hr]
    pointwise [k0_pay29]
  dq r d := by
    show x7 _ = _
    split
    next h => rw [toQ_early B j r d h, add_zero]
    next => rfl
  row r := by
    show x11 _ = _
    split
    next h => rw [toRow_early B j r h, add_zero]
    next => rfl

end Blocks

/-! ## The diagonal tile and the tiles below it are such steps -/

section Diagonal
variable (v3 v4 : Vec Ideal S384x128 .bf16) (x6 : Vec Ideal S1x1x384 .f32) (v13 : Vec Ideal S384x128 .bf16)
  (v15 : Vec Ideal S384x128 .f32) (v23 v39 : Vec Ideal S1x384x1 .f32)

theorem pay33_apply (a b : Fin 384) : k0_pay33 (k0_pay31 v3 x6 v13 v23) k0_pay32 (Scalar.ofBits .f32 0x00000000#32) (ix2 a b) =
    if b.val ≤ a.val then
      Ideal.exp ((∑ d : Fin 128, v13 (ix2 a d) * v3 (ix2 b d)) * scale - x6 (ix3 0 0 b) - v23 (ix3 0 a 0))
    else 0 := by
  pointwise [k0_pay33, k0_pay31, k0_pay26]
  rw [pay32_apply]
  split
  next => exact if_pos rfl
  next => exact if_neg (by decide)

variable (w : FVec Ideal S384x384 .f32) (mask : IVec S384x384 1) (z : Ideal .f32)

theorem pay34_apply (a b : Fin 384) : k0_pay34 v4 (k0_pay30 v15) w mask z v39 (ix2 a b) =
    k0_pay33 w mask z (ix2 a b) * ((∑ d : Fin 128, v15 (ix2 a d) * v4 (ix2 b d)) - v39 (ix3 0 a 0)) := by
  pointwise [k0_pay34, k0_pay30]

theorem pay36_apply (x : Vec Ideal S384x128 .f32) (v16 : FVec Ideal S384x128 .bf16) (a : Fin 384) (d : Fin 128) :
    k0_pay36 v3 v4 v16 w mask z v39 x (ix2 a d)
      = x (ix2 a d) + (∑ b : Fin 384, k0_pay34 v4 v16 w mask z v39 (ix2 a b) * v3 (ix2 b d)) * scale := by
  pointwise [k0_pay36, k0_pay35]

theorem pay37_apply (x : Vec Ideal S1x384x1 .f32) (v16 : FVec Ideal S384x128 .bf16) (a : Fin 384) :
    k0_pay37 v4 v16 w mask z v39 x (ix3 0 a 0) = x (ix3 0 a 0) + ∑ b : Fin 384, k0_pay34 v4 v16 w mask z v39 (ix2 a b) := by
  pointwise [k0_pay37]

theorem pay38_apply (x : FVec Ideal S384x128 .f32) (v16 : FVec Ideal S384x128 .bf16) (b : Fin 384) (d : Fin 128) :
    k0_pay38 v4 x v13 v16 w mask z v39 (ix2 b d) = x (ix2 b d) + ∑ a : Fin 384, k0_pay34 v4 v16 w mask z v39 (ix2 a b) * v13 (ix2 a d) := by
  pointwise [k0_pay38, k0_pay35]

theorem pay39_apply (x : FVec Ideal S384x128 .f32) (b : Fin 384) (d : Fin 128) :
    k0_pay39 x (k0_pay30 v15) w mask z (ix2 b d) = x (ix2 b d) + ∑ a : Fin 384, k0_pay33 w mask z (ix2 a b) * v15 (ix2 a d) := by
  pointwise [k0_pay39, k0_pay30]

theorem pay40_apply (x : FVec Ideal S1x384 .f32) (v16 : FVec Ideal S384x128 .bf16) (b : Fin 384) :
    k0_pay40 v4 x v16 w mask z v39 (ix2 0 b) = x (ix2 0 b) + ∑ a : Fin 384, k0_pay34 v4 v16 w mask z v39 (ix2 a b) := by
  pointwise [k0_pay40]

end Diagonal

theorem pay3_apply (x : FVec Ideal S384x128 .f32) (v95 : Vec Ideal S384x128 .f32) (w : FVec Ideal S384x384 .f32) (b : Fin 384) (d : Fin 128) :
    k0_pay3 x (k0_pay12 v95) w (ix2 b d) = x (ix2 b d) + ∑ a : Fin 384, w (ix2 a b) * v95 (ix2 a d) := by
  pointwise [k0_pay3, k0_pay12]

section Steps
variable (i : grid0.Coords)

theorem diag_step (x7 : FVec Ideal S4224x128 .f32) (x11 : FVec Ideal S1x4224x1 .f32) :
    B.Step (i 1).val ((i 1).val * 384) (by have := (i 1).isLt; have : (i 1).val < 11 := this; omega)
      ((k0_pay27, k0_pay28, k0_pay29), x7, x11) (diag i B.q B.k B.v B.g B.lse B.delta B.ck x7 x11) := by
  have hj : (i 1).val < 11 := (i 1).isLt
  have hn : (i 1).val * 384 + 384 ≤ 4224 := by omega
  have eq : ∀ a d, View.ld B.q (rowsD i) (ix2 a d) = _ := ld_rows (off1 i) (k0_off1_inb i) hn B.q
  have eg : ∀ a d, View.ld B.g (rowsD i) (ix2 a d) = _ := ld_rows (off1 i) (k0_off1_inb i) hn B.g
  have el : ∀ a, View.ld B.lse (colD i) (ix3 0 a 0) = _ := ld_cols (off2 i) (k0_off2_inb i) hn B.lse
  have ed : ∀ a, View.ld B.delta (colD i) (ix3 0 a 0) = _ := ld_cols (off2 i) (k0_off2_inb i) hn B.delta
  have hw : ∀ a b, k0_pay33 (k0_pay31 B.k B.ck (View.ld B.q (rowsD i)) (View.ld B.lse (colD i))) k0_pay32
      (Scalar.ofBits .f32 0x00000000#32) (ix2 a b) = B.wgt (i 1).val ⟨(i 1).val * 384 + a.val, by omega⟩ b := fun a b => by
    rw [pay33_apply, Blocks.wgt, Blocks.raw, el]
    simp only [eq, Nat.add_le_add_iff_left]
  have hg : ∀ a b, k0_pay34 B.v (k0_pay30 (View.ld B.g (rowsD i)))
      (k0_pay31 B.k B.ck (View.ld B.q (rowsD i)) (View.ld B.lse (colD i))) k0_pay32
      (Scalar.ofBits .f32 0x00000000#32) (View.ld B.delta (colD i)) (ix2 a b)
        = B.grad (i 1).val ⟨(i 1).val * 384 + a.val, by omega⟩ b := fun a b => by
    rw [pay34_apply, hw, Blocks.grad, ed]
    simp only [eg]
  have o11 : ∀ w r, (colD i).overlay x11 w (ix3 0 r 0) = _ := over_cols (off2 i) (k0_off2_inb i) x11
  refine ⟨fun b d => ?_, fun b d => ?_, fun b => ?_, fun r d => ?_, fun r => ?_⟩
  · refine (pay38_apply _ _ _ _ _ _ _ _ b d).trans ?_
    simp only [hg, eq]
  · refine (pay39_apply _ _ _ _ _ b d).trans ?_
    simp only [hw, eg]
  · refine (pay40_apply _ _ _ _ _ _ _ b).trans ?_
    simp only [hg]
  · refine (over_rows (off1 i) (k0_off1_inb i) x7 _ r d).trans ?_
    split
    next h =>
      rw [pay36_apply]
      simp only [hg, Nat.add_sub_cancel' h.1]
      refine congrArg (· + _) ((ld_rows (e := .f32) (off1 i) (k0_off1_inb i) hn x7 _ d).trans ?_)
      simp only [Nat.add_sub_cancel' h.1]
    next => rfl
  · rw [diag]; dsimp only
    rw [o11]
    split
    next h =>
      rw [pay37_apply]
      simp only [hg, Nat.add_sub_cancel' h.1]
      refine congrArg (· + _) ((ld_cols (off2 i) (k0_off2_inb i) hn x11 _).trans ?_)
      simp only [Nat.add_sub_cancel' h.1]
    next => rfl

theorem trip_step (k : Fin (k0_t1_loop i).trips) (s : State Ideal) :
    B.Step (i 1).val (((i 1).val + 1 + k.val) * 384) (by have := lt_of_lt_of_eq k.isLt (trips_eq i); omega)
      s (trip i B.k B.v (k0_pay26 B.ck) B.q B.g B.lse B.delta k s) := by
  have hk := lt_of_lt_of_eq k.isLt (trips_eq i)
  have hn : ((i 1).val + 1 + k.val) * 384 + 384 ≤ 4224 := by omega
  have eq : ∀ a d, View.ld B.q (rowsK i k) (ix2 a d) = _ := ld_rows (off3 i k) (k0_off3_inb i k) hn B.q
  have eg : ∀ a d, View.ld B.g (rowsK i k) (ix2 a d) = _ := ld_rows (off3 i k) (k0_off3_inb i k) hn B.g
  have el : ∀ a, View.ld B.lse (colK i k) (ix3 0 a 0) = _ := ld_cols (off4 i k) (k0_off4_inb i k) hn B.lse
  have ed : ∀ a, View.ld B.delta (colK i k) (ix3 0 a 0) = _ := ld_cols (off4 i k) (k0_off4_inb i k) hn B.delta
  have hw : ∀ a b, k0_pay13 B.k (k0_pay26 B.ck) (View.ld B.q (rowsK i k)) (View.ld B.lse (colK i k)) (ix2 a b)
      = B.wgt (i 1).val ⟨((i 1).val + 1 + k.val) * 384 + a.val, by omega⟩ b := fun a b => by
    rw [pay13_apply, Blocks.wgt, if_pos (by dsimp only; omega), Blocks.raw, el]
    simp only [eq]
    have : k0_pay26 B.ck (ix2 0 b) = B.ck (ix3 0 0 b) := by pointwise [k0_pay26]
    rw [this]
  have hg : ∀ a b, k0_pay14 B.k B.v (k0_pay26 B.ck) (View.ld B.q (rowsK i k)) (View.ld B.g (rowsK i k)) (View.ld B.lse (colK i k))
      (View.ld B.delta (colK i k)) (ix2 a b)
        = B.grad (i 1).val ⟨((i 1).val + 1 + k.val) * 384 + a.val, by omega⟩ b := fun a b => by
    rw [pay14_apply, hw, Blocks.grad, ed]
    simp only [eg]
  have hb : ∀ a b, k0_pay15 B.k B.v (k0_pay26 B.ck) (View.ld B.q (rowsK i k)) (View.ld B.g (rowsK i k)) (View.ld B.lse (colK i k))
      (View.ld B.delta (colK i k)) (ix2 a b)
        = B.grad (i 1).val ⟨((i 1).val + 1 + k.val) * 384 + a.val, by omega⟩ b := fun a b => hg a b
  have o11 : ∀ w r, (colK i k).overlay s.2.2 w (ix3 0 r 0) = _ := over_cols (off4 i k) (k0_off4_inb i k) s.2.2
  refine ⟨fun b d => ?_, fun b d => ?_, fun b => ?_, fun r d => ?_, fun r => ?_⟩
  · refine (pay2_apply _ _ _ b d).trans ?_
    simp only [hb, eq]
  · refine (pay3_apply _ _ _ b d).trans ?_
    simp only [hw, eg]
  · refine (pay4_apply _ _ b).trans ?_
    simp only [hg]
  · refine (over_rows (off3 i k) (k0_off3_inb i k) s.2.1 _ r d).trans ?_
    split
    next h =>
      rw [pay16_apply]
      simp only [hg, Nat.add_sub_cancel' h.1]
      refine congrArg (· + _) ((ld_rows (e := .f32) (off3 i k) (k0_off3_inb i k) hn s.2.1 _ d).trans ?_)
      simp only [Nat.add_sub_cancel' h.1]
    next => rfl
  · rw [trip]; dsimp only
    rw [o11]
    split
    next h =>
      rw [pay17_apply]
      simp only [hg, Nat.add_sub_cancel' h.1]
      refine congrArg (· + _) ((ld_cols (off4 i k) (k0_off4_inb i k) hn s.2.2 _).trans ?_)
      simp only [Nat.add_sub_cancel' h.1]
    next => rfl

/-- After `n` trips the rows up to the end of their last tile have been handled. -/
theorem trips_seen (x7 : FVec Ideal S4224x128 .f32) (x11 : FVec Ideal S1x4224x1 .f32) (n : ℕ) (hn : n ≤ (k0_t1_loop i).trips) :
    B.Seen (i 1).val x7 x11 (((i 1).val + 1 + n) * 384)
      (trips i B.k B.v (k0_pay26 B.ck) B.q B.g B.lse B.delta (diag i B.q B.k B.v B.g B.lse B.delta B.ck x7 x11) n) := by
  induction n with
  | zero =>
    have := (Blocks.seen_start x7 x11).step (diag_step B i x7 x11)
    rwa [show (i 1).val * 384 + 384 = ((i 1).val + 1 + 0) * 384 by omega] at this
  | succ n ih =>
    have := (ih (by omega)).step (trip_step B i ⟨n, by omega⟩ _)
    rw [trips, dif_pos (by omega : n < (k0_t1_loop i).trips)]
    rwa [show ((i 1).val + 1 + n) * 384 + 384 = ((i 1).val + 1 + (n + 1)) * 384 by omega] at this

/-- The whole point: all 4224 rows. -/
theorem point_seen (x7 : FVec Ideal S4224x128 .f32) (x11 : FVec Ideal S1x4224x1 .f32) :
    B.Seen (i 1).val (if first i then k0_pay24 else x7) (if first i then k0_pay25 else x11) 4224
      (point i B.q B.k B.v B.g B.lse B.delta B.ck x7 x11) := by
  have hj : (i 1).val < 11 := (i 1).isLt
  have := trips_seen B i (if first i then k0_pay24 else x7) (if first i then k0_pay25 else x11) (k0_t1_loop i).trips le_rfl
  rwa [show ((i 1).val + 1 + (k0_t1_loop i).trips) * 384 = 4224 by rw [trips_eq]; omega] at this

end Steps

end Cert.KernelIdeal.Hand
-- ==== Proof.Windows.lean ====
module

public import proofs.«01_k».proof.Proof.Launch
public import proofs.«01_k».proof.Proof.Point

@[expose] public section

set_option maxRecDepth 16384

noncomputable section

namespace Cert.KernelIdeal.Hand

open Idealize Idealize.ShloMosaic
open Cert.KernelIdeal Cert.KernelIdeal.Gen

/-! # The blocks of a point, read off the arrays -/

theorem idx_0 : ∀ t : Fin cfg0.N, win0_0.index t = ![0, t.val / 11] := (by decide +kernel : ∀ t : Fin grid0.N, _)
theorem idx_1 : ∀ t : Fin cfg0.N, win0_1.index t = ![t.val % 11, t.val / 11] := (by decide +kernel : ∀ t : Fin grid0.N, _)
theorem idx_2 : ∀ t : Fin cfg0.N, win0_2.index t = ![t.val % 11, t.val / 11] := (by decide +kernel : ∀ t : Fin grid0.N, _)
theorem idx_3 : ∀ t : Fin cfg0.N, win0_3.index t = ![0, t.val / 11] := (by decide +kernel : ∀ t : Fin grid0.N, _)
theorem idx_4 : ∀ t : Fin cfg0.N, win0_4.index t = ![t.val / 11, 0, 0] := (by decide +kernel : ∀ t : Fin grid0.N, _)
theorem idx_5 : ∀ t : Fin cfg0.N, win0_5.index t = ![t.val / 11, 0, 0] := (by decide +kernel : ∀ t : Fin grid0.N, _)
theorem idx_6 : ∀ t : Fin cfg0.N, win0_6.index t = ![t.val / 11, 0, t.val % 11] := (by decide +kernel : ∀ t : Fin grid0.N, _)
theorem idx_7 : ∀ t : Fin cfg0.N, win0_7.index t = ![0, t.val / 11] := (by decide +kernel : ∀ t : Fin grid0.N, _)
theorem idx_8 : ∀ t : Fin cfg0.N, win0_8.index t = ![t.val % 11, t.val / 11] := (by decide +kernel : ∀ t : Fin grid0.N, _)
theorem idx_9 : ∀ t : Fin cfg0.N, win0_9.index t = ![t.val % 11, t.val / 11] := (by decide +kernel : ∀ t : Fin grid0.N, _)
theorem idx_10 : ∀ t : Fin cfg0.N, win0_10.index t = ![t.val / 11, 0, t.val % 11] := (by decide +kernel : ∀ t : Fin grid0.N, _)
theorem idx_11 : ∀ t : Fin cfg0.N, win0_11.index t = ![t.val / 11, 0, 0] := (by decide +kernel : ∀ t : Fin grid0.N, _)
theorem tile_of : ∀ t : Fin cfg0.N, ((grid0.coords t) 1).val = t.val % 11 := (by decide +kernel : ∀ t : Fin grid0.N, _)

variable (m : (ℓ : Loc nD τ sig) → Buf (Elt Ideal) ℓ) (c : Dev nD)

theorem lt88 (t : Fin cfg0.N) : t.val < 88 := lt_of_lt_of_eq t.isLt N_0

/-- Column `d` of head `h`, and key `b` of tile `j`. -/
abbrev col (h : Fin 8) (d : Fin 128) : Fin 1024 := ⟨h.val * 128 + d.val, by omega⟩
abbrev key (j : Fin 11) (b : Fin 384) : Fin 4224 := ⟨j.val * 384 + b.val, by omega⟩
abbrev headOf (t : Fin cfg0.N) : Fin 8 := ⟨t.val / 11, by have := lt88 t; omega⟩
abbrev tileOf (t : Fin cfg0.N) : Fin 11 := ⟨t.val % 11, by omega⟩

variable (t : Fin cfg0.N)

theorem read_0 (X : S4224x1024.Idx → Elt Ideal .bf16) (r : Fin 4224) (d : Fin 128) :
    ((cfg0.win 0).blk t).view.read (Elt Ideal) X (ix2 r d) = X (ix2 r (col (headOf t) d)) := by
  blk_ext [idx_0 t]
theorem read_1 (X : S4224x1024.Idx → Elt Ideal .bf16) (b : Fin 384) (d : Fin 128) :
    ((cfg0.win 1).blk t).view.read (Elt Ideal) X (ix2 b d) = X (ix2 (key (tileOf t) b) (col (headOf t) d)) := by
  blk_ext [idx_1 t]
theorem read_2 (X : S4224x1024.Idx → Elt Ideal .bf16) (b : Fin 384) (d : Fin 128) :
    ((cfg0.win 2).blk t).view.read (Elt Ideal) X (ix2 b d) = X (ix2 (key (tileOf t) b) (col (headOf t) d)) := by
  blk_ext [idx_2 t]
theorem read_3 (X : S4224x1024.Idx → Elt Ideal .f32) (r : Fin 4224) (d : Fin 128) :
    ((cfg0.win 3).blk t).view.read (Elt Ideal) X (ix2 r d) = X (ix2 r (col (headOf t) d)) := by
  blk_ext [idx_3 t]
theorem read_4 (X : S8x4224x1.Idx → Elt Ideal .f32) (r : Fin 4224) :
    ((cfg0.win 4).blk t).view.read (Elt Ideal) X (ix3 0 r 0) = X (ix3 (headOf t) r 0) := by
  blk_ext [idx_4 t]
theorem read_5 (X : S8x4224x1.Idx → Elt Ideal .f32) (r : Fin 4224) :
    ((cfg0.win 5).blk t).view.read (Elt Ideal) X (ix3 0 r 0) = X (ix3 (headOf t) r 0) := by
  blk_ext [idx_5 t]
theorem read_6 (X : S8x1x4224.Idx → Elt Ideal .f32) (b : Fin 384) :
    ((cfg0.win 6).blk t).view.read (Elt Ideal) X (ix3 0 0 b) = X (ix3 (headOf t) 0 (key (tileOf t) b)) := by
  blk_ext [idx_6 t]

theorem blk_0 (r : Fin 4224) (d : Fin 128) : iblk m c 0 t (ix2 r d) = V m c main_arg0 (ix2 r (col (headOf t) d)) := read_0 t _ r d
theorem blk_1 (b : Fin 384) (d : Fin 128) :
    iblk m c 1 t (ix2 b d) = V m c main_arg1 (ix2 (key (tileOf t) b) (col (headOf t) d)) := read_1 t _ b d
theorem blk_2 (b : Fin 384) (d : Fin 128) :
    iblk m c 2 t (ix2 b d) = V m c main_arg2 (ix2 (key (tileOf t) b) (col (headOf t) d)) := read_2 t _ b d
theorem blk_3 (r : Fin 4224) (d : Fin 128) : iblk m c 3 t (ix2 r d) = V m c main_arg4 (ix2 r (col (headOf t) d)) := read_3 t _ r d
theorem blk_4 (r : Fin 4224) : iblk m c 4 t (ix3 0 r 0) = V m c main_v37 (ix3 (headOf t) r 0) := read_4 t _ r
theorem blk_5 (r : Fin 4224) : iblk m c 5 t (ix3 0 r 0) = V m c main_v35 (ix3 (headOf t) r 0) := read_5 t _ r
theorem blk_6 (b : Fin 384) : iblk m c 6 t (ix3 0 0 b) = V m c main_v39 (ix3 (headOf t) 0 (key (tileOf t) b)) := read_6 t _ b

end Cert.KernelIdeal.Hand
-- ==== Proof.Host.lean ====
module

public import proofs.«01_k».proof.Proof.Windows

@[expose] public section

set_option maxRecDepth 16384

noncomputable section

namespace Cert.KernelIdeal.Hand

open Idealize Idealize.ShloMosaic Idealize.ShloMosaic.TcCoe
open Cert.KernelIdeal Cert.KernelIdeal.Gen

/-! # What the host computes before the launch -/

variable (q k v : FVec Ideal S4224x1024 .bf16) (cum : FVec Ideal S4224x8 .f32) (g : FVec Ideal S4224x1024 .f32)
  (s : FVec Ideal S8x4224x4224 .f32)

def places : IVec S4224 32 := iotaInDim S4224 32 0

def causal : IVec S8x4224x4224 1 :=
  broadcastInDim S8x4224x4224 ![0, 1, 2] bcast_S1x4224x4224_S8x4224x4224_0_1_2
    (broadcastInDim S1x4224x4224 ![1, 2] bcast_S4224x4224_S1x4224x4224_1_2
      (cmpi .sle
        (broadcastInDim S4224x4224 ![0, 1] bcast_S1x4224_S4224x4224_0_1 (broadcastInDim S1x4224 ![1] bcast_S4224_S1x4224_1 places))
        (broadcastInDim S4224x4224 ![0, 1] bcast_S4224x1_S4224x4224_0_1 (broadcastInDim S4224x1 ![0] bcast_S4224_S4224x1_0 places))))

def rawScores : FVec Ideal S8x4224x4224 .f32 :=
  subf
    (mulf
      (Host.dotGeneral dot_S4224x8x128_S4224x8x128_S8x4224x4224_2_2_0_0_1_1 none
        (shapeCast S4224x8x128 (extf .f32 q bitsLt_bf16_f32) shapeCasts_S4224x1024_S4224x8x128)
        (shapeCast S4224x8x128 (extf .f32 k bitsLt_bf16_f32) shapeCasts_S4224x1024_S4224x8x128))
      (broadcastInDim S8x4224x4224 ![] bcast_S_S8x4224x4224 (constant S_ .f32 0x3DB504F3#32)))
    (broadcastInDim S8x4224x4224 ![0, 1, 2] bcast_S8x1x4224_S8x4224x4224_0_1_2
      (broadcastInDim S8x1x4224 ![0, 2] bcast_S8x4224_S8x1x4224_0_2 (transpose S8x4224 [1, 0] cum transposes_S4224x8_S8x4224_1_0)))

def scores : FVec Ideal S8x4224x4224 .f32 :=
  select causal (rawScores q k cum) (broadcastInDim S8x4224x4224 ![] bcast_S_S8x4224x4224 (constant S_ .f32 0xFF800000#32))

/-- The rows' maxima, the exponentials under them, their sums. -/
def tops : FVec Ideal S8x4224 .f32 :=
  Host.reduce FloatOps.maximumf s (constant S_ .f32 0xFF800000#32) reducesTo_S8x4224x4224_S8x4224_d2 h_S_
def exps : FVec Ideal S8x4224x4224 .f32 :=
  Host.exp (subf s (broadcastInDim S8x4224x4224 ![0, 1, 2] bcast_S8x4224x1_S8x4224x4224_0_1_2
    (broadcastInDim S8x4224x1 ![0, 1] bcast_S8x4224_S8x4224x1_0_1 (tops s))))
def mass : FVec Ideal S8x4224x1 .f32 :=
  broadcastInDim S8x4224x1 ![0, 1] bcast_S8x4224_S8x4224x1_0_1
    (Host.reduceAdd (exps s) (constant S_ .f32 0x00000000#32) reducesTo_S8x4224x4224_S8x4224_d2 h_S_)

/-- A row's log-sum. -/
def logMass : FVec Ideal S8x4224x1 .f32 :=
  addf (broadcastInDim S8x4224x1 ![0, 1] bcast_S8x4224_S8x4224x1_0_1 (tops s)) (Host.log (mass s))

/-- The attention's output, and its row sums against `g`. -/
def attended : FVec Ideal S8x4224x128 .f32 :=
  Host.dotGeneral dot_S8x4224x4224_S4224x8x128_S8x4224x128_2_0_1_2_0_1 none
    (Host.divf (exps s) (broadcastInDim S8x4224x4224 ![0, 1, 2] bcast_S8x4224x1_S8x4224x4224_0_1_2 (mass s)))
    (shapeCast S4224x8x128 (extf .f32 v bitsLt_bf16_f32) shapeCasts_S4224x1024_S4224x8x128)
def rowDelta : FVec Ideal S8x4224x1 .f32 :=
  broadcastInDim S8x4224x1 ![0, 1] bcast_S8x4224_S8x4224x1_0_1
    (Host.reduceAdd
      (mulf (attended v s)
        (transpose S8x4224x128 [1, 0, 2] (shapeCast S4224x8x128 g shapeCasts_S4224x1024_S4224x8x128) transposes_S4224x8x128_S8x4224x128_1_0_2))
      (constant S_ .f32 0x00000000#32) reducesTo_S8x4224x128_S8x4224_d2 h_S_)
def rowCum : FVec Ideal S8x1x4224 .f32 :=
  broadcastInDim S8x1x4224 ![0, 2] bcast_S8x4224_S8x1x4224_0_2 (transpose S8x4224 [1, 0] cum transposes_S4224x8_S8x4224_1_0)

section entry
variable (σ : Valuation τ sig (Elt Ideal))

theorem line2_lse : StableHlo.after hostOps0_2 σ main_v37 = logMass (σ main_v18) := by
  unfold logMass mass exps tops
  after_results
theorem line2_delta : StableHlo.after hostOps0_2 σ main_v35 = rowDelta (σ main_arg2) (σ main_arg4) (σ main_v18) := by
  unfold rowDelta attended mass exps tops
  after_results
  rfl
theorem line1 : StableHlo.after hostOps0_1 σ main_v18
    = select (broadcastInDim S8x4224x4224 ![0, 1, 2] bcast_S1x4224x4224_S8x4224x4224_0_1_2 (σ main_v17)) (σ main_v10)
      (broadcastInDim S8x4224x4224 ![] bcast_S_S8x4224x4224 (σ main_cst_0)) := by
  after_results
  rfl
theorem line1_arg2 : StableHlo.after hostOps0_1 σ main_arg2 = σ main_arg2 := by after_results
theorem line1_arg4 : StableHlo.after hostOps0_1 σ main_arg4 = σ main_arg4 := by after_results
theorem line0_causal : broadcastInDim S8x4224x4224 ![0, 1, 2] bcast_S1x4224x4224_S8x4224x4224_0_1_2 (StableHlo.after hostOps0 σ main_v17) = causal := by
  unfold causal places
  after_results
theorem line0_raw : StableHlo.after hostOps0 σ main_v10 = rawScores (σ main_arg0) (σ main_arg1) (σ main_arg3) := by
  unfold rawScores
  after_results
  rfl
theorem line0_cst : StableHlo.after hostOps0 σ main_cst_0 = (constant S_ .f32 0xFF800000#32 : FVec Ideal S_ .f32) := by
  after_results
theorem line0_arg2 : StableHlo.after hostOps0 σ main_arg2 = σ main_arg2 := by after_results
theorem line0_arg4 : StableHlo.after hostOps0 σ main_arg4 = σ main_arg4 := by after_results

theorem lines (b : DevRef τ sig) : StableHlo.after (List.flatten [hostOps0, hostOps0_1, hostOps0_2]) σ b
    = StableHlo.after hostOps0_2 (StableHlo.after hostOps0_1 (StableHlo.after hostOps0 σ)) b := by
  rw [List.flatten_cons, List.flatten_cons, List.flatten_cons, List.flatten_nil, List.append_nil, StableHlo.after_append, StableHlo.after_append]

theorem lines_scores : StableHlo.after hostOps0_1 (StableHlo.after hostOps0 σ) main_v18
    = scores (σ main_arg0) (σ main_arg1) (σ main_arg3) := by
  rw [line1, line0_causal, line0_raw, line0_cst, scores]

variable (m : (ℓ : Loc nD τ sig) → Buf (Elt Ideal) ℓ) (c : Dev nD)

theorem V_ck : V m c main_v39 = rowCum (m ((c.tc : Thread nD τ).loc main_arg3)) := by
  entry_read; rfl
theorem V_lse : V m c main_v37
    = logMass (scores (m ((c.tc : Thread nD τ).loc main_arg0)) (m ((c.tc : Thread nD τ).loc main_arg1)) (m ((c.tc : Thread nD τ).loc main_arg3))) := by
  rw [V, lines, line2_lse, lines_scores]
theorem V_delta : V m c main_v35
    = rowDelta (m ((c.tc : Thread nD τ).loc main_arg2)) (m ((c.tc : Thread nD τ).loc main_arg4))
      (scores (m ((c.tc : Thread nD τ).loc main_arg0)) (m ((c.tc : Thread nD τ).loc main_arg1)) (m ((c.tc : Thread nD τ).loc main_arg3))) := by
  rw [V, lines, line2_delta, lines_scores, line1_arg2, line1_arg4, line0_arg2, line0_arg4]
end entry

end Cert.KernelIdeal.Hand
-- ==== Proof.HostRead.lean ====
module

public import proofs.«01_k».proof.Proof.Host

@[expose] public section

set_option maxRecDepth 16384

noncomputable section

namespace Cert.KernelIdeal.Hand

open Idealize Idealize.ShloMosaic
open Cert.KernelIdeal Cert.KernelIdeal.Gen

variable (q k v : FVec Ideal S4224x1024 .bf16) (cum : FVec Ideal S4224x8 .f32) (g : FVec Ideal S4224x1024 .f32)
  (s : FVec Ideal S8x4224x4224 .f32) (h : Fin 8) (r b : Fin 4224)

theorem low : Ideal.ofBits .f32 0xFF800000#32 = ⊥ := by simp [Ideal.ofBits, Ideal.ieee]

theorem rawScores_apply : rawScores q k cum (ix3 h r b)
    = (∑ d : Fin 128, q (ix2 r (col h d)) * k (ix2 b (col h d))) * scale - cum (ix2 b h) := by
  unfold scale
  pointwise [rawScores]
theorem causal_apply : causal (ix3 h r b) = if b.val ≤ r.val then 1#1 else 0#1 := by
  pointwise [causal, places]
  by_cases h : b.val ≤ r.val
  · rw [if_pos h, WordCmp.cmpi_sle_ofNat_eq_one_iff (by omega) (by omega)]; exact h
  · rw [if_neg h, WordCmp.cmpi_sle_ofNat_eq_zero_iff (by omega) (by omega)]; omega
theorem scores_apply : scores q k cum (ix3 h r b) = if b.val ≤ r.val then rawScores q k cum (ix3 h r b) else ⊥ := by
  unfold scores
  generalize rawScores q k cum = y
  have hc := causal_apply h r b
  revert hc
  generalize causal = z
  intro hc
  pointwise []
  rw [hc, low]
  by_cases h : b.val ≤ r.val
  · rw [if_pos h, if_pos h]; rfl
  · rw [if_neg h, if_neg h]; rfl
theorem tops_apply : tops s (ix2 h r) = Finset.univ.fold max ⊥ fun b => s (ix3 h r b) := by
  pointwise [tops]
  rw [low]
theorem exps_apply : exps s (ix3 h r b) = Ideal.exp (s (ix3 h r b) - tops s (ix2 h r)) := by
  unfold exps
  generalize tops s = y
  pointwise []
theorem mass_apply : mass s (ix3 h r 0) = ∑ b, exps s (ix3 h r b) := by
  unfold mass
  generalize exps s = y
  pointwise []
theorem column_apply (x : FVec Ideal S8x4224 .f32) :
    broadcastInDim S8x4224x1 ![0, 1] bcast_S8x4224_S8x4224x1_0_1 x (ix3 h r 0) = x (ix2 h r) := by
  pointwise []
theorem column_log (x : FVec Ideal S8x4224 .f32) (y : FVec Ideal S8x4224x1 .f32) :
    addf (broadcastInDim S8x4224x1 ![0, 1] bcast_S8x4224_S8x4224x1_0_1 x) (Host.log y) (ix3 h r 0) = x (ix2 h r) + Ideal.log (y (ix3 h r 0)) := by
  rw [← column_apply h r x]; rfl
theorem logMass_apply : logMass s (ix3 h r 0) = tops s (ix2 h r) + Ideal.log (mass s (ix3 h r 0)) := by
  unfold logMass
  exact column_log h r (tops s) (mass s)
theorem rowDelta_apply : rowDelta v g s (ix3 h r 0)
    = ∑ d : Fin 128, (∑ b, Ideal.div (exps s (ix3 h r b)) (mass s (ix3 h r 0)) * v (ix2 b (col h d))) * g (ix2 r (col h d)) := by
  unfold rowDelta attended
  generalize exps s = x
  generalize mass s = y
  pointwise []
theorem rowCum_apply : rowCum cum (ix3 h 0 b) = cum (ix2 b h) := by
  pointwise [rowCum]

end Cert.KernelIdeal.Hand
-- ==== Proof.Sums.lean ====
module

public import proofs.«01_k».proof.Proof.Windows

@[expose] public section

set_option maxRecDepth 16384

noncomputable section

namespace Cert.KernelIdeal.Hand

open Idealize Idealize.ShloMosaic
open Cert.KernelIdeal Cert.KernelIdeal.Gen

variable (m : (ℓ : Loc nD τ sig) → Buf (Elt Ideal) ℓ) (c : Dev nD)

/-! # One head -/

/-- A head's arrays as the launch finds them. -/
structure Head where
  q : Fin 4224 → Fin 128 → EReal
  k : Fin 4224 → Fin 128 → EReal
  v : Fin 4224 → Fin 128 → EReal
  g : Fin 4224 → Fin 128 → EReal
  lse : Fin 4224 → EReal
  delta : Fin 4224 → EReal
  ck : Fin 4224 → EReal

namespace Head
variable (H : Head)

/-- The weight of key `b` for row `r`. -/
def wgt (r b : Fin 4224) : EReal :=
  if b.val ≤ r.val then Ideal.exp ((∑ d, H.q r d * H.k b d) * scale - H.ck b - H.lse r) else 0

/-- The gradient of the score. -/
def grad (r b : Fin 4224) : EReal := H.wgt r b * ((∑ d, H.g r d * H.v b d) - H.delta r)

/-- The five gradients. -/
def dq (r : Fin 4224) (d : Fin 128) : EReal := ∑ j : Fin 11, (∑ b : Fin 384, H.grad r (key j b) * H.k (key j b) d) * scale
def dk (b : Fin 4224) (d : Fin 128) : EReal := (∑ r, H.grad r b * H.q r d) * scale
def dv (b : Fin 4224) (d : Fin 128) : EReal := ∑ r, H.wgt r b * H.g r d
def dck (b : Fin 4224) : EReal := 0 - ∑ r, H.grad r b
def drow (r : Fin 4224) : EReal := ∑ j : Fin 11, ∑ b : Fin 384, H.grad r (key j b)

end Head

def head (h : Fin 8) : Head where
  q r d := V m c main_arg0 (ix2 r (col h d))
  k r d := V m c main_arg1 (ix2 r (col h d))
  v r d := V m c main_arg2 (ix2 r (col h d))
  g r d := V m c main_arg4 (ix2 r (col h d))
  lse r := V m c main_v37 (ix3 h r 0)
  delta r := V m c main_v35 (ix3 h r 0)
  ck r := V m c main_v39 (ix3 h 0 r)

def blocks (t : Fin cfg0.N) : Blocks :=
  ⟨iblk m c 0 t, iblk m c 1 t, iblk m c 2 t, iblk m c 3 t, iblk m c 4 t, iblk m c 5 t, iblk m c 6 t⟩

theorem blocks_q (t : Fin cfg0.N) (r d) : (blocks m c t).q (ix2 r d) = (head m c (headOf t)).q r d := blk_0 m c t r d
theorem blocks_k (t : Fin cfg0.N) (b d) : (blocks m c t).k (ix2 b d) = (head m c (headOf t)).k (key (tileOf t) b) d := blk_1 m c t b d
theorem blocks_v (t : Fin cfg0.N) (b d) : (blocks m c t).v (ix2 b d) = (head m c (headOf t)).v (key (tileOf t) b) d := blk_2 m c t b d
theorem blocks_g (t : Fin cfg0.N) (r d) : (blocks m c t).g (ix2 r d) = (head m c (headOf t)).g r d := blk_3 m c t r d
theorem blocks_lse (t : Fin cfg0.N) (r) : (blocks m c t).lse (ix3 0 r 0) = (head m c (headOf t)).lse r := blk_4 m c t r
theorem blocks_delta (t : Fin cfg0.N) (r) : (blocks m c t).delta (ix3 0 r 0) = (head m c (headOf t)).delta r := blk_5 m c t r
theorem blocks_ck (t : Fin cfg0.N) (b) : (blocks m c t).ck (ix3 0 0 b) = (head m c (headOf t)).ck (key (tileOf t) b) := blk_6 m c t b

theorem blocks_wgt (t : Fin cfg0.N) (r b) : (blocks m c t).wgt (t.val % 11) r b = (head m c (headOf t)).wgt r (key (tileOf t) b) := by
  unfold Blocks.wgt Blocks.raw Head.wgt
  simp only [blocks_q, blocks_k, blocks_lse, blocks_ck]

theorem blocks_grad (t : Fin cfg0.N) (r b) : (blocks m c t).grad (t.val % 11) r b = (head m c (headOf t)).grad r (key (tileOf t) b) := by
  unfold Blocks.grad Head.grad
  simp only [blocks_wgt, blocks_g, blocks_v, blocks_delta]

theorem left_eq (t : Fin cfg0.N) : left m c t = point (grid0.coords t) (blocks m c t).q (blocks m c t).k (blocks m c t).v
    (blocks m c t).g (blocks m c t).lse (blocks m c t).delta (blocks m c t).ck (sums m c t.val).1 (sums m c t.val).2 := by
  unfold left pointAt blocks; rfl

/-- What a head's first point leaves: its running sums start at zero. -/
theorem left_first (t : Fin cfg0.N) (h0 : t.val % 11 = 0) :
    (blocks m c t).Seen (t.val % 11) k0_pay24 k0_pay25 4224 (left m c t) := by
  have h := point_seen (blocks m c t) (grid0.coords t) (sums m c t.val).1 (sums m c t.val).2
  rw [if_pos ((first_iff t).mpr h0), if_pos ((first_iff t).mpr h0), tile_of t, ← left_eq] at h
  exact h

/-- What a later point leaves: they start where the point before left them. -/
theorem left_next (t : Fin cfg0.N) (h0 : ¬ t.val % 11 = 0) :
    (blocks m c t).Seen (t.val % 11) (sums m c t.val).1 (sums m c t.val).2 4224 (left m c t) := by
  have h := point_seen (blocks m c t) (grid0.coords t) (sums m c t.val).1 (sums m c t.val).2
  rw [if_neg (mt (first_iff t).mp h0), if_neg (mt (first_iff t).mp h0), tile_of t, ← left_eq] at h
  exact h

theorem left_seen (t : Fin cfg0.N) : ∃ x7 x11, (blocks m c t).Seen (t.val % 11) x7 x11 4224 (left m c t) := by
  by_cases h0 : t.val % 11 = 0
  · exact ⟨_, _, left_first m c t h0⟩
  · exact ⟨_, _, left_next m c t h0⟩

theorem left_dk (t : Fin cfg0.N) (b d) : (left m c t).1.1 (ix2 b d)
    = ∑ r, (head m c (headOf t)).grad r (key (tileOf t) b) * (head m c (headOf t)).q r d := by
  obtain ⟨x7, x11, hs⟩ := left_seen m c t
  rw [hs.dk, upto_all]
  simp only [blocks_grad, blocks_q]
theorem left_dv (t : Fin cfg0.N) (b d) : (left m c t).1.2.1 (ix2 b d) = (head m c (headOf t)).dv (key (tileOf t) b) d := by
  obtain ⟨x7, x11, hs⟩ := left_seen m c t
  rw [hs.dv, upto_all, Head.dv]
  simp only [blocks_wgt, blocks_g]
theorem left_dck (t : Fin cfg0.N) (b) : (left m c t).1.2.2 (ix2 0 b) = ∑ r, (head m c (headOf t)).grad r (key (tileOf t) b) := by
  obtain ⟨x7, x11, hs⟩ := left_seen m c t
  rw [hs.dck, upto_all]
  simp only [blocks_grad]

theorem pay24_zero (r : Fin 4224) (d : Fin 128) : k0_pay24 (F := Ideal) (ix2 r d) = 0 := by pointwise [k0_pay24]
theorem pay25_zero (r : Fin 4224) : k0_pay25 (F := Ideal) (ix3 0 r 0) = 0 := by pointwise [k0_pay25]

/-- A sum over the key tiles up to `n`. -/
def tiles (f : Fin 11 → EReal) (n : ℕ) : EReal := ∑ i ∈ Finset.range n, if h : i < 11 then f ⟨i, h⟩ else 0
theorem tiles_succ (f : Fin 11 → EReal) (j : Fin 11) : tiles f (j.val + 1) = tiles f j.val + f j := by
  rw [tiles, Finset.sum_range_succ, dif_pos j.isLt]; rfl
theorem tiles_all (f : Fin 11 → EReal) : tiles f 11 = ∑ j, f j := by
  rw [tiles, Finset.sum_range]; exact Finset.sum_congr rfl fun a _ => dif_pos a.isLt

/-- What tile `j`'s keys give to row `r`. -/
def tileQ (H : Head) (r : Fin 4224) (d : Fin 128) (j : Fin 11) : EReal := (∑ b : Fin 384, H.grad r (key j b) * H.k (key j b) d) * scale
def tileRow (H : Head) (r : Fin 4224) (j : Fin 11) : EReal := ∑ b : Fin 384, H.grad r (key j b)

theorem blocks_toQ (t : Fin cfg0.N) (r d) : (blocks m c t).toQ (t.val % 11) r d = tileQ (head m c (headOf t)) r d (tileOf t) := by
  unfold Blocks.toQ tileQ
  simp only [blocks_grad, blocks_k]
theorem blocks_toRow (t : Fin cfg0.N) (r) : (blocks m c t).toRow (t.val % 11) r = tileRow (head m c (headOf t)) r (tileOf t) := by
  unfold Blocks.toRow tileRow
  simp only [blocks_grad]

/-- The running sums after point `t`: its head's key tiles so far. -/
def Summed (t : Fin cfg0.N) : Prop :=
  (∀ r d, (left m c t).2.1 (ix2 r d) = tiles (tileQ (head m c (headOf t)) r d) (t.val % 11 + 1))
    ∧ ∀ r, (left m c t).2.2 (ix3 0 r 0) = tiles (tileRow (head m c (headOf t)) r) (t.val % 11 + 1)

theorem summed_first (t : Fin cfg0.N) (h0 : t.val % 11 = 0) : Summed m c t := by
  have h := left_first m c t h0
  refine ⟨fun r d => ?_, fun r => ?_⟩
  · rw [h.dq, if_pos r.isLt, pay24_zero, blocks_toQ]
    refine Eq.trans ?_ (tiles_succ _ (tileOf t)).symm
    rw [show (tileOf t).val = 0 from h0]; rfl
  · rw [h.row, if_pos r.isLt, pay25_zero, blocks_toRow]
    refine Eq.trans ?_ (tiles_succ _ (tileOf t)).symm
    rw [show (tileOf t).val = 0 from h0]; rfl

theorem summed_next (t t' : Fin cfg0.N) (ht : t'.val = t.val + 1) (h0 : ¬ t'.val % 11 = 0) (ih : Summed m c t) : Summed m c t' := by
  have h := left_next m c t' h0
  have hh : headOf t' = headOf t := Fin.ext (by dsimp only; omega)
  have hj : t.val % 11 + 1 = (tileOf t').val := by dsimp only; omega
  have hs := sums_succ m c t
  rw [← ht] at hs
  refine ⟨fun r d => ?_, fun r => ?_⟩
  · rw [h.dq, if_pos r.isLt, blocks_toQ, hs, ih.1, hh, hj]
    exact (tiles_succ _ (tileOf t')).symm
  · rw [h.row, if_pos r.isLt, blocks_toRow, hs, ih.2, hh, hj]
    exact (tiles_succ _ (tileOf t')).symm

theorem summed : ∀ (n : ℕ) (t : Fin cfg0.N), t.val = n → Summed m c t
  | 0, t, ht => summed_first m c t (by omega)
  | n + 1, t, ht => by
    by_cases h0 : t.val % 11 = 0
    · exact summed_first m c t h0
    · have hn : n < cfg0.N := lt_trans (by omega) t.isLt
      exact summed_next m c ⟨n, hn⟩ t ht h0 (summed n ⟨n, hn⟩ rfl)

theorem left_dq (t : Fin cfg0.N) (ht : t.val % 11 = 10) (r d) : (left m c t).2.1 (ix2 r d) = (head m c (headOf t)).dq r d := by
  rw [(summed m c _ t rfl).1, ht, tiles_all]; rfl
theorem left_drow (t : Fin cfg0.N) (ht : t.val % 11 = 10) (r) : (left m c t).2.2 (ix3 0 r 0) = (head m c (headOf t)).drow r := by
  rw [(summed m c _ t rfl).2, ht, tiles_all]; rfl

end Cert.KernelIdeal.Hand
-- ==== Proof.Results.lean ====
module

public import proofs.«01_k».proof.Proof.Sums

@[expose] public section

set_option maxRecDepth 16384

noncomputable section

namespace Cert.KernelIdeal.Hand

open Idealize Idealize.ShloMosaic
open Cert.KernelIdeal Cert.KernelIdeal.Gen

variable (m : (ℓ : Loc nD τ sig) → Buf (Elt Ideal) ℓ) (c : Dev nD)

/-! # The five results -/

abbrev headAt (x : Fin 1024) : Fin 8 := ⟨x.val / 128, by omega⟩
abbrev colAt (x : Fin 1024) : Fin 128 := ⟨x.val % 128, by omega⟩

variable (t : Fin cfg0.N)

theorem write_7 (X : S4224x1024.Idx → Elt Ideal .f32) (r : Fin 4224) (d : Fin 128) :
    ((cfg0.win 7).blk t).view.read (Elt Ideal) X (ix2 r d) = X (ix2 r (col (headOf t) d)) := by
  blk_ext [idx_7 t]
theorem write_8 (X : S4224x1024.Idx → Elt Ideal .f32) (b : Fin 384) (d : Fin 128) :
    ((cfg0.win 8).blk t).view.read (Elt Ideal) X (ix2 b d) = X (ix2 (key (tileOf t) b) (col (headOf t) d)) := by
  blk_ext [idx_8 t]
theorem write_9 (X : S4224x1024.Idx → Elt Ideal .bf16) (b : Fin 384) (d : Fin 128) :
    ((cfg0.win 9).blk t).view.read (Elt Ideal) X (ix2 b d) = X (ix2 (key (tileOf t) b) (col (headOf t) d)) := by
  blk_ext [idx_9 t]
theorem write_10 (X : S8x1x4224.Idx → Elt Ideal .f32) (b : Fin 384) :
    ((cfg0.win 10).blk t).view.read (Elt Ideal) X (ix3 0 0 b) = X (ix3 (headOf t) 0 (key (tileOf t) b)) := by
  blk_ext [idx_10 t]
theorem write_11 (X : S8x4224x1.Idx → Elt Ideal .f32) (r : Fin 4224) :
    ((cfg0.win 11).blk t).view.read (Elt Ideal) X (ix3 0 r 0) = X (ix3 (headOf t) r 0) := by
  blk_ext [idx_11 t]

theorem head_col (h : Fin 8) (d : Fin 128) : headAt (col h d) = h := Fin.ext (by dsimp only; omega)
theorem col_col (h : Fin 8) (d : Fin 128) : colAt (col h d) = d := Fin.ext (by dsimp only; omega)

theorem pay9_apply (x : FVec Ideal S384x128 .f32) (b : Fin 384) (d : Fin 128) : k0_pay9 x (ix2 b d) = x (ix2 b d) * scale := by
  unfold scale; pointwise [k0_pay9]
theorem pay10_apply (x : FVec Ideal S384x128 .f32) (b : Fin 384) (d : Fin 128) : k0_pay10 x (ix2 b d) = x (ix2 b d) := by
  pointwise [k0_pay10]
theorem pay11_apply (x : FVec Ideal S1x384 .f32) (b : Fin 384) : k0_pay11 x (ix3 0 0 b) = 0 - x (ix2 0 b) := by
  pointwise [k0_pay11]

theorem one_one (y : S1x1x384.Idx) : ∃ b : Fin 384, y = ix3 0 0 b := by
  obtain ⟨a, b, c, rfl⟩ : ∃ a b c, y = ix3 a b c := ⟨_, _, _, ValueIdx.eq_ix3 y⟩
  obtain rfl := Subsingleton.elim a 0
  obtain rfl := Subsingleton.elim b 0
  exact ⟨c, rfl⟩
theorem one_mid_one (y : S1x4224x1.Idx) : ∃ r : Fin 4224, y = ix3 0 r 0 := by
  obtain ⟨a, b, c, rfl⟩ : ∃ a b c, y = ix3 a b c := ⟨_, _, _, ValueIdx.eq_ix3 y⟩
  obtain rfl := Subsingleton.elim a 0
  obtain rfl := Subsingleton.elim c 0
  exact ⟨b, rfl⟩

/-- The array of window 7. -/
def dqArr (y : S4224x1024.Idx) : EReal := (head m c (headAt (y 1))).dq (y 0) (colAt (y 1))

theorem out_dq : (dats m 0 c).arrAt 7 cfg0.N = dqArr m c := by
  refine (dats m 0 c).arrAt_eq_of_covers 7 _ (by decide +kernel) fun t hf y => ?_
  blk_simp
  rw [after_7]
  obtain ⟨r, d, rfl⟩ : ∃ (r : Fin 4224) (d : Fin 128), y = ix2 r d := ⟨y 0, y 1, ValueIdx.eq_ix2 y⟩
  refine (left_dq m c t ((flush0_7 t).mp hf) r d).trans (Eq.trans ?_ (write_7 t (dqArr m c) r d).symm)
  show _ = (head m c (headAt (col (headOf t) d))).dq r (colAt (col (headOf t) d))
  rw [head_col, col_col]

/-- The array of window 8. -/
def dkArr (y : S4224x1024.Idx) : EReal := (head m c (headAt (y 1))).dk (y 0) (colAt (y 1))

theorem out_dk : (dats m 0 c).arrAt 8 cfg0.N = dkArr m c := by
  refine (dats m 0 c).arrAt_eq_of_covers 8 _ (by decide +kernel) fun t hf y => ?_
  blk_simp
  rw [after_8]
  obtain ⟨b, d, rfl⟩ : ∃ (b : Fin 384) (d : Fin 128), y = ix2 b d := ⟨y 0, y 1, ValueIdx.eq_ix2 y⟩
  refine Eq.trans ?_ (write_8 t (dkArr m c) b d).symm
  show _ = (head m c (headAt (col (headOf t) d))).dk (key (tileOf t) b) (colAt (col (headOf t) d))
  rw [head_col, col_col]
  exact (pay9_apply _ b d).trans (congrArg (· * scale) (left_dk m c t b d))

/-- The array of window 9. -/
def dvArr (y : S4224x1024.Idx) : EReal := (head m c (headAt (y 1))).dv (y 0) (colAt (y 1))

theorem out_dv : (dats m 0 c).arrAt 9 cfg0.N = dvArr m c := by
  refine (dats m 0 c).arrAt_eq_of_covers 9 _ (by decide +kernel) fun t hf y => ?_
  blk_simp
  rw [after_9]
  obtain ⟨b, d, rfl⟩ : ∃ (b : Fin 384) (d : Fin 128), y = ix2 b d := ⟨y 0, y 1, ValueIdx.eq_ix2 y⟩
  refine Eq.trans ?_ (write_9 t (dvArr m c) b d).symm
  show _ = (head m c (headAt (col (headOf t) d))).dv (key (tileOf t) b) (colAt (col (headOf t) d))
  rw [head_col, col_col]
  exact (pay10_apply _ b d).trans (left_dv m c t b d)

/-- The array of window 10. -/
def dckArr (y : S8x1x4224.Idx) : EReal := (head m c (y 0)).dck (y 2)

theorem out_dck : (dats m 0 c).arrAt 10 cfg0.N = dckArr m c := by
  refine (dats m 0 c).arrAt_eq_of_covers 10 _ (by decide +kernel) fun t hf y => ?_
  blk_simp
  rw [after_10]
  obtain ⟨b, rfl⟩ : ∃ (b : Fin 384), y = ix3 0 0 b := one_one y
  refine Eq.trans ?_ (write_10 t (dckArr m c) b).symm
  show _ = (head m c (headOf t)).dck (key (tileOf t) b)
  exact (pay11_apply _ b).trans (congrArg (0 - ·) (left_dck m c t b))

/-- The array of window 11. -/
def drowArr (y : S8x4224x1.Idx) : EReal := (head m c (y 0)).drow (y 1)

theorem out_drow : (dats m 0 c).arrAt 11 cfg0.N = drowArr m c := by
  refine (dats m 0 c).arrAt_eq_of_covers 11 _ (by decide +kernel) fun t hf y => ?_
  blk_simp
  rw [after_11]
  obtain ⟨r, rfl⟩ : ∃ (r : Fin 4224), y = ix3 0 r 0 := one_mid_one y
  refine (left_drow m c t ((flush0_11 t).mp hf) r).trans (Eq.trans ?_ (write_11 t (drowArr m c) r).symm)
  rfl

end Cert.KernelIdeal.Hand
-- ==== Proof.RefRead.lean ====
module

public import proofs.«01_k».proof.Proof.Results
public import proofs.«01_k».proof.Proof.Gen.ReferenceIdeal.Read

@[expose] public section

set_option maxRecDepth 16384

noncomputable section

namespace Cert.Attn

open Idealize Idealize.ShloMosaic
open Cert.ReferenceIdeal Cert.ReferenceIdeal.Gen Cert.ReferenceIdeal.Read
open Cert.KernelIdeal.Hand (scale col headAt colAt)

/-! # The reference's values at an index -/

variable (q k v : FVec Ideal S4224x1024 .bf16) (cum : FVec Ideal S4224x8 .f32) (g : FVec Ideal S4224x1024 .f32)
  (h : Fin 8) (r b : Fin 4224) (x : Fin 1024)

theorem neg_inf : Ideal.ofBits .f32 0xFF800000#32 = ⊥ := by simp [Ideal.ofBits, Ideal.ieee]

theorem ref_mask : val_main_v26_1 (F := Ideal) (ix3 h r b) = if b.val ≤ r.val then 1#1 else 0#1 := by
  pointwise [val_main_v26_1, val_main_v25, val_main_v24, val_main_v23, val_main_v22, val_main_v21, val_main_v20, val_main_v19]
  by_cases h : b.val ≤ r.val
  · rw [if_pos h, WordCmp.cmpi_sle_ofNat_eq_one_iff (by omega) (by omega)]; exact h
  · rw [if_neg h, WordCmp.cmpi_sle_ofNat_eq_zero_iff (by omega) (by omega)]; omega

theorem ref_raw : val_main_v18 (F := Ideal) q k cum (ix3 h r b)
    = (∑ d : Fin 128, q (ix2 r (col h d)) * k (ix2 b (col h d))) * scale + cum (ix2 r h) - cum (ix2 b h) := by
  unfold scale
  pointwise [val_main_v18, val_main_v17, val_main_v16, val_main_v15, val_main_v14, val_main_v13, val_main_v12, val_main_v11, val_main_v10,
    val_main_v9, val_main_cst, val_main_v8, val_main_v7, val_main_v6, val_main_v4, val_main_v3, val_main_v1, val_main_v0]

theorem ref_score : val_main_v26_0 (F := Ideal) q k cum (ix3 h r b) = if b.val ≤ r.val then val_main_v18 (F := Ideal) q k cum (ix3 h r b) else ⊥ := by
  have hm := ref_mask h r b
  revert hm
  unfold val_main_v26_0
  generalize val_main_v26_1 (F := Ideal) = z
  generalize val_main_v18 (F := Ideal) q k cum = y
  intro hm
  pointwise [val_main_call0_v2, val_main_call0_v0, val_main_cst_0]
  rw [hm]
  refine (congrArg (Scalar.select _ _) (neg_inf : _ = (⊥ : EReal))).trans ?_
  by_cases h : b.val ≤ r.val
  · rw [if_pos h, if_pos h]; rfl
  · rw [if_neg h, if_neg h]; rfl

theorem top_apply (s : FVec Ideal S8x4224x4224 .f32) :
    Host.reduce FloatOps.maximumf s (constant S_ .f32 0xFF800000#32) reducesTo_S8x4224x4224_S8x4224_d2 h_S_ (ix2 h r)
      = Finset.univ.fold max ⊥ fun b => s (ix3 h r b) := by
  pointwise []
  rw [neg_inf]

theorem max_low (a : FVec Ideal S8x4224 .f32) (i : S8x4224.Idx) : maximumf (val_main_v33 (F := Ideal)) a i = a i := by
  show max (val_main_v33 (F := Ideal) i) (a i) = a i
  rw [val_main_v33_apply, val_main_cst_3_apply, show FloatOps.ofBits (F := Ideal) .f32 0xFF800000#32 = (⊥ : EReal) from neg_inf]
  exact max_eq_right bot_le

theorem ref_top : val_main_v34 (F := Ideal) q k cum (ix2 h r)
    = Finset.univ.fold max ⊥ fun b => val_main_v26_0 (F := Ideal) q k cum (ix3 h r b) := by
  unfold val_main_v34
  rw [max_low]
  unfold val_main_v27 val_main_cst_1
  exact top_apply h r _

theorem ref_exp : val_main_v47 (F := Ideal) q k cum (ix3 h r b) = Ideal.exp (val_main_v26_0 (F := Ideal) q k cum (ix3 h r b) - val_main_v34 (F := Ideal) q k cum (ix2 h r)) := by
  unfold val_main_v47 val_main_v46 val_main_v45 val_main_v44
  generalize val_main_v26_0 (F := Ideal) q k cum = s
  generalize val_main_v34 (F := Ideal) q k cum = y
  pointwise []

theorem ref_sum : val_main_v49 (F := Ideal) q k cum (ix3 h r 0) = ∑ b, val_main_v47 (F := Ideal) q k cum (ix3 h r b) := by
  unfold val_main_v49 val_main_v48
  generalize val_main_v47 (F := Ideal) q k cum = s
  pointwise [val_main_cst_9]

theorem ref_wgt : val_main_v51 (F := Ideal) q k cum (ix3 h r b)
    = Ideal.div (val_main_v47 (F := Ideal) q k cum (ix3 h r b)) (val_main_v49 (F := Ideal) q k cum (ix3 h r 0)) := by
  unfold val_main_v51 val_main_v50
  generalize val_main_v47 (F := Ideal) q k cum = s
  generalize val_main_v49 (F := Ideal) q k cum = y
  pointwise []

theorem ref_inv : val_main_v54 (F := Ideal) q k cum (ix3 h r 0)
    = Ideal.div 1 (val_main_v49 (F := Ideal) q k cum (ix3 h r 0) * val_main_v49 (F := Ideal) q k cum (ix3 h r 0)) := by
  rw [val_main_v54_apply, val_main_v52_apply, val_main_v53_apply, val_main_cst_10_apply]
  generalize val_main_v49 (F := Ideal) q k cum = y
  show Ideal.div (Ideal.ofBits .f32 0x3F800000#32) _ = _
  rw [Ideal.ofBits_one_f32]
  rfl

theorem ref_dp : val_main_v66 (F := Ideal) v g (ix3 h r b) = ∑ d : Fin 128, g (ix2 r (col h d)) * v (ix2 b (col h d)) := by
  pointwise [val_main_v66, val_main_v65, val_main_v62, val_main_v61, val_main_v60, val_main_v5, val_main_v2]

theorem ref_dot : val_main_v75 (F := Ideal) q k v cum g (ix2 h r)
    = -∑ b, val_main_v66 (F := Ideal) v g (ix3 h r b) * val_main_v54 (F := Ideal) q k cum (ix3 h r 0)
        * val_main_v47 (F := Ideal) q k cum (ix3 h r b) := by
  unfold val_main_v75 val_main_v72 val_main_v71 val_main_v70 val_main_v69 val_main_v68 val_main_v67
  generalize val_main_v66 (F := Ideal) v g = a
  generalize val_main_v54 (F := Ideal) q k cum = y
  generalize val_main_v47 (F := Ideal) q k cum = s
  pointwise [val_main_cst_11, val_main_cst_12]
  exact Fin.sum_univ_one _

theorem ref_both : val_main_v78 (F := Ideal) q k v cum g (ix3 h r b)
    = (Ideal.div (val_main_v66 (F := Ideal) v g (ix3 h r b)) (val_main_v49 (F := Ideal) q k cum (ix3 h r 0))
        + val_main_v75 (F := Ideal) q k v cum g (ix2 h r)) * val_main_v47 (F := Ideal) q k cum (ix3 h r b) := by
  unfold val_main_v78 val_main_v77 val_main_v76 val_main_v74 val_main_v73
  generalize val_main_v66 (F := Ideal) v g = a
  generalize val_main_v49 (F := Ideal) q k cum = y
  generalize val_main_v75 (F := Ideal) q k v cum g = z
  generalize val_main_v47 (F := Ideal) q k cum = s
  pointwise []

theorem ref_grad : val_main_v79 (F := Ideal) q k v cum g (ix3 h r b)
    = if b.val ≤ r.val then val_main_v78 (F := Ideal) q k v cum g (ix3 h r b) else 0 := by
  have hm := ref_mask h r b
  revert hm
  unfold val_main_v79
  generalize val_main_v26_1 (F := Ideal) = z
  generalize val_main_v78 (F := Ideal) q k v cum g = y
  intro hm
  pointwise [val_main_call1_v0, val_main_call1_cst]
  rw [hm]
  by_cases h : b.val ≤ r.val
  · rw [if_pos h, if_pos h]; rfl
  · rw [if_neg h, if_neg h]; rfl

/-- A column is its head's column. -/
theorem col_split : col (headAt x) (colAt x) = x := Fin.ext (by dsimp only; omega)

theorem ref_dq : val_main_v99 (F := Ideal) q k v cum g (ix2 r x)
    = ∑ b, val_main_v79 (F := Ideal) q k v cum g (ix3 (headAt x) r b) * scale * k (ix2 b (col (headAt x) (colAt x))) := by
  rw [col_split]
  unfold val_main_v99 val_main_v96 val_main_v95 val_main_v92 val_main_v91 val_main_v90 scale
  generalize val_main_v79 (F := Ideal) q k v cum g = z
  pointwise [val_main_v89, val_main_cst_17, val_main_v4, val_main_v1]

theorem ref_dk : val_main_v98 (F := Ideal) q k v cum g (ix2 b x)
    = ∑ r, val_main_v79 (F := Ideal) q k v cum g (ix3 (headAt x) r b) * scale * q (ix2 r (col (headAt x) (colAt x))) := by
  rw [col_split]
  unfold val_main_v98 val_main_v94 val_main_v93 val_main_v92 val_main_v91 val_main_v90 scale
  generalize val_main_v79 (F := Ideal) q k v cum g = z
  pointwise [val_main_v89, val_main_cst_17, val_main_v3, val_main_v0]

theorem ref_dv : val_main_v100 (F := Ideal) q k cum g (ix2 b x)
    = ∑ r, g (ix2 r (col (headAt x) (colAt x))) * val_main_v51 (F := Ideal) q k cum (ix3 (headAt x) r b) := by
  rw [col_split]
  unfold val_main_v100 val_main_v97 val_main_v64 val_main_v63 val_main_v56 val_main_v55
  generalize val_main_v51 (F := Ideal) q k cum = z
  pointwise [val_main_v61, val_main_v60]

theorem ref_dck : val_main_v102 (F := Ideal) q k v cum g (ix3 h 0 b)
    = ∑ r, -val_main_v79 (F := Ideal) q k v cum g (ix3 h r b) := by
  unfold val_main_v102 val_main_v101 val_main_v84 val_main_v83 val_main_v82 val_main_v81 val_main_v80
  generalize val_main_v79 (F := Ideal) q k v cum g = z
  pointwise [val_main_cst_13, val_main_cst_14]
  exact Fin.sum_univ_one _

theorem ref_drow : val_main_v104 (F := Ideal) q k v cum g (ix3 h r 0)
    = ∑ b, val_main_v79 (F := Ideal) q k v cum g (ix3 h r b) := by
  unfold val_main_v104 val_main_v103 val_main_v88 val_main_v87 val_main_v86 val_main_v85
  generalize val_main_v79 (F := Ideal) q k v cum g = z
  pointwise [val_main_cst_15, val_main_cst_16]
  exact Fin.sum_univ_one _

end Cert.Attn
-- ==== Proof.Real.lean ====
module

public import proofs.«01_k».proof.Proof.Sums

@[expose] public section

noncomputable section

namespace Cert.Attn

open Idealize Idealize.ShloMosaic
open Cert.KernelIdeal.Hand

/-! # Extended reals that are real -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_coe (x : ℝ) : Ideal.exp (x : EReal) = (Real.exp x : EReal) := rfl
theorem exp_bot : Ideal.exp ⊥ = 0 := rfl
theorem log_coe {x : ℝ} (h : 0 < x) : Ideal.log (x : EReal) = (Real.log x : EReal) := if_neg (not_le.mpr h)
theorem div_coe (x : ℝ) {y : ℝ} (h : y ≠ 0) : Ideal.div (x : EReal) (y : EReal) = ((x / y : ℝ) : EReal) := by
  rw [Ideal.div_coe h, ← EReal.coe_mul, mul_one_div]

/-- A maximum of reals, some of them masked out but not all, is real. -/
theorem top_real {n : ℕ} (f : Fin n → EReal) (hT : ∀ b, f b ≠ ⊤) (hB : ∃ b, f b ≠ ⊥) : ∃ μ : ℝ, Finset.univ.fold max ⊥ f = (μ : EReal) := by
  have h1 : Finset.univ.fold max ⊥ f ≠ ⊤ := ne_of_lt ((Finset.fold_max_lt _).mpr ⟨bot_lt_top, fun b _ => lt_of_le_of_ne le_top (hT b)⟩)
  have h2 : Finset.univ.fold max ⊥ f ≠ ⊥ := by
    obtain ⟨b, hb⟩ := hB
    exact ne_of_gt ((Finset.lt_fold_max _).mpr (Or.inr ⟨b, Finset.mem_univ b, bot_lt_iff_ne_bot.mpr hb⟩))
  exact ⟨_, (EReal.coe_toReal h1 h2).symm⟩

/-- The scale, as a real number. -/
theorem scale_real : ∃ σ : ℝ, scale = (σ : EReal) := by
  unfold scale
  exact ⟨_, by
    show Ideal.ieee 8 23 0x3DB504F3#32 = _
    unfold Ideal.ieee
    dsimp only
    rw [if_neg (by decide), if_neg (by decide)]⟩

/-! # One head of the attention, in real numbers -/

structure Reals where
  q : Fin 4224 → Fin 128 → ℝ
  k : Fin 4224 → Fin 128 → ℝ
  v : Fin 4224 → Fin 128 → ℝ
  g : Fin 4224 → Fin 128 → ℝ
  cum : Fin 4224 → ℝ
  σ : ℝ

namespace Reals
variable (R : Reals) (ν : ℝ) (r b : Fin 4224)

def score : ℝ := (∑ d, R.q r d * R.k b d) * R.σ - R.cum b
/-- The exponentials of a row, shifted by `ν`; their sum; the weights. -/
def e : ℝ := if b.val ≤ r.val then Real.exp (R.score r b - ν) else 0
def z : ℝ := ∑ b, R.e ν r b
def wgt : ℝ := R.e 0 r b / R.z 0 r
def dp : ℝ := ∑ d, R.g r d * R.v b d
def dot : ℝ := ∑ b, R.wgt r b * R.dp r b
def grad : ℝ := R.wgt r b * (R.dp r b - R.dot r)

theorem e_shift : R.e ν r b = Real.exp (-ν) * R.e 0 r b := by
  unfold e
  split
  · rw [← Real.exp_add]; congr 1; ring
  · rw [mul_zero]

theorem z_shift : R.z ν r = Real.exp (-ν) * R.z 0 r := by
  unfold z
  rw [Finset.mul_sum]
  exact Finset.sum_congr rfl fun b _ => R.e_shift ν r b

theorem e_nonneg : 0 ≤ R.e ν r b := by
  unfold e
  split
  · exact (Real.exp_pos _).le
  · exact le_refl _

theorem z_pos : 0 < R.z ν r := by
  refine lt_of_lt_of_le (?_ : 0 < R.e ν r r) (Finset.single_le_sum (fun b _ => R.e_nonneg ν r b) (Finset.mem_univ r))
  rw [e, if_pos (le_refl _)]
  exact Real.exp_pos _

/-- The weights do not depend on the shift. -/
theorem wgt_eq : R.e ν r b / R.z ν r = R.wgt r b := by
  rw [e_shift, z_shift, wgt, mul_div_mul_left _ _ (Real.exp_pos _).ne']

theorem wgt_log : (if b.val ≤ r.val then Real.exp (R.score r b - (ν + Real.log (R.z ν r))) else 0) = R.wgt r b := by
  rw [← R.wgt_eq ν, e]
  split
  · rw [← sub_sub, Real.exp_sub, Real.exp_log (R.z_pos ν r)]
  · rw [zero_div]

theorem dot_eq : ∑ d, (∑ b, R.wgt r b * R.v b d) * R.g r d = R.dot r := by
  simp only [dot, dp, Finset.sum_mul, Finset.mul_sum]
  rw [Finset.sum_comm]
  exact Finset.sum_congr rfl fun b _ => Finset.sum_congr rfl fun d _ => by ring

/-- The gradient of the score as the derivative of the quotient `e / z` spells it. -/
theorem grad_eq : (R.dp r b / R.z ν r + -∑ b, R.dp r b * (1 / (R.z ν r * R.z ν r)) * R.e ν r b) * R.e ν r b = R.grad r b := by
  have hz := (R.z_pos ν r).ne'
  have hs : ∑ b, R.dp r b * (1 / (R.z ν r * R.z ν r)) * R.e ν r b = R.dot r / R.z ν r := by
    rw [dot, Finset.sum_div]
    refine Finset.sum_congr rfl fun b _ => ?_
    rw [← R.wgt_eq ν]
    field_simp
  rw [hs, grad, ← R.wgt_eq ν]
  field_simp
  ring

/-! The five gradients. -/
def dq (d : Fin 128) : ℝ := (∑ b, R.grad r b * R.k b d) * R.σ
def dk (d : Fin 128) : ℝ := (∑ r, R.grad r b * R.q r d) * R.σ
def dv (d : Fin 128) : ℝ := ∑ r, R.wgt r b * R.g r d
def dck : ℝ := -∑ r, R.grad r b
def drow : ℝ := ∑ b, R.grad r b

end Reals

/-! # The launch's formulas at real entries -/

/-- The head's arrays are those of `R`; its log-sums are taken under some shifts. -/
structure Holds (H : Head) (R : Reals) : Prop where
  scale : scale = (R.σ : EReal)
  q : ∀ r d, H.q r d = (R.q r d : EReal)
  k : ∀ r d, H.k r d = (R.k r d : EReal)
  v : ∀ r d, H.v r d = (R.v r d : EReal)
  g : ∀ r d, H.g r d = (R.g r d : EReal)
  ck : ∀ r, H.ck r = (R.cum r : EReal)
  lse : ∀ r, ∃ ν : ℝ, H.lse r = ((ν + Real.log (R.z ν r) : ℝ) : EReal)
  delta : ∀ r, H.delta r = (R.dot r : EReal)

namespace Holds
variable {H : Head} {R : Reals} (h : Holds H R) (r b : Fin 4224) (d : Fin 128)
include h

theorem wgt : H.wgt r b = (R.wgt r b : EReal) := by
  obtain ⟨ν, hν⟩ := h.lse r
  rw [Head.wgt, ← R.wgt_log ν]
  split
  · simp only [h.q, h.k, h.ck, h.scale, hν, ← EReal.coe_mul, ← coe_sum, ← EReal.coe_sub, exp_coe]
    rfl
  · rfl

theorem grad : H.grad r b = (R.grad r b : EReal) := by
  rw [Head.grad, h.wgt, h.delta]
  simp only [h.g, h.v, ← EReal.coe_mul, ← coe_sum, ← EReal.coe_sub]
  rfl

theorem tiled (f : Fin 4224 → ℝ) : ∑ j : Fin 11, ∑ b : Fin 384, f (key j b) = ∑ b, f b :=
  (Fin.sum_univ_tiles 11 384 rfl f).symm

theorem dq : H.dq r d = (R.dq r d : EReal) := by
  rw [Head.dq]
  simp only [h.grad, h.k, h.scale, ← EReal.coe_mul, ← coe_sum]
  rw [← Finset.sum_mul, h.tiled fun b => R.grad r b * R.k b d]
  rfl
theorem dk : H.dk b d = (R.dk b d : EReal) := by
  rw [Head.dk]
  simp only [h.grad, h.q, h.scale, ← EReal.coe_mul, ← coe_sum]
  rfl
theorem dv : H.dv b d = (R.dv b d : EReal) := by
  rw [Head.dv]
  simp only [h.wgt, h.g, ← EReal.coe_mul, ← coe_sum]
  rfl
theorem dck : H.dck b = (R.dck b : EReal) := by
  rw [Head.dck]
  simp only [h.grad, ← coe_sum]
  rw [zero_sub, ← EReal.coe_neg]
  rfl
theorem drow : H.drow r = (R.drow r : EReal) := by
  rw [Head.drow]
  simp only [h.grad, ← coe_sum]
  rw [h.tiled fun b => R.grad r b]
  rfl

end Holds

end Cert.Attn
-- ==== Proof.Agree.lean ====
module

public import proofs.«01_k».proof.Proof.HostRead
public import proofs.«01_k».proof.Proof.RefRead
public import proofs.«01_k».proof.Proof.Real
public import proofs.«01_k».proof.Proof.Results

@[expose] public section

set_option maxRecDepth 16384

noncomputable section

namespace Cert.Attn

open Idealize Idealize.ShloMosaic
open Cert.ReferenceIdeal Cert.ReferenceIdeal.Gen Cert.ReferenceIdeal.Read
open Cert.KernelIdeal.Hand (scale col headAt colAt rawScores scores tops exps mass logMass rowDelta rowCum rawScores_apply scores_apply
  tops_apply exps_apply mass_apply logMass_apply rowDelta_apply rowCum_apply)

/-- The maximum of a row of masked scores is real, and the exponentials below it are the row's, whatever real number
    has been added to the row. -/
theorem soft_row (R : Reals) (r : Fin 4224) (a : ℝ) (s : Fin 4224 → EReal)
    (hs : ∀ b, s b = if b.val ≤ r.val then ((R.score r b + a : ℝ) : EReal) else ⊥) :
    ∃ ν : ℝ, Finset.univ.fold max ⊥ s = ((ν + a : ℝ) : EReal)
      ∧ ∀ b, Ideal.exp (s b - ((ν + a : ℝ) : EReal)) = (R.e ν r b : EReal) := by
  obtain ⟨μ, hμ⟩ := top_real s (fun b => by
    rw [hs]
    split
    · exact EReal.coe_ne_top _
    · exact bot_ne_top) ⟨r, by
      rw [hs, if_pos (le_refl _)]
      exact EReal.coe_ne_bot _⟩
  refine ⟨μ - a, by rw [hμ, sub_add_cancel], fun b => ?_⟩
  rw [sub_add_cancel, hs, Reals.e]
  split
  · rw [← EReal.coe_sub, exp_coe]
    congr 2
    ring
  · rw [EReal.bot_sub, exp_bot]
    rfl

variable (q k v : FVec Ideal S4224x1024 .bf16) (cum : FVec Ideal S4224x8 .f32) (g : FVec Ideal S4224x1024 .f32)

/-- Every entry of the five arguments is a real number. -/
structure AllReal : Prop where
  q : ∀ i, q i = ((EReal.toReal (q i) : ℝ) : EReal)
  k : ∀ i, k i = ((EReal.toReal (k i) : ℝ) : EReal)
  v : ∀ i, v i = ((EReal.toReal (v i) : ℝ) : EReal)
  cum : ∀ i, cum i = ((EReal.toReal (cum i) : ℝ) : EReal)
  g : ∀ i, g i = ((EReal.toReal (g i) : ℝ) : EReal)

/-- Head `h` of the arguments. -/
def realsOf (h : Fin 8) : Reals where
  q r d := EReal.toReal (q (ix2 r (col h d)))
  k r d := EReal.toReal (k (ix2 r (col h d)))
  v r d := EReal.toReal (v (ix2 r (col h d)))
  g r d := EReal.toReal (g (ix2 r (col h d)))
  cum r := EReal.toReal (cum (ix2 r h))
  σ := EReal.toReal scale

theorem scale_coe : scale = ((EReal.toReal scale : ℝ) : EReal) := by
  obtain ⟨σ, hσ⟩ := scale_real
  rw [hσ, EReal.toReal_coe]

variable {q k v cum g} (H : AllReal q k v cum g) (h : Fin 8) (r b : Fin 4224)
include H

theorem dot_q : (∑ d : Fin 128, q (ix2 r (col h d)) * k (ix2 b (col h d))) * scale
    = (((∑ d, (realsOf q k v cum g h).q r d * (realsOf q k v cum g h).k b d) * (realsOf q k v cum g h).σ : ℝ) : EReal) := by
  rw [scale_coe, EReal.coe_mul, coe_sum]
  congr 1
  refine Finset.sum_congr rfl fun d _ => ?_
  rw [H.q, H.k, EReal.coe_mul]
  rfl

theorem cum_coe : cum (ix2 b h) = ((realsOf q k v cum g h).cum b : EReal) := H.cum _

/-! # What the forward pass saves -/

theorem saved_row : ∃ ν : ℝ, tops (scores q k cum) (ix2 h r) = (ν : EReal)
    ∧ ∀ b, exps (scores q k cum) (ix3 h r b) = ((realsOf q k v cum g h).e ν r b : EReal) := by
  obtain ⟨ν, h1, h2⟩ := soft_row (realsOf q k v cum g h) r 0 (fun b => scores q k cum (ix3 h r b)) fun b => by
    rw [scores_apply, rawScores_apply, dot_q H, cum_coe H, ← EReal.coe_sub, add_zero]
    rfl
  rw [add_zero] at h1 h2
  have h3 : tops (scores q k cum) (ix2 h r) = (ν : EReal) := (tops_apply (scores q k cum) h r).trans h1
  exact ⟨ν, h3, fun b => by rw [exps_apply, h3, ← h2 b]⟩

theorem saved_mass {ν : ℝ} (he : ∀ b, exps (scores q k cum) (ix3 h r b) = ((realsOf q k v cum g h).e ν r b : EReal)) :
    mass (scores q k cum) (ix3 h r 0) = ((realsOf q k v cum g h).z ν r : EReal) := by
  rw [mass_apply, Reals.z, coe_sum]
  exact Finset.sum_congr rfl fun b _ => he b

theorem saved_lse : ∃ ν : ℝ, logMass (scores q k cum) (ix3 h r 0)
    = ((ν + Real.log ((realsOf q k v cum g h).z ν r) : ℝ) : EReal) := by
  obtain ⟨ν, h1, h2⟩ := saved_row H h r
  exact ⟨ν, by rw [logMass_apply, h1, saved_mass H h r h2, log_coe (Reals.z_pos _ _ _), ← EReal.coe_add]⟩

theorem saved_delta : rowDelta v g (scores q k cum) (ix3 h r 0) = ((realsOf q k v cum g h).dot r : EReal) := by
  obtain ⟨ν, h1, h2⟩ := saved_row H h r
  rw [rowDelta_apply, saved_mass H h r h2, ← Reals.dot_eq, coe_sum]
  refine Finset.sum_congr rfl fun d _ => ?_
  rw [EReal.coe_mul, coe_sum, H.g]
  refine congrArg (· * ((EReal.toReal (g (ix2 r (col h d))) : ℝ) : EReal)) (Finset.sum_congr rfl fun b _ => ?_)
  rw [h2, div_coe _ (Reals.z_pos _ _ _).ne', Reals.wgt_eq, H.v, EReal.coe_mul]
  rfl

/-! # The reference -/

theorem ref_row : ∃ ν : ℝ, ∀ b, val_main_v47 (F := Ideal) q k cum (ix3 h r b) = ((realsOf q k v cum g h).e ν r b : EReal) := by
  obtain ⟨ν, h1, h2⟩ := soft_row (realsOf q k v cum g h) r ((realsOf q k v cum g h).cum r)
    (fun b => val_main_v26_0 (F := Ideal) q k cum (ix3 h r b)) fun b => by
      rw [ref_score, ref_raw, dot_q H, cum_coe H, cum_coe H, ← EReal.coe_add, ← EReal.coe_sub, Reals.score, sub_add_eq_add_sub]
  exact ⟨ν, fun b => by rw [ref_exp, ref_top, h1, ← h2 b]⟩

theorem ref_mass {ν : ℝ} (he : ∀ b, val_main_v47 (F := Ideal) q k cum (ix3 h r b) = ((realsOf q k v cum g h).e ν r b : EReal)) :
    val_main_v49 (F := Ideal) q k cum (ix3 h r 0) = ((realsOf q k v cum g h).z ν r : EReal) := by
  rw [ref_sum, Reals.z, coe_sum]
  exact Finset.sum_congr rfl fun b _ => he b

theorem ref_wgt_real : val_main_v51 (F := Ideal) q k cum (ix3 h r b) = ((realsOf q k v cum g h).wgt r b : EReal) := by
  obtain ⟨ν, h1⟩ := ref_row H h r
  rw [ref_wgt, ref_mass H h r h1, h1, div_coe _ (Reals.z_pos _ _ _).ne', Reals.wgt_eq]

theorem ref_dp_real : val_main_v66 (F := Ideal) v g (ix3 h r b) = ((realsOf q k v cum g h).dp r b : EReal) := by
  rw [ref_dp, Reals.dp, coe_sum]
  refine Finset.sum_congr rfl fun d _ => ?_
  rw [H.g, H.v, EReal.coe_mul]
  rfl

theorem ref_grad_real : val_main_v79 (F := Ideal) q k v cum g (ix3 h r b) = ((realsOf q k v cum g h).grad r b : EReal) := by
  obtain ⟨ν, h1⟩ := ref_row H h r
  have hz := ((realsOf q k v cum g h).z_pos ν r).ne'
  rw [ref_grad, ← Reals.grad_eq _ ν]
  split
  · rw [ref_both, ref_dot, ref_dp_real H, ref_mass H h r h1, h1, div_coe _ hz, EReal.coe_mul, EReal.coe_add, EReal.coe_neg, coe_sum]
    refine congrArg (fun x : EReal => (_ + -x) * _) (Finset.sum_congr rfl fun b' _ => ?_)
    rw [ref_dp_real H, ref_inv, ref_mass H h r h1, h1, ← EReal.coe_mul, ← EReal.coe_one, div_coe _ (mul_ne_zero hz hz),
      EReal.coe_mul, EReal.coe_mul]
  · rename_i hb
    rw [show (realsOf q k v cum g h).e ν r b = 0 from if_neg hb, mul_zero]
    rfl

end Cert.Attn
-- ==== Proof.Equal.lean ====
module

public import proofs.«01_k».proof.Proof.Agree

@[expose] public section

set_option maxRecDepth 16384

noncomputable section

namespace Cert.Attn

open Idealize Idealize.ShloMosaic
open Cert.ReferenceIdeal.Read
open Cert.KernelIdeal Cert.KernelIdeal.Gen
open Cert.KernelIdeal.Hand

/-! # The launch's five arrays are the reference's -/

variable (m : (ℓ : Loc nD τ sig) → Buf (Elt Ideal) ℓ) (c : Dev nD)

/-- The arguments on a device. -/
abbrev argQ : FVec Ideal S4224x1024 .bf16 := m ((c.tc : Thread nD τ).loc main_arg0)
abbrev argK : FVec Ideal S4224x1024 .bf16 := m ((c.tc : Thread nD τ).loc main_arg1)
abbrev argV : FVec Ideal S4224x1024 .bf16 := m ((c.tc : Thread nD τ).loc main_arg2)
abbrev argC : FVec Ideal S4224x8 .f32 := m ((c.tc : Thread nD τ).loc main_arg3)
abbrev argG : FVec Ideal S4224x1024 .f32 := m ((c.tc : Thread nD τ).loc main_arg4)

theorem head_q (h : Fin 8) (r d) : (head m c h).q r d = argQ m c (ix2 r (col h d)) := congrFun (V_main_arg0 m c) (ix2 r (col h d))
theorem head_k (h : Fin 8) (r d) : (head m c h).k r d = argK m c (ix2 r (col h d)) := congrFun (V_main_arg1 m c) (ix2 r (col h d))
theorem head_v (h : Fin 8) (r d) : (head m c h).v r d = argV m c (ix2 r (col h d)) := congrFun (V_main_arg2 m c) (ix2 r (col h d))
theorem head_g (h : Fin 8) (r d) : (head m c h).g r d = argG m c (ix2 r (col h d)) := congrFun (V_main_arg4 m c) (ix2 r (col h d))
theorem head_ck (h : Fin 8) (r) : (head m c h).ck r = rowCum (argC m c) (ix3 h 0 r) := congrFun (V_ck m c) (ix3 h 0 r)
theorem head_lse (h : Fin 8) (r) : (head m c h).lse r = logMass (scores (argQ m c) (argK m c) (argC m c)) (ix3 h r 0) :=
  congrFun (V_lse m c) (ix3 h r 0)
theorem head_delta (h : Fin 8) (r) :
    (head m c h).delta r = rowDelta (argV m c) (argG m c) (scores (argQ m c) (argK m c) (argC m c)) (ix3 h r 0) :=
  congrFun (V_delta m c) (ix3 h r 0)

variable {m c} (H : AllReal (argQ m c) (argK m c) (argV m c) (argC m c) (argG m c)) (h : Fin 8)
include H

theorem holds : Holds (head m c h) (realsOf (argQ m c) (argK m c) (argV m c) (argC m c) (argG m c) h) where
  scale := scale_coe
  q r d := by rw [head_q, H.q]; rfl
  k r d := by rw [head_k, H.k]; rfl
  v r d := by rw [head_v, H.v]; rfl
  g r d := by rw [head_g, H.g]; rfl
  ck r := by rw [head_ck, rowCum_apply]; exact cum_coe H h r
  lse r := by rw [head_lse]; exact saved_lse H h r
  delta r := by rw [head_delta]; exact saved_delta H h r

theorem same_dq : dqArr m c = val_main_v99 (F := Ideal) (argQ m c) (argK m c) (argV m c) (argC m c) (argG m c) := by
  funext y
  obtain ⟨r, x, rfl⟩ : ∃ r x, y = ix2 r x := ⟨_, _, ValueIdx.eq_ix2 y⟩
  refine Eq.trans ((holds H (headAt x)).dq r (colAt x)) ?_
  rw [ref_dq, Reals.dq, Finset.sum_mul, coe_sum]
  refine Finset.sum_congr rfl fun b _ => ?_
  rw [ref_grad_real H, H.k, scale_coe, ← EReal.coe_mul, ← EReal.coe_mul, mul_right_comm]
  rfl

theorem same_dk : dkArr m c = val_main_v98 (F := Ideal) (argQ m c) (argK m c) (argV m c) (argC m c) (argG m c) := by
  funext y
  obtain ⟨b, x, rfl⟩ : ∃ r x, y = ix2 r x := ⟨_, _, ValueIdx.eq_ix2 y⟩
  refine Eq.trans ((holds H (headAt x)).dk b (colAt x)) ?_
  rw [ref_dk, Reals.dk, Finset.sum_mul, coe_sum]
  refine Finset.sum_congr rfl fun r _ => ?_
  rw [ref_grad_real H, H.q, scale_coe, ← EReal.coe_mul, ← EReal.coe_mul, mul_right_comm]
  rfl

theorem same_dv : dvArr m c = val_main_v100 (F := Ideal) (argQ m c) (argK m c) (argC m c) (argG m c) := by
  funext y
  obtain ⟨b, x, rfl⟩ : ∃ r x, y = ix2 r x := ⟨_, _, ValueIdx.eq_ix2 y⟩
  refine Eq.trans ((holds H (headAt x)).dv b (colAt x)) ?_
  rw [ref_dv, Reals.dv, coe_sum]
  refine Finset.sum_congr rfl fun r _ => ?_
  rw [ref_wgt_real H, H.g, ← EReal.coe_mul, mul_comm]
  rfl

theorem same_dck : dckArr m c = val_main_v102 (F := Ideal) (argQ m c) (argK m c) (argV m c) (argC m c) (argG m c) := by
  funext y
  obtain ⟨h, o, b, rfl⟩ : ∃ h o b, y = ix3 h o b := ⟨_, _, _, ValueIdx.eq_ix3 y⟩
  obtain rfl : o = 0 := Subsingleton.elim (α := Fin 1) _ _
  refine Eq.trans ((holds H h).dck b) ?_
  rw [ref_dck, Reals.dck, ← Finset.sum_neg_distrib, coe_sum]
  refine Finset.sum_congr rfl fun r _ => ?_
  rw [ref_grad_real H, EReal.coe_neg]

theorem same_drow : drowArr m c = val_main_v104 (F := Ideal) (argQ m c) (argK m c) (argV m c) (argC m c) (argG m c) := by
  funext y
  obtain ⟨h, r, o, rfl⟩ : ∃ h r o, y = ix3 h r o := ⟨_, _, _, ValueIdx.eq_ix3 y⟩
  obtain rfl : o = 0 := Subsingleton.elim (α := Fin 1) _ _
  refine Eq.trans ((holds H h).drow r) ?_
  rw [ref_drow, Reals.drow, coe_sum]
  exact Finset.sum_congr rfl fun b _ => (ref_grad_real H h r b).symm

end Cert.Attn
-- ==== Proof.Finite.lean ====
module

public import proofs.«01_k».proof.Proof.Agree
public import proofs.«01_k».proof.Proof.Gen.Pre_finite
public import Idealize.ShloMosaic.Lib.ReduceAll

@[expose] public section

set_option maxRecDepth 16384

noncomputable section

namespace Cert.Attn

open Idealize Idealize.ShloMosaic

theorem bits_inf : Ideal.ofBits .f32 0x7F800000#32 = ⊤ := by simp [Ideal.ofBits, Ideal.ieee]

/-- An extended real of absolute value below `⊤` is real. -/
theorem real_of_abs {x : EReal} (h : Ideal.cmp .olt (max x (-x)) ⊤ = 1#1) : x = ((EReal.toReal x : ℝ) : EReal) := by
  refine (EReal.coe_toReal ?_ ?_).symm
  · rintro rfl
    revert h
    simp [Ideal.cmp]
  · rintro rfl
    revert h
    simp [Ideal.cmp]

theorem and_one {x y : BitVec 1} (h : IntOp.andi x y = 1#1) : x = 1#1 ∧ y = 1#1 := by
  revert x y
  decide

instance : Subsingleton Cert.Pre_finite.S_.Idx := ⟨fun a b => funext fun i => i.elim0⟩

/-- What the precondition says of the arguments. -/
theorem allReal_of (q k v : FVec Ideal Cert.Pre_finite.S4224x1024 .bf16) (cum : FVec Ideal Cert.Pre_finite.S4224x8 .f32)
    (g : FVec Ideal Cert.Pre_finite.S4224x1024 .f32) (h : Cert.Pre_finite.fn (F := Ideal) q k v cum g = fun _ => 1#1) : AllReal q k v cum g := by
  have h0 := congrFun h (fun i => i.elim0)
  obtain ⟨h1, hg⟩ := and_one h0
  obtain ⟨h2, hc⟩ := and_one h1
  obtain ⟨h3, hv⟩ := and_one h2
  obtain ⟨hq, hk⟩ := and_one h3
  refine ⟨fun i => real_of_abs ?_, fun i => real_of_abs ?_, fun i => real_of_abs ?_, fun i => real_of_abs ?_, fun i => real_of_abs ?_⟩
  · have := Host.reduce_andi_all _ _ _ _ _ hq i
    rw [← bits_inf]; exact this
  · have := Host.reduce_andi_all _ _ _ _ _ hk i
    rw [← bits_inf]; exact this
  · have := Host.reduce_andi_all _ _ _ _ _ hv i
    rw [← bits_inf]; exact this
  · have := Host.reduce_andi_all _ _ _ _ _ hc i
    rw [← bits_inf]; exact this
  · have := Host.reduce_andi_all _ _ _ _ _ hg i
    rw [← bits_inf]; exact this

end Cert.Attn
-- ==== Proof.Blocked.lean ====
module

public import Idealize.ShloMosaic.Lib.Pipeline.Value
public import Idealize.ShloMosaic.Lib.Pipeline.ValueKit
public import Idealize.ShloMosaic.Lib.Pointwise
public import Idealize.ShloMosaic.PureOps.Ideal.Laws

@[expose] public section

noncomputable section

namespace Cert.Blocked

open Idealize Idealize.ShloMosaic

/-! # Sums in blocks -/

/-- Offsets of a whole two-axis buffer. -/
theorem off2 : (![0, 0] : Fin 2 → ℕ) = fun _ => 0 := funext fun a => by fin_cases a <;> rfl

/-- Offsets of a whole three-axis buffer. -/
theorem off3 : (![0, 0, 0] : Fin 3 → ℕ) = fun _ => 0 := funext fun a => by fin_cases a <;> rfl

/-- A running value that starts afresh at the multiples of `K` and otherwise adds to what it was is the sum of what was
    added since the last multiple. -/
theorem running {M : Type*} [AddCommMonoid M] {N K : ℕ} (a : (n : ℕ) → n < N → M) (p : (n : ℕ) → n < N → M)
    (h0 : ∀ n h, n % K = 0 → a n h = p n h)
    (h1 : ∀ n h, n % K ≠ 0 → a n h = a (n - 1) (Nat.lt_of_le_of_lt (Nat.sub_le _ _) h) + p n h) :
    ∀ (r j : ℕ) (hj : j < K) (h : K * r + j < N),
      a (K * r + j) h = ∑ i : Fin (j + 1), p (K * r + i.val) (by have := i.isLt; omega) := by
  intro r j
  induction j with
  | zero =>
    intro hj h
    rw [h0 _ _ (by simp)]
    simp
  | succ j ih =>
    intro hj h
    have hm : (K * r + (j + 1)) % K = j + 1 := by rw [Nat.mul_add_mod, Nat.mod_eq_of_lt hj]
    rw [h1 _ _ (by omega), Fin.sum_univ_castSucc]
    exact congrArg (· + _) (ih (by omega) (by omega))

/-- A sum over `K * b` terms, `b` at a time. -/
theorem sum_blocks {M : Type*} [AddCommMonoid M] {n : ℕ} (K b : ℕ) (hn : n = K * b) (g : Fin n → M) :
    (∑ i : Fin K, ∑ k : Fin b, g ⟨i.val * b + k.val, by
      have := i.isLt; have := k.isLt; subst hn
      calc i.val * b + k.val < i.val * b + b := by omega
        _ = (i.val + 1) * b := by ring
        _ ≤ K * b := Nat.mul_le_mul_right _ (by omega)⟩) = ∑ k : Fin n, g k := by
  subst hn
  rw [← Fintype.sum_prod_type', ← finProdFinEquiv.sum_comp]
  refine Finset.sum_congr rfl fun x _ => congrArg g (Fin.ext ?_)
  show x.1.val * b + x.2.val = x.2.val + b * x.1.val
  ring

/-- A two-axis array read at any pair of numbers: outside the array there is zero. -/
def ext {M L : ℕ} (f : Fin M → Fin L → EReal) (i j : ℕ) : EReal := if h : i < M ∧ j < L then f ⟨i, h.1⟩ ⟨j, h.2⟩ else 0

theorem ext_eq {M L : ℕ} (f : Fin M → Fin L → EReal) {i j : ℕ} (hi : i < M) (hj : j < L) : ext f i j = f ⟨i, hi⟩ ⟨j, hj⟩ :=
  dif_pos ⟨hi, hj⟩

/-- A tile's product with the contracted axis taken `tk` at a time: `term` is the product of one point's blocks, `held` the
    running sum over the `K` points of a tile; at a tile's last point it is the whole product. -/
theorem tiled {tm tn tk K L Np : ℕ} (hL : L = K * tk) (X Y : ℕ → ℕ → ℕ → EReal)
    (held term : Fin tm → Fin tn → (n : ℕ) → n < Np → EReal)
    (h0 : ∀ a b n h, n % K = 0 → held a b n h = term a b n h)
    (h1 : ∀ a b n h, n % K ≠ 0 → held a b n h = held a b (n - 1) (Nat.lt_of_le_of_lt (Nat.sub_le _ _) h) + term a b n h)
    (ht : ∀ a b n h, term a b n h = ∑ k : Fin tk, X (n / K) a.val (n % K * tk + k.val) * Y (n / K) b.val (n % K * tk + k.val))
    (a : Fin tm) (b : Fin tn) (r : ℕ) {p : ℕ} (hp : p = K * r + (K - 1)) (hK : 0 < K) (h : p < Np) :
    held a b p h = ∑ k : Fin L, X r a.val k.val * Y r b.val k.val := by
  subst hp
  rw [running (held a b) (term a b) (h0 a b) (h1 a b) r (K - 1) (by omega) h, ← sum_blocks K tk hL fun k : Fin L => X r a.val k.val * Y r b.val k.val]
  obtain ⟨K, rfl⟩ : ∃ k, K = k + 1 := ⟨K - 1, by omega⟩
  refine Finset.sum_congr rfl fun i _ => ?_
  rw [ht]
  have e : ((K + 1) * r + i.val) % (K + 1) = i.val := by rw [Nat.mul_add_mod, Nat.mod_eq_of_lt (by have := i.isLt; omega)]
  have d : ((K + 1) * r + i.val) / (K + 1) = r := by rw [Nat.mul_add_div (by omega), Nat.div_eq_of_lt (by have := i.isLt; omega), Nat.add_zero]
  rw [e, d]

end Cert.Blocked

end
-- ==== Proof.MlpUp.lean ====
module

public import proofs.«01_k».proof.Defs
public import proofs.«01_k».proof.Proof.Gen.MlpUp.Frame
public import proofs.«01_k».proof.Proof.Gen.MlpUpIdeal.Value
public import proofs.«01_k».proof.Proof.Gen.MlpUpRefIdeal.Read
public import proofs.«01_k».proof.Proof.Blocked

@[expose] public section

set_option maxRecDepth 16384

noncomputable section

namespace Cert.MlpUpIdeal.Hand

open Idealize Idealize.ShloMosaic Idealize.SL.Sem
open Cert.MlpUpIdeal Cert.MlpUpIdeal.Gen Cert.MlpUpIdeal.Value Cert.Blocked

/-! # The MLP's first product and its activation: one point a tile -/

variable (m : (ℓ : Loc nD τ sig) → Buf (Elt Ideal) ℓ) (c : Dev nD)

theorem idx_0 : ∀ t : Fin cfg0.N, win0_0.index t = ![t.val / 16, 0] := (by decide +kernel : ∀ t : Fin grid0.N, _)
theorem idx_1 : ∀ t : Fin cfg0.N, win0_1.index t = ![0, t.val % 16] := (by decide +kernel : ∀ t : Fin grid0.N, _)
theorem idx_2 : ∀ t : Fin cfg0.N, win0_2.index t = ![t.val / 16, t.val % 16] := (by decide +kernel : ∀ t : Fin grid0.N, _)
theorem idx_3 : ∀ t : Fin cfg0.N, win0_3.index t = ![t.val / 16, t.val % 16] := (by decide +kernel : ∀ t : Fin grid0.N, _)
theorem flush_2 : ∀ t : Fin cfg0.N, (cfg0.win 2).flush t = true := (by decide +kernel : ∀ t : Fin grid0.N, _)
theorem flush_3 : ∀ t : Fin cfg0.N, (cfg0.win 3).flush t = true := (by decide +kernel : ∀ t : Fin grid0.N, _)

abbrev argH : S4224x2048.Idx → EReal := m ((c.tc : Thread nD τ).loc main_arg0)
abbrev argW : S2048x8192.Idx → EReal := m ((c.tc : Thread nD τ).loc main_arg1)
abbrev outZ : S4224x8192.Idx → EReal := (dats m 0 c).arrAt 2 cfg0.N
abbrev outU : S4224x8192.Idx → EReal := (dats m 0 c).arrAt 3 cfg0.N

theorem in_0 (t : Fin cfg0.N) (a : Fin 1408) (k : Fin 2048) : (iblk m c 0 t : Vec Ideal S1408x2048 .bf16) (ix2 a k)
    = argH m c (ix2 ⟨t.val / 16 * 1408 + a.val, by have := lt_of_lt_of_eq t.isLt N_0; omega⟩ k) := by
  show ((cfg0.win 0).blk t).view.read (Elt Ideal) (argH m c) (ix2 a k) = _
  blk_ext [idx_0 t]
theorem in_1 (t : Fin cfg0.N) (k : Fin 2048) (b : Fin 512) : (iblk m c 1 t : Vec Ideal S2048x512 .bf16) (ix2 k b)
    = argW m c (ix2 k ⟨t.val % 16 * 512 + b.val, by omega⟩) := by
  show ((cfg0.win 1).blk t).view.read (Elt Ideal) (argW m c) (ix2 k b) = _
  blk_ext [idx_1 t]
theorem blk_2 (t : Fin cfg0.N) (X : S4224x8192.Idx → Elt Ideal .f32) (a : Fin 1408) (b : Fin 512) :
    ((cfg0.win 2).blk t).view.read (Elt Ideal) X (ix2 a b)
      = X (ix2 ⟨t.val / 16 * 1408 + a.val, by have := lt_of_lt_of_eq t.isLt N_0; omega⟩ ⟨t.val % 16 * 512 + b.val, by omega⟩) := by
  blk_ext [idx_2 t]
theorem blk_3 (t : Fin cfg0.N) (X : S4224x8192.Idx → Elt Ideal .bf16) (a : Fin 1408) (b : Fin 512) :
    ((cfg0.win 3).blk t).view.read (Elt Ideal) X (ix2 a b)
      = X (ix2 ⟨t.val / 16 * 1408 + a.val, by have := lt_of_lt_of_eq t.isLt N_0; omega⟩ ⟨t.val % 16 * 512 + b.val, by omega⟩) := by
  blk_ext [idx_3 t]

theorem out_2 (x0 : Vec Ideal S1408x2048 .bf16) (x1 : Vec Ideal S2048x512 .bf16) : out0_2 x0 x1 = k0_pay1 x0 x1 := by
  unfold out0_2 r0_0 r0_1 r0_2
  rw [View.canon_unit_zero (S := S1408x512) off2, View.ld_unit_zero (S := S1408x2048) off2, View.ld_unit_zero (S := S2048x512) off2]
theorem out_3 (x0 : Vec Ideal S1408x2048 .bf16) (x1 : Vec Ideal S2048x512 .bf16) : out0_3 x0 x1 = k0_pay2 x0 x1 := by
  unfold out0_3 r0_0 r0_1 r0_2
  rw [View.canon_unit_zero (S := S1408x512) off2, View.ld_unit_zero (S := S1408x2048) off2, View.ld_unit_zero (S := S2048x512) off2]

theorem part_apply (x0 : Vec Ideal S1408x2048 .bf16) (x1 : Vec Ideal S2048x512 .bf16) (a : Fin 1408) (b : Fin 512) :
    k0_pay1 x0 x1 (ix2 a b) = ∑ k : Fin 2048, x0 (ix2 a k) * x1 (ix2 k b) := by
  pointwise [k0_pay1]
theorem act_apply (x0 : Vec Ideal S1408x2048 .bf16) (x1 : Vec Ideal S2048x512 .bf16) (a : Fin 1408) (b : Fin 512) :
    k0_pay2 x0 x1 (ix2 a b) = max (k0_pay1 x0 x1 (ix2 a b)) 0 * max (k0_pay1 x0 x1 (ix2 a b)) 0 := by
  unfold k0_pay2
  generalize k0_pay1 x0 x1 = z
  pointwise

/-- The product at an entry. -/
def prod (a : Fin 4224) (b : Fin 8192) : EReal := ∑ k : Fin 2048, argH m c (ix2 a k) * argW m c (ix2 k b)

variable (a : Fin 4224) (b : Fin 8192)

/-- The point whose tile holds an entry. -/
def pt : Fin cfg0.N := ⟨16 * (a.val / 1408) + b.val / 512, by rw [show cfg0.N = 48 from N_0]; omega⟩

theorem tile_prod : k0_pay1 (iblk m c 0 (pt a b)) (iblk m c 1 (pt a b)) (ix2 (⟨a.val % 1408, by omega⟩ : Fin 1408) (⟨b.val % 512, by omega⟩ : Fin 512)) = prod m c a b := by
  refine (part_apply ..).trans (Finset.sum_congr rfl fun k _ => ?_)
  rw [in_0, in_1]
  refine congrArg₂ (· * ·) (congrArg _ (congrArg₂ ix2 (Fin.ext ?_) rfl)) (congrArg _ (congrArg₂ ix2 rfl (Fin.ext ?_))) <;> dsimp only [pt] <;> omega

theorem at_entry : (ix2 ⟨(pt a b).val / 16 * 1408 + a.val % 1408, by dsimp only [pt]; omega⟩ ⟨(pt a b).val % 16 * 512 + b.val % 512, by dsimp only [pt]; omega⟩ : S4224x8192.Idx) = ix2 a b :=
  congrArg₂ ix2 (Fin.ext (by dsimp only [pt]; omega)) (Fin.ext (by dsimp only [pt]; omega))

theorem value_z : outZ m c (ix2 a b) = prod m c a b := by
  have h := congrFun (blocks2 m c (pt a b) (flush_2 _)) (ix2 (⟨a.val % 1408, by omega⟩ : Fin 1408) (⟨b.val % 512, by omega⟩ : Fin 512))
  rw [blk_2, flushed2, out_2] at h
  rw [← at_entry a b]
  exact h.trans (tile_prod m c a b)

theorem value_u : outU m c (ix2 a b) = max (prod m c a b) 0 * max (prod m c a b) 0 := by
  have h := congrFun (blocks3 m c (pt a b) (flush_3 _)) (ix2 (⟨a.val % 1408, by omega⟩ : Fin 1408) (⟨b.val % 512, by omega⟩ : Fin 512))
  rw [blk_3, flushed3, out_3] at h
  rw [← at_entry a b]
  refine h.trans ((act_apply ..).trans ?_)
  rw [tile_prod]

/-! ## The reference -/

section
open Cert.MlpUpRefIdeal.Read

theorem ref_z (x0 : S4224x2048.Idx → EReal) (x1 : S2048x8192.Idx → EReal) :
    (val_main_v2 (F := Ideal) x0 x1 : S4224x8192.Idx → EReal) (ix2 a b) = ∑ k : Fin 2048, x0 (ix2 a k) * x1 (ix2 k b) := by
  refine (val_main_v2_apply x0 x1 _).trans (Finset.sum_congr rfl fun k _ => congrArg₂ (· * ·) (congrArg x0 ?_) (congrArg x1 ?_)) <;>
    exact ValueIdx.eq_ix2 _

theorem same_z : outZ m c = val_main_v2 (F := Ideal) (argH m c) (argW m c) := by
  funext y
  obtain ⟨a, b, rfl⟩ : ∃ a b, y = ix2 a b := ⟨_, _, ValueIdx.eq_ix2 y⟩
  exact (value_z m c a b).trans (ref_z a b _ _).symm

theorem same_u : outU m c = val_main_v5 (F := Ideal) (argH m c) (argW m c) := by
  funext y
  obtain ⟨a, b, rfl⟩ : ∃ a b, y = ix2 a b := ⟨_, _, ValueIdx.eq_ix2 y⟩
  refine (value_u m c a b).trans ?_
  rw [val_main_v5_apply, val_main_v4_apply, val_main_v3_apply, val_main_call0_v0_apply, val_main_call0_cst_apply]
  have h := ref_z a b (argH m c) (argW m c)
  rw [← prod] at h
  rw [← h]
  show _ = max _ (Ideal.ofBits .f32 0x00000000#32) * max _ (Ideal.ofBits .f32 0x00000000#32)
  rw [Ideal.ofBits_zero_f32]

end

theorem frame_ref : Cert.quiescent_MlpUpRefIdeal := fun m g _ =>
  (θ_run _ _ _).mono (fun r h => ⟨fun c => (h c).2.2, sem_eq_zero_of_no_sems (by decide) r.2⟩) (Cert.MlpUpRefIdeal.Value.run m g)

theorem values : Cert.algebraic_MlpUpIdeal_MlpUpRefIdeal := by
  intro m g m' g' _ hagree
  refine ⟨fun c => outZ m c, fun c => outU m c, run_blocks m g, ?_⟩
  refine (θ_run _ _ _).mono (fun r h c => ?_) (Cert.MlpUpRefIdeal.Value.run m' g')
  obtain ⟨h0, h1, hargs⟩ := h c
  obtain ⟨e0, e1⟩ := hagree c
  rw [e0, e1] at h0 h1
  exact ⟨h0.trans (same_z m c).symm, h1.trans (same_u m c).symm, hargs⟩

end Cert.MlpUpIdeal.Hand

end
-- ==== Proof.MlpDownLoss.lean ====
module

public import proofs.«01_k».proof.Defs
public import proofs.«01_k».proof.Proof.Gen.MlpDownLoss.Frame
public import proofs.«01_k».proof.Proof.Gen.MlpDownLossIdeal.Value
public import proofs.«01_k».proof.Proof.Gen.MlpDownLossRefIdeal.Read
public import proofs.«01_k».proof.Proof.Blocked

@[expose] public section

set_option maxRecDepth 16384

noncomputable section

namespace Cert.MlpDownLossIdeal.Hand

open Idealize Idealize.ShloMosaic Idealize.SL.Sem
open Cert.MlpDownLossIdeal Cert.MlpDownLossIdeal.Gen Cert.MlpDownLossIdeal.Value Cert.Blocked

/-! # The MLP's output and the gradient of the loss at it: four column blocks of one product, summed in the scratch; the last one turns the sum into the gradient -/

section
variable {F : FTy → Type} [FloatOps F]
variable (c : Dev nD) (i : grid0.Coords) (a3 : Memref sig .tc .vmem S1408x2048 .bf16) (h3 : a3.IsWhole)
  (a4 : Memref sig .tc .vmem S2048x512 .bf16) (h4 : a4.IsWhole) (a5 : Memref sig .tc .vmem S1408x512 .f32) (h5 : a5.IsWhole)
  (a6 : Memref sig .tc .vmem S1408x512 .f32) (h6 : a6.IsWhole)
  (a7 : Memref sig .tc .vmem S1408x512 .f32) (h7 : a7.IsWhole) (a8 : Memref sig .tc .vmem S1408x512 .bf16) (h8 : a8.IsWhole)
  (a9 : Memref sig .tc .vmem S1408x512 .f32) (h9 : a9.IsWhole) (x0 : Vec F S1408x2048 .bf16) (x1 : Vec F S2048x512 .bf16) (x2 x3 : Vec F S1408x512 .f32)
  (s : Vec F S1408x512 .f32)

/-- The first block of a sum: the scratch is stored whole. -/
theorem scr_A (q0 : cond0_0 i) (q1 : ¬cond0_1 i) (q2 : ¬cond0_2 i) :
    sout0_A_0 c i a3 h3 a4 h4 a5 h5 a6 h6 a7 h7 a8 h8 a9 h9 q0 q1 q2 x0 x1 x2 x3 = k0_pay1 x0 x1 := by
  unfold sout0_A_0
  rw [View.read_writes_eq_canon _ _ _ (scover0_A_0 c i a3 h3 a4 h4 a5 h5 a6 h6 a7 h7 a8 h8 a9 h9 q0 q1 q2 x0 x1 x2 x3)]
  unfold kernelRun0_A
  dsimp only
  sl_unfold_words
  rw [View.canon_unit_zero (S := S1408x512) off2]
  unfold k0_pay2
  simp only [View.readAt_eq_ld, h3.read_unread, h4.read_unread, View.ld_unit_zero (S := S1408x2048) off2, View.ld_unit_zero (S := S2048x512) off2, View.ld_unit_zero (S := S1408x512) off2, shapeCast_self]

/-- A later block: the scratch grows. -/
theorem scr_B (q0 : ¬cond0_0 i) (q1 : cond0_1 i) (q2 : ¬cond0_2 i) :
    sout0_B_0 c i a3 h3 a4 h4 a5 h5 a6 h6 a7 h7 a8 h8 a9 h9 q0 q1 q2 x0 x1 x2 x3 s = addf s (k0_pay1 x0 x1) := by
  unfold sout0_B_0
  rw [View.read_writes_eq_canon _ _ _ (scover0_B_0 c i a3 h3 a4 h4 a5 h5 a6 h6 a7 h7 a8 h8 a9 h9 q0 q1 q2 x0 x1 x2 x3 s)]
  unfold kernelRun0_B
  dsimp only
  sl_unfold_words
  rw [View.canon_unit_zero (S := S1408x512) off2]
  unfold k0_pay3
  simp only [View.readAt_eq_ld, h3.read_unread, h4.read_unread, h5.read_unread, h6.read_unread, h9.read_unread, View.ld_unit_zero (S := S1408x2048) off2, View.ld_unit_zero (S := S2048x512) off2, View.ld_unit_zero (S := S1408x512) off2, shapeCast_self]

/-- The last block: the scratch grows and is written out. -/
theorem scr_C (q0 : ¬cond0_0 i) (q1 : cond0_1 i) (q2 : cond0_2 i) :
    sout0_C_0 c i a3 h3 a4 h4 a5 h5 a6 h6 a7 h7 a8 h8 a9 h9 q0 q1 q2 x0 x1 x2 x3 s = addf s (k0_pay1 x0 x1) := by
  unfold sout0_C_0
  rw [View.read_writes_eq_canon _ _ _ (scover0_C_0 c i a3 h3 a4 h4 a5 h5 a6 h6 a7 h7 a8 h8 a9 h9 q0 q1 q2 x0 x1 x2 x3 s)]
  unfold kernelRun0_C
  dsimp only
  sl_unfold_words
  rw [View.canon_unit_zero (S := S1408x512) off2]
  unfold k0_pay3
  simp only [View.readAt_eq_ld, h3.read_unread, h4.read_unread, h5.read_unread, h6.read_unread, h9.read_unread, View.ld_unit_zero (S := S1408x2048) off2, View.ld_unit_zero (S := S2048x512) off2, View.ld_unit_zero (S := S1408x512) off2, shapeCast_self]

theorem out_C_4 (q0 : ¬cond0_0 i) (q1 : cond0_1 i) (q2 : cond0_2 i) :
    out0_C_4 c i a3 h3 a4 h4 a5 h5 a6 h6 a7 h7 a8 h8 a9 h9 q0 q1 q2 x0 x1 x2 x3 s = k0_pay4 i (addf s (k0_pay1 x0 x1)) x2 x3 := by
  unfold out0_C_4
  rw [View.read_writes_eq_canon _ _ _ (cover0_C_4 c i a3 h3 a4 h4 a5 h5 a6 h6 a7 h7 a8 h8 a9 h9 q0 q1 q2 x0 x1 x2 x3 s)]
  unfold kernelRun0_C
  dsimp only
  sl_unfold_words
  rw [View.canon_unit_zero (S := S1408x512) off2, View.readCov_unit_zero (S := S1408x512) _ off2]
  unfold k0_pay3
  simp only [View.readAt_eq_ld, h3.read_unread, h4.read_unread, h5.read_unread, h6.read_unread, h9.read_unread, View.ld_unit_zero (S := S1408x2048) off2, View.ld_unit_zero (S := S2048x512) off2, View.ld_unit_zero (S := S1408x512) off2, shapeCast_self]

theorem out_C_5 (q0 : ¬cond0_0 i) (q1 : cond0_1 i) (q2 : cond0_2 i) :
    out0_C_5 c i a3 h3 a4 h4 a5 h5 a6 h6 a7 h7 a8 h8 a9 h9 q0 q1 q2 x0 x1 x2 x3 s = k0_pay5 i (addf s (k0_pay1 x0 x1)) x2 x3 := by
  unfold out0_C_5
  rw [View.read_writes_eq_canon _ _ _ (cover0_C_5 c i a3 h3 a4 h4 a5 h5 a6 h6 a7 h7 a8 h8 a9 h9 q0 q1 q2 x0 x1 x2 x3 s)]
  unfold kernelRun0_C
  dsimp only
  sl_unfold_words
  rw [View.canon_unit_zero (S := S1408x512) off2, View.readCov_unit_zero (S := S1408x512) _ off2]
  unfold k0_pay3
  simp only [View.readAt_eq_ld, h3.read_unread, h4.read_unread, h5.read_unread, h6.read_unread, h9.read_unread, View.ld_unit_zero (S := S1408x2048) off2, View.ld_unit_zero (S := S2048x512) off2, View.ld_unit_zero (S := S1408x512) off2, shapeCast_self]

end

variable (m : (ℓ : Loc nD τ sig) → Buf (Elt Ideal) ℓ) (c : Dev nD)

theorem idx_0 : ∀ t : Fin cfg0.N, win0_0.index t = ![t.val / 4 / 4, t.val % 4] := (by decide +kernel : ∀ t : Fin grid0.N, _)
theorem idx_1 : ∀ t : Fin cfg0.N, win0_1.index t = ![t.val % 4, t.val / 4 % 4] := (by decide +kernel : ∀ t : Fin grid0.N, _)

theorem idx_2 : ∀ t : Fin cfg0.N, win0_2.index t = ![t.val / 4 / 4, t.val / 4 % 4] := (by decide +kernel : ∀ t : Fin grid0.N, _)
theorem idx_3 : ∀ t : Fin cfg0.N, win0_3.index t = ![t.val / 4 / 4, t.val / 4 % 4] := (by decide +kernel : ∀ t : Fin grid0.N, _)
theorem row_block : ∀ t : Fin cfg0.N, (grid0.coords t 0).val = t.val / 4 / 4 := (by decide +kernel : ∀ t : Fin grid0.N, _)

abbrev argX : S4224x8192.Idx → EReal := m ((c.tc : Thread nD τ).loc main_arg0)
abbrev argW : S8192x2048.Idx → EReal := m ((c.tc : Thread nD τ).loc main_arg1)
abbrev argH : S4224x2048.Idx → EReal := m ((c.tc : Thread nD τ).loc main_arg2)
abbrev argT : S4096x2048.Idx → EReal := m ((c.tc : Thread nD τ).loc main_arg3)
abbrev outG : S4224x2048.Idx → EReal := G4 m c
abbrev outR : S4224x2048.Idx → EReal := G5 m c

/-- The targets between rows of zeros: what the call is handed. -/
def joined (x : S16x2048.Idx → EReal) (y : S4096x2048.Idx → EReal) (z : S112x2048.Idx → EReal) : S4224x2048.Idx → EReal :=
  concatenate S4224x2048 0 [⟨S16x2048, x⟩, ⟨S4096x2048, y⟩, ⟨S112x2048, z⟩] concatenates_S16x2048_S4096x2048_S112x2048_S4224x2048_d0
def tgt : S4224x2048.Idx → EReal := joined (fun _ => Ideal.ofBits .f32 0x00000000#32) (argT m c) (fun _ => Ideal.ofBits .f32 0x00000000#32)

/-- What the call finds in a buffer, the joining of the targets taken off. -/
theorem V_last (r : Ref sig .tc) : V m c r = (StableHlo.nary ![main_v0, main_arg3, main_v1] main_v2 (fun u =>
    (concatenate S4224x2048 0 [⟨S16x2048, (u 0 : (⟨S16x2048, .f32⟩ : BufTy).Contents (Elt Ideal))⟩, ⟨S4096x2048, (u 1 : (⟨S4096x2048, .f32⟩ : BufTy).Contents (Elt Ideal))⟩,
      ⟨S112x2048, (u 2 : (⟨S112x2048, .f32⟩ : BufTy).Contents (Elt Ideal))⟩] concatenates_S16x2048_S4096x2048_S112x2048_S4224x2048_d0 : (⟨S4224x2048, .f32⟩ : BufTy).Contents (Elt Ideal))) : HloOp τ sig (Elt Ideal)).result
      (StableHlo.after (hostOps0.take 4) fun b => m (c, b)) (Proc.devRef .tc r) := rfl
theorem V_kept (r : Ref sig .tc) (h : r ≠ main_v2) : V m c r = StableHlo.after (hostOps0.take 4) (fun b => m (c, b)) (Proc.devRef .tc r) :=
  (V_last m c r).trans (StableHlo.nary_result_ne' _ _ _ _ _ h)
theorem V_above : V m c main_v0 = fun _ => Ideal.ofBits .f32 0x00000000#32 := by
  entry_read; rfl
theorem V_below : V m c main_v1 = fun _ => Ideal.ofBits .f32 0x00000000#32 := by
  entry_read; rfl
theorem V_tgt : V m c main_v2 = tgt m c :=
  ((V_last m c main_v2).trans (StableHlo.nary_result _ _ _ _ _ _)).trans
    ((congrArg₂ (fun x y => joined x y _) ((V_kept m c main_v0 (by decide)).symm.trans (V_above m c)) ((V_kept m c main_arg3 (by decide)).symm.trans (V_main_arg3 m c))).trans
      (congrArg (joined _ _) ((V_kept m c main_v1 (by decide)).symm.trans (V_below m c))))
theorem tgt_apply (a : Fin 4224) (b : Fin 2048) (h : 16 ≤ a.val ∧ a.val < 4112) :
    tgt m c (ix2 a b) = argT m c (ix2 ⟨a.val - 16, by omega⟩ b) := by
  unfold tgt joined
  pointwise
  rw [dif_neg (by omega), dif_pos (by omega)]

/-- The two factors, contracted axis last, at any pair of numbers. -/
def facX : ℕ → ℕ → EReal := ext fun (a : Fin 4224) (k : Fin 8192) => argX m c (ix2 a k)
def facY : ℕ → ℕ → EReal := ext fun (b : Fin 2048) (k : Fin 8192) => argW m c (ix2 k b)

theorem in_0 (t : Fin cfg0.N) (a : Fin 1408) (k : Fin 2048) : (iblk m c 0 t : Vec Ideal S1408x2048 .bf16) (ix2 a k)
    = facX m c (t.val / 4 / 4 * 1408 + a.val) (t.val % 4 * 2048 + k.val) := by
  refine Eq.trans ?_ (ext_eq _ (by have := lt_of_lt_of_eq t.isLt N_0; omega) (by omega)).symm
  show ((cfg0.win 0).blk t).view.read (Elt Ideal) (argX m c) (ix2 a k) = _
  blk_ext [idx_0 t]
theorem in_1 (t : Fin cfg0.N) (k : Fin 2048) (b : Fin 512) : (iblk m c 1 t : Vec Ideal S2048x512 .bf16) (ix2 k b)
    = facY m c (t.val / 4 % 4 * 512 + b.val) (t.val % 4 * 2048 + k.val) := by
  refine Eq.trans ?_ (ext_eq _ (by omega) (by omega)).symm
  show ((cfg0.win 1).blk t).view.read (Elt Ideal) (argW m c) (ix2 k b) = _
  blk_ext [idx_1 t]

theorem part_apply (x0 : Vec Ideal S1408x2048 .bf16) (x1 : Vec Ideal S2048x512 .bf16) (a : Fin 1408) (b : Fin 512) :
    k0_pay1 x0 x1 (ix2 a b) = ∑ k : Fin 2048, x0 (ix2 a k) * x1 (ix2 k b) := by
  pointwise [k0_pay1]

theorem scr_first (n : ℕ) (h : n < cfg0.N) (h0 : n % 4 = 0) :
    (outsAt0 m c n h).2.2 = k0_pay1 (iblk m c 0 ⟨n, h⟩) (iblk m c 1 ⟨n, h⟩) := by
  rw [outsAt0_A m c ⟨n, h⟩ h0 (by dsimp only; omega) (by dsimp only; omega)]
  dsimp only
  rw [scr_A]

theorem scr_next (n : ℕ) (h : n < cfg0.N) (h0 : n % 4 ≠ 0) :
    (outsAt0 m c n h).2.2 = addf (outsAt0 m c (n - 1) (Nat.lt_of_le_of_lt (Nat.sub_le _ _) h)).2.2 (k0_pay1 (iblk m c 0 ⟨n, h⟩) (iblk m c 1 ⟨n, h⟩)) := by
  by_cases h3 : n % 4 = 3
  · rw [outsAt0_C m c ⟨n, h⟩ h0 (by dsimp only; omega) h3]
    dsimp only
    rw [scr_C]
  · rw [outsAt0_B m c ⟨n, h⟩ h0 (by dsimp only; omega) h3]
    dsimp only
    rw [scr_B]

/-- The product of point `n`'s blocks at an entry, and the scratch after the point. -/
def term (a : Fin 1408) (b : Fin 512) (n : ℕ) (h : n < cfg0.N) : EReal :=
  k0_pay1 (iblk m c 0 ⟨n, h⟩) (iblk m c 1 ⟨n, h⟩) (ix2 a b)
def held (a : Fin 1408) (b : Fin 512) (n : ℕ) (h : n < cfg0.N) : EReal := (outsAt0 m c n h).2.2 (ix2 a b)

theorem scr_sum (a : Fin 1408) (b : Fin 512) (r : ℕ) {p : ℕ} (hp : p = 4 * r + 3) (h : p < cfg0.N) : held m c a b p h
    = ∑ k : Fin 8192, facX m c (r / 4 * 1408 + a.val) k.val * facY m c (r % 4 * 512 + b.val) k.val :=
  tiled (tk := 2048) (K := 4) rfl (fun r a => facX m c (r / 4 * 1408 + a)) (fun r b => facY m c (r % 4 * 512 + b)) (held m c) (term m c)
    (fun a b n h h0 => congrFun (scr_first m c n h h0) (ix2 a b))
    (fun a b n h h0 => congrFun (scr_next m c n h h0) (ix2 a b))
    (fun a b n h => (part_apply ..).trans (Finset.sum_congr rfl fun k _ => congrArg₂ (· * ·) (in_0 ..) (in_1 ..)))
    a b r hp (by omega) h

/-- The error over the width on the rows of the sequence, zero on the rows that pad it. -/
def scaled (r : ℕ) (h s t : EReal) : EReal :=
  if 16 ≤ r ∧ r < 4112 then Ideal.div (h + s - t) (Ideal.ofBits .f32 0x45000000#32) else 0

theorem last_apply (i : grid0.Coords) (s x2 x3 : Vec Ideal S1408x512 .f32) (a : Fin 1408) (b : Fin 512) :
    k0_pay4 i s x2 x3 (ix2 a b) = scaled ((i 0).val * 1408 + a.val) (x2 (ix2 a b)) (s (ix2 a b)) (x3 (ix2 a b)) := by
  have hi : (i 0).val < 3 := (i 0).isLt
  have er : IntOp.addi (Scalar.muli (BitVec.ofNat 32 (i 0).val) 1408#32) (BitVec.ofNat 32 a.val) = BitVec.ofNat 32 ((i 0).val * 1408 + a.val) := by
    show BitVec.ofNat 32 _ * BitVec.ofNat 32 1408 + BitVec.ofNat 32 _ = _
    rw [← BitVec.ofNat_mul, ← BitVec.ofNat_add]
  pointwise [k0_pay4]
  rw [er, WordCmp.cmpi_sge_ofNat (by omega) (by omega), WordCmp.cmpi_slt_ofNat (by omega) (by omega), WordCmp.andi_ofBool, Scalar.select_ofBool]
  unfold scaled
  simp only [Bool.and_eq_true, decide_eq_true_eq]

theorem last_round (i : grid0.Coords) (s x2 x3 : Vec Ideal S1408x512 .f32) : k0_pay5 i s x2 x3 = k0_pay4 i s x2 x3 := rfl

theorem out_eq_4 (n : ℕ) (h : n < cfg0.N) (h3 : n % 4 = 3) :
    (outsAt0 m c n h).1 = k0_pay4 (grid0.coords ⟨n, h⟩) (outsAt0 m c n h).2.2 (iblk m c 2 ⟨n, h⟩) (iblk m c 3 ⟨n, h⟩) := by
  rw [outsAt0_C m c ⟨n, h⟩ (by dsimp only; omega) (by dsimp only; omega) h3]
  dsimp only
  rw [out_C_4, scr_C]
theorem out_eq_5 (n : ℕ) (h : n < cfg0.N) (h3 : n % 4 = 3) :
    (outsAt0 m c n h).2.1 = k0_pay4 (grid0.coords ⟨n, h⟩) (outsAt0 m c n h).2.2 (iblk m c 2 ⟨n, h⟩) (iblk m c 3 ⟨n, h⟩) := by
  rw [outsAt0_C m c ⟨n, h⟩ (by dsimp only; omega) (by dsimp only; omega) h3]
  dsimp only
  rw [out_C_5, scr_C, last_round]

theorem in_2 (t : Fin cfg0.N) (a : Fin 1408) (b : Fin 512) : (iblk m c 2 t : Vec Ideal S1408x512 .f32) (ix2 a b)
    = argH m c (ix2 ⟨t.val / 4 / 4 * 1408 + a.val, by have := lt_of_lt_of_eq t.isLt N_0; omega⟩ ⟨t.val / 4 % 4 * 512 + b.val, by omega⟩) := by
  show ((cfg0.win 2).blk t).view.read (Elt Ideal) (argH m c) (ix2 a b) = _
  blk_ext [idx_2 t]
theorem in_3 (t : Fin cfg0.N) (a : Fin 1408) (b : Fin 512) : (iblk m c 3 t : Vec Ideal S1408x512 .f32) (ix2 a b)
    = tgt m c (ix2 ⟨t.val / 4 / 4 * 1408 + a.val, by have := lt_of_lt_of_eq t.isLt N_0; omega⟩ ⟨t.val / 4 % 4 * 512 + b.val, by omega⟩) := by
  show ((cfg0.win 3).blk t).view.read (Elt Ideal) (V m c main_v2) (ix2 a b) = _
  rw [V_tgt]
  blk_ext [idx_3 t]

variable (a : Fin 4224) (b : Fin 2048)

/-- What the last point of the entry's run leaves at it. -/
theorem last (p : ℕ) (hp : p = 4 * (4 * (a.val / 1408) + b.val / 512) + 3) (hN : p < cfg0.N) :
    k0_pay4 (grid0.coords ⟨p, hN⟩) (outsAt0 m c p hN).2.2 (iblk m c 2 ⟨p, hN⟩) (iblk m c 3 ⟨p, hN⟩)
        (ix2 (⟨a.val % 1408, by omega⟩ : Fin 1408) (⟨b.val % 512, by omega⟩ : Fin 512))
      = scaled a.val (argH m c (ix2 a b)) (∑ k : Fin 8192, argX m c (ix2 a k) * argW m c (ix2 k b)) (tgt m c (ix2 a b)) := by
  have ha := a.isLt
  have hb := b.isLt
  have es : (outsAt0 m c p hN).2.2 (ix2 (⟨a.val % 1408, by omega⟩ : Fin 1408) (⟨b.val % 512, by omega⟩ : Fin 512))
      = ∑ k : Fin 8192, argX m c (ix2 a k) * argW m c (ix2 k b) := by
    refine (scr_sum m c _ _ _ hp hN).trans (Finset.sum_congr rfl fun k _ => congrArg₂ (· * ·) ?_ ?_)
    · dsimp only
      rw [show (4 * (a.val / 1408) + b.val / 512) / 4 * 1408 + a.val % 1408 = a.val by omega]
      exact ext_eq _ a.isLt k.isLt
    · dsimp only
      rw [show (4 * (a.val / 1408) + b.val / 512) % 4 * 512 + b.val % 512 = b.val by omega]
      exact ext_eq _ b.isLt k.isLt
  have ei : ∀ h h', (ix2 ⟨p / 4 / 4 * 1408 + a.val % 1408, h⟩ ⟨p / 4 % 4 * 512 + b.val % 512, h'⟩ : S4224x2048.Idx) = ix2 a b :=
    fun h h' => congrArg₂ ix2 (Fin.ext (by dsimp only; omega)) (Fin.ext (by dsimp only; omega))
  rw [last_apply, row_block, es, in_2, in_3]
  dsimp only
  rw [ei, show p / 4 / 4 * 1408 + a.val % 1408 = a.val by omega]

theorem value_4 : outG m c (ix2 a b)
    = scaled a.val (argH m c (ix2 a b)) (∑ k : Fin 8192, argX m c (ix2 a k) * argW m c (ix2 k b)) (tgt m c (ix2 a b)) := by
  have ha := a.isLt
  have hb := b.isLt
  have hp : pt4Of (ix2 a b) = 4 * (4 * (a.val / 1408) + b.val / 512) + 3 := by
    show 4 * (4 * (a.val / 1408 - 0) + 1 * (b.val / 512 - 0)) + 3 = _
    omega
  have hN : pt4Of (ix2 a b) < cfg0.N := by rw [hp, show cfg0.N = 48 from N_0]; omega
  have hl : loc4Of (ix2 a b) = ix2 (⟨a.val % 1408, by omega⟩ : Fin 1408) (⟨b.val % 512, by omega⟩ : Fin 512) := ValueIdx.eq_ix2 _
  unfold outG G4
  rw [dif_pos hN, ← outsAt0_sweep m c _ hN, out_eq_4 m c _ hN (by omega), hl]
  exact last m c a b _ hp hN

theorem value_5 : outR m c (ix2 a b)
    = scaled a.val (argH m c (ix2 a b)) (∑ k : Fin 8192, argX m c (ix2 a k) * argW m c (ix2 k b)) (tgt m c (ix2 a b)) := by
  have ha := a.isLt
  have hb := b.isLt
  have hp : pt5Of (ix2 a b) = 4 * (4 * (a.val / 1408) + b.val / 512) + 3 := by
    show 4 * (4 * (a.val / 1408 - 0) + 1 * (b.val / 512 - 0)) + 3 = _
    omega
  have hN : pt5Of (ix2 a b) < cfg0.N := by rw [hp, show cfg0.N = 48 from N_0]; omega
  have hl : loc5Of (ix2 a b) = ix2 (⟨a.val % 1408, by omega⟩ : Fin 1408) (⟨b.val % 512, by omega⟩ : Fin 512) := ValueIdx.eq_ix2 _
  unfold outR G5
  rw [dif_pos hN, ← outsAt0_sweep m c _ hN, out_eq_5 m c _ hN (by omega), hl]
  exact last m c a b _ hp hN

/-! ## The reference -/

theorem bits_half : Ideal.ofBits .f32 0x3F000000#32 = ((1 / 2 : ℝ) : EReal) := by simp [Ideal.ofBits, Ideal.ieee]; rw [← EReal.coe_mul]; norm_num
theorem bits_one : Ideal.ofBits .f32 0x3F800000#32 = ((1 : ℝ) : EReal) := by simp [Ideal.ofBits, Ideal.ieee]; rw [← EReal.coe_mul]; norm_num
theorem bits_two : Ideal.ofBits .f32 0x40000000#32 = ((2 : ℝ) : EReal) := by simp [Ideal.ofBits, Ideal.ieee]; rw [← EReal.coe_mul]; norm_num
theorem bits_width : Ideal.ofBits .f32 0x45000000#32 = ((2048 : ℝ) : EReal) := by simp [Ideal.ofBits, Ideal.ieee]; rw [← EReal.coe_mul]; norm_num

/-- Half of twice the error over the width is the error over the width. -/
theorem half_twice (e : EReal) :
    Ideal.div (Ideal.ofBits .f32 0x3F000000#32 * Ideal.ofBits .f32 0x3F800000#32) (Ideal.ofBits .f32 0x45000000#32) * (Ideal.ofBits .f32 0x40000000#32 * e)
      = Ideal.div e (Ideal.ofBits .f32 0x45000000#32) := by
  rw [bits_half, bits_one, bits_two, bits_width]
  have hw : ((2048 : ℝ) : EReal) ≠ 0 := by simp
  unfold Ideal.div
  rw [if_neg hw, if_neg hw]
  calc ((1 / 2 : ℝ) : EReal) * ((1 : ℝ) : EReal) * ((2048 : ℝ) : EReal)⁻¹ * (((2 : ℝ) : EReal) * e)
      = ((1 / 2 : ℝ) : EReal) * ((1 : ℝ) : EReal) * ((2 : ℝ) : EReal) * (e * ((2048 : ℝ) : EReal)⁻¹) := by ac_rfl
    _ = e * ((2048 : ℝ) : EReal)⁻¹ := by rw [← EReal.coe_mul, ← EReal.coe_mul, show (1 / 2 * 1 * 2 : ℝ) = 1 by norm_num, EReal.coe_one, one_mul]

open Cert.MlpDownLossRefIdeal.Read in
theorem ref_apply : val_main_v20 (F := Ideal) (argX m c) (argW m c) (argH m c) (argT m c) (ix2 a b)
    = scaled a.val (argH m c (ix2 a b)) (∑ k : Fin 8192, argX m c (ix2 a k) * argW m c (ix2 k b)) (tgt m c (ix2 a b)) := by
  unfold val_main_v20 scaled
  pointwise
  by_cases h : 16 ≤ a.val ∧ a.val < 4112
  · rw [dif_pos ⟨h.1, by omega⟩, if_pos h, tgt_apply m c a b h]
    have e : val_main_v5 (F := Ideal) (argX m c) (argW m c) (argH m c) (argT m c) (ix2 ⟨a.val - 16, by omega⟩ b)
        = argH m c (ix2 a b) + (∑ k : Fin 8192, argX m c (ix2 a k) * argW m c (ix2 k b)) - argT m c (ix2 ⟨a.val - 16, by omega⟩ b) := by
      have ea : (⟨16 + (a.val - 16), by omega⟩ : Fin 4224) = a := Fin.ext (by dsimp only; omega)
      have ei : idx_main_v4 (ix2 ⟨a.val - 16, by omega⟩ b) = ix2 a b := (ValueIdx.eq_ix2 _).trans (congrArg (ix2 · b) ea)
      rw [val_main_v5_apply, val_main_v4_apply, ei, val_main_v3_apply, val_main_v2_apply]
      refine congrArg₂ (· - ·) (congrArg (argH m c (ix2 a b) + ·) (Finset.sum_congr rfl fun k _ => congrArg₂ (· * ·) (congrArg (argX m c) ?_) (congrArg (argW m c) ?_))) rfl <;>
        exact ValueIdx.eq_ix2 _
    rw [← e, ← half_twice]
    rw [val_main_v19_apply, val_main_v18_apply, val_main_v17_apply, val_main_v15_apply, val_main_v16_apply, val_main_v8_apply, val_main_v7_apply]
    rfl
  · rw [dif_neg (by omega), if_neg h]
    exact Ideal.ofBits_zero_f32

open Cert.MlpDownLossRefIdeal.Read in
theorem same_4 : outG m c = val_main_v20 (F := Ideal) (argX m c) (argW m c) (argH m c) (argT m c) := by
  funext y
  obtain ⟨a, b, rfl⟩ : ∃ a b, y = ix2 a b := ⟨_, _, ValueIdx.eq_ix2 y⟩
  exact (value_4 m c a b).trans (ref_apply m c a b).symm
open Cert.MlpDownLossRefIdeal.Read in
theorem same_5 : outR m c = val_main_v21 (F := Ideal) (argX m c) (argW m c) (argH m c) (argT m c) := by
  funext y
  obtain ⟨a, b, rfl⟩ : ∃ a b, y = ix2 a b := ⟨_, _, ValueIdx.eq_ix2 y⟩
  exact (value_5 m c a b).trans (ref_apply m c a b).symm

theorem frame_ref : Cert.quiescent_MlpDownLossRefIdeal := fun m g _ =>
  (θ_run _ _ _).mono (fun r h => ⟨fun c => (h c).2.2, sem_eq_zero_of_no_sems (by decide) r.2⟩) (Cert.MlpDownLossRefIdeal.Value.run m g)

theorem values : Cert.algebraic_MlpDownLossIdeal_MlpDownLossRefIdeal := by
  intro m g m' g' _ hagree
  refine ⟨fun c => outG m c, fun c => outR m c, run m g, ?_⟩
  refine (θ_run _ _ _).mono (fun r h c => ?_) (Cert.MlpDownLossRefIdeal.Value.run m' g')
  obtain ⟨h0, h1, hargs⟩ := h c
  obtain ⟨e0, e1, e2, e3⟩ := hagree c
  rw [e0, e1, e2, e3] at h0 h1
  exact ⟨h0.trans (same_4 m c).symm, h1.trans (same_5 m c).symm, hargs⟩

end Cert.MlpDownLossIdeal.Hand

end
-- ==== Proof.MlpDownWgrad.lean ====
module

public import proofs.«01_k».proof.Defs
public import proofs.«01_k».proof.Proof.Gen.MlpDownWgrad.Frame
public import proofs.«01_k».proof.Proof.Gen.MlpDownWgradIdeal.Value
public import proofs.«01_k».proof.Proof.Gen.MlpDownWgradRefIdeal.Read
public import proofs.«01_k».proof.Proof.Blocked

@[expose] public section

set_option maxRecDepth 16384

noncomputable section

namespace Cert.MlpDownWgradIdeal.Hand

open Idealize Idealize.ShloMosaic Idealize.SL.Sem
open Cert.MlpDownWgradIdeal Cert.MlpDownWgradIdeal.Gen Cert.MlpDownWgradIdeal.Value Cert.Blocked

/-! # The gradient of the MLP's second weights: the rows are contracted, a third of them a point -/

section
variable {F : FTy → Type} [FloatOps F]
variable (c : Dev nD) (i : grid0.Coords) (a3 : Memref sig .tc .vmem S1408x1024 .bf16) (h3 : a3.IsWhole)
  (a4 : Memref sig .tc .vmem S1408x1024 .bf16) (h4 : a4.IsWhole) (a5 : Memref sig .tc .vmem S1024x1024 .bf16) (h5 : a5.IsWhole)
  (a6 : Memref sig .tc .vmem S1024x1024 .f32) (h6 : a6.IsWhole) (x0 : Vec F S1408x1024 .bf16) (x1 : Vec F S1408x1024 .bf16)
  (s : Vec F S1024x1024 .f32)

/-- The first block of a sum: the scratch is stored whole. -/
theorem scr_A (q0 : cond0_0 i) (q1 : ¬cond0_1 i) (q2 : ¬cond0_2 i) :
    sout0_A_0 c i a3 h3 a4 h4 a5 h5 a6 h6 q0 q1 q2 x0 x1 = k0_pay1 x0 x1 := by
  unfold sout0_A_0
  rw [View.read_writes_eq_canon _ _ _ (scover0_A_0 c i a3 h3 a4 h4 a5 h5 a6 h6 q0 q1 q2 x0 x1)]
  unfold kernelRun0_A
  dsimp only
  sl_unfold_words
  rw [View.canon_unit_zero (S := S1024x1024) off2]
  unfold k0_pay2
  simp only [View.readAt_eq_ld, h3.read_unread, h4.read_unread, View.ld_unit_zero (S := S1408x1024) off2, View.ld_unit_zero (S := S1024x1024) off2, shapeCast_self]

/-- A later block: the scratch grows. -/
theorem scr_B (q0 : ¬cond0_0 i) (q1 : cond0_1 i) (q2 : ¬cond0_2 i) :
    sout0_B_0 c i a3 h3 a4 h4 a5 h5 a6 h6 q0 q1 q2 x0 x1 s = addf s (k0_pay1 x0 x1) := by
  unfold sout0_B_0
  rw [View.read_writes_eq_canon _ _ _ (scover0_B_0 c i a3 h3 a4 h4 a5 h5 a6 h6 q0 q1 q2 x0 x1 s)]
  unfold kernelRun0_B
  dsimp only
  sl_unfold_words
  rw [View.canon_unit_zero (S := S1024x1024) off2]
  unfold k0_pay3
  simp only [View.readAt_eq_ld, h3.read_unread, h4.read_unread, h6.read_unread, View.ld_unit_zero (S := S1408x1024) off2, View.ld_unit_zero (S := S1024x1024) off2, shapeCast_self]

/-- The last block: the scratch grows and is written out. -/
theorem scr_C (q0 : ¬cond0_0 i) (q1 : cond0_1 i) (q2 : cond0_2 i) :
    sout0_C_0 c i a3 h3 a4 h4 a5 h5 a6 h6 q0 q1 q2 x0 x1 s = addf s (k0_pay1 x0 x1) := by
  unfold sout0_C_0
  rw [View.read_writes_eq_canon _ _ _ (scover0_C_0 c i a3 h3 a4 h4 a5 h5 a6 h6 q0 q1 q2 x0 x1 s)]
  unfold kernelRun0_C
  dsimp only
  sl_unfold_words
  rw [View.canon_unit_zero (S := S1024x1024) off2]
  unfold k0_pay3
  simp only [View.readAt_eq_ld, h3.read_unread, h4.read_unread, h6.read_unread, View.ld_unit_zero (S := S1408x1024) off2, View.ld_unit_zero (S := S1024x1024) off2, shapeCast_self]

theorem out_C (q0 : ¬cond0_0 i) (q1 : cond0_1 i) (q2 : cond0_2 i) :
    out0_C_2 c i a3 h3 a4 h4 a5 h5 a6 h6 q0 q1 q2 x0 x1 s = k0_pay4 (addf s (k0_pay1 x0 x1)) := by
  unfold out0_C_2
  rw [View.read_writes_eq_canon _ _ _ (cover0_C_2 c i a3 h3 a4 h4 a5 h5 a6 h6 q0 q1 q2 x0 x1 s)]
  unfold kernelRun0_C
  dsimp only
  sl_unfold_words
  rw [View.canon_unit_zero (S := S1024x1024) off2, View.readCov_unit_zero (S := S1024x1024) _ off2]
  unfold k0_pay3
  simp only [View.readAt_eq_ld, h3.read_unread, h4.read_unread, h6.read_unread, View.ld_unit_zero (S := S1408x1024) off2, View.ld_unit_zero (S := S1024x1024) off2, shapeCast_self]

end

variable (m : (ℓ : Loc nD τ sig) → Buf (Elt Ideal) ℓ) (c : Dev nD)

theorem idx_0 : ∀ t : Fin cfg0.N, win0_0.index t = ![t.val % 3, t.val / 3 / 2] := (by decide +kernel : ∀ t : Fin grid0.N, _)
theorem idx_1 : ∀ t : Fin cfg0.N, win0_1.index t = ![t.val % 3, t.val / 3 % 2] := (by decide +kernel : ∀ t : Fin grid0.N, _)

abbrev argU : S4224x8192.Idx → EReal := m ((c.tc : Thread nD τ).loc main_arg0)
abbrev argG : S4224x2048.Idx → EReal := m ((c.tc : Thread nD τ).loc main_arg1)
abbrev outW : S8192x2048.Idx → EReal := G2 m c

/-- The two factors, contracted axis last, at any pair of numbers. -/
def facX : ℕ → ℕ → EReal := ext fun (a : Fin 8192) (k : Fin 4224) => argU m c (ix2 k a)
def facY : ℕ → ℕ → EReal := ext fun (b : Fin 2048) (k : Fin 4224) => argG m c (ix2 k b)

theorem in_0 (t : Fin cfg0.N) (k : Fin 1408) (a : Fin 1024) : (iblk m c 0 t : Vec Ideal S1408x1024 .bf16) (ix2 k a)
    = facX m c (t.val / 3 / 2 * 1024 + a.val) (t.val % 3 * 1408 + k.val) := by
  refine Eq.trans ?_ (ext_eq _ (by have := lt_of_lt_of_eq t.isLt N_0; omega) (by omega)).symm
  show ((cfg0.win 0).blk t).view.read (Elt Ideal) (argU m c) (ix2 k a) = _
  blk_ext [idx_0 t]
theorem in_1 (t : Fin cfg0.N) (k : Fin 1408) (b : Fin 1024) : (iblk m c 1 t : Vec Ideal S1408x1024 .bf16) (ix2 k b)
    = facY m c (t.val / 3 % 2 * 1024 + b.val) (t.val % 3 * 1408 + k.val) := by
  refine Eq.trans ?_ (ext_eq _ (by omega) (by omega)).symm
  show ((cfg0.win 1).blk t).view.read (Elt Ideal) (argG m c) (ix2 k b) = _
  blk_ext [idx_1 t]

theorem part_apply (x0 : Vec Ideal S1408x1024 .bf16) (x1 : Vec Ideal S1408x1024 .bf16) (a : Fin 1024) (b : Fin 1024) :
    k0_pay1 x0 x1 (ix2 a b) = ∑ k : Fin 1408, x0 (ix2 k a) * x1 (ix2 k b) := by
  pointwise [k0_pay1]

theorem scr_first (n : ℕ) (h : n < cfg0.N) (h0 : n % 3 = 0) :
    (outsAt0 m c n h).2 = k0_pay1 (iblk m c 0 ⟨n, h⟩) (iblk m c 1 ⟨n, h⟩) := by
  rw [outsAt0_A m c ⟨n, h⟩ h0 (by dsimp only; omega) (by dsimp only; omega)]
  dsimp only
  rw [scr_A]

theorem scr_next (n : ℕ) (h : n < cfg0.N) (h0 : n % 3 ≠ 0) :
    (outsAt0 m c n h).2 = addf (outsAt0 m c (n - 1) (Nat.lt_of_le_of_lt (Nat.sub_le _ _) h)).2 (k0_pay1 (iblk m c 0 ⟨n, h⟩) (iblk m c 1 ⟨n, h⟩)) := by
  by_cases h3 : n % 3 = 2
  · rw [outsAt0_C m c ⟨n, h⟩ h0 (by dsimp only; omega) h3]
    dsimp only
    rw [scr_C]
  · rw [outsAt0_B m c ⟨n, h⟩ h0 (by dsimp only; omega) h3]
    dsimp only
    rw [scr_B]

/-- The product of point `n`'s blocks at an entry, and the scratch after the point. -/
def term (a : Fin 1024) (b : Fin 1024) (n : ℕ) (h : n < cfg0.N) : EReal :=
  k0_pay1 (iblk m c 0 ⟨n, h⟩) (iblk m c 1 ⟨n, h⟩) (ix2 a b)
def held (a : Fin 1024) (b : Fin 1024) (n : ℕ) (h : n < cfg0.N) : EReal := (outsAt0 m c n h).2 (ix2 a b)

theorem scr_sum (a : Fin 1024) (b : Fin 1024) (r : ℕ) {p : ℕ} (hp : p = 3 * r + 2) (h : p < cfg0.N) : held m c a b p h
    = ∑ k : Fin 4224, facX m c (r / 2 * 1024 + a.val) k.val * facY m c (r % 2 * 1024 + b.val) k.val :=
  tiled (tk := 1408) (K := 3) rfl (fun r a => facX m c (r / 2 * 1024 + a)) (fun r b => facY m c (r % 2 * 1024 + b)) (held m c) (term m c)
    (fun a b n h h0 => congrFun (scr_first m c n h h0) (ix2 a b))
    (fun a b n h h0 => congrFun (scr_next m c n h h0) (ix2 a b))
    (fun a b n h => (part_apply ..).trans (Finset.sum_congr rfl fun k _ => congrArg₂ (· * ·) (in_0 ..) (in_1 ..)))
    a b r hp (by omega) h

theorem out_eq (n : ℕ) (h : n < cfg0.N) (h3 : n % 3 = 2) : (outsAt0 m c n h).1 = k0_pay4 (outsAt0 m c n h).2 := by
  rw [outsAt0_C m c ⟨n, h⟩ (by dsimp only; omega) (by dsimp only; omega) h3]
  dsimp only
  rw [out_C, scr_C]

variable (a : Fin 8192) (b : Fin 2048)

/-- The array that the call writes: the product with the transposed activation. -/
theorem value : outW m c (ix2 a b) = ∑ k : Fin 4224, argU m c (ix2 k a) * argG m c (ix2 k b) := by
  have ha := a.isLt
  have hb := b.isLt
  have hp : pt2Of (ix2 a b) = 3 * (2 * (a.val / 1024) + b.val / 1024) + 2 := by
    show 3 * (2 * (a.val / 1024 - 0) + 1 * (b.val / 1024 - 0)) + 2 = _
    omega
  have hN : pt2Of (ix2 a b) < cfg0.N := by rw [hp, show cfg0.N = 48 from N_0]; omega
  have hl : loc2Of (ix2 a b) = ix2 (⟨a.val % 1024, by omega⟩ : Fin 1024) (⟨b.val % 1024, by omega⟩ : Fin 1024) := ValueIdx.eq_ix2 _
  have hG : outW m c (ix2 a b) = held m c ⟨a.val % 1024, by omega⟩ ⟨b.val % 1024, by omega⟩ (pt2Of (ix2 a b)) hN := by
    unfold outW G2 held
    rw [dif_pos hN, ← outsAt0_sweep m c _ hN, out_eq m c _ hN (by omega), hl]
    rfl
  rw [hG, scr_sum m c _ _ _ hp]
  refine Finset.sum_congr rfl fun k _ => congrArg₂ (· * ·) ?_ ?_
  · rw [show (2 * (a.val / 1024) + b.val / 1024) / 2 * 1024 + a.val % 1024 = a.val by omega]
    exact ext_eq _ a.isLt k.isLt
  · rw [show (2 * (a.val / 1024) + b.val / 1024) % 2 * 1024 + b.val % 1024 = b.val by omega]
    exact ext_eq _ b.isLt k.isLt

/-! ## The reference -/

open Cert.MlpDownWgradRefIdeal.Read in
theorem same : outW m c = val_main_v6 (F := Ideal) (argU m c) (argG m c) := by
  funext y
  obtain ⟨a, b, rfl⟩ : ∃ a b, y = ix2 a b := ⟨_, _, ValueIdx.eq_ix2 y⟩
  refine (value m c a b).trans (Eq.symm (((val_main_v5_apply _ _ _).trans (val_main_v4_apply _ _ _)).trans (Finset.sum_congr rfl fun k _ => ?_)))
  refine (mul_comm _ _).trans (congrArg₂ (· * ·) (congrArg (argU m c) ?_) (congrArg (argG m c) ?_)) <;> exact ValueIdx.eq_ix2 _

theorem frame_ref : Cert.quiescent_MlpDownWgradRefIdeal := fun m g _ =>
  (θ_run _ _ _).mono (fun r h => ⟨fun c => (h c).2, sem_eq_zero_of_no_sems (by decide) r.2⟩) (Cert.MlpDownWgradRefIdeal.Value.run m g)

theorem values : Cert.algebraic_MlpDownWgradIdeal_MlpDownWgradRefIdeal := by
  intro m g m' g' _ hagree
  refine ⟨fun c => outW m c, run m g, ?_⟩
  refine (θ_run _ _ _).mono (fun r h c => ?_) (Cert.MlpDownWgradRefIdeal.Value.run m' g')
  obtain ⟨h0, hargs⟩ := h c
  obtain ⟨e0, e1⟩ := hagree c
  rw [e0, e1] at h0
  exact ⟨h0.trans (same m c).symm, hargs⟩

end Cert.MlpDownWgradIdeal.Hand

end
-- ==== Proof.MlpDownBwd.lean ====
module

public import proofs.«01_k».proof.Defs
public import proofs.«01_k».proof.Proof.Gen.MlpDownBwd.Frame
public import proofs.«01_k».proof.Proof.Gen.MlpDownBwdIdeal.Value
public import proofs.«01_k».proof.Proof.Gen.MlpDownBwdRefIdeal.Read
public import proofs.«01_k».proof.Proof.Blocked

@[expose] public section

set_option maxRecDepth 16384

noncomputable section

namespace Cert.MlpDownBwdIdeal.Hand

open Idealize Idealize.ShloMosaic Idealize.SL.Sem
open Cert.MlpDownBwdIdeal Cert.MlpDownBwdIdeal.Gen Cert.MlpDownBwdIdeal.Value Cert.Blocked

/-! # The gradient of the MLP's hidden layer, through the activation: one point a tile -/

variable (m : (ℓ : Loc nD τ sig) → Buf (Elt Ideal) ℓ) (c : Dev nD)

theorem idx_0 : ∀ t : Fin cfg0.N, win0_0.index t = ![t.val / 16, 0] := (by decide +kernel : ∀ t : Fin grid0.N, _)
theorem idx_1 : ∀ t : Fin cfg0.N, win0_1.index t = ![t.val % 16, 0] := (by decide +kernel : ∀ t : Fin grid0.N, _)
theorem idx_2 : ∀ t : Fin cfg0.N, win0_2.index t = ![t.val / 16, t.val % 16] := (by decide +kernel : ∀ t : Fin grid0.N, _)
theorem idx_3 : ∀ t : Fin cfg0.N, win0_3.index t = ![t.val / 16, t.val % 16] := (by decide +kernel : ∀ t : Fin grid0.N, _)
theorem flush_3 : ∀ t : Fin cfg0.N, (cfg0.win 3).flush t = true := (by decide +kernel : ∀ t : Fin grid0.N, _)

abbrev argG : S4224x2048.Idx → EReal := m ((c.tc : Thread nD τ).loc main_arg0)
abbrev argW : S8192x2048.Idx → EReal := m ((c.tc : Thread nD τ).loc main_arg1)
abbrev argZ : S4224x8192.Idx → EReal := m ((c.tc : Thread nD τ).loc main_arg2)
abbrev outZ : S4224x8192.Idx → EReal := (dats m 0 c).arrAt 3 cfg0.N

theorem in_0 (t : Fin cfg0.N) (a : Fin 1408) (k : Fin 2048) : (iblk m c 0 t : Vec Ideal S1408x2048 .bf16) (ix2 a k)
    = argG m c (ix2 ⟨t.val / 16 * 1408 + a.val, by have := lt_of_lt_of_eq t.isLt N_0; omega⟩ k) := by
  show ((cfg0.win 0).blk t).view.read (Elt Ideal) (argG m c) (ix2 a k) = _
  blk_ext [idx_0 t]
theorem in_1 (t : Fin cfg0.N) (b : Fin 512) (k : Fin 2048) : (iblk m c 1 t : Vec Ideal S512x2048 .bf16) (ix2 b k)
    = argW m c (ix2 ⟨t.val % 16 * 512 + b.val, by omega⟩ k) := by
  show ((cfg0.win 1).blk t).view.read (Elt Ideal) (argW m c) (ix2 b k) = _
  blk_ext [idx_1 t]
theorem in_2 (t : Fin cfg0.N) (a : Fin 1408) (b : Fin 512) : (iblk m c 2 t : Vec Ideal S1408x512 .f32) (ix2 a b)
    = argZ m c (ix2 ⟨t.val / 16 * 1408 + a.val, by have := lt_of_lt_of_eq t.isLt N_0; omega⟩ ⟨t.val % 16 * 512 + b.val, by omega⟩) := by
  show ((cfg0.win 2).blk t).view.read (Elt Ideal) (argZ m c) (ix2 a b) = _
  blk_ext [idx_2 t]
theorem blk_3 (t : Fin cfg0.N) (X : S4224x8192.Idx → Elt Ideal .bf16) (a : Fin 1408) (b : Fin 512) :
    ((cfg0.win 3).blk t).view.read (Elt Ideal) X (ix2 a b)
      = X (ix2 ⟨t.val / 16 * 1408 + a.val, by have := lt_of_lt_of_eq t.isLt N_0; omega⟩ ⟨t.val % 16 * 512 + b.val, by omega⟩) := by
  blk_ext [idx_3 t]

theorem out_3 (x0 : Vec Ideal S1408x2048 .bf16) (x1 : Vec Ideal S512x2048 .bf16) (x2 : Vec Ideal S1408x512 .f32) : out0_3 x0 x1 x2 = k0_pay1 x0 x1 x2 := by
  unfold out0_3 r0_0 r0_1 r0_2
  rw [View.canon_unit_zero (S := S1408x512) off2, View.ld_unit_zero (S := S1408x2048) off2, View.ld_unit_zero (S := S512x2048) off2, View.ld_unit_zero (S := S1408x512) off2]

abbrev two : EReal := Ideal.ofBits .f32 0x40000000#32

theorem pay_apply (x0 : Vec Ideal S1408x2048 .bf16) (x1 : Vec Ideal S512x2048 .bf16) (x2 : Vec Ideal S1408x512 .f32) (a : Fin 1408) (b : Fin 512) :
    k0_pay1 x0 x1 x2 (ix2 a b) = (∑ k : Fin 2048, x0 (ix2 a k) * x1 (ix2 b k)) * (two * max (x2 (ix2 a b)) 0) := by
  pointwise [k0_pay1]

/-- The product at an entry. -/
def prod (a : Fin 4224) (b : Fin 8192) : EReal := ∑ k : Fin 2048, argG m c (ix2 a k) * argW m c (ix2 b k)

variable (a : Fin 4224) (b : Fin 8192)

/-- The point whose tile holds an entry. -/
def pt : Fin cfg0.N := ⟨16 * (a.val / 1408) + b.val / 512, by rw [show cfg0.N = 48 from N_0]; omega⟩

theorem value : outZ m c (ix2 a b) = prod m c a b * (two * max (argZ m c (ix2 a b)) 0) := by
  have h := congrFun (blocks3 m c (pt a b) (flush_3 _)) (ix2 (⟨a.val % 1408, by omega⟩ : Fin 1408) (⟨b.val % 512, by omega⟩ : Fin 512))
  have ea : (pt a b).val / 16 * 1408 + a.val % 1408 = a.val := by dsimp only [pt]; omega
  have eb : (pt a b).val % 16 * 512 + b.val % 512 = b.val := by dsimp only [pt]; omega
  rw [blk_3, flushed3, out_3] at h
  have h' := h.trans (pay_apply ..)
  simp only [in_0, in_1, in_2, ea, eb] at h'
  exact h'

/-! ## The reference -/

/-- Through the activation: a product by twice the positive part is zero where there is none. -/
theorem through (p z : EReal) : p * (two * max z 0) = Scalar.select (BitVec.ofBool (decide (0 < z))) (p * (two * max z 0)) 0 := by
  by_cases h : 0 < z
  · rw [decide_eq_true h]; rfl
  · rw [decide_eq_false h, max_eq_right (not_lt.1 h), mul_zero, mul_zero]; rfl

section
open Cert.MlpDownBwdRefIdeal.Read

theorem ref_prod : (val_main_v10 (F := Ideal) (argG m c) (argW m c) : S4224x8192.Idx → EReal) (ix2 a b) = prod m c a b := by
  refine (val_main_v10_apply _ _ _).trans (Finset.sum_congr rfl fun k _ => congrArg₂ (· * ·) (congrArg (argG m c) ?_) (congrArg (argW m c) ?_)) <;>
    exact ValueIdx.eq_ix2 _

theorem same : outZ m c = val_main_v14 (F := Ideal) (argG m c) (argW m c) (argZ m c) := by
  funext y
  obtain ⟨a, b, rfl⟩ : ∃ a b, y = ix2 a b := ⟨_, _, ValueIdx.eq_ix2 y⟩
  refine ((value m c a b).trans (through _ _)).trans ?_
  rw [val_main_v14_apply, val_main_v13_apply, val_main_v12_apply, val_main_v11_apply, val_main_v6_apply, val_main_v5_apply, val_main_v2_apply, val_main_v1_apply,
    val_main_v0_apply, val_main_call0_v0_apply, val_main_call0_cst_apply, val_main_cst_1_apply, val_main_cst_apply, val_main_cst_2_apply, ← ref_prod]
  have z : FloatOps.ofBits (F := Ideal) .f32 0x00000000#32 = (0 : EReal) := Ideal.ofBits_zero_f32
  rw [z]
  rfl

end

theorem frame_ref : Cert.quiescent_MlpDownBwdRefIdeal := fun m g _ =>
  (θ_run _ _ _).mono (fun r h => ⟨fun c => (h c).2, sem_eq_zero_of_no_sems (by decide) r.2⟩) (Cert.MlpDownBwdRefIdeal.Value.run m g)

theorem values : Cert.algebraic_MlpDownBwdIdeal_MlpDownBwdRefIdeal := by
  intro m g m' g' _ hagree
  refine ⟨fun c => outZ m c, run_blocks m g, ?_⟩
  refine (θ_run _ _ _).mono (fun r h c => ?_) (Cert.MlpDownBwdRefIdeal.Value.run m' g')
  obtain ⟨h0, hargs⟩ := h c
  obtain ⟨e0, e1, e2⟩ := hagree c
  rw [e0, e1, e2] at h0
  exact ⟨h0.trans (same m c).symm, hargs⟩

end Cert.MlpDownBwdIdeal.Hand

end
-- ==== Proof.MlpUpWgrad.lean ====
module

public import proofs.«01_k».proof.Defs
public import proofs.«01_k».proof.Proof.Gen.MlpUpWgrad.Frame
public import proofs.«01_k».proof.Proof.Gen.MlpUpWgradIdeal.Value
public import proofs.«01_k».proof.Proof.Gen.MlpUpWgradRefIdeal.Read
public import proofs.«01_k».proof.Proof.Blocked

@[expose] public section

set_option maxRecDepth 16384

noncomputable section

namespace Cert.MlpUpWgradIdeal.Hand

open Idealize Idealize.ShloMosaic Idealize.SL.Sem
open Cert.MlpUpWgradIdeal Cert.MlpUpWgradIdeal.Gen Cert.MlpUpWgradIdeal.Value Cert.Blocked

/-! # The gradient of the MLP's first weights: the rows are contracted, a third of them a point; the columns are laid out by device -/

section
variable {F : FTy → Type} [FloatOps F]
variable (c : Dev nD) (i : grid0.Coords) (a3 : Memref sig .tc .vmem S1408x1024 .bf16) (h3 : a3.IsWhole)
  (a4 : Memref sig .tc .vmem S1408x1024 .bf16) (h4 : a4.IsWhole) (a5 : Memref sig .tc .vmem S1x1024x1024 .bf16) (h5 : a5.IsWhole)
  (a6 : Memref sig .tc .vmem S1024x1024 .f32) (h6 : a6.IsWhole) (x0 : Vec F S1408x1024 .bf16) (x1 : Vec F S1408x1024 .bf16)
  (s : Vec F S1024x1024 .f32)

/-- The first block of a sum: the scratch is stored whole. -/
theorem scr_A (q0 : cond0_0 i) (q1 : ¬cond0_1 i) (q2 : ¬cond0_2 i) :
    sout0_A_0 c i a3 h3 a4 h4 a5 h5 a6 h6 q0 q1 q2 x0 x1 = k0_pay1 x0 x1 := by
  unfold sout0_A_0
  rw [View.read_writes_eq_canon _ _ _ (scover0_A_0 c i a3 h3 a4 h4 a5 h5 a6 h6 q0 q1 q2 x0 x1)]
  unfold kernelRun0_A
  dsimp only
  sl_unfold_words
  rw [View.canon_unit_zero (S := S1024x1024) off2]
  unfold k0_pay2
  simp only [View.readAt_eq_ld, h3.read_unread, h4.read_unread, View.ld_unit_zero (S := S1408x1024) off2, View.ld_unit_zero (S := S1024x1024) off2, shapeCast_self]

/-- A later block: the scratch grows. -/
theorem scr_B (q0 : ¬cond0_0 i) (q1 : cond0_1 i) (q2 : ¬cond0_2 i) :
    sout0_B_0 c i a3 h3 a4 h4 a5 h5 a6 h6 q0 q1 q2 x0 x1 s = addf s (k0_pay1 x0 x1) := by
  unfold sout0_B_0
  rw [View.read_writes_eq_canon _ _ _ (scover0_B_0 c i a3 h3 a4 h4 a5 h5 a6 h6 q0 q1 q2 x0 x1 s)]
  unfold kernelRun0_B
  dsimp only
  sl_unfold_words
  rw [View.canon_unit_zero (S := S1024x1024) off2]
  unfold k0_pay3
  simp only [View.readAt_eq_ld, h3.read_unread, h4.read_unread, h6.read_unread, View.ld_unit_zero (S := S1408x1024) off2, View.ld_unit_zero (S := S1024x1024) off2, shapeCast_self]

/-- The last block: the scratch grows and is written out. -/
theorem scr_C (q0 : ¬cond0_0 i) (q1 : cond0_1 i) (q2 : cond0_2 i) :
    sout0_C_0 c i a3 h3 a4 h4 a5 h5 a6 h6 q0 q1 q2 x0 x1 s = addf s (k0_pay1 x0 x1) := by
  unfold sout0_C_0
  rw [View.read_writes_eq_canon _ _ _ (scover0_C_0 c i a3 h3 a4 h4 a5 h5 a6 h6 q0 q1 q2 x0 x1 s)]
  unfold kernelRun0_C
  dsimp only
  sl_unfold_words
  rw [View.canon_unit_zero (S := S1024x1024) off2]
  unfold k0_pay3
  simp only [View.readAt_eq_ld, h3.read_unread, h4.read_unread, h6.read_unread, View.ld_unit_zero (S := S1408x1024) off2, View.ld_unit_zero (S := S1024x1024) off2, shapeCast_self]

theorem out_C (q0 : ¬cond0_0 i) (q1 : cond0_1 i) (q2 : cond0_2 i) :
    out0_C_2 c i a3 h3 a4 h4 a5 h5 a6 h6 q0 q1 q2 x0 x1 s = k0_pay4 (addf s (k0_pay1 x0 x1)) := by
  unfold out0_C_2
  rw [View.read_writes_eq_canon _ _ _ (cover0_C_2 c i a3 h3 a4 h4 a5 h5 a6 h6 q0 q1 q2 x0 x1 s)]
  unfold kernelRun0_C
  dsimp only
  sl_unfold_words
  rw [View.canon_unit_zero (S := S1x1024x1024) off3, View.readCov_unit_zero (S := S1024x1024) _ off2]
  unfold k0_pay3
  simp only [View.readAt_eq_ld, h3.read_unread, h4.read_unread, h6.read_unread, View.ld_unit_zero (S := S1408x1024) off2, View.ld_unit_zero (S := S1024x1024) off2, shapeCast_self]

end

variable (m : (ℓ : Loc nD τ sig) → Buf (Elt Ideal) ℓ) (c : Dev nD)

theorem idx_0 : ∀ t : Fin cfg0.N, win0_0.index t = ![t.val % 3, t.val / 3 / 8] := (by decide +kernel : ∀ t : Fin grid0.N, _)
theorem idx_1 : ∀ t : Fin cfg0.N, win0_1.index t = ![t.val % 3, t.val / 3 % 8] := (by decide +kernel : ∀ t : Fin grid0.N, _)

abbrev argH : S4224x2048.Idx → EReal := m ((c.tc : Thread nD τ).loc main_arg0)
abbrev argG : S4224x8192.Idx → EReal := m ((c.tc : Thread nD τ).loc main_arg1)
abbrev outW : S8x2048x1024.Idx → EReal := G2 m c

/-- The two factors, contracted axis last, at any pair of numbers. -/
def facX : ℕ → ℕ → EReal := ext fun (a : Fin 2048) (k : Fin 4224) => argH m c (ix2 k a)
def facY : ℕ → ℕ → EReal := ext fun (b : Fin 8192) (k : Fin 4224) => argG m c (ix2 k b)

theorem in_0 (t : Fin cfg0.N) (k : Fin 1408) (a : Fin 1024) : (iblk m c 0 t : Vec Ideal S1408x1024 .bf16) (ix2 k a)
    = facX m c (t.val / 3 / 8 * 1024 + a.val) (t.val % 3 * 1408 + k.val) := by
  refine Eq.trans ?_ (ext_eq _ (by have := lt_of_lt_of_eq t.isLt N_0; omega) (by omega)).symm
  show ((cfg0.win 0).blk t).view.read (Elt Ideal) (argH m c) (ix2 k a) = _
  blk_ext [idx_0 t]
theorem in_1 (t : Fin cfg0.N) (k : Fin 1408) (b : Fin 1024) : (iblk m c 1 t : Vec Ideal S1408x1024 .bf16) (ix2 k b)
    = facY m c (t.val / 3 % 8 * 1024 + b.val) (t.val % 3 * 1408 + k.val) := by
  refine Eq.trans ?_ (ext_eq _ (by omega) (by omega)).symm
  show ((cfg0.win 1).blk t).view.read (Elt Ideal) (argG m c) (ix2 k b) = _
  blk_ext [idx_1 t]

theorem part_apply (x0 : Vec Ideal S1408x1024 .bf16) (x1 : Vec Ideal S1408x1024 .bf16) (a : Fin 1024) (b : Fin 1024) :
    k0_pay1 x0 x1 (ix2 a b) = ∑ k : Fin 1408, x0 (ix2 k a) * x1 (ix2 k b) := by
  pointwise [k0_pay1]

theorem scr_first (n : ℕ) (h : n < cfg0.N) (h0 : n % 3 = 0) :
    (outsAt0 m c n h).2 = k0_pay1 (iblk m c 0 ⟨n, h⟩) (iblk m c 1 ⟨n, h⟩) := by
  rw [outsAt0_A m c ⟨n, h⟩ h0 (by dsimp only; omega) (by dsimp only; omega)]
  dsimp only
  rw [scr_A]

theorem scr_next (n : ℕ) (h : n < cfg0.N) (h0 : n % 3 ≠ 0) :
    (outsAt0 m c n h).2 = addf (outsAt0 m c (n - 1) (Nat.lt_of_le_of_lt (Nat.sub_le _ _) h)).2 (k0_pay1 (iblk m c 0 ⟨n, h⟩) (iblk m c 1 ⟨n, h⟩)) := by
  by_cases h3 : n % 3 = 2
  · rw [outsAt0_C m c ⟨n, h⟩ h0 (by dsimp only; omega) h3]
    dsimp only
    rw [scr_C]
  · rw [outsAt0_B m c ⟨n, h⟩ h0 (by dsimp only; omega) h3]
    dsimp only
    rw [scr_B]

/-- The product of point `n`'s blocks at an entry, and the scratch after the point. -/
def term (a : Fin 1024) (b : Fin 1024) (n : ℕ) (h : n < cfg0.N) : EReal :=
  k0_pay1 (iblk m c 0 ⟨n, h⟩) (iblk m c 1 ⟨n, h⟩) (ix2 a b)
def held (a : Fin 1024) (b : Fin 1024) (n : ℕ) (h : n < cfg0.N) : EReal := (outsAt0 m c n h).2 (ix2 a b)

theorem scr_sum (a : Fin 1024) (b : Fin 1024) (r : ℕ) {p : ℕ} (hp : p = 3 * r + 2) (h : p < cfg0.N) : held m c a b p h
    = ∑ k : Fin 4224, facX m c (r / 8 * 1024 + a.val) k.val * facY m c (r % 8 * 1024 + b.val) k.val :=
  tiled (tk := 1408) (K := 3) rfl (fun r a => facX m c (r / 8 * 1024 + a)) (fun r b => facY m c (r % 8 * 1024 + b)) (held m c) (term m c)
    (fun a b n h h0 => congrFun (scr_first m c n h h0) (ix2 a b))
    (fun a b n h h0 => congrFun (scr_next m c n h h0) (ix2 a b))
    (fun a b n h => (part_apply ..).trans (Finset.sum_congr rfl fun k _ => congrArg₂ (· * ·) (in_0 ..) (in_1 ..)))
    a b r hp (by omega) h

theorem out_eq (n : ℕ) (h : n < cfg0.N) (h3 : n % 3 = 2) : (outsAt0 m c n h).1 = k0_pay4 (outsAt0 m c n h).2 := by
  rw [outsAt0_C m c ⟨n, h⟩ (by dsimp only; omega) (by dsimp only; omega) h3]
  dsimp only
  rw [out_C, scr_C]

/-- Reading the rounded sum with its leading axis. -/
theorem slot_apply (x : Vec Ideal S1024x1024 .f32) (s : Fin 1) (a b : Fin 1024) : k0_pay4 x (ix3 s a b) = x (ix2 a b) := by
  pointwise [k0_pay4]

variable (s : Fin 8) (a : Fin 2048) (b : Fin 1024)

/-- The array that the call writes: the product with the transposed input, device by device. -/
theorem value : outW m c (ix3 s a b) = ∑ k : Fin 4224, argH m c (ix2 k a) * argG m c (ix2 k ⟨s.val * 1024 + b.val, by omega⟩) := by
  have hs := s.isLt
  have ha := a.isLt
  have hb := b.isLt
  have hp : pt2Of (ix3 s a b) = 3 * (8 * (a.val / 1024) + s.val) + 2 := by
    show 3 * (1 * (s.val / 1 - 0) + 8 * (a.val / 1024 - 0) + 16 * (b.val / 1024 - 0)) + 2 = _
    omega
  have hN : pt2Of (ix3 s a b) < cfg0.N := by rw [hp, show cfg0.N = 48 from N_0]; omega
  have hl : loc2Of (ix3 s a b) = ix3 (⟨s.val % 1, by omega⟩ : Fin 1) (⟨a.val % 1024, by omega⟩ : Fin 1024) (⟨b.val % 1024, by omega⟩ : Fin 1024) := ValueIdx.eq_ix3 _
  have hG : outW m c (ix3 s a b) = held m c ⟨a.val % 1024, by omega⟩ ⟨b.val % 1024, by omega⟩ (pt2Of (ix3 s a b)) hN := by
    unfold outW G2 held
    rw [dif_pos hN, ← outsAt0_sweep m c _ hN, out_eq m c _ hN (by omega), hl]
    exact slot_apply ..
  rw [hG, scr_sum m c _ _ _ hp]
  refine Finset.sum_congr rfl fun k _ => congrArg₂ (· * ·) ?_ ?_
  · rw [show (8 * (a.val / 1024) + s.val) / 8 * 1024 + a.val % 1024 = a.val by omega]
    exact ext_eq _ a.isLt k.isLt
  · rw [show (8 * (a.val / 1024) + s.val) % 8 * 1024 + b.val % 1024 = s.val * 1024 + b.val by omega]
    exact ext_eq _ (by omega) k.isLt

/-! ## The reference -/

open Cert.MlpUpWgradRefIdeal.Read in
theorem same : outW m c = val_main_v8 (F := Ideal) (argH m c) (argG m c) := by
  funext y
  obtain ⟨s, a, b, rfl⟩ : ∃ s a b, y = ix3 s a b := ⟨_, _, _, ValueIdx.eq_ix3 y⟩
  refine (value m c s a b).trans (Eq.symm ?_)
  refine (((val_main_v8_apply _ _ _).trans (val_main_v7_apply _ _ _)).trans ((val_main_v6_apply _ _ _).trans <| (val_main_v5_apply _ _ _).trans (val_main_v4_apply _ _ _))).trans (Finset.sum_congr rfl fun k _ => ?_)
  have hs := s.isLt
  have ha := a.isLt
  have hb := b.isLt
  refine (mul_comm _ _).trans (congrArg₂ (· * ·) (congrArg (argH m c) ?_) (congrArg (argG m c) ?_)) <;> refine (ValueIdx.eq_ix2 _).trans (congrArg₂ ix2 rfl (Fin.ext ?_))
  · show ((a.val * 8 + s.val) * 1024 + b.val) / 8192 = a.val
    omega
  · show ((a.val * 8 + s.val) * 1024 + b.val) % 8192 = s.val * 1024 + b.val
    omega

theorem frame_ref : Cert.quiescent_MlpUpWgradRefIdeal := fun m g _ =>
  (θ_run _ _ _).mono (fun r h => ⟨fun c => (h c).2, sem_eq_zero_of_no_sems (by decide) r.2⟩) (Cert.MlpUpWgradRefIdeal.Value.run m g)

theorem values : Cert.algebraic_MlpUpWgradIdeal_MlpUpWgradRefIdeal := by
  intro m g m' g' _ hagree
  refine ⟨fun c => outW m c, run m g, ?_⟩
  refine (θ_run _ _ _).mono (fun r h c => ?_) (Cert.MlpUpWgradRefIdeal.Value.run m' g')
  obtain ⟨h0, hargs⟩ := h c
  obtain ⟨e0, e1⟩ := hagree c
  rw [e0, e1] at h0
  exact ⟨h0.trans (same m c).symm, hargs⟩

end Cert.MlpUpWgradIdeal.Hand

end
-- ==== Proof.MlpUpBwd.lean ====
module

public import proofs.«01_k».proof.Defs
public import proofs.«01_k».proof.Proof.Gen.MlpUpBwd.Frame
public import proofs.«01_k».proof.Proof.Gen.MlpUpBwdIdeal.Value
public import proofs.«01_k».proof.Proof.Gen.MlpUpBwdRefIdeal.Read
public import proofs.«01_k».proof.Proof.Blocked

@[expose] public section

set_option maxRecDepth 16384

noncomputable section

namespace Cert.MlpUpBwdIdeal.Hand

open Idealize Idealize.ShloMosaic Idealize.SL.Sem
open Cert.MlpUpBwdIdeal Cert.MlpUpBwdIdeal.Gen Cert.MlpUpBwdIdeal.Value Cert.Blocked

/-! # The gradient of the MLP's input: four column blocks of one product, summed in the scratch -/

section
variable {F : FTy → Type} [FloatOps F]
variable (c : Dev nD) (i : grid0.Coords) (a3 : Memref sig .tc .vmem S1408x2048 .bf16) (h3 : a3.IsWhole)
  (a4 : Memref sig .tc .vmem S1024x2048 .bf16) (h4 : a4.IsWhole) (a5 : Memref sig .tc .vmem S1408x1024 .f32) (h5 : a5.IsWhole)
  (a6 : Memref sig .tc .vmem S1408x1024 .f32) (h6 : a6.IsWhole) (x0 : Vec F S1408x2048 .bf16) (x1 : Vec F S1024x2048 .bf16)
  (s : Vec F S1408x1024 .f32)

/-- The first block of a sum: the scratch is stored whole. -/
theorem scr_A (q0 : cond0_0 i) (q1 : ¬cond0_1 i) (q2 : ¬cond0_2 i) :
    sout0_A_0 c i a3 h3 a4 h4 a5 h5 a6 h6 q0 q1 q2 x0 x1 = k0_pay1 x0 x1 := by
  unfold sout0_A_0
  rw [View.read_writes_eq_canon _ _ _ (scover0_A_0 c i a3 h3 a4 h4 a5 h5 a6 h6 q0 q1 q2 x0 x1)]
  unfold kernelRun0_A
  dsimp only
  sl_unfold_words
  rw [View.canon_unit_zero (S := S1408x1024) off2]
  unfold k0_pay2
  simp only [View.readAt_eq_ld, h3.read_unread, h4.read_unread, View.ld_unit_zero (S := S1408x2048) off2, View.ld_unit_zero (S := S1024x2048) off2, View.ld_unit_zero (S := S1408x1024) off2, shapeCast_self]

/-- A later block: the scratch grows. -/
theorem scr_B (q0 : ¬cond0_0 i) (q1 : cond0_1 i) (q2 : ¬cond0_2 i) :
    sout0_B_0 c i a3 h3 a4 h4 a5 h5 a6 h6 q0 q1 q2 x0 x1 s = addf s (k0_pay1 x0 x1) := by
  unfold sout0_B_0
  rw [View.read_writes_eq_canon _ _ _ (scover0_B_0 c i a3 h3 a4 h4 a5 h5 a6 h6 q0 q1 q2 x0 x1 s)]
  unfold kernelRun0_B
  dsimp only
  sl_unfold_words
  rw [View.canon_unit_zero (S := S1408x1024) off2]
  unfold k0_pay3
  simp only [View.readAt_eq_ld, h3.read_unread, h4.read_unread, h6.read_unread, View.ld_unit_zero (S := S1408x2048) off2, View.ld_unit_zero (S := S1024x2048) off2, View.ld_unit_zero (S := S1408x1024) off2, shapeCast_self]

/-- The last block: the scratch grows and is written out. -/
theorem scr_C (q0 : ¬cond0_0 i) (q1 : cond0_1 i) (q2 : cond0_2 i) :
    sout0_C_0 c i a3 h3 a4 h4 a5 h5 a6 h6 q0 q1 q2 x0 x1 s = addf s (k0_pay1 x0 x1) := by
  unfold sout0_C_0
  rw [View.read_writes_eq_canon _ _ _ (scover0_C_0 c i a3 h3 a4 h4 a5 h5 a6 h6 q0 q1 q2 x0 x1 s)]
  unfold kernelRun0_C
  dsimp only
  sl_unfold_words
  rw [View.canon_unit_zero (S := S1408x1024) off2]
  unfold k0_pay3
  simp only [View.readAt_eq_ld, h3.read_unread, h4.read_unread, h6.read_unread, View.ld_unit_zero (S := S1408x2048) off2, View.ld_unit_zero (S := S1024x2048) off2, View.ld_unit_zero (S := S1408x1024) off2, shapeCast_self]

theorem out_C (q0 : ¬cond0_0 i) (q1 : cond0_1 i) (q2 : cond0_2 i) :
    out0_C_2 c i a3 h3 a4 h4 a5 h5 a6 h6 q0 q1 q2 x0 x1 s = addf s (k0_pay1 x0 x1) := by
  unfold out0_C_2
  rw [View.read_writes_eq_canon _ _ _ (cover0_C_2 c i a3 h3 a4 h4 a5 h5 a6 h6 q0 q1 q2 x0 x1 s)]
  unfold kernelRun0_C
  dsimp only
  sl_unfold_words
  rw [View.canon_unit_zero (S := S1408x1024) off2, View.readCov_unit_zero (S := S1408x1024) _ off2]
  unfold k0_pay3
  simp only [View.readAt_eq_ld, h3.read_unread, h4.read_unread, h6.read_unread, View.ld_unit_zero (S := S1408x2048) off2, View.ld_unit_zero (S := S1024x2048) off2, View.ld_unit_zero (S := S1408x1024) off2, shapeCast_self]

end

variable (m : (ℓ : Loc nD τ sig) → Buf (Elt Ideal) ℓ) (c : Dev nD)

theorem idx_0 : ∀ t : Fin cfg0.N, win0_0.index t = ![t.val / 4 / 2, t.val % 4] := (by decide +kernel : ∀ t : Fin grid0.N, _)
theorem idx_1 : ∀ t : Fin cfg0.N, win0_1.index t = ![t.val / 4 % 2, t.val % 4] := (by decide +kernel : ∀ t : Fin grid0.N, _)

abbrev argG : S4224x8192.Idx → EReal := m ((c.tc : Thread nD τ).loc main_arg0)
abbrev argW : S2048x8192.Idx → EReal := m ((c.tc : Thread nD τ).loc main_arg1)
abbrev outX : S4224x2048.Idx → EReal := G2 m c

/-- The two factors, contracted axis last, at any pair of numbers. -/
def facX : ℕ → ℕ → EReal := ext fun (a : Fin 4224) (k : Fin 8192) => argG m c (ix2 a k)
def facY : ℕ → ℕ → EReal := ext fun (b : Fin 2048) (k : Fin 8192) => argW m c (ix2 b k)

theorem in_0 (t : Fin cfg0.N) (a : Fin 1408) (k : Fin 2048) : (iblk m c 0 t : Vec Ideal S1408x2048 .bf16) (ix2 a k)
    = facX m c (t.val / 4 / 2 * 1408 + a.val) (t.val % 4 * 2048 + k.val) := by
  refine Eq.trans ?_ (ext_eq _ (by have := lt_of_lt_of_eq t.isLt N_0; omega) (by omega)).symm
  show ((cfg0.win 0).blk t).view.read (Elt Ideal) (argG m c) (ix2 a k) = _
  blk_ext [idx_0 t]
theorem in_1 (t : Fin cfg0.N) (b : Fin 1024) (k : Fin 2048) : (iblk m c 1 t : Vec Ideal S1024x2048 .bf16) (ix2 b k)
    = facY m c (t.val / 4 % 2 * 1024 + b.val) (t.val % 4 * 2048 + k.val) := by
  refine Eq.trans ?_ (ext_eq _ (by omega) (by omega)).symm
  show ((cfg0.win 1).blk t).view.read (Elt Ideal) (argW m c) (ix2 b k) = _
  blk_ext [idx_1 t]

theorem part_apply (x0 : Vec Ideal S1408x2048 .bf16) (x1 : Vec Ideal S1024x2048 .bf16) (a : Fin 1408) (b : Fin 1024) :
    k0_pay1 x0 x1 (ix2 a b) = ∑ k : Fin 2048, x0 (ix2 a k) * x1 (ix2 b k) := by
  pointwise [k0_pay1]

theorem scr_first (n : ℕ) (h : n < cfg0.N) (h0 : n % 4 = 0) :
    (outsAt0 m c n h).2 = k0_pay1 (iblk m c 0 ⟨n, h⟩) (iblk m c 1 ⟨n, h⟩) := by
  rw [outsAt0_A m c ⟨n, h⟩ h0 (by dsimp only; omega) (by dsimp only; omega)]
  dsimp only
  rw [scr_A]

theorem scr_next (n : ℕ) (h : n < cfg0.N) (h0 : n % 4 ≠ 0) :
    (outsAt0 m c n h).2 = addf (outsAt0 m c (n - 1) (Nat.lt_of_le_of_lt (Nat.sub_le _ _) h)).2 (k0_pay1 (iblk m c 0 ⟨n, h⟩) (iblk m c 1 ⟨n, h⟩)) := by
  by_cases h3 : n % 4 = 3
  · rw [outsAt0_C m c ⟨n, h⟩ h0 (by dsimp only; omega) h3]
    dsimp only
    rw [scr_C]
  · rw [outsAt0_B m c ⟨n, h⟩ h0 (by dsimp only; omega) h3]
    dsimp only
    rw [scr_B]

/-- The product of point `n`'s blocks at an entry, and the scratch after the point. -/
def term (a : Fin 1408) (b : Fin 1024) (n : ℕ) (h : n < cfg0.N) : EReal :=
  k0_pay1 (iblk m c 0 ⟨n, h⟩) (iblk m c 1 ⟨n, h⟩) (ix2 a b)
def held (a : Fin 1408) (b : Fin 1024) (n : ℕ) (h : n < cfg0.N) : EReal := (outsAt0 m c n h).2 (ix2 a b)

theorem scr_sum (a : Fin 1408) (b : Fin 1024) (r : ℕ) {p : ℕ} (hp : p = 4 * r + 3) (h : p < cfg0.N) : held m c a b p h
    = ∑ k : Fin 8192, facX m c (r / 2 * 1408 + a.val) k.val * facY m c (r % 2 * 1024 + b.val) k.val :=
  tiled (tk := 2048) (K := 4) rfl (fun r a => facX m c (r / 2 * 1408 + a)) (fun r b => facY m c (r % 2 * 1024 + b)) (held m c) (term m c)
    (fun a b n h h0 => congrFun (scr_first m c n h h0) (ix2 a b))
    (fun a b n h h0 => congrFun (scr_next m c n h h0) (ix2 a b))
    (fun a b n h => (part_apply ..).trans (Finset.sum_congr rfl fun k _ => congrArg₂ (· * ·) (in_0 ..) (in_1 ..)))
    a b r hp (by omega) h

theorem out_eq (n : ℕ) (h : n < cfg0.N) (h3 : n % 4 = 3) : (outsAt0 m c n h).1 = (outsAt0 m c n h).2 := by
  rw [outsAt0_C m c ⟨n, h⟩ (by dsimp only; omega) (by dsimp only; omega) h3]
  dsimp only
  rw [out_C, scr_C]

variable (a : Fin 4224) (b : Fin 2048)

/-- The array that the call writes: the product with the transposed weights. -/
theorem value : outX m c (ix2 a b) = ∑ k : Fin 8192, argG m c (ix2 a k) * argW m c (ix2 b k) := by
  have ha := a.isLt
  have hb := b.isLt
  have hp : pt2Of (ix2 a b) = 4 * (2 * (a.val / 1408) + b.val / 1024) + 3 := by
    show 4 * (2 * (a.val / 1408 - 0) + 1 * (b.val / 1024 - 0)) + 3 = _
    omega
  have hN : pt2Of (ix2 a b) < cfg0.N := by rw [hp, show cfg0.N = 24 from N_0]; omega
  have hl : loc2Of (ix2 a b) = ix2 (⟨a.val % 1408, by omega⟩ : Fin 1408) (⟨b.val % 1024, by omega⟩ : Fin 1024) := ValueIdx.eq_ix2 _
  have hG : outX m c (ix2 a b) = held m c ⟨a.val % 1408, by omega⟩ ⟨b.val % 1024, by omega⟩ (pt2Of (ix2 a b)) hN := by
    unfold outX G2 held
    rw [dif_pos hN, ← outsAt0_sweep m c _ hN, out_eq m c _ hN (by omega), hl]
  rw [hG, scr_sum m c _ _ _ hp]
  refine Finset.sum_congr rfl fun k _ => congrArg₂ (· * ·) ?_ ?_
  · rw [show (2 * (a.val / 1408) + b.val / 1024) / 2 * 1408 + a.val % 1408 = a.val by omega]
    exact ext_eq _ a.isLt k.isLt
  · rw [show (2 * (a.val / 1408) + b.val / 1024) % 2 * 1024 + b.val % 1024 = b.val by omega]
    exact ext_eq _ b.isLt k.isLt

/-! ## The reference -/

open Cert.MlpUpBwdRefIdeal.Read in
theorem same : outX m c = val_main_v4 (F := Ideal) (argG m c) (argW m c) := by
  funext y
  obtain ⟨a, b, rfl⟩ : ∃ a b, y = ix2 a b := ⟨_, _, ValueIdx.eq_ix2 y⟩
  refine (value m c a b).trans (Eq.symm ((val_main_v4_apply _ _ _).trans (Finset.sum_congr rfl fun k _ => congrArg₂ (· * ·) (congrArg (argG m c) ?_) (congrArg (argW m c) ?_)))) <;>
    exact ValueIdx.eq_ix2 _

theorem frame_ref : Cert.quiescent_MlpUpBwdRefIdeal := fun m g _ =>
  (θ_run _ _ _).mono (fun r h => ⟨fun c => (h c).2, sem_eq_zero_of_no_sems (by decide) r.2⟩) (Cert.MlpUpBwdRefIdeal.Value.run m g)

theorem values : Cert.algebraic_MlpUpBwdIdeal_MlpUpBwdRefIdeal := by
  intro m g m' g' _ hagree
  refine ⟨fun c => outX m c, run m g, ?_⟩
  refine (θ_run _ _ _).mono (fun r h c => ?_) (Cert.MlpUpBwdRefIdeal.Value.run m' g')
  obtain ⟨h0, hargs⟩ := h c
  obtain ⟨e0, e1⟩ := hagree c
  rw [e0, e1] at h0
  exact ⟨h0.trans (same m c).symm, hargs⟩

end Cert.MlpUpBwdIdeal.Hand

end
-- ==== Proof.InProj.lean ====
module

public import proofs.«01_k».proof.Defs
public import proofs.«01_k».proof.Proof.Gen.InProj.Frame
public import proofs.«01_k».proof.Proof.Gen.InProjIdeal.Value
public import proofs.«01_k».proof.Proof.Gen.InProjRefIdeal.Read
public import proofs.«01_k».proof.Proof.Blocked

@[expose] public section

set_option maxRecDepth 16384

noncomputable section

namespace Cert.InProjIdeal.Hand

open Idealize Idealize.ShloMosaic Idealize.SL.Sem
open Cert.InProjIdeal Cert.InProjIdeal.Gen Cert.InProjIdeal.Value Cert.Blocked

/-! # The mixers' input projection: one point a tile -/

variable (m : (ℓ : Loc nD τ sig) → Buf (Elt Ideal) ℓ) (c : Dev nD)

theorem idx_0 : ∀ t : Fin cfg0.N, win0_0.index t = ![t.val / 20, 0] := (by decide +kernel : ∀ t : Fin grid0.N, _)
theorem idx_1 : ∀ t : Fin cfg0.N, win0_1.index t = ![t.val % 20, 0] := (by decide +kernel : ∀ t : Fin grid0.N, _)
theorem idx_2 : ∀ t : Fin cfg0.N, win0_2.index t = ![t.val / 20, t.val % 20] := (by decide +kernel : ∀ t : Fin grid0.N, _)
theorem flush_2 : ∀ t : Fin cfg0.N, (cfg0.win 2).flush t = true := (by decide +kernel : ∀ t : Fin grid0.N, _)

abbrev argX : S4224x2048.Idx → EReal := m ((c.tc : Thread nD τ).loc main_arg0)
abbrev argW : S10240x2048.Idx → EReal := m ((c.tc : Thread nD τ).loc main_arg1)
abbrev outY : S4224x10240.Idx → EReal := (dats m 0 c).arrAt 2 cfg0.N

theorem in_0 (t : Fin cfg0.N) (a : Fin 1408) (k : Fin 2048) : (iblk m c 0 t : Vec Ideal S1408x2048 .bf16) (ix2 a k)
    = argX m c (ix2 ⟨t.val / 20 * 1408 + a.val, by have := lt_of_lt_of_eq t.isLt N_0; omega⟩ k) := by
  show ((cfg0.win 0).blk t).view.read (Elt Ideal) (argX m c) (ix2 a k) = _
  blk_ext [idx_0 t]
theorem in_1 (t : Fin cfg0.N) (b : Fin 512) (k : Fin 2048) : (iblk m c 1 t : Vec Ideal S512x2048 .bf16) (ix2 b k)
    = argW m c (ix2 ⟨t.val % 20 * 512 + b.val, by omega⟩ k) := by
  show ((cfg0.win 1).blk t).view.read (Elt Ideal) (argW m c) (ix2 b k) = _
  blk_ext [idx_1 t]
theorem blk_2 (t : Fin cfg0.N) (X : S4224x10240.Idx → Elt Ideal .bf16) (a : Fin 1408) (b : Fin 512) :
    ((cfg0.win 2).blk t).view.read (Elt Ideal) X (ix2 a b) = X (ix2 ⟨t.val / 20 * 1408 + a.val, by have := lt_of_lt_of_eq t.isLt N_0; omega⟩ ⟨t.val % 20 * 512 + b.val, by omega⟩) := by
  blk_ext [idx_2 t]

theorem out_2 (x0 : Vec Ideal S1408x2048 .bf16) (x1 : Vec Ideal S512x2048 .bf16) : out0_2 x0 x1 = k0_pay1 x0 x1 := by
  unfold out0_2 r0_0 r0_1 r0_2
  rw [View.canon_unit_zero (S := S1408x512) off2, View.ld_unit_zero (S := S1408x2048) off2, View.ld_unit_zero (S := S512x2048) off2]

theorem pay_apply (x0 : Vec Ideal S1408x2048 .bf16) (x1 : Vec Ideal S512x2048 .bf16) (a : Fin 1408) (b : Fin 512) :
    k0_pay1 x0 x1 (ix2 a b) = ∑ k : Fin 2048, x0 (ix2 a k) * x1 (ix2 b k) := by
  pointwise [k0_pay1]

variable (a : Fin 4224) (b : Fin 10240)

/-- The point whose tile holds an entry. -/
def pt : Fin cfg0.N := ⟨20 * (a.val / 1408) + b.val / 512, by rw [show cfg0.N = 60 from N_0]; omega⟩

theorem value : outY m c (ix2 a b) = ∑ k : Fin 2048, argX m c (ix2 a k) * argW m c (ix2 b k) := by
  have h := congrFun (blocks2 m c (pt a b) (flush_2 _)) (ix2 (⟨a.val % 1408, by omega⟩ : Fin 1408) (⟨b.val % 512, by omega⟩ : Fin 512))
  have ea : (pt a b).val / 20 * 1408 + a.val % 1408 = a.val := by dsimp only [pt]; omega
  have eb : (pt a b).val % 20 * 512 + b.val % 512 = b.val := by dsimp only [pt]; omega
  rw [blk_2, flushed2, out_2] at h
  have h' := h.trans (pay_apply ..)
  simp only [in_0, in_1, ea, eb] at h'
  exact h'

/-! ## The reference -/

open Cert.InProjRefIdeal.Read in
theorem same : outY m c = val_main_v3 (F := Ideal) (argX m c) (argW m c) := by
  funext y
  obtain ⟨a, b, rfl⟩ : ∃ a b, y = ix2 a b := ⟨_, _, ValueIdx.eq_ix2 y⟩
  refine (value m c a b).trans (Eq.symm ?_)
  refine (val_main_v3_apply _ _ _).trans ?_
  refine ((val_main_v2_apply _ _ _).trans (Finset.sum_congr rfl fun k _ => congrArg₂ (· * ·) (congrArg (argX m c) ?_) (congrArg (argW m c) ?_))) <;>
    exact ValueIdx.eq_ix2 _

theorem frame_ref : Cert.quiescent_InProjRefIdeal := fun m g _ =>
  (θ_run _ _ _).mono (fun r h => ⟨fun c => (h c).2, sem_eq_zero_of_no_sems (by decide) r.2⟩) (Cert.InProjRefIdeal.Value.run m g)

theorem values : Cert.algebraic_InProjIdeal_InProjRefIdeal := by
  intro m g m' g' _ hagree
  refine ⟨fun c => outY m c, run_blocks m g, ?_⟩
  refine (θ_run _ _ _).mono (fun r h c => ?_) (Cert.InProjRefIdeal.Value.run m' g')
  obtain ⟨h0, hargs⟩ := h c
  obtain ⟨e0, e1⟩ := hagree c
  rw [e0, e1] at h0
  exact ⟨h0.trans (same m c).symm, hargs⟩

end Cert.InProjIdeal.Hand

end
-- ==== Proof.InProjBwd.lean ====
module

public import proofs.«01_k».proof.Defs
public import proofs.«01_k».proof.Proof.Gen.InProjBwd.Frame
public import proofs.«01_k».proof.Proof.Gen.InProjBwdIdeal.Value
public import proofs.«01_k».proof.Proof.Gen.InProjBwdRefIdeal.Read
public import proofs.«01_k».proof.Proof.Blocked

@[expose] public section

set_option maxRecDepth 16384

noncomputable section

namespace Cert.InProjBwdIdeal.Hand

open Idealize Idealize.ShloMosaic Idealize.SL.Sem
open Cert.InProjBwdIdeal Cert.InProjBwdIdeal.Gen Cert.InProjBwdIdeal.Value Cert.Blocked

/-! # The gradient of the mixers' input: five column blocks of one product, summed in the scratch, on top of the forget gate's part -/

section
variable {F : FTy → Type} [FloatOps F]
variable (c : Dev nD) (i : grid0.Coords) (a3 : Memref sig .tc .vmem S1408x2048 .bf16) (h3 : a3.IsWhole)
  (a4 : Memref sig .tc .vmem S2048x512 .bf16) (h4 : a4.IsWhole) (a5 : Memref sig .tc .vmem S1408x512 .f32) (h5 : a5.IsWhole)
  (a6 : Memref sig .tc .vmem S1408x512 .f32) (h6 : a6.IsWhole)
  (a7 : Memref sig .tc .vmem S1408x512 .f32) (h7 : a7.IsWhole) (x0 : Vec F S1408x2048 .bf16) (x1 : Vec F S2048x512 .bf16) (x2 : Vec F S1408x512 .f32)
  (s : Vec F S1408x512 .f32)

/-- The first block of a sum: the scratch is stored whole. -/
theorem scr_A (q0 : cond0_0 i) (q1 : ¬cond0_1 i) (q2 : ¬cond0_2 i) :
    sout0_A_0 c i a3 h3 a4 h4 a5 h5 a6 h6 a7 h7 q0 q1 q2 x0 x1 x2 = k0_pay1 x0 x1 := by
  unfold sout0_A_0
  rw [View.read_writes_eq_canon _ _ _ (scover0_A_0 c i a3 h3 a4 h4 a5 h5 a6 h6 a7 h7 q0 q1 q2 x0 x1 x2)]
  unfold kernelRun0_A
  dsimp only
  sl_unfold_words
  rw [View.canon_unit_zero (S := S1408x512) off2]
  unfold k0_pay2
  simp only [View.readAt_eq_ld, h3.read_unread, h4.read_unread, View.ld_unit_zero (S := S1408x2048) off2, View.ld_unit_zero (S := S2048x512) off2, View.ld_unit_zero (S := S1408x512) off2, shapeCast_self]

/-- A later block: the scratch grows. -/
theorem scr_B (q0 : ¬cond0_0 i) (q1 : cond0_1 i) (q2 : ¬cond0_2 i) :
    sout0_B_0 c i a3 h3 a4 h4 a5 h5 a6 h6 a7 h7 q0 q1 q2 x0 x1 x2 s = addf s (k0_pay1 x0 x1) := by
  unfold sout0_B_0
  rw [View.read_writes_eq_canon _ _ _ (scover0_B_0 c i a3 h3 a4 h4 a5 h5 a6 h6 a7 h7 q0 q1 q2 x0 x1 x2 s)]
  unfold kernelRun0_B
  dsimp only
  sl_unfold_words
  rw [View.canon_unit_zero (S := S1408x512) off2]
  unfold k0_pay3
  simp only [View.readAt_eq_ld, h3.read_unread, h4.read_unread, h5.read_unread, h7.read_unread, View.ld_unit_zero (S := S1408x2048) off2, View.ld_unit_zero (S := S2048x512) off2, View.ld_unit_zero (S := S1408x512) off2, shapeCast_self]

/-- The last block: the scratch grows and is written out. -/
theorem scr_C (q0 : ¬cond0_0 i) (q1 : cond0_1 i) (q2 : cond0_2 i) :
    sout0_C_0 c i a3 h3 a4 h4 a5 h5 a6 h6 a7 h7 q0 q1 q2 x0 x1 x2 s = addf s (k0_pay1 x0 x1) := by
  unfold sout0_C_0
  rw [View.read_writes_eq_canon _ _ _ (scover0_C_0 c i a3 h3 a4 h4 a5 h5 a6 h6 a7 h7 q0 q1 q2 x0 x1 x2 s)]
  unfold kernelRun0_C
  dsimp only
  sl_unfold_words
  rw [View.canon_unit_zero (S := S1408x512) off2]
  unfold k0_pay3
  simp only [View.readAt_eq_ld, h3.read_unread, h4.read_unread, h5.read_unread, h7.read_unread, View.ld_unit_zero (S := S1408x2048) off2, View.ld_unit_zero (S := S2048x512) off2, View.ld_unit_zero (S := S1408x512) off2, shapeCast_self]

theorem out_C (q0 : ¬cond0_0 i) (q1 : cond0_1 i) (q2 : cond0_2 i) :
    out0_C_3 c i a3 h3 a4 h4 a5 h5 a6 h6 a7 h7 q0 q1 q2 x0 x1 x2 s = addf x2 (addf s (k0_pay1 x0 x1)) := by
  unfold out0_C_3
  rw [View.read_writes_eq_canon _ _ _ (cover0_C_3 c i a3 h3 a4 h4 a5 h5 a6 h6 a7 h7 q0 q1 q2 x0 x1 x2 s)]
  unfold kernelRun0_C
  dsimp only
  sl_unfold_words
  rw [View.canon_unit_zero (S := S1408x512) off2, View.readCov_unit_zero (S := S1408x512) _ off2]
  unfold k0_pay4 k0_pay3
  simp only [View.readAt_eq_ld, h3.read_unread, h4.read_unread, h5.read_unread, h7.read_unread, View.ld_unit_zero (S := S1408x2048) off2, View.ld_unit_zero (S := S2048x512) off2, View.ld_unit_zero (S := S1408x512) off2, shapeCast_self]

end

variable (m : (ℓ : Loc nD τ sig) → Buf (Elt Ideal) ℓ) (c : Dev nD)

theorem idx_0 : ∀ t : Fin cfg0.N, win0_0.index t = ![t.val / 5 / 4, t.val % 5] := (by decide +kernel : ∀ t : Fin grid0.N, _)
theorem idx_1 : ∀ t : Fin cfg0.N, win0_1.index t = ![t.val % 5, t.val / 5 % 4] := (by decide +kernel : ∀ t : Fin grid0.N, _)

theorem idx_2 : ∀ t : Fin cfg0.N, win0_2.index t = ![t.val / 5 / 4, t.val / 5 % 4] := (by decide +kernel : ∀ t : Fin grid0.N, _)

abbrev argG : S4224x10240.Idx → EReal := m ((c.tc : Thread nD τ).loc main_arg0)
abbrev argW : S10240x2048.Idx → EReal := m ((c.tc : Thread nD τ).loc main_arg1)
abbrev argE : S4224x2048.Idx → EReal := m ((c.tc : Thread nD τ).loc main_arg2)
abbrev outX : S4224x2048.Idx → EReal := G3 m c

/-- The two factors, contracted axis last, at any pair of numbers. -/
def facX : ℕ → ℕ → EReal := ext fun (a : Fin 4224) (k : Fin 10240) => argG m c (ix2 a k)
def facY : ℕ → ℕ → EReal := ext fun (b : Fin 2048) (k : Fin 10240) => argW m c (ix2 k b)

theorem in_0 (t : Fin cfg0.N) (a : Fin 1408) (k : Fin 2048) : (iblk m c 0 t : Vec Ideal S1408x2048 .bf16) (ix2 a k)
    = facX m c (t.val / 5 / 4 * 1408 + a.val) (t.val % 5 * 2048 + k.val) := by
  refine Eq.trans ?_ (ext_eq _ (by have := lt_of_lt_of_eq t.isLt N_0; omega) (by omega)).symm
  show ((cfg0.win 0).blk t).view.read (Elt Ideal) (argG m c) (ix2 a k) = _
  blk_ext [idx_0 t]
theorem in_1 (t : Fin cfg0.N) (k : Fin 2048) (b : Fin 512) : (iblk m c 1 t : Vec Ideal S2048x512 .bf16) (ix2 k b)
    = facY m c (t.val / 5 % 4 * 512 + b.val) (t.val % 5 * 2048 + k.val) := by
  refine Eq.trans ?_ (ext_eq _ (by omega) (by omega)).symm
  show ((cfg0.win 1).blk t).view.read (Elt Ideal) (argW m c) (ix2 k b) = _
  blk_ext [idx_1 t]

theorem part_apply (x0 : Vec Ideal S1408x2048 .bf16) (x1 : Vec Ideal S2048x512 .bf16) (a : Fin 1408) (b : Fin 512) :
    k0_pay1 x0 x1 (ix2 a b) = ∑ k : Fin 2048, x0 (ix2 a k) * x1 (ix2 k b) := by
  pointwise [k0_pay1]

theorem scr_first (n : ℕ) (h : n < cfg0.N) (h0 : n % 5 = 0) :
    (outsAt0 m c n h).2 = k0_pay1 (iblk m c 0 ⟨n, h⟩) (iblk m c 1 ⟨n, h⟩) := by
  rw [outsAt0_A m c ⟨n, h⟩ h0 (by dsimp only; omega) (by dsimp only; omega)]
  dsimp only
  rw [scr_A]

theorem scr_next (n : ℕ) (h : n < cfg0.N) (h0 : n % 5 ≠ 0) :
    (outsAt0 m c n h).2 = addf (outsAt0 m c (n - 1) (Nat.lt_of_le_of_lt (Nat.sub_le _ _) h)).2 (k0_pay1 (iblk m c 0 ⟨n, h⟩) (iblk m c 1 ⟨n, h⟩)) := by
  by_cases h3 : n % 5 = 4
  · rw [outsAt0_C m c ⟨n, h⟩ h0 (by dsimp only; omega) h3]
    dsimp only
    rw [scr_C]
  · rw [outsAt0_B m c ⟨n, h⟩ h0 (by dsimp only; omega) h3]
    dsimp only
    rw [scr_B]

/-- The product of point `n`'s blocks at an entry, and the scratch after the point. -/
def term (a : Fin 1408) (b : Fin 512) (n : ℕ) (h : n < cfg0.N) : EReal :=
  k0_pay1 (iblk m c 0 ⟨n, h⟩) (iblk m c 1 ⟨n, h⟩) (ix2 a b)
def held (a : Fin 1408) (b : Fin 512) (n : ℕ) (h : n < cfg0.N) : EReal := (outsAt0 m c n h).2 (ix2 a b)

/-- What the call is handed to add, at an entry of point `n`'s block. -/
def given (a : Fin 1408) (b : Fin 512) (n : ℕ) (h : n < cfg0.N) : EReal := (iblk m c 2 ⟨n, h⟩ : Vec Ideal S1408x512 .f32) (ix2 a b)

theorem scr_sum (a : Fin 1408) (b : Fin 512) (r : ℕ) {p : ℕ} (hp : p = 5 * r + 4) (h : p < cfg0.N) : held m c a b p h
    = ∑ k : Fin 10240, facX m c (r / 4 * 1408 + a.val) k.val * facY m c (r % 4 * 512 + b.val) k.val :=
  tiled (tk := 2048) (K := 5) rfl (fun r a => facX m c (r / 4 * 1408 + a)) (fun r b => facY m c (r % 4 * 512 + b)) (held m c) (term m c)
    (fun a b n h h0 => congrFun (scr_first m c n h h0) (ix2 a b))
    (fun a b n h h0 => congrFun (scr_next m c n h h0) (ix2 a b))
    (fun a b n h => (part_apply ..).trans (Finset.sum_congr rfl fun k _ => congrArg₂ (· * ·) (in_0 ..) (in_1 ..)))
    a b r hp (by omega) h

theorem out_eq (n : ℕ) (h : n < cfg0.N) (h3 : n % 5 = 4) :
    (outsAt0 m c n h).1 = (addf (iblk m c 2 ⟨n, h⟩ : FVec Ideal S1408x512 .f32) (outsAt0 m c n h).2 : FVec Ideal S1408x512 .f32) := by
  rw [outsAt0_C m c ⟨n, h⟩ (by dsimp only; omega) (by dsimp only; omega) h3]
  dsimp only
  rw [out_C, scr_C]

theorem in_2 (t : Fin cfg0.N) (a : Fin 1408) (b : Fin 512) : (iblk m c 2 t : Vec Ideal S1408x512 .f32) (ix2 a b)
    = argE m c (ix2 ⟨t.val / 5 / 4 * 1408 + a.val, by have := lt_of_lt_of_eq t.isLt N_0; omega⟩ ⟨t.val / 5 % 4 * 512 + b.val, by omega⟩) := by
  show ((cfg0.win 2).blk t).view.read (Elt Ideal) (argE m c) (ix2 a b) = _
  blk_ext [idx_2 t]

variable (a : Fin 4224) (b : Fin 2048)

/-- The array that the call writes: the product with the weights, on top of what is handed in. -/
theorem value : outX m c (ix2 a b) = argE m c (ix2 a b) + ∑ k : Fin 10240, argG m c (ix2 a k) * argW m c (ix2 k b) := by
  have ha := a.isLt
  have hb := b.isLt
  have hp : pt3Of (ix2 a b) = 5 * (4 * (a.val / 1408) + b.val / 512) + 4 := by
    show 5 * (4 * (a.val / 1408 - 0) + 1 * (b.val / 512 - 0)) + 4 = _
    omega
  have hN : pt3Of (ix2 a b) < cfg0.N := by rw [hp, show cfg0.N = 60 from N_0]; omega
  have hl : loc3Of (ix2 a b) = ix2 (⟨a.val % 1408, by omega⟩ : Fin 1408) (⟨b.val % 512, by omega⟩ : Fin 512) := ValueIdx.eq_ix2 _
  have hG : outX m c (ix2 a b) = given m c ⟨a.val % 1408, by omega⟩ ⟨b.val % 512, by omega⟩ (pt3Of (ix2 a b)) hN
      + held m c ⟨a.val % 1408, by omega⟩ ⟨b.val % 512, by omega⟩ (pt3Of (ix2 a b)) hN := by
    unfold outX G3 held given
    rw [dif_pos hN, ← outsAt0_sweep m c _ hN, out_eq m c _ hN (by omega), hl]
    rfl
  rw [hG, scr_sum m c _ _ _ hp]
  unfold given
  rw [in_2]
  refine congrArg₂ (· + ·) (congrArg _ (congrArg₂ ix2 (Fin.ext ?_) (Fin.ext ?_))) (Finset.sum_congr rfl fun k _ => congrArg₂ (· * ·) ?_ ?_)
  · dsimp only; omega
  · dsimp only; omega
  · rw [show (4 * (a.val / 1408) + b.val / 512) / 4 * 1408 + a.val % 1408 = a.val by omega]
    exact ext_eq _ a.isLt k.isLt
  · rw [show (4 * (a.val / 1408) + b.val / 512) % 4 * 512 + b.val % 512 = b.val by omega]
    exact ext_eq _ b.isLt k.isLt

/-! ## The reference -/

open Cert.InProjBwdRefIdeal.Read in
theorem same : outX m c = val_main_v5 (F := Ideal) (argG m c) (argW m c) (argE m c) := by
  funext y
  obtain ⟨a, b, rfl⟩ : ∃ a b, y = ix2 a b := ⟨_, _, ValueIdx.eq_ix2 y⟩
  refine (value m c a b).trans (Eq.symm ((val_main_v5_apply _ _ _ _).trans (congrArg (argE m c (ix2 a b) + ·) ((val_main_v4_apply _ _ _).trans (Finset.sum_congr rfl fun k _ => congrArg₂ (· * ·) (congrArg (argG m c) ?_) (congrArg (argW m c) ?_)))))) <;>
    exact ValueIdx.eq_ix2 _

theorem frame_ref : Cert.quiescent_InProjBwdRefIdeal := fun m g _ =>
  (θ_run _ _ _).mono (fun r h => ⟨fun c => (h c).2, sem_eq_zero_of_no_sems (by decide) r.2⟩) (Cert.InProjBwdRefIdeal.Value.run m g)

theorem values : Cert.algebraic_InProjBwdIdeal_InProjBwdRefIdeal := by
  intro m g m' g' _ hagree
  refine ⟨fun c => outX m c, run m g, ?_⟩
  refine (θ_run _ _ _).mono (fun r h c => ?_) (Cert.InProjBwdRefIdeal.Value.run m' g')
  obtain ⟨h0, hargs⟩ := h c
  obtain ⟨e0, e1, e2⟩ := hagree c
  rw [e0, e1, e2] at h0
  exact ⟨h0.trans (same m c).symm, hargs⟩

end Cert.InProjBwdIdeal.Hand

end
-- ==== Proof.InProjWgradA.lean ====
module

public import proofs.«01_k».proof.Defs
public import proofs.«01_k».proof.Proof.Gen.InProjWgradA.Frame
public import proofs.«01_k».proof.Proof.Gen.InProjWgradAIdeal.Value
public import proofs.«01_k».proof.Proof.Gen.InProjWgradARefIdeal.Read
public import proofs.«01_k».proof.Proof.Blocked

@[expose] public section

set_option maxRecDepth 16384

noncomputable section

namespace Cert.InProjWgradAIdeal.Hand

open Idealize Idealize.ShloMosaic Idealize.SL.Sem
open Cert.InProjWgradAIdeal Cert.InProjWgradAIdeal.Gen Cert.InProjWgradAIdeal.Value Cert.Blocked

/-! # Columns 0 to 384 of the gradient of the input projection's weights: the rows are contracted, a third of them a point -/

section
variable {F : FTy → Type} [FloatOps F]
variable (c : Dev nD) (i : grid0.Coords) (a3 : Memref sig .tc .vmem S1408x1024 .bf16) (h3 : a3.IsWhole)
  (a4 : Memref sig .tc .vmem S1408x384 .bf16) (h4 : a4.IsWhole) (a5 : Memref sig .tc .vmem S1024x384 .bf16) (h5 : a5.IsWhole)
  (a6 : Memref sig .tc .vmem S1024x384 .f32) (h6 : a6.IsWhole) (x0 : Vec F S1408x1024 .bf16) (x1 : Vec F S1408x384 .bf16)
  (s : Vec F S1024x384 .f32)

/-- The first block of a sum: the scratch is stored whole. -/
theorem scr_A (q0 : cond0_0 i) (q1 : ¬cond0_1 i) (q2 : ¬cond0_2 i) :
    sout0_A_0 c i a3 h3 a4 h4 a5 h5 a6 h6 q0 q1 q2 x0 x1 = k0_pay1 x0 x1 := by
  unfold sout0_A_0
  rw [View.read_writes_eq_canon _ _ _ (scover0_A_0 c i a3 h3 a4 h4 a5 h5 a6 h6 q0 q1 q2 x0 x1)]
  unfold kernelRun0_A
  dsimp only
  sl_unfold_words
  rw [View.canon_unit_zero (S := S1024x384) off2]
  unfold k0_pay2
  simp only [View.readAt_eq_ld, h3.read_unread, h4.read_unread, View.ld_unit_zero (S := S1408x1024) off2, View.ld_unit_zero (S := S1408x384) off2, View.ld_unit_zero (S := S1024x384) off2, shapeCast_self]

/-- A later block: the scratch grows. -/
theorem scr_B (q0 : ¬cond0_0 i) (q1 : cond0_1 i) (q2 : ¬cond0_2 i) :
    sout0_B_0 c i a3 h3 a4 h4 a5 h5 a6 h6 q0 q1 q2 x0 x1 s = addf s (k0_pay1 x0 x1) := by
  unfold sout0_B_0
  rw [View.read_writes_eq_canon _ _ _ (scover0_B_0 c i a3 h3 a4 h4 a5 h5 a6 h6 q0 q1 q2 x0 x1 s)]
  unfold kernelRun0_B
  dsimp only
  sl_unfold_words
  rw [View.canon_unit_zero (S := S1024x384) off2]
  unfold k0_pay3
  simp only [View.readAt_eq_ld, h3.read_unread, h4.read_unread, h6.read_unread, View.ld_unit_zero (S := S1408x1024) off2, View.ld_unit_zero (S := S1408x384) off2, View.ld_unit_zero (S := S1024x384) off2, shapeCast_self]

/-- The last block: the scratch grows and is written out. -/
theorem scr_C (q0 : ¬cond0_0 i) (q1 : cond0_1 i) (q2 : cond0_2 i) :
    sout0_C_0 c i a3 h3 a4 h4 a5 h5 a6 h6 q0 q1 q2 x0 x1 s = addf s (k0_pay1 x0 x1) := by
  unfold sout0_C_0
  rw [View.read_writes_eq_canon _ _ _ (scover0_C_0 c i a3 h3 a4 h4 a5 h5 a6 h6 q0 q1 q2 x0 x1 s)]
  unfold kernelRun0_C
  dsimp only
  sl_unfold_words
  rw [View.canon_unit_zero (S := S1024x384) off2]
  unfold k0_pay3
  simp only [View.readAt_eq_ld, h3.read_unread, h4.read_unread, h6.read_unread, View.ld_unit_zero (S := S1408x1024) off2, View.ld_unit_zero (S := S1408x384) off2, View.ld_unit_zero (S := S1024x384) off2, shapeCast_self]

theorem out_C (q0 : ¬cond0_0 i) (q1 : cond0_1 i) (q2 : cond0_2 i) :
    out0_C_2 c i a3 h3 a4 h4 a5 h5 a6 h6 q0 q1 q2 x0 x1 s = k0_pay4 (addf s (k0_pay1 x0 x1)) := by
  unfold out0_C_2
  rw [View.read_writes_eq_canon _ _ _ (cover0_C_2 c i a3 h3 a4 h4 a5 h5 a6 h6 q0 q1 q2 x0 x1 s)]
  unfold kernelRun0_C
  dsimp only
  sl_unfold_words
  rw [View.canon_unit_zero (S := S1024x384) off2, View.readCov_unit_zero (S := S1024x384) _ off2]
  unfold k0_pay3
  simp only [View.readAt_eq_ld, h3.read_unread, h4.read_unread, h6.read_unread, View.ld_unit_zero (S := S1408x1024) off2, View.ld_unit_zero (S := S1408x384) off2, View.ld_unit_zero (S := S1024x384) off2, shapeCast_self]

end

variable (m : (ℓ : Loc nD τ sig) → Buf (Elt Ideal) ℓ) (c : Dev nD)

theorem idx_0 : ∀ t : Fin cfg0.N, win0_0.index t = ![t.val % 3, t.val / 3] := (by decide +kernel : ∀ t : Fin grid0.N, _)
theorem idx_1 : ∀ t : Fin cfg0.N, win0_1.index t = ![t.val % 3, 0] := (by decide +kernel : ∀ t : Fin grid0.N, _)

abbrev argP : S4224x10240.Idx → EReal := m ((c.tc : Thread nD τ).loc main_arg0)
abbrev argX : S4224x2048.Idx → EReal := m ((c.tc : Thread nD τ).loc main_arg1)
/-- The columns that this call is given. -/
def cut : S4224x384.Idx → EReal := (extractStridedSlice S4224x384 ![0, 0] (argX m c : Vec Ideal S4224x2048 .bf16) slices_S4224x2048_S4224x384_0_0 : Vec Ideal S4224x384 .bf16)
theorem cut_apply (k : Fin 4224) (b : Fin 384) : cut m c (ix2 k b) = argX m c (ix2 k ⟨b.val, by omega⟩) := by
  unfold cut
  pointwise
abbrev outW : S10240x384.Idx → EReal := G2 m c

/-- The two factors, contracted axis last, at any pair of numbers. -/
def facX : ℕ → ℕ → EReal := ext fun (a : Fin 10240) (k : Fin 4224) => argP m c (ix2 k a)
def facY : ℕ → ℕ → EReal := ext fun (b : Fin 384) (k : Fin 4224) => cut m c (ix2 k b)

theorem in_0 (t : Fin cfg0.N) (k : Fin 1408) (a : Fin 1024) : (iblk m c 0 t : Vec Ideal S1408x1024 .bf16) (ix2 k a)
    = facX m c (t.val / 3 * 1024 + a.val) (t.val % 3 * 1408 + k.val) := by
  refine Eq.trans ?_ (ext_eq _ (by have := lt_of_lt_of_eq t.isLt N_0; omega) (by omega)).symm
  show ((cfg0.win 0).blk t).view.read (Elt Ideal) (argP m c) (ix2 k a) = _
  blk_ext [idx_0 t]
/-- The slice that the host takes before the launch. -/
theorem V_cut : V m c main_v0 = cut m c := by
  entry_read; rfl
theorem in_1 (t : Fin cfg0.N) (k : Fin 1408) (b : Fin 384) : (iblk m c 1 t : Vec Ideal S1408x384 .bf16) (ix2 k b)
    = facY m c (b.val) (t.val % 3 * 1408 + k.val) := by
  refine Eq.trans ?_ (ext_eq _ (by omega) (by omega)).symm
  show ((cfg0.win 1).blk t).view.read (Elt Ideal) (V m c main_v0) (ix2 k b) = _
  rw [V_cut]
  blk_ext [idx_1 t]

theorem part_apply (x0 : Vec Ideal S1408x1024 .bf16) (x1 : Vec Ideal S1408x384 .bf16) (a : Fin 1024) (b : Fin 384) :
    k0_pay1 x0 x1 (ix2 a b) = ∑ k : Fin 1408, x0 (ix2 k a) * x1 (ix2 k b) := by
  pointwise [k0_pay1]

theorem scr_first (n : ℕ) (h : n < cfg0.N) (h0 : n % 3 = 0) :
    (outsAt0 m c n h).2 = k0_pay1 (iblk m c 0 ⟨n, h⟩) (iblk m c 1 ⟨n, h⟩) := by
  rw [outsAt0_A m c ⟨n, h⟩ h0 (by dsimp only; omega) (by dsimp only; omega)]
  dsimp only
  rw [scr_A]

theorem scr_next (n : ℕ) (h : n < cfg0.N) (h0 : n % 3 ≠ 0) :
    (outsAt0 m c n h).2 = addf (outsAt0 m c (n - 1) (Nat.lt_of_le_of_lt (Nat.sub_le _ _) h)).2 (k0_pay1 (iblk m c 0 ⟨n, h⟩) (iblk m c 1 ⟨n, h⟩)) := by
  by_cases h3 : n % 3 = 2
  · rw [outsAt0_C m c ⟨n, h⟩ h0 (by dsimp only; omega) h3]
    dsimp only
    rw [scr_C]
  · rw [outsAt0_B m c ⟨n, h⟩ h0 (by dsimp only; omega) h3]
    dsimp only
    rw [scr_B]

/-- The product of point `n`'s blocks at an entry, and the scratch after the point. -/
def term (a : Fin 1024) (b : Fin 384) (n : ℕ) (h : n < cfg0.N) : EReal :=
  k0_pay1 (iblk m c 0 ⟨n, h⟩) (iblk m c 1 ⟨n, h⟩) (ix2 a b)
def held (a : Fin 1024) (b : Fin 384) (n : ℕ) (h : n < cfg0.N) : EReal := (outsAt0 m c n h).2 (ix2 a b)

theorem scr_sum (a : Fin 1024) (b : Fin 384) (r : ℕ) {p : ℕ} (hp : p = 3 * r + 2) (h : p < cfg0.N) : held m c a b p h
    = ∑ k : Fin 4224, facX m c (r * 1024 + a.val) k.val * facY m c (b.val) k.val :=
  tiled (tk := 1408) (K := 3) rfl (fun r a => facX m c (r * 1024 + a)) (fun _ b => facY m c b) (held m c) (term m c)
    (fun a b n h h0 => congrFun (scr_first m c n h h0) (ix2 a b))
    (fun a b n h h0 => congrFun (scr_next m c n h h0) (ix2 a b))
    (fun a b n h => (part_apply ..).trans (Finset.sum_congr rfl fun k _ => congrArg₂ (· * ·) (in_0 ..) (in_1 ..)))
    a b r hp (by omega) h

theorem out_eq (n : ℕ) (h : n < cfg0.N) (h3 : n % 3 = 2) : (outsAt0 m c n h).1 = k0_pay4 (outsAt0 m c n h).2 := by
  rw [outsAt0_C m c ⟨n, h⟩ (by dsimp only; omega) (by dsimp only; omega) h3]
  dsimp only
  rw [out_C, scr_C]

variable (a : Fin 10240) (b : Fin 384)

/-- The array that the call writes: the product with the transposed gradient of the projection. -/
theorem value : outW m c (ix2 a b) = ∑ k : Fin 4224, argP m c (ix2 k a) * argX m c (ix2 k ⟨b.val, by omega⟩) := by
  have ha := a.isLt
  have hb := b.isLt
  have hp : pt2Of (ix2 a b) = 3 * (a.val / 1024) + 2 := by
    show 3 * (1 * (a.val / 1024 - 0) + 1 * (b.val / 384 - 0)) + 2 = _
    omega
  have hN : pt2Of (ix2 a b) < cfg0.N := by rw [hp, show cfg0.N = 30 from N_0]; omega
  have hl : loc2Of (ix2 a b) = ix2 (⟨a.val % 1024, by omega⟩ : Fin 1024) (⟨b.val % 384, by omega⟩ : Fin 384) := ValueIdx.eq_ix2 _
  have hG : outW m c (ix2 a b) = held m c ⟨a.val % 1024, by omega⟩ ⟨b.val % 384, by omega⟩ (pt2Of (ix2 a b)) hN := by
    unfold outW G2 held
    rw [dif_pos hN, ← outsAt0_sweep m c _ hN, out_eq m c _ hN (by omega), hl]
    rfl
  rw [hG, scr_sum m c _ _ _ hp]
  refine Finset.sum_congr rfl fun k _ => congrArg₂ (· * ·) ?_ ?_
  · rw [show a.val / 1024 * 1024 + a.val % 1024 = a.val by omega]
    exact ext_eq _ a.isLt k.isLt
  · dsimp only
    rw [show b.val % 384 = b.val by omega]
    exact (ext_eq _ b.isLt k.isLt).trans (cut_apply ..)

/-! ## The reference -/

open Cert.InProjWgradARefIdeal.Read in
theorem same : outW m c = val_main_v6 (F := Ideal) (argP m c) (argX m c) := by
  funext y
  obtain ⟨a, b, rfl⟩ : ∃ a b, y = ix2 a b := ⟨_, _, ValueIdx.eq_ix2 y⟩
  refine (value m c a b).trans (Eq.symm ?_)
  refine ((val_main_v6_apply _ _ _).trans ((val_main_v5_apply _ _ _).trans (val_main_v4_apply _ _ _))).trans (Finset.sum_congr rfl fun k _ => ?_)
  refine congrArg₂ (· * ·) (congrArg (argP m c) ?_) (congrArg (argX m c) ?_) <;> exact ValueIdx.eq_ix2 _

theorem frame_ref : Cert.quiescent_InProjWgradARefIdeal := fun m g _ =>
  (θ_run _ _ _).mono (fun r h => ⟨fun c => (h c).2, sem_eq_zero_of_no_sems (by decide) r.2⟩) (Cert.InProjWgradARefIdeal.Value.run m g)

theorem values : Cert.algebraic_InProjWgradAIdeal_InProjWgradARefIdeal := by
  intro m g m' g' _ hagree
  refine ⟨fun c => outW m c, run m g, ?_⟩
  refine (θ_run _ _ _).mono (fun r h c => ?_) (Cert.InProjWgradARefIdeal.Value.run m' g')
  obtain ⟨h0, hargs⟩ := h c
  obtain ⟨e0, e1⟩ := hagree c
  rw [e0, e1] at h0
  exact ⟨h0.trans (same m c).symm, hargs⟩

end Cert.InProjWgradAIdeal.Hand

end
-- ==== Proof.InProjWgradB.lean ====
module

public import proofs.«01_k».proof.Defs
public import proofs.«01_k».proof.Proof.Gen.InProjWgradB.Frame
public import proofs.«01_k».proof.Proof.Gen.InProjWgradBIdeal.Value
public import proofs.«01_k».proof.Proof.Gen.InProjWgradBRefIdeal.Read
public import proofs.«01_k».proof.Proof.Blocked

@[expose] public section

set_option maxRecDepth 16384

noncomputable section

namespace Cert.InProjWgradBIdeal.Hand

open Idealize Idealize.ShloMosaic Idealize.SL.Sem
open Cert.InProjWgradBIdeal Cert.InProjWgradBIdeal.Gen Cert.InProjWgradBIdeal.Value Cert.Blocked

/-! # Columns 384 to 1024 of the gradient of the input projection's weights: the rows are contracted, a third of them a point -/

section
variable {F : FTy → Type} [FloatOps F]
variable (c : Dev nD) (i : grid0.Coords) (a3 : Memref sig .tc .vmem S1408x1024 .bf16) (h3 : a3.IsWhole)
  (a4 : Memref sig .tc .vmem S1408x640 .bf16) (h4 : a4.IsWhole) (a5 : Memref sig .tc .vmem S1024x640 .bf16) (h5 : a5.IsWhole)
  (a6 : Memref sig .tc .vmem S1024x640 .f32) (h6 : a6.IsWhole) (x0 : Vec F S1408x1024 .bf16) (x1 : Vec F S1408x640 .bf16)
  (s : Vec F S1024x640 .f32)

/-- The first block of a sum: the scratch is stored whole. -/
theorem scr_A (q0 : cond0_0 i) (q1 : ¬cond0_1 i) (q2 : ¬cond0_2 i) :
    sout0_A_0 c i a3 h3 a4 h4 a5 h5 a6 h6 q0 q1 q2 x0 x1 = k0_pay1 x0 x1 := by
  unfold sout0_A_0
  rw [View.read_writes_eq_canon _ _ _ (scover0_A_0 c i a3 h3 a4 h4 a5 h5 a6 h6 q0 q1 q2 x0 x1)]
  unfold kernelRun0_A
  dsimp only
  sl_unfold_words
  rw [View.canon_unit_zero (S := S1024x640) off2]
  unfold k0_pay2
  simp only [View.readAt_eq_ld, h3.read_unread, h4.read_unread, View.ld_unit_zero (S := S1408x1024) off2, View.ld_unit_zero (S := S1408x640) off2, View.ld_unit_zero (S := S1024x640) off2, shapeCast_self]

/-- A later block: the scratch grows. -/
theorem scr_B (q0 : ¬cond0_0 i) (q1 : cond0_1 i) (q2 : ¬cond0_2 i) :
    sout0_B_0 c i a3 h3 a4 h4 a5 h5 a6 h6 q0 q1 q2 x0 x1 s = addf s (k0_pay1 x0 x1) := by
  unfold sout0_B_0
  rw [View.read_writes_eq_canon _ _ _ (scover0_B_0 c i a3 h3 a4 h4 a5 h5 a6 h6 q0 q1 q2 x0 x1 s)]
  unfold kernelRun0_B
  dsimp only
  sl_unfold_words
  rw [View.canon_unit_zero (S := S1024x640) off2]
  unfold k0_pay3
  simp only [View.readAt_eq_ld, h3.read_unread, h4.read_unread, h6.read_unread, View.ld_unit_zero (S := S1408x1024) off2, View.ld_unit_zero (S := S1408x640) off2, View.ld_unit_zero (S := S1024x640) off2, shapeCast_self]

/-- The last block: the scratch grows and is written out. -/
theorem scr_C (q0 : ¬cond0_0 i) (q1 : cond0_1 i) (q2 : cond0_2 i) :
    sout0_C_0 c i a3 h3 a4 h4 a5 h5 a6 h6 q0 q1 q2 x0 x1 s = addf s (k0_pay1 x0 x1) := by
  unfold sout0_C_0
  rw [View.read_writes_eq_canon _ _ _ (scover0_C_0 c i a3 h3 a4 h4 a5 h5 a6 h6 q0 q1 q2 x0 x1 s)]
  unfold kernelRun0_C
  dsimp only
  sl_unfold_words
  rw [View.canon_unit_zero (S := S1024x640) off2]
  unfold k0_pay3
  simp only [View.readAt_eq_ld, h3.read_unread, h4.read_unread, h6.read_unread, View.ld_unit_zero (S := S1408x1024) off2, View.ld_unit_zero (S := S1408x640) off2, View.ld_unit_zero (S := S1024x640) off2, shapeCast_self]

theorem out_C (q0 : ¬cond0_0 i) (q1 : cond0_1 i) (q2 : cond0_2 i) :
    out0_C_2 c i a3 h3 a4 h4 a5 h5 a6 h6 q0 q1 q2 x0 x1 s = k0_pay4 (addf s (k0_pay1 x0 x1)) := by
  unfold out0_C_2
  rw [View.read_writes_eq_canon _ _ _ (cover0_C_2 c i a3 h3 a4 h4 a5 h5 a6 h6 q0 q1 q2 x0 x1 s)]
  unfold kernelRun0_C
  dsimp only
  sl_unfold_words
  rw [View.canon_unit_zero (S := S1024x640) off2, View.readCov_unit_zero (S := S1024x640) _ off2]
  unfold k0_pay3
  simp only [View.readAt_eq_ld, h3.read_unread, h4.read_unread, h6.read_unread, View.ld_unit_zero (S := S1408x1024) off2, View.ld_unit_zero (S := S1408x640) off2, View.ld_unit_zero (S := S1024x640) off2, shapeCast_self]

end

variable (m : (ℓ : Loc nD τ sig) → Buf (Elt Ideal) ℓ) (c : Dev nD)

theorem idx_0 : ∀ t : Fin cfg0.N, win0_0.index t = ![t.val % 3, t.val / 3] := (by decide +kernel : ∀ t : Fin grid0.N, _)
theorem idx_1 : ∀ t : Fin cfg0.N, win0_1.index t = ![t.val % 3, 0] := (by decide +kernel : ∀ t : Fin grid0.N, _)

abbrev argP : S4224x10240.Idx → EReal := m ((c.tc : Thread nD τ).loc main_arg0)
abbrev argX : S4224x2048.Idx → EReal := m ((c.tc : Thread nD τ).loc main_arg1)
/-- The columns that this call is given. -/
def cut : S4224x640.Idx → EReal := (extractStridedSlice S4224x640 ![0, 384] (argX m c : Vec Ideal S4224x2048 .bf16) slices_S4224x2048_S4224x640_0_384 : Vec Ideal S4224x640 .bf16)
theorem cut_apply (k : Fin 4224) (b : Fin 640) : cut m c (ix2 k b) = argX m c (ix2 k ⟨384 + b.val, by omega⟩) := by
  unfold cut
  pointwise
abbrev outW : S10240x640.Idx → EReal := G2 m c

/-- The two factors, contracted axis last, at any pair of numbers. -/
def facX : ℕ → ℕ → EReal := ext fun (a : Fin 10240) (k : Fin 4224) => argP m c (ix2 k a)
def facY : ℕ → ℕ → EReal := ext fun (b : Fin 640) (k : Fin 4224) => cut m c (ix2 k b)

theorem in_0 (t : Fin cfg0.N) (k : Fin 1408) (a : Fin 1024) : (iblk m c 0 t : Vec Ideal S1408x1024 .bf16) (ix2 k a)
    = facX m c (t.val / 3 * 1024 + a.val) (t.val % 3 * 1408 + k.val) := by
  refine Eq.trans ?_ (ext_eq _ (by have := lt_of_lt_of_eq t.isLt N_0; omega) (by omega)).symm
  show ((cfg0.win 0).blk t).view.read (Elt Ideal) (argP m c) (ix2 k a) = _
  blk_ext [idx_0 t]
/-- The slice that the host takes before the launch. -/
theorem V_cut : V m c main_v0 = cut m c := by
  entry_read; rfl
theorem in_1 (t : Fin cfg0.N) (k : Fin 1408) (b : Fin 640) : (iblk m c 1 t : Vec Ideal S1408x640 .bf16) (ix2 k b)
    = facY m c (b.val) (t.val % 3 * 1408 + k.val) := by
  refine Eq.trans ?_ (ext_eq _ (by omega) (by omega)).symm
  show ((cfg0.win 1).blk t).view.read (Elt Ideal) (V m c main_v0) (ix2 k b) = _
  rw [V_cut]
  blk_ext [idx_1 t]

theorem part_apply (x0 : Vec Ideal S1408x1024 .bf16) (x1 : Vec Ideal S1408x640 .bf16) (a : Fin 1024) (b : Fin 640) :
    k0_pay1 x0 x1 (ix2 a b) = ∑ k : Fin 1408, x0 (ix2 k a) * x1 (ix2 k b) := by
  pointwise [k0_pay1]

theorem scr_first (n : ℕ) (h : n < cfg0.N) (h0 : n % 3 = 0) :
    (outsAt0 m c n h).2 = k0_pay1 (iblk m c 0 ⟨n, h⟩) (iblk m c 1 ⟨n, h⟩) := by
  rw [outsAt0_A m c ⟨n, h⟩ h0 (by dsimp only; omega) (by dsimp only; omega)]
  dsimp only
  rw [scr_A]

theorem scr_next (n : ℕ) (h : n < cfg0.N) (h0 : n % 3 ≠ 0) :
    (outsAt0 m c n h).2 = addf (outsAt0 m c (n - 1) (Nat.lt_of_le_of_lt (Nat.sub_le _ _) h)).2 (k0_pay1 (iblk m c 0 ⟨n, h⟩) (iblk m c 1 ⟨n, h⟩)) := by
  by_cases h3 : n % 3 = 2
  · rw [outsAt0_C m c ⟨n, h⟩ h0 (by dsimp only; omega) h3]
    dsimp only
    rw [scr_C]
  · rw [outsAt0_B m c ⟨n, h⟩ h0 (by dsimp only; omega) h3]
    dsimp only
    rw [scr_B]

/-- The product of point `n`'s blocks at an entry, and the scratch after the point. -/
def term (a : Fin 1024) (b : Fin 640) (n : ℕ) (h : n < cfg0.N) : EReal :=
  k0_pay1 (iblk m c 0 ⟨n, h⟩) (iblk m c 1 ⟨n, h⟩) (ix2 a b)
def held (a : Fin 1024) (b : Fin 640) (n : ℕ) (h : n < cfg0.N) : EReal := (outsAt0 m c n h).2 (ix2 a b)

theorem scr_sum (a : Fin 1024) (b : Fin 640) (r : ℕ) {p : ℕ} (hp : p = 3 * r + 2) (h : p < cfg0.N) : held m c a b p h
    = ∑ k : Fin 4224, facX m c (r * 1024 + a.val) k.val * facY m c (b.val) k.val :=
  tiled (tk := 1408) (K := 3) rfl (fun r a => facX m c (r * 1024 + a)) (fun _ b => facY m c b) (held m c) (term m c)
    (fun a b n h h0 => congrFun (scr_first m c n h h0) (ix2 a b))
    (fun a b n h h0 => congrFun (scr_next m c n h h0) (ix2 a b))
    (fun a b n h => (part_apply ..).trans (Finset.sum_congr rfl fun k _ => congrArg₂ (· * ·) (in_0 ..) (in_1 ..)))
    a b r hp (by omega) h

theorem out_eq (n : ℕ) (h : n < cfg0.N) (h3 : n % 3 = 2) : (outsAt0 m c n h).1 = k0_pay4 (outsAt0 m c n h).2 := by
  rw [outsAt0_C m c ⟨n, h⟩ (by dsimp only; omega) (by dsimp only; omega) h3]
  dsimp only
  rw [out_C, scr_C]

variable (a : Fin 10240) (b : Fin 640)

/-- The array that the call writes: the product with the transposed gradient of the projection. -/
theorem value : outW m c (ix2 a b) = ∑ k : Fin 4224, argP m c (ix2 k a) * argX m c (ix2 k ⟨384 + b.val, by omega⟩) := by
  have ha := a.isLt
  have hb := b.isLt
  have hp : pt2Of (ix2 a b) = 3 * (a.val / 1024) + 2 := by
    show 3 * (1 * (a.val / 1024 - 0) + 1 * (b.val / 640 - 0)) + 2 = _
    omega
  have hN : pt2Of (ix2 a b) < cfg0.N := by rw [hp, show cfg0.N = 30 from N_0]; omega
  have hl : loc2Of (ix2 a b) = ix2 (⟨a.val % 1024, by omega⟩ : Fin 1024) (⟨b.val % 640, by omega⟩ : Fin 640) := ValueIdx.eq_ix2 _
  have hG : outW m c (ix2 a b) = held m c ⟨a.val % 1024, by omega⟩ ⟨b.val % 640, by omega⟩ (pt2Of (ix2 a b)) hN := by
    unfold outW G2 held
    rw [dif_pos hN, ← outsAt0_sweep m c _ hN, out_eq m c _ hN (by omega), hl]
    rfl
  rw [hG, scr_sum m c _ _ _ hp]
  refine Finset.sum_congr rfl fun k _ => congrArg₂ (· * ·) ?_ ?_
  · rw [show a.val / 1024 * 1024 + a.val % 1024 = a.val by omega]
    exact ext_eq _ a.isLt k.isLt
  · dsimp only
    rw [show b.val % 640 = b.val by omega]
    exact (ext_eq _ b.isLt k.isLt).trans (cut_apply ..)

/-! ## The reference -/

open Cert.InProjWgradBRefIdeal.Read in
theorem same : outW m c = val_main_v6 (F := Ideal) (argP m c) (argX m c) := by
  funext y
  obtain ⟨a, b, rfl⟩ : ∃ a b, y = ix2 a b := ⟨_, _, ValueIdx.eq_ix2 y⟩
  refine (value m c a b).trans (Eq.symm ?_)
  refine ((val_main_v6_apply _ _ _).trans ((val_main_v5_apply _ _ _).trans (val_main_v4_apply _ _ _))).trans (Finset.sum_congr rfl fun k _ => ?_)
  refine congrArg₂ (· * ·) (congrArg (argP m c) ?_) (congrArg (argX m c) ?_) <;> exact ValueIdx.eq_ix2 _

theorem frame_ref : Cert.quiescent_InProjWgradBRefIdeal := fun m g _ =>
  (θ_run _ _ _).mono (fun r h => ⟨fun c => (h c).2, sem_eq_zero_of_no_sems (by decide) r.2⟩) (Cert.InProjWgradBRefIdeal.Value.run m g)

theorem values : Cert.algebraic_InProjWgradBIdeal_InProjWgradBRefIdeal := by
  intro m g m' g' _ hagree
  refine ⟨fun c => outW m c, run m g, ?_⟩
  refine (θ_run _ _ _).mono (fun r h c => ?_) (Cert.InProjWgradBRefIdeal.Value.run m' g')
  obtain ⟨h0, hargs⟩ := h c
  obtain ⟨e0, e1⟩ := hagree c
  rw [e0, e1] at h0
  exact ⟨h0.trans (same m c).symm, hargs⟩

end Cert.InProjWgradBIdeal.Hand

end
-- ==== Proof.InProjWgradC.lean ====
module

public import proofs.«01_k».proof.Defs
public import proofs.«01_k».proof.Proof.Gen.InProjWgradC.Frame
public import proofs.«01_k».proof.Proof.Gen.InProjWgradCIdeal.Value
public import proofs.«01_k».proof.Proof.Gen.InProjWgradCRefIdeal.Read
public import proofs.«01_k».proof.Proof.Blocked

@[expose] public section

set_option maxRecDepth 16384

noncomputable section

namespace Cert.InProjWgradCIdeal.Hand

open Idealize Idealize.ShloMosaic Idealize.SL.Sem
open Cert.InProjWgradCIdeal Cert.InProjWgradCIdeal.Gen Cert.InProjWgradCIdeal.Value Cert.Blocked

/-! # Columns 1024 to 2048 of the gradient of the input projection's weights: the rows are contracted, a third of them a point -/

section
variable {F : FTy → Type} [FloatOps F]
variable (c : Dev nD) (i : grid0.Coords) (a3 : Memref sig .tc .vmem S1408x1024 .bf16) (h3 : a3.IsWhole)
  (a4 : Memref sig .tc .vmem S1408x1024 .bf16) (h4 : a4.IsWhole) (a5 : Memref sig .tc .vmem S1024x1024 .bf16) (h5 : a5.IsWhole)
  (a6 : Memref sig .tc .vmem S1024x1024 .f32) (h6 : a6.IsWhole) (x0 : Vec F S1408x1024 .bf16) (x1 : Vec F S1408x1024 .bf16)
  (s : Vec F S1024x1024 .f32)

/-- The first block of a sum: the scratch is stored whole. -/
theorem scr_A (q0 : cond0_0 i) (q1 : ¬cond0_1 i) (q2 : ¬cond0_2 i) :
    sout0_A_0 c i a3 h3 a4 h4 a5 h5 a6 h6 q0 q1 q2 x0 x1 = k0_pay1 x0 x1 := by
  unfold sout0_A_0
  rw [View.read_writes_eq_canon _ _ _ (scover0_A_0 c i a3 h3 a4 h4 a5 h5 a6 h6 q0 q1 q2 x0 x1)]
  unfold kernelRun0_A
  dsimp only
  sl_unfold_words
  rw [View.canon_unit_zero (S := S1024x1024) off2]
  unfold k0_pay2
  simp only [View.readAt_eq_ld, h3.read_unread, h4.read_unread, View.ld_unit_zero (S := S1408x1024) off2, View.ld_unit_zero (S := S1024x1024) off2, shapeCast_self]

/-- A later block: the scratch grows. -/
theorem scr_B (q0 : ¬cond0_0 i) (q1 : cond0_1 i) (q2 : ¬cond0_2 i) :
    sout0_B_0 c i a3 h3 a4 h4 a5 h5 a6 h6 q0 q1 q2 x0 x1 s = addf s (k0_pay1 x0 x1) := by
  unfold sout0_B_0
  rw [View.read_writes_eq_canon _ _ _ (scover0_B_0 c i a3 h3 a4 h4 a5 h5 a6 h6 q0 q1 q2 x0 x1 s)]
  unfold kernelRun0_B
  dsimp only
  sl_unfold_words
  rw [View.canon_unit_zero (S := S1024x1024) off2]
  unfold k0_pay3
  simp only [View.readAt_eq_ld, h3.read_unread, h4.read_unread, h6.read_unread, View.ld_unit_zero (S := S1408x1024) off2, View.ld_unit_zero (S := S1024x1024) off2, shapeCast_self]

/-- The last block: the scratch grows and is written out. -/
theorem scr_C (q0 : ¬cond0_0 i) (q1 : cond0_1 i) (q2 : cond0_2 i) :
    sout0_C_0 c i a3 h3 a4 h4 a5 h5 a6 h6 q0 q1 q2 x0 x1 s = addf s (k0_pay1 x0 x1) := by
  unfold sout0_C_0
  rw [View.read_writes_eq_canon _ _ _ (scover0_C_0 c i a3 h3 a4 h4 a5 h5 a6 h6 q0 q1 q2 x0 x1 s)]
  unfold kernelRun0_C
  dsimp only
  sl_unfold_words
  rw [View.canon_unit_zero (S := S1024x1024) off2]
  unfold k0_pay3
  simp only [View.readAt_eq_ld, h3.read_unread, h4.read_unread, h6.read_unread, View.ld_unit_zero (S := S1408x1024) off2, View.ld_unit_zero (S := S1024x1024) off2, shapeCast_self]

theorem out_C (q0 : ¬cond0_0 i) (q1 : cond0_1 i) (q2 : cond0_2 i) :
    out0_C_2 c i a3 h3 a4 h4 a5 h5 a6 h6 q0 q1 q2 x0 x1 s = k0_pay4 (addf s (k0_pay1 x0 x1)) := by
  unfold out0_C_2
  rw [View.read_writes_eq_canon _ _ _ (cover0_C_2 c i a3 h3 a4 h4 a5 h5 a6 h6 q0 q1 q2 x0 x1 s)]
  unfold kernelRun0_C
  dsimp only
  sl_unfold_words
  rw [View.canon_unit_zero (S := S1024x1024) off2, View.readCov_unit_zero (S := S1024x1024) _ off2]
  unfold k0_pay3
  simp only [View.readAt_eq_ld, h3.read_unread, h4.read_unread, h6.read_unread, View.ld_unit_zero (S := S1408x1024) off2, View.ld_unit_zero (S := S1024x1024) off2, shapeCast_self]

end

variable (m : (ℓ : Loc nD τ sig) → Buf (Elt Ideal) ℓ) (c : Dev nD)

theorem idx_0 : ∀ t : Fin cfg0.N, win0_0.index t = ![t.val % 3, t.val / 3] := (by decide +kernel : ∀ t : Fin grid0.N, _)
theorem idx_1 : ∀ t : Fin cfg0.N, win0_1.index t = ![t.val % 3, 0] := (by decide +kernel : ∀ t : Fin grid0.N, _)

abbrev argP : S4224x10240.Idx → EReal := m ((c.tc : Thread nD τ).loc main_arg0)
abbrev argX : S4224x2048.Idx → EReal := m ((c.tc : Thread nD τ).loc main_arg1)
/-- The columns that this call is given. -/
def cut : S4224x1024.Idx → EReal := (extractStridedSlice S4224x1024 ![0, 1024] (argX m c : Vec Ideal S4224x2048 .bf16) slices_S4224x2048_S4224x1024_0_1024 : Vec Ideal S4224x1024 .bf16)
theorem cut_apply (k : Fin 4224) (b : Fin 1024) : cut m c (ix2 k b) = argX m c (ix2 k ⟨1024 + b.val, by omega⟩) := by
  unfold cut
  pointwise
abbrev outW : S10240x1024.Idx → EReal := G2 m c

/-- The two factors, contracted axis last, at any pair of numbers. -/
def facX : ℕ → ℕ → EReal := ext fun (a : Fin 10240) (k : Fin 4224) => argP m c (ix2 k a)
def facY : ℕ → ℕ → EReal := ext fun (b : Fin 1024) (k : Fin 4224) => cut m c (ix2 k b)

theorem in_0 (t : Fin cfg0.N) (k : Fin 1408) (a : Fin 1024) : (iblk m c 0 t : Vec Ideal S1408x1024 .bf16) (ix2 k a)
    = facX m c (t.val / 3 * 1024 + a.val) (t.val % 3 * 1408 + k.val) := by
  refine Eq.trans ?_ (ext_eq _ (by have := lt_of_lt_of_eq t.isLt N_0; omega) (by omega)).symm
  show ((cfg0.win 0).blk t).view.read (Elt Ideal) (argP m c) (ix2 k a) = _
  blk_ext [idx_0 t]
/-- The slice that the host takes before the launch. -/
theorem V_cut : V m c main_v0 = cut m c := by
  entry_read; rfl
theorem in_1 (t : Fin cfg0.N) (k : Fin 1408) (b : Fin 1024) : (iblk m c 1 t : Vec Ideal S1408x1024 .bf16) (ix2 k b)
    = facY m c (b.val) (t.val % 3 * 1408 + k.val) := by
  refine Eq.trans ?_ (ext_eq _ (by omega) (by omega)).symm
  show ((cfg0.win 1).blk t).view.read (Elt Ideal) (V m c main_v0) (ix2 k b) = _
  rw [V_cut]
  blk_ext [idx_1 t]

theorem part_apply (x0 : Vec Ideal S1408x1024 .bf16) (x1 : Vec Ideal S1408x1024 .bf16) (a : Fin 1024) (b : Fin 1024) :
    k0_pay1 x0 x1 (ix2 a b) = ∑ k : Fin 1408, x0 (ix2 k a) * x1 (ix2 k b) := by
  pointwise [k0_pay1]

theorem scr_first (n : ℕ) (h : n < cfg0.N) (h0 : n % 3 = 0) :
    (outsAt0 m c n h).2 = k0_pay1 (iblk m c 0 ⟨n, h⟩) (iblk m c 1 ⟨n, h⟩) := by
  rw [outsAt0_A m c ⟨n, h⟩ h0 (by dsimp only; omega) (by dsimp only; omega)]
  dsimp only
  rw [scr_A]

theorem scr_next (n : ℕ) (h : n < cfg0.N) (h0 : n % 3 ≠ 0) :
    (outsAt0 m c n h).2 = addf (outsAt0 m c (n - 1) (Nat.lt_of_le_of_lt (Nat.sub_le _ _) h)).2 (k0_pay1 (iblk m c 0 ⟨n, h⟩) (iblk m c 1 ⟨n, h⟩)) := by
  by_cases h3 : n % 3 = 2
  · rw [outsAt0_C m c ⟨n, h⟩ h0 (by dsimp only; omega) h3]
    dsimp only
    rw [scr_C]
  · rw [outsAt0_B m c ⟨n, h⟩ h0 (by dsimp only; omega) h3]
    dsimp only
    rw [scr_B]

/-- The product of point `n`'s blocks at an entry, and the scratch after the point. -/
def term (a : Fin 1024) (b : Fin 1024) (n : ℕ) (h : n < cfg0.N) : EReal :=
  k0_pay1 (iblk m c 0 ⟨n, h⟩) (iblk m c 1 ⟨n, h⟩) (ix2 a b)
def held (a : Fin 1024) (b : Fin 1024) (n : ℕ) (h : n < cfg0.N) : EReal := (outsAt0 m c n h).2 (ix2 a b)

theorem scr_sum (a : Fin 1024) (b : Fin 1024) (r : ℕ) {p : ℕ} (hp : p = 3 * r + 2) (h : p < cfg0.N) : held m c a b p h
    = ∑ k : Fin 4224, facX m c (r * 1024 + a.val) k.val * facY m c (b.val) k.val :=
  tiled (tk := 1408) (K := 3) rfl (fun r a => facX m c (r * 1024 + a)) (fun _ b => facY m c b) (held m c) (term m c)
    (fun a b n h h0 => congrFun (scr_first m c n h h0) (ix2 a b))
    (fun a b n h h0 => congrFun (scr_next m c n h h0) (ix2 a b))
    (fun a b n h => (part_apply ..).trans (Finset.sum_congr rfl fun k _ => congrArg₂ (· * ·) (in_0 ..) (in_1 ..)))
    a b r hp (by omega) h

theorem out_eq (n : ℕ) (h : n < cfg0.N) (h3 : n % 3 = 2) : (outsAt0 m c n h).1 = k0_pay4 (outsAt0 m c n h).2 := by
  rw [outsAt0_C m c ⟨n, h⟩ (by dsimp only; omega) (by dsimp only; omega) h3]
  dsimp only
  rw [out_C, scr_C]

variable (a : Fin 10240) (b : Fin 1024)

/-- The array that the call writes: the product with the transposed gradient of the projection. -/
theorem value : outW m c (ix2 a b) = ∑ k : Fin 4224, argP m c (ix2 k a) * argX m c (ix2 k ⟨1024 + b.val, by omega⟩) := by
  have ha := a.isLt
  have hb := b.isLt
  have hp : pt2Of (ix2 a b) = 3 * (a.val / 1024) + 2 := by
    show 3 * (1 * (a.val / 1024 - 0) + 1 * (b.val / 1024 - 0)) + 2 = _
    omega
  have hN : pt2Of (ix2 a b) < cfg0.N := by rw [hp, show cfg0.N = 30 from N_0]; omega
  have hl : loc2Of (ix2 a b) = ix2 (⟨a.val % 1024, by omega⟩ : Fin 1024) (⟨b.val % 1024, by omega⟩ : Fin 1024) := ValueIdx.eq_ix2 _
  have hG : outW m c (ix2 a b) = held m c ⟨a.val % 1024, by omega⟩ ⟨b.val % 1024, by omega⟩ (pt2Of (ix2 a b)) hN := by
    unfold outW G2 held
    rw [dif_pos hN, ← outsAt0_sweep m c _ hN, out_eq m c _ hN (by omega), hl]
    rfl
  rw [hG, scr_sum m c _ _ _ hp]
  refine Finset.sum_congr rfl fun k _ => congrArg₂ (· * ·) ?_ ?_
  · rw [show a.val / 1024 * 1024 + a.val % 1024 = a.val by omega]
    exact ext_eq _ a.isLt k.isLt
  · dsimp only
    rw [show b.val % 1024 = b.val by omega]
    exact (ext_eq _ b.isLt k.isLt).trans (cut_apply ..)

/-! ## The reference -/

open Cert.InProjWgradCRefIdeal.Read in
theorem same : outW m c = val_main_v6 (F := Ideal) (argP m c) (argX m c) := by
  funext y
  obtain ⟨a, b, rfl⟩ : ∃ a b, y = ix2 a b := ⟨_, _, ValueIdx.eq_ix2 y⟩
  refine (value m c a b).trans (Eq.symm ?_)
  refine ((val_main_v6_apply _ _ _).trans ((val_main_v5_apply _ _ _).trans (val_main_v4_apply _ _ _))).trans (Finset.sum_congr rfl fun k _ => ?_)
  refine congrArg₂ (· * ·) (congrArg (argP m c) ?_) (congrArg (argX m c) ?_) <;> exact ValueIdx.eq_ix2 _

theorem frame_ref : Cert.quiescent_InProjWgradCRefIdeal := fun m g _ =>
  (θ_run _ _ _).mono (fun r h => ⟨fun c => (h c).2, sem_eq_zero_of_no_sems (by decide) r.2⟩) (Cert.InProjWgradCRefIdeal.Value.run m g)

theorem values : Cert.algebraic_InProjWgradCIdeal_InProjWgradCRefIdeal := by
  intro m g m' g' _ hagree
  refine ⟨fun c => outW m c, run m g, ?_⟩
  refine (θ_run _ _ _).mono (fun r h c => ?_) (Cert.InProjWgradCRefIdeal.Value.run m' g')
  obtain ⟨h0, hargs⟩ := h c
  obtain ⟨e0, e1⟩ := hagree c
  rw [e0, e1] at h0
  exact ⟨h0.trans (same m c).symm, hargs⟩

end Cert.InProjWgradCIdeal.Hand

end
-- ==== Proof.OutProj.lean ====
module

public import proofs.«01_k».proof.Defs
public import proofs.«01_k».proof.Proof.Gen.OutProj.Frame
public import proofs.«01_k».proof.Proof.Gen.OutProjIdeal.Value
public import proofs.«01_k».proof.Proof.Gen.OutProjRefIdeal.Read
public import proofs.«01_k».proof.Proof.Blocked

@[expose] public section

set_option maxRecDepth 16384

noncomputable section

namespace Cert.OutProjIdeal.Hand

open Idealize Idealize.ShloMosaic Idealize.SL.Sem
open Cert.OutProjIdeal Cert.OutProjIdeal.Gen Cert.OutProjIdeal.Value Cert.Blocked

/-! # The output projection on the residual: one point a tile -/

variable (m : (ℓ : Loc nD τ sig) → Buf (Elt Ideal) ℓ) (c : Dev nD)

theorem idx_0 : ∀ t : Fin cfg0.N, win0_0.index t = ![t.val / 4, 0] := (by decide +kernel : ∀ t : Fin grid0.N, _)
theorem idx_1 : ∀ t : Fin cfg0.N, win0_1.index t = ![0, t.val % 4] := (by decide +kernel : ∀ t : Fin grid0.N, _)
theorem idx_2 : ∀ t : Fin cfg0.N, win0_2.index t = ![t.val / 4, t.val % 4] := (by decide +kernel : ∀ t : Fin grid0.N, _)
theorem idx_3 : ∀ t : Fin cfg0.N, win0_3.index t = ![t.val / 4, t.val % 4] := (by decide +kernel : ∀ t : Fin grid0.N, _)
theorem flush_3 : ∀ t : Fin cfg0.N, (cfg0.win 3).flush t = true := (by decide +kernel : ∀ t : Fin grid0.N, _)

abbrev argX : S4224x2048.Idx → EReal := m ((c.tc : Thread nD τ).loc main_arg0)
abbrev argW : S2048x2048.Idx → EReal := m ((c.tc : Thread nD τ).loc main_arg1)
abbrev argE : S4224x2048.Idx → EReal := m ((c.tc : Thread nD τ).loc main_arg2)
abbrev outY : S4224x2048.Idx → EReal := (dats m 0 c).arrAt 3 cfg0.N

theorem in_0 (t : Fin cfg0.N) (a : Fin 1408) (k : Fin 2048) : (iblk m c 0 t : Vec Ideal S1408x2048 .bf16) (ix2 a k)
    = argX m c (ix2 ⟨t.val / 4 * 1408 + a.val, by have := lt_of_lt_of_eq t.isLt N_0; omega⟩ k) := by
  show ((cfg0.win 0).blk t).view.read (Elt Ideal) (argX m c) (ix2 a k) = _
  blk_ext [idx_0 t]
theorem in_1 (t : Fin cfg0.N) (k : Fin 2048) (b : Fin 512) : (iblk m c 1 t : Vec Ideal S2048x512 .bf16) (ix2 k b)
    = argW m c (ix2 k ⟨t.val % 4 * 512 + b.val, by omega⟩) := by
  show ((cfg0.win 1).blk t).view.read (Elt Ideal) (argW m c) (ix2 k b) = _
  blk_ext [idx_1 t]
theorem in_2 (t : Fin cfg0.N) (a : Fin 1408) (b : Fin 512) : (iblk m c 2 t : Vec Ideal S1408x512 .f32) (ix2 a b)
    = argE m c (ix2 ⟨t.val / 4 * 1408 + a.val, by have := lt_of_lt_of_eq t.isLt N_0; omega⟩ ⟨t.val % 4 * 512 + b.val, by omega⟩) := by
  show ((cfg0.win 2).blk t).view.read (Elt Ideal) (argE m c) (ix2 a b) = _
  blk_ext [idx_2 t]
theorem blk_3 (t : Fin cfg0.N) (X : S4224x2048.Idx → Elt Ideal .f32) (a : Fin 1408) (b : Fin 512) :
    ((cfg0.win 3).blk t).view.read (Elt Ideal) X (ix2 a b) = X (ix2 ⟨t.val / 4 * 1408 + a.val, by have := lt_of_lt_of_eq t.isLt N_0; omega⟩ ⟨t.val % 4 * 512 + b.val, by omega⟩) := by
  blk_ext [idx_3 t]

theorem out_3 (x0 : Vec Ideal S1408x2048 .bf16) (x1 : Vec Ideal S2048x512 .bf16) (x2 : Vec Ideal S1408x512 .f32) : out0_3 x0 x1 x2 = k0_pay1 x0 x1 x2 := by
  unfold out0_3 r0_0 r0_1 r0_2
  rw [View.canon_unit_zero (S := S1408x512) off2, View.ld_unit_zero (S := S1408x2048) off2, View.ld_unit_zero (S := S2048x512) off2, View.ld_unit_zero (S := S1408x512) off2]

theorem pay_apply (x0 : Vec Ideal S1408x2048 .bf16) (x1 : Vec Ideal S2048x512 .bf16) (x2 : Vec Ideal S1408x512 .f32) (a : Fin 1408) (b : Fin 512) :
    k0_pay1 x0 x1 x2 (ix2 a b) = x2 (ix2 a b) + ∑ k : Fin 2048, x0 (ix2 a k) * x1 (ix2 k b) := by
  pointwise [k0_pay1]

variable (a : Fin 4224) (b : Fin 2048)

/-- The point whose tile holds an entry. -/
def pt : Fin cfg0.N := ⟨4 * (a.val / 1408) + b.val / 512, by rw [show cfg0.N = 12 from N_0]; omega⟩

theorem value : outY m c (ix2 a b) = argE m c (ix2 a b) + ∑ k : Fin 2048, argX m c (ix2 a k) * argW m c (ix2 k b) := by
  have h := congrFun (blocks3 m c (pt a b) (flush_3 _)) (ix2 (⟨a.val % 1408, by omega⟩ : Fin 1408) (⟨b.val % 512, by omega⟩ : Fin 512))
  have ea : (pt a b).val / 4 * 1408 + a.val % 1408 = a.val := by dsimp only [pt]; omega
  have eb : (pt a b).val % 4 * 512 + b.val % 512 = b.val := by dsimp only [pt]; omega
  rw [blk_3, flushed3, out_3] at h
  have h' := h.trans (pay_apply ..)
  simp only [in_0, in_1, in_2, ea, eb] at h'
  exact h'

/-! ## The reference -/

open Cert.OutProjRefIdeal.Read in
theorem same : outY m c = val_main_v3 (F := Ideal) (argX m c) (argW m c) (argE m c) := by
  funext y
  obtain ⟨a, b, rfl⟩ : ∃ a b, y = ix2 a b := ⟨_, _, ValueIdx.eq_ix2 y⟩
  refine (value m c a b).trans (Eq.symm ?_)
  refine (val_main_v3_apply _ _ _ _).trans (congrArg (argE m c (ix2 a b) + ·) ?_)
  refine ((val_main_v2_apply _ _ _).trans (Finset.sum_congr rfl fun k _ => congrArg₂ (· * ·) (congrArg (argX m c) ?_) (congrArg (argW m c) ?_))) <;>
    exact ValueIdx.eq_ix2 _

theorem frame_ref : Cert.quiescent_OutProjRefIdeal := fun m g _ =>
  (θ_run _ _ _).mono (fun r h => ⟨fun c => (h c).2, sem_eq_zero_of_no_sems (by decide) r.2⟩) (Cert.OutProjRefIdeal.Value.run m g)

theorem values : Cert.algebraic_OutProjIdeal_OutProjRefIdeal := by
  intro m g m' g' _ hagree
  refine ⟨fun c => outY m c, run_blocks m g, ?_⟩
  refine (θ_run _ _ _).mono (fun r h c => ?_) (Cert.OutProjRefIdeal.Value.run m' g')
  obtain ⟨h0, hargs⟩ := h c
  obtain ⟨e0, e1, e2⟩ := hagree c
  rw [e0, e1, e2] at h0
  exact ⟨h0.trans (same m c).symm, hargs⟩

end Cert.OutProjIdeal.Hand

end
-- ==== Proof.OutProjBwd.lean ====
module

public import proofs.«01_k».proof.Defs
public import proofs.«01_k».proof.Proof.Gen.OutProjBwd.Frame
public import proofs.«01_k».proof.Proof.Gen.OutProjBwdIdeal.Value
public import proofs.«01_k».proof.Proof.Gen.OutProjBwdRefIdeal.Read
public import proofs.«01_k».proof.Proof.Blocked

@[expose] public section

set_option maxRecDepth 16384

noncomputable section

namespace Cert.OutProjBwdIdeal.Hand

open Idealize Idealize.ShloMosaic Idealize.SL.Sem
open Cert.OutProjBwdIdeal Cert.OutProjBwdIdeal.Gen Cert.OutProjBwdIdeal.Value Cert.Blocked

/-! # The gradient of the merged mixers: one point a tile -/

variable (m : (ℓ : Loc nD τ sig) → Buf (Elt Ideal) ℓ) (c : Dev nD)

theorem idx_0 : ∀ t : Fin cfg0.N, win0_0.index t = ![t.val / 4, 0] := (by decide +kernel : ∀ t : Fin grid0.N, _)
theorem idx_1 : ∀ t : Fin cfg0.N, win0_1.index t = ![t.val % 4, 0] := (by decide +kernel : ∀ t : Fin grid0.N, _)
theorem idx_2 : ∀ t : Fin cfg0.N, win0_2.index t = ![t.val / 4, t.val % 4] := (by decide +kernel : ∀ t : Fin grid0.N, _)
theorem flush_2 : ∀ t : Fin cfg0.N, (cfg0.win 2).flush t = true := (by decide +kernel : ∀ t : Fin grid0.N, _)

abbrev argX : S4224x2048.Idx → EReal := m ((c.tc : Thread nD τ).loc main_arg0)
abbrev argW : S2048x2048.Idx → EReal := m ((c.tc : Thread nD τ).loc main_arg1)
abbrev outY : S4224x2048.Idx → EReal := (dats m 0 c).arrAt 2 cfg0.N

theorem in_0 (t : Fin cfg0.N) (a : Fin 1408) (k : Fin 2048) : (iblk m c 0 t : Vec Ideal S1408x2048 .bf16) (ix2 a k)
    = argX m c (ix2 ⟨t.val / 4 * 1408 + a.val, by have := lt_of_lt_of_eq t.isLt N_0; omega⟩ k) := by
  show ((cfg0.win 0).blk t).view.read (Elt Ideal) (argX m c) (ix2 a k) = _
  blk_ext [idx_0 t]
theorem in_1 (t : Fin cfg0.N) (b : Fin 512) (k : Fin 2048) : (iblk m c 1 t : Vec Ideal S512x2048 .bf16) (ix2 b k)
    = argW m c (ix2 ⟨t.val % 4 * 512 + b.val, by omega⟩ k) := by
  show ((cfg0.win 1).blk t).view.read (Elt Ideal) (argW m c) (ix2 b k) = _
  blk_ext [idx_1 t]
theorem blk_2 (t : Fin cfg0.N) (X : S4224x2048.Idx → Elt Ideal .f32) (a : Fin 1408) (b : Fin 512) :
    ((cfg0.win 2).blk t).view.read (Elt Ideal) X (ix2 a b) = X (ix2 ⟨t.val / 4 * 1408 + a.val, by have := lt_of_lt_of_eq t.isLt N_0; omega⟩ ⟨t.val % 4 * 512 + b.val, by omega⟩) := by
  blk_ext [idx_2 t]

theorem out_2 (x0 : Vec Ideal S1408x2048 .bf16) (x1 : Vec Ideal S512x2048 .bf16) : out0_2 x0 x1 = k0_pay1 x0 x1 := by
  unfold out0_2 r0_0 r0_1 r0_2
  rw [View.canon_unit_zero (S := S1408x512) off2, View.ld_unit_zero (S := S1408x2048) off2, View.ld_unit_zero (S := S512x2048) off2]

theorem pay_apply (x0 : Vec Ideal S1408x2048 .bf16) (x1 : Vec Ideal S512x2048 .bf16) (a : Fin 1408) (b : Fin 512) :
    k0_pay1 x0 x1 (ix2 a b) = ∑ k : Fin 2048, x0 (ix2 a k) * x1 (ix2 b k) := by
  pointwise [k0_pay1]

variable (a : Fin 4224) (b : Fin 2048)

/-- The point whose tile holds an entry. -/
def pt : Fin cfg0.N := ⟨4 * (a.val / 1408) + b.val / 512, by rw [show cfg0.N = 12 from N_0]; omega⟩

theorem value : outY m c (ix2 a b) = ∑ k : Fin 2048, argX m c (ix2 a k) * argW m c (ix2 b k) := by
  have h := congrFun (blocks2 m c (pt a b) (flush_2 _)) (ix2 (⟨a.val % 1408, by omega⟩ : Fin 1408) (⟨b.val % 512, by omega⟩ : Fin 512))
  have ea : (pt a b).val / 4 * 1408 + a.val % 1408 = a.val := by dsimp only [pt]; omega
  have eb : (pt a b).val % 4 * 512 + b.val % 512 = b.val := by dsimp only [pt]; omega
  rw [blk_2, flushed2, out_2] at h
  have h' := h.trans (pay_apply ..)
  simp only [in_0, in_1, ea, eb] at h'
  exact h'

/-! ## The reference -/

open Cert.OutProjBwdRefIdeal.Read in
theorem same : outY m c = val_main_v4 (F := Ideal) (argX m c) (argW m c) := by
  funext y
  obtain ⟨a, b, rfl⟩ : ∃ a b, y = ix2 a b := ⟨_, _, ValueIdx.eq_ix2 y⟩
  refine (value m c a b).trans (Eq.symm ?_)
  refine ((val_main_v4_apply _ _ _).trans (Finset.sum_congr rfl fun k _ => congrArg₂ (· * ·) (congrArg (argX m c) ?_) (congrArg (argW m c) ?_))) <;>
    exact ValueIdx.eq_ix2 _

theorem frame_ref : Cert.quiescent_OutProjBwdRefIdeal := fun m g _ =>
  (θ_run _ _ _).mono (fun r h => ⟨fun c => (h c).2, sem_eq_zero_of_no_sems (by decide) r.2⟩) (Cert.OutProjBwdRefIdeal.Value.run m g)

theorem values : Cert.algebraic_OutProjBwdIdeal_OutProjBwdRefIdeal := by
  intro m g m' g' _ hagree
  refine ⟨fun c => outY m c, run_blocks m g, ?_⟩
  refine (θ_run _ _ _).mono (fun r h c => ?_) (Cert.OutProjBwdRefIdeal.Value.run m' g')
  obtain ⟨h0, hargs⟩ := h c
  obtain ⟨e0, e1⟩ := hagree c
  rw [e0, e1] at h0
  exact ⟨h0.trans (same m c).symm, hargs⟩

end Cert.OutProjBwdIdeal.Hand

end
-- ==== Proof.OutProjWgrad.lean ====
module

public import proofs.«01_k».proof.Defs
public import proofs.«01_k».proof.Proof.Gen.OutProjWgrad.Frame
public import proofs.«01_k».proof.Proof.Gen.OutProjWgradIdeal.Value
public import proofs.«01_k».proof.Proof.Gen.OutProjWgradRefIdeal.Read
public import proofs.«01_k».proof.Proof.Blocked

@[expose] public section

set_option maxRecDepth 16384

noncomputable section

namespace Cert.OutProjWgradIdeal.Hand

open Idealize Idealize.ShloMosaic Idealize.SL.Sem
open Cert.OutProjWgradIdeal Cert.OutProjWgradIdeal.Gen Cert.OutProjWgradIdeal.Value Cert.Blocked

/-! # The gradient of the output projection's weights: the rows are contracted, a third of them a point -/

section
variable {F : FTy → Type} [FloatOps F]
variable (c : Dev nD) (i : grid0.Coords) (a3 : Memref sig .tc .vmem S1408x1024 .bf16) (h3 : a3.IsWhole)
  (a4 : Memref sig .tc .vmem S1408x1024 .bf16) (h4 : a4.IsWhole) (a5 : Memref sig .tc .vmem S1024x1024 .bf16) (h5 : a5.IsWhole)
  (a6 : Memref sig .tc .vmem S1024x1024 .f32) (h6 : a6.IsWhole) (x0 : Vec F S1408x1024 .bf16) (x1 : Vec F S1408x1024 .bf16)
  (s : Vec F S1024x1024 .f32)

/-- The first block of a sum: the scratch is stored whole. -/
theorem scr_A (q0 : cond0_0 i) (q1 : ¬cond0_1 i) (q2 : ¬cond0_2 i) :
    sout0_A_0 c i a3 h3 a4 h4 a5 h5 a6 h6 q0 q1 q2 x0 x1 = k0_pay1 x0 x1 := by
  unfold sout0_A_0
  rw [View.read_writes_eq_canon _ _ _ (scover0_A_0 c i a3 h3 a4 h4 a5 h5 a6 h6 q0 q1 q2 x0 x1)]
  unfold kernelRun0_A
  dsimp only
  sl_unfold_words
  rw [View.canon_unit_zero (S := S1024x1024) off2]
  unfold k0_pay2
  simp only [View.readAt_eq_ld, h3.read_unread, h4.read_unread, View.ld_unit_zero (S := S1408x1024) off2, View.ld_unit_zero (S := S1024x1024) off2, shapeCast_self]

/-- A later block: the scratch grows. -/
theorem scr_B (q0 : ¬cond0_0 i) (q1 : cond0_1 i) (q2 : ¬cond0_2 i) :
    sout0_B_0 c i a3 h3 a4 h4 a5 h5 a6 h6 q0 q1 q2 x0 x1 s = addf s (k0_pay1 x0 x1) := by
  unfold sout0_B_0
  rw [View.read_writes_eq_canon _ _ _ (scover0_B_0 c i a3 h3 a4 h4 a5 h5 a6 h6 q0 q1 q2 x0 x1 s)]
  unfold kernelRun0_B
  dsimp only
  sl_unfold_words
  rw [View.canon_unit_zero (S := S1024x1024) off2]
  unfold k0_pay3
  simp only [View.readAt_eq_ld, h3.read_unread, h4.read_unread, h6.read_unread, View.ld_unit_zero (S := S1408x1024) off2, View.ld_unit_zero (S := S1024x1024) off2, shapeCast_self]

/-- The last block: the scratch grows and is written out. -/
theorem scr_C (q0 : ¬cond0_0 i) (q1 : cond0_1 i) (q2 : cond0_2 i) :
    sout0_C_0 c i a3 h3 a4 h4 a5 h5 a6 h6 q0 q1 q2 x0 x1 s = addf s (k0_pay1 x0 x1) := by
  unfold sout0_C_0
  rw [View.read_writes_eq_canon _ _ _ (scover0_C_0 c i a3 h3 a4 h4 a5 h5 a6 h6 q0 q1 q2 x0 x1 s)]
  unfold kernelRun0_C
  dsimp only
  sl_unfold_words
  rw [View.canon_unit_zero (S := S1024x1024) off2]
  unfold k0_pay3
  simp only [View.readAt_eq_ld, h3.read_unread, h4.read_unread, h6.read_unread, View.ld_unit_zero (S := S1408x1024) off2, View.ld_unit_zero (S := S1024x1024) off2, shapeCast_self]

theorem out_C (q0 : ¬cond0_0 i) (q1 : cond0_1 i) (q2 : cond0_2 i) :
    out0_C_2 c i a3 h3 a4 h4 a5 h5 a6 h6 q0 q1 q2 x0 x1 s = k0_pay4 (addf s (k0_pay1 x0 x1)) := by
  unfold out0_C_2
  rw [View.read_writes_eq_canon _ _ _ (cover0_C_2 c i a3 h3 a4 h4 a5 h5 a6 h6 q0 q1 q2 x0 x1 s)]
  unfold kernelRun0_C
  dsimp only
  sl_unfold_words
  rw [View.canon_unit_zero (S := S1024x1024) off2, View.readCov_unit_zero (S := S1024x1024) _ off2]
  unfold k0_pay3
  simp only [View.readAt_eq_ld, h3.read_unread, h4.read_unread, h6.read_unread, View.ld_unit_zero (S := S1408x1024) off2, View.ld_unit_zero (S := S1024x1024) off2, shapeCast_self]

end

variable (m : (ℓ : Loc nD τ sig) → Buf (Elt Ideal) ℓ) (c : Dev nD)

theorem idx_0 : ∀ t : Fin cfg0.N, win0_0.index t = ![t.val % 3, t.val / 3 / 2] := (by decide +kernel : ∀ t : Fin grid0.N, _)
theorem idx_1 : ∀ t : Fin cfg0.N, win0_1.index t = ![t.val % 3, t.val / 3 % 2] := (by decide +kernel : ∀ t : Fin grid0.N, _)

abbrev argX : S4224x2048.Idx → EReal := m ((c.tc : Thread nD τ).loc main_arg0)
abbrev argG : S4224x2048.Idx → EReal := m ((c.tc : Thread nD τ).loc main_arg1)
abbrev outW : S2048x2048.Idx → EReal := G2 m c

/-- The two factors, contracted axis last, at any pair of numbers. -/
def facX : ℕ → ℕ → EReal := ext fun (a : Fin 2048) (k : Fin 4224) => argX m c (ix2 k a)
def facY : ℕ → ℕ → EReal := ext fun (b : Fin 2048) (k : Fin 4224) => argG m c (ix2 k b)

theorem in_0 (t : Fin cfg0.N) (k : Fin 1408) (a : Fin 1024) : (iblk m c 0 t : Vec Ideal S1408x1024 .bf16) (ix2 k a)
    = facX m c (t.val / 3 / 2 * 1024 + a.val) (t.val % 3 * 1408 + k.val) := by
  refine Eq.trans ?_ (ext_eq _ (by have := lt_of_lt_of_eq t.isLt N_0; omega) (by omega)).symm
  show ((cfg0.win 0).blk t).view.read (Elt Ideal) (argX m c) (ix2 k a) = _
  blk_ext [idx_0 t]
theorem in_1 (t : Fin cfg0.N) (k : Fin 1408) (b : Fin 1024) : (iblk m c 1 t : Vec Ideal S1408x1024 .bf16) (ix2 k b)
    = facY m c (t.val / 3 % 2 * 1024 + b.val) (t.val % 3 * 1408 + k.val) := by
  refine Eq.trans ?_ (ext_eq _ (by omega) (by omega)).symm
  show ((cfg0.win 1).blk t).view.read (Elt Ideal) (argG m c) (ix2 k b) = _
  blk_ext [idx_1 t]

theorem part_apply (x0 : Vec Ideal S1408x1024 .bf16) (x1 : Vec Ideal S1408x1024 .bf16) (a : Fin 1024) (b : Fin 1024) :
    k0_pay1 x0 x1 (ix2 a b) = ∑ k : Fin 1408, x0 (ix2 k a) * x1 (ix2 k b) := by
  pointwise [k0_pay1]

theorem scr_first (n : ℕ) (h : n < cfg0.N) (h0 : n % 3 = 0) :
    (outsAt0 m c n h).2 = k0_pay1 (iblk m c 0 ⟨n, h⟩) (iblk m c 1 ⟨n, h⟩) := by
  rw [outsAt0_A m c ⟨n, h⟩ h0 (by dsimp only; omega) (by dsimp only; omega)]
  dsimp only
  rw [scr_A]

theorem scr_next (n : ℕ) (h : n < cfg0.N) (h0 : n % 3 ≠ 0) :
    (outsAt0 m c n h).2 = addf (outsAt0 m c (n - 1) (Nat.lt_of_le_of_lt (Nat.sub_le _ _) h)).2 (k0_pay1 (iblk m c 0 ⟨n, h⟩) (iblk m c 1 ⟨n, h⟩)) := by
  by_cases h3 : n % 3 = 2
  · rw [outsAt0_C m c ⟨n, h⟩ h0 (by dsimp only; omega) h3]
    dsimp only
    rw [scr_C]
  · rw [outsAt0_B m c ⟨n, h⟩ h0 (by dsimp only; omega) h3]
    dsimp only
    rw [scr_B]

/-- The product of point `n`'s blocks at an entry, and the scratch after the point. -/
def term (a : Fin 1024) (b : Fin 1024) (n : ℕ) (h : n < cfg0.N) : EReal :=
  k0_pay1 (iblk m c 0 ⟨n, h⟩) (iblk m c 1 ⟨n, h⟩) (ix2 a b)
def held (a : Fin 1024) (b : Fin 1024) (n : ℕ) (h : n < cfg0.N) : EReal := (outsAt0 m c n h).2 (ix2 a b)

theorem scr_sum (a : Fin 1024) (b : Fin 1024) (r : ℕ) {p : ℕ} (hp : p = 3 * r + 2) (h : p < cfg0.N) : held m c a b p h
    = ∑ k : Fin 4224, facX m c (r / 2 * 1024 + a.val) k.val * facY m c (r % 2 * 1024 + b.val) k.val :=
  tiled (tk := 1408) (K := 3) rfl (fun r a => facX m c (r / 2 * 1024 + a)) (fun r b => facY m c (r % 2 * 1024 + b)) (held m c) (term m c)
    (fun a b n h h0 => congrFun (scr_first m c n h h0) (ix2 a b))
    (fun a b n h h0 => congrFun (scr_next m c n h h0) (ix2 a b))
    (fun a b n h => (part_apply ..).trans (Finset.sum_congr rfl fun k _ => congrArg₂ (· * ·) (in_0 ..) (in_1 ..)))
    a b r hp (by omega) h

theorem out_eq (n : ℕ) (h : n < cfg0.N) (h3 : n % 3 = 2) : (outsAt0 m c n h).1 = k0_pay4 (outsAt0 m c n h).2 := by
  rw [outsAt0_C m c ⟨n, h⟩ (by dsimp only; omega) (by dsimp only; omega) h3]
  dsimp only
  rw [out_C, scr_C]

variable (a : Fin 2048) (b : Fin 2048)

/-- The array that the call writes: the product with the transposed merged mixers. -/
theorem value : outW m c (ix2 a b) = ∑ k : Fin 4224, argX m c (ix2 k a) * argG m c (ix2 k b) := by
  have ha := a.isLt
  have hb := b.isLt
  have hp : pt2Of (ix2 a b) = 3 * (2 * (a.val / 1024) + b.val / 1024) + 2 := by
    show 3 * (2 * (a.val / 1024 - 0) + 1 * (b.val / 1024 - 0)) + 2 = _
    omega
  have hN : pt2Of (ix2 a b) < cfg0.N := by rw [hp, show cfg0.N = 12 from N_0]; omega
  have hl : loc2Of (ix2 a b) = ix2 (⟨a.val % 1024, by omega⟩ : Fin 1024) (⟨b.val % 1024, by omega⟩ : Fin 1024) := ValueIdx.eq_ix2 _
  have hG : outW m c (ix2 a b) = held m c ⟨a.val % 1024, by omega⟩ ⟨b.val % 1024, by omega⟩ (pt2Of (ix2 a b)) hN := by
    unfold outW G2 held
    rw [dif_pos hN, ← outsAt0_sweep m c _ hN, out_eq m c _ hN (by omega), hl]
    rfl
  rw [hG, scr_sum m c _ _ _ hp]
  refine Finset.sum_congr rfl fun k _ => congrArg₂ (· * ·) ?_ ?_
  · rw [show (2 * (a.val / 1024) + b.val / 1024) / 2 * 1024 + a.val % 1024 = a.val by omega]
    exact ext_eq _ a.isLt k.isLt
  · rw [show (2 * (a.val / 1024) + b.val / 1024) % 2 * 1024 + b.val % 1024 = b.val by omega]
    exact ext_eq _ b.isLt k.isLt

/-! ## The reference -/

open Cert.OutProjWgradRefIdeal.Read in
theorem same : outW m c = val_main_v6 (F := Ideal) (argX m c) (argG m c) := by
  funext y
  obtain ⟨a, b, rfl⟩ : ∃ a b, y = ix2 a b := ⟨_, _, ValueIdx.eq_ix2 y⟩
  refine (value m c a b).trans (Eq.symm (((val_main_v5_apply _ _ _).trans (val_main_v4_apply _ _ _)).trans (Finset.sum_congr rfl fun k _ => ?_)))
  refine (mul_comm _ _).trans (congrArg₂ (· * ·) (congrArg (argX m c) ?_) (congrArg (argG m c) ?_)) <;> exact ValueIdx.eq_ix2 _

theorem frame_ref : Cert.quiescent_OutProjWgradRefIdeal := fun m g _ =>
  (θ_run _ _ _).mono (fun r h => ⟨fun c => (h c).2, sem_eq_zero_of_no_sems (by decide) r.2⟩) (Cert.OutProjWgradRefIdeal.Value.run m g)

theorem values : Cert.algebraic_OutProjWgradIdeal_OutProjWgradRefIdeal := by
  intro m g m' g' _ hagree
  refine ⟨fun c => outW m c, run m g, ?_⟩
  refine (θ_run _ _ _).mono (fun r h c => ?_) (Cert.OutProjWgradRefIdeal.Value.run m' g')
  obtain ⟨h0, hargs⟩ := h c
  obtain ⟨e0, e1⟩ := hagree c
  rw [e0, e1] at h0
  exact ⟨h0.trans (same m c).symm, hargs⟩

end Cert.OutProjWgradIdeal.Hand

end
-- ==== Proof.AttnOut.lean ====
module

public import proofs.«01_k».proof.Defs
public import proofs.«01_k».proof.Proof.Gen.AttnOut.Frame
public import proofs.«01_k».proof.Proof.Gen.AttnOutIdeal.Value
public import proofs.«01_k».proof.Proof.Gen.AttnOutRefIdeal.Read
public import proofs.«01_k».proof.Proof.Blocked

@[expose] public section

set_option maxRecDepth 16384

noncomputable section

namespace Cert.AttnOutIdeal.Hand

open Idealize Idealize.ShloMosaic Idealize.SL.Sem
open Cert.AttnOutIdeal Cert.AttnOutIdeal.Gen Cert.AttnOutIdeal.Value Cert.Blocked

/-! # The attention's output projection: one point a tile -/

variable (m : (ℓ : Loc nD τ sig) → Buf (Elt Ideal) ℓ) (c : Dev nD)

theorem idx_0 : ∀ t : Fin cfg0.N, win0_0.index t = ![t.val / 4, 0] := (by decide +kernel : ∀ t : Fin grid0.N, _)
theorem idx_1 : ∀ t : Fin cfg0.N, win0_1.index t = ![0, t.val % 4] := (by decide +kernel : ∀ t : Fin grid0.N, _)
theorem idx_2 : ∀ t : Fin cfg0.N, win0_2.index t = ![t.val / 4, t.val % 4] := (by decide +kernel : ∀ t : Fin grid0.N, _)
theorem flush_2 : ∀ t : Fin cfg0.N, (cfg0.win 2).flush t = true := (by decide +kernel : ∀ t : Fin grid0.N, _)

abbrev argX : S4224x1024.Idx → EReal := m ((c.tc : Thread nD τ).loc main_arg0)
abbrev argW : S1024x2048.Idx → EReal := m ((c.tc : Thread nD τ).loc main_arg1)
abbrev outY : S4224x2048.Idx → EReal := (dats m 0 c).arrAt 2 cfg0.N

theorem in_0 (t : Fin cfg0.N) (a : Fin 1408) (k : Fin 1024) : (iblk m c 0 t : Vec Ideal S1408x1024 .bf16) (ix2 a k)
    = argX m c (ix2 ⟨t.val / 4 * 1408 + a.val, by have := lt_of_lt_of_eq t.isLt N_0; omega⟩ k) := by
  show ((cfg0.win 0).blk t).view.read (Elt Ideal) (argX m c) (ix2 a k) = _
  blk_ext [idx_0 t]
theorem in_1 (t : Fin cfg0.N) (k : Fin 1024) (b : Fin 512) : (iblk m c 1 t : Vec Ideal S1024x512 .bf16) (ix2 k b)
    = argW m c (ix2 k ⟨t.val % 4 * 512 + b.val, by omega⟩) := by
  show ((cfg0.win 1).blk t).view.read (Elt Ideal) (argW m c) (ix2 k b) = _
  blk_ext [idx_1 t]
theorem blk_2 (t : Fin cfg0.N) (X : S4224x2048.Idx → Elt Ideal .bf16) (a : Fin 1408) (b : Fin 512) :
    ((cfg0.win 2).blk t).view.read (Elt Ideal) X (ix2 a b) = X (ix2 ⟨t.val / 4 * 1408 + a.val, by have := lt_of_lt_of_eq t.isLt N_0; omega⟩ ⟨t.val % 4 * 512 + b.val, by omega⟩) := by
  blk_ext [idx_2 t]

theorem out_2 (x0 : Vec Ideal S1408x1024 .bf16) (x1 : Vec Ideal S1024x512 .bf16) : out0_2 x0 x1 = k0_pay1 x0 x1 := by
  unfold out0_2 r0_0 r0_1 r0_2
  rw [View.canon_unit_zero (S := S1408x512) off2, View.ld_unit_zero (S := S1408x1024) off2, View.ld_unit_zero (S := S1024x512) off2]

theorem pay_apply (x0 : Vec Ideal S1408x1024 .bf16) (x1 : Vec Ideal S1024x512 .bf16) (a : Fin 1408) (b : Fin 512) :
    k0_pay1 x0 x1 (ix2 a b) = ∑ k : Fin 1024, x0 (ix2 a k) * x1 (ix2 k b) := by
  pointwise [k0_pay1]

variable (a : Fin 4224) (b : Fin 2048)

/-- The point whose tile holds an entry. -/
def pt : Fin cfg0.N := ⟨4 * (a.val / 1408) + b.val / 512, by rw [show cfg0.N = 12 from N_0]; omega⟩

theorem value : outY m c (ix2 a b) = ∑ k : Fin 1024, argX m c (ix2 a k) * argW m c (ix2 k b) := by
  have h := congrFun (blocks2 m c (pt a b) (flush_2 _)) (ix2 (⟨a.val % 1408, by omega⟩ : Fin 1408) (⟨b.val % 512, by omega⟩ : Fin 512))
  have ea : (pt a b).val / 4 * 1408 + a.val % 1408 = a.val := by dsimp only [pt]; omega
  have eb : (pt a b).val % 4 * 512 + b.val % 512 = b.val := by dsimp only [pt]; omega
  rw [blk_2, flushed2, out_2] at h
  have h' := h.trans (pay_apply ..)
  simp only [in_0, in_1, ea, eb] at h'
  exact h'

/-! ## The reference -/

open Cert.AttnOutRefIdeal.Read in
theorem same : outY m c = val_main_v3 (F := Ideal) (argX m c) (argW m c) := by
  funext y
  obtain ⟨a, b, rfl⟩ : ∃ a b, y = ix2 a b := ⟨_, _, ValueIdx.eq_ix2 y⟩
  refine (value m c a b).trans (Eq.symm ?_)
  refine (val_main_v3_apply _ _ _).trans ?_
  refine ((val_main_v2_apply _ _ _).trans (Finset.sum_congr rfl fun k _ => congrArg₂ (· * ·) (congrArg (argX m c) ?_) (congrArg (argW m c) ?_))) <;>
    exact ValueIdx.eq_ix2 _

theorem frame_ref : Cert.quiescent_AttnOutRefIdeal := fun m g _ =>
  (θ_run _ _ _).mono (fun r h => ⟨fun c => (h c).2, sem_eq_zero_of_no_sems (by decide) r.2⟩) (Cert.AttnOutRefIdeal.Value.run m g)

theorem values : Cert.algebraic_AttnOutIdeal_AttnOutRefIdeal := by
  intro m g m' g' _ hagree
  refine ⟨fun c => outY m c, run_blocks m g, ?_⟩
  refine (θ_run _ _ _).mono (fun r h c => ?_) (Cert.AttnOutRefIdeal.Value.run m' g')
  obtain ⟨h0, hargs⟩ := h c
  obtain ⟨e0, e1⟩ := hagree c
  rw [e0, e1] at h0
  exact ⟨h0.trans (same m c).symm, hargs⟩

end Cert.AttnOutIdeal.Hand

end
-- ==== Proof.AttnOutBwd.lean ====
module

public import proofs.«01_k».proof.Defs
public import proofs.«01_k».proof.Proof.Gen.AttnOutBwd.Frame
public import proofs.«01_k».proof.Proof.Gen.AttnOutBwdIdeal.Value
public import proofs.«01_k».proof.Proof.Gen.AttnOutBwdRefIdeal.Read
public import proofs.«01_k».proof.Proof.Blocked

@[expose] public section

set_option maxRecDepth 16384

noncomputable section

namespace Cert.AttnOutBwdIdeal.Hand

open Idealize Idealize.ShloMosaic Idealize.SL.Sem
open Cert.AttnOutBwdIdeal Cert.AttnOutBwdIdeal.Gen Cert.AttnOutBwdIdeal.Value Cert.Blocked

/-! # The gradient of the attention's output: one point a tile -/

variable (m : (ℓ : Loc nD τ sig) → Buf (Elt Ideal) ℓ) (c : Dev nD)

theorem idx_0 : ∀ t : Fin cfg0.N, win0_0.index t = ![t.val / 2, 0] := (by decide +kernel : ∀ t : Fin grid0.N, _)
theorem idx_1 : ∀ t : Fin cfg0.N, win0_1.index t = ![t.val % 2, 0] := (by decide +kernel : ∀ t : Fin grid0.N, _)
theorem idx_2 : ∀ t : Fin cfg0.N, win0_2.index t = ![t.val / 2, t.val % 2] := (by decide +kernel : ∀ t : Fin grid0.N, _)
theorem flush_2 : ∀ t : Fin cfg0.N, (cfg0.win 2).flush t = true := (by decide +kernel : ∀ t : Fin grid0.N, _)

abbrev argX : S4224x2048.Idx → EReal := m ((c.tc : Thread nD τ).loc main_arg0)
abbrev argW : S1024x2048.Idx → EReal := m ((c.tc : Thread nD τ).loc main_arg1)
abbrev outY : S4224x1024.Idx → EReal := (dats m 0 c).arrAt 2 cfg0.N

theorem in_0 (t : Fin cfg0.N) (a : Fin 1408) (k : Fin 2048) : (iblk m c 0 t : Vec Ideal S1408x2048 .bf16) (ix2 a k)
    = argX m c (ix2 ⟨t.val / 2 * 1408 + a.val, by have := lt_of_lt_of_eq t.isLt N_0; omega⟩ k) := by
  show ((cfg0.win 0).blk t).view.read (Elt Ideal) (argX m c) (ix2 a k) = _
  blk_ext [idx_0 t]
theorem in_1 (t : Fin cfg0.N) (b : Fin 512) (k : Fin 2048) : (iblk m c 1 t : Vec Ideal S512x2048 .bf16) (ix2 b k)
    = argW m c (ix2 ⟨t.val % 2 * 512 + b.val, by omega⟩ k) := by
  show ((cfg0.win 1).blk t).view.read (Elt Ideal) (argW m c) (ix2 b k) = _
  blk_ext [idx_1 t]
theorem blk_2 (t : Fin cfg0.N) (X : S4224x1024.Idx → Elt Ideal .f32) (a : Fin 1408) (b : Fin 512) :
    ((cfg0.win 2).blk t).view.read (Elt Ideal) X (ix2 a b) = X (ix2 ⟨t.val / 2 * 1408 + a.val, by have := lt_of_lt_of_eq t.isLt N_0; omega⟩ ⟨t.val % 2 * 512 + b.val, by omega⟩) := by
  blk_ext [idx_2 t]

theorem out_2 (x0 : Vec Ideal S1408x2048 .bf16) (x1 : Vec Ideal S512x2048 .bf16) : out0_2 x0 x1 = k0_pay1 x0 x1 := by
  unfold out0_2 r0_0 r0_1 r0_2
  rw [View.canon_unit_zero (S := S1408x512) off2, View.ld_unit_zero (S := S1408x2048) off2, View.ld_unit_zero (S := S512x2048) off2]

theorem pay_apply (x0 : Vec Ideal S1408x2048 .bf16) (x1 : Vec Ideal S512x2048 .bf16) (a : Fin 1408) (b : Fin 512) :
    k0_pay1 x0 x1 (ix2 a b) = ∑ k : Fin 2048, x0 (ix2 a k) * x1 (ix2 b k) := by
  pointwise [k0_pay1]

variable (a : Fin 4224) (b : Fin 1024)

/-- The point whose tile holds an entry. -/
def pt : Fin cfg0.N := ⟨2 * (a.val / 1408) + b.val / 512, by rw [show cfg0.N = 6 from N_0]; omega⟩

theorem value : outY m c (ix2 a b) = ∑ k : Fin 2048, argX m c (ix2 a k) * argW m c (ix2 b k) := by
  have h := congrFun (blocks2 m c (pt a b) (flush_2 _)) (ix2 (⟨a.val % 1408, by omega⟩ : Fin 1408) (⟨b.val % 512, by omega⟩ : Fin 512))
  have ea : (pt a b).val / 2 * 1408 + a.val % 1408 = a.val := by dsimp only [pt]; omega
  have eb : (pt a b).val % 2 * 512 + b.val % 512 = b.val := by dsimp only [pt]; omega
  rw [blk_2, flushed2, out_2] at h
  have h' := h.trans (pay_apply ..)
  simp only [in_0, in_1, ea, eb] at h'
  exact h'

/-! ## The reference -/

open Cert.AttnOutBwdRefIdeal.Read in
theorem same : outY m c = val_main_v4 (F := Ideal) (argX m c) (argW m c) := by
  funext y
  obtain ⟨a, b, rfl⟩ : ∃ a b, y = ix2 a b := ⟨_, _, ValueIdx.eq_ix2 y⟩
  refine (value m c a b).trans (Eq.symm ?_)
  refine ((val_main_v4_apply _ _ _).trans (Finset.sum_congr rfl fun k _ => congrArg₂ (· * ·) (congrArg (argX m c) ?_) (congrArg (argW m c) ?_))) <;>
    exact ValueIdx.eq_ix2 _

theorem frame_ref : Cert.quiescent_AttnOutBwdRefIdeal := fun m g _ =>
  (θ_run _ _ _).mono (fun r h => ⟨fun c => (h c).2, sem_eq_zero_of_no_sems (by decide) r.2⟩) (Cert.AttnOutBwdRefIdeal.Value.run m g)

theorem values : Cert.algebraic_AttnOutBwdIdeal_AttnOutBwdRefIdeal := by
  intro m g m' g' _ hagree
  refine ⟨fun c => outY m c, run_blocks m g, ?_⟩
  refine (θ_run _ _ _).mono (fun r h c => ?_) (Cert.AttnOutBwdRefIdeal.Value.run m' g')
  obtain ⟨h0, hargs⟩ := h c
  obtain ⟨e0, e1⟩ := hagree c
  rw [e0, e1] at h0
  exact ⟨h0.trans (same m c).symm, hargs⟩

end Cert.AttnOutBwdIdeal.Hand

end
-- ==== Proof.AttnOutWgrad.lean ====
module

public import proofs.«01_k».proof.Defs
public import proofs.«01_k».proof.Proof.Gen.AttnOutWgrad.Frame
public import proofs.«01_k».proof.Proof.Gen.AttnOutWgradIdeal.Value
public import proofs.«01_k».proof.Proof.Gen.AttnOutWgradRefIdeal.Read
public import proofs.«01_k».proof.Proof.Blocked

@[expose] public section

set_option maxRecDepth 16384

noncomputable section

namespace Cert.AttnOutWgradIdeal.Hand

open Idealize Idealize.ShloMosaic Idealize.SL.Sem
open Cert.AttnOutWgradIdeal Cert.AttnOutWgradIdeal.Gen Cert.AttnOutWgradIdeal.Value Cert.Blocked

/-! # The gradient of the attention's output weights: one point a device's columns -/

variable (m : (ℓ : Loc nD τ sig) → Buf (Elt Ideal) ℓ) (c : Dev nD)

theorem idx_0 : ∀ t : Fin cfg0.N, win0_0.index t = ![0, 0] := (by decide +kernel : ∀ t : Fin grid0.N, _)
theorem idx_1 : ∀ t : Fin cfg0.N, win0_1.index t = ![0, t.val] := (by decide +kernel : ∀ t : Fin grid0.N, _)
theorem idx_2 : ∀ t : Fin cfg0.N, win0_2.index t = ![t.val, 0, 0] := (by decide +kernel : ∀ t : Fin grid0.N, _)
theorem flush_2 : ∀ t : Fin cfg0.N, (cfg0.win 2).flush t = true := (by decide +kernel : ∀ t : Fin grid0.N, _)

abbrev argX : S4224x1024.Idx → EReal := m ((c.tc : Thread nD τ).loc main_arg0)
abbrev argG : S4224x2048.Idx → EReal := m ((c.tc : Thread nD τ).loc main_arg1)
abbrev outW : S8x1024x256.Idx → EReal := (dats m 0 c).arrAt 2 cfg0.N

theorem in_0 (t : Fin cfg0.N) (k : Fin 4224) (a : Fin 1024) : (iblk m c 0 t : Vec Ideal S4224x1024 .bf16) (ix2 k a) = argX m c (ix2 k a) := by
  show ((cfg0.win 0).blk t).view.read (Elt Ideal) (argX m c) (ix2 k a) = _
  blk_ext [idx_0 t]
theorem in_1 (t : Fin cfg0.N) (k : Fin 4224) (b : Fin 256) : (iblk m c 1 t : Vec Ideal S4224x256 .bf16) (ix2 k b)
    = argG m c (ix2 k ⟨t.val * 256 + b.val, by have := lt_of_lt_of_eq t.isLt N_0; omega⟩) := by
  show ((cfg0.win 1).blk t).view.read (Elt Ideal) (argG m c) (ix2 k b) = _
  blk_ext [idx_1 t]
theorem blk_2 (t : Fin cfg0.N) (X : S8x1024x256.Idx → Elt Ideal .bf16) (s : Fin 1) (a : Fin 1024) (b : Fin 256) :
    ((cfg0.win 2).blk t).view.read (Elt Ideal) X (ix3 s a b)
      = X (ix3 ⟨t.val + s.val, by have := lt_of_lt_of_eq t.isLt N_0; omega⟩ a b) := by
  blk_ext [idx_2 t]

theorem out_2 (x0 : Vec Ideal S4224x1024 .bf16) (x1 : Vec Ideal S4224x256 .bf16) : out0_2 x0 x1 = k0_pay1 x0 x1 := by
  unfold out0_2 r0_0 r0_1 r0_2
  rw [View.canon_unit_zero (S := S1x1024x256) off3, View.ld_unit_zero (S := S4224x1024) off2, View.ld_unit_zero (S := S4224x256) off2]

theorem pay_apply (x0 : Vec Ideal S4224x1024 .bf16) (x1 : Vec Ideal S4224x256 .bf16) (s : Fin 1) (a : Fin 1024) (b : Fin 256) :
    k0_pay1 x0 x1 (ix3 s a b) = ∑ k : Fin 4224, x0 (ix2 k a) * x1 (ix2 k b) := by
  pointwise [k0_pay1]

variable (s : Fin 8) (a : Fin 1024) (b : Fin 256)

theorem value : outW m c (ix3 s a b) = ∑ k : Fin 4224, argX m c (ix2 k a) * argG m c (ix2 k ⟨s.val * 256 + b.val, by omega⟩) := by
  have h := congrFun (blocks2 m c ⟨s.val, by rw [show cfg0.N = 8 from N_0]; exact s.isLt⟩ (flush_2 _)) (ix3 (0 : Fin 1) a b)
  rw [blk_2, flushed2, out_2] at h
  have h' := h.trans (pay_apply ..)
  simp only [in_0, in_1] at h'
  exact h'

/-! ## The reference -/

open Cert.AttnOutWgradRefIdeal.Read in
theorem same : outW m c = val_main_v8 (F := Ideal) (argX m c) (argG m c) := by
  funext y
  obtain ⟨s, a, b, rfl⟩ : ∃ s a b, y = ix3 s a b := ⟨_, _, _, ValueIdx.eq_ix3 y⟩
  refine (value m c s a b).trans (Eq.symm ?_)
  refine (((val_main_v8_apply _ _ _).trans (val_main_v7_apply _ _ _)).trans ((val_main_v6_apply _ _ _).trans <| (val_main_v5_apply _ _ _).trans (val_main_v4_apply _ _ _))).trans (Finset.sum_congr rfl fun k _ => ?_)
  have hs := s.isLt
  have ha := a.isLt
  have hb := b.isLt
  refine (mul_comm _ _).trans (congrArg₂ (· * ·) (congrArg (argX m c) ?_) (congrArg (argG m c) ?_)) <;> refine (ValueIdx.eq_ix2 _).trans (congrArg₂ ix2 rfl (Fin.ext ?_))
  · show ((a.val * 8 + s.val) * 256 + b.val) / 2048 = a.val
    omega
  · show ((a.val * 8 + s.val) * 256 + b.val) % 2048 = s.val * 256 + b.val
    omega

theorem frame_ref : Cert.quiescent_AttnOutWgradRefIdeal := fun m g _ =>
  (θ_run _ _ _).mono (fun r h => ⟨fun c => (h c).2, sem_eq_zero_of_no_sems (by decide) r.2⟩) (Cert.AttnOutWgradRefIdeal.Value.run m g)

theorem values : Cert.algebraic_AttnOutWgradIdeal_AttnOutWgradRefIdeal := by
  intro m g m' g' _ hagree
  refine ⟨fun c => outW m c, run_blocks m g, ?_⟩
  refine (θ_run _ _ _).mono (fun r h c => ?_) (Cert.AttnOutWgradRefIdeal.Value.run m' g')
  obtain ⟨h0, hargs⟩ := h c
  obtain ⟨e0, e1⟩ := hagree c
  rw [e0, e1] at h0
  exact ⟨h0.trans (same m c).symm, hargs⟩

end Cert.AttnOutWgradIdeal.Hand

end
-- ==== Proof.GateFwd.lean ====
module

public import proofs.«01_k».proof.Defs
public import proofs.«01_k».proof.Proof.Gen.GateFwd.Frame
public import proofs.«01_k».proof.Proof.Gen.GateFwdIdeal.Value
public import proofs.«01_k».proof.Proof.Gen.GateFwdRefIdeal.Read
public import proofs.«01_k».proof.Proof.Blocked

@[expose] public section

set_option maxRecDepth 16384

noncomputable section

namespace Cert.GateFwdIdeal.Hand

open Idealize Idealize.ShloMosaic Idealize.SL.Sem
open Cert.GateFwdIdeal Cert.GateFwdIdeal.Gen Cert.GateFwdIdeal.Value Cert.Blocked

/-! # The gated merge of the two mixers' outputs: one point a tile -/

variable (m : (ℓ : Loc nD τ sig) → Buf (Elt Ideal) ℓ) (c : Dev nD)

theorem idx_0 : ∀ t : Fin cfg0.N, win0_0.index t = ![t.val / 4, t.val % 4] := (by decide +kernel : ∀ t : Fin grid0.N, _)
theorem idx_1 : ∀ t : Fin cfg0.N, win0_1.index t = ![t.val / 4, t.val % 4] := (by decide +kernel : ∀ t : Fin grid0.N, _)
theorem idx_2 : ∀ t : Fin cfg0.N, win0_2.index t = ![t.val / 4, 12 + t.val % 4] := (by decide +kernel : ∀ t : Fin grid0.N, _)
theorem idx_3 : ∀ t : Fin cfg0.N, win0_3.index t = ![t.val / 4, 16 + t.val % 4] := (by decide +kernel : ∀ t : Fin grid0.N, _)
theorem idx_4 : ∀ t : Fin cfg0.N, win0_4.index t = ![0, t.val % 4] := (by decide +kernel : ∀ t : Fin grid0.N, _)
theorem idx_5 : ∀ t : Fin cfg0.N, win0_5.index t = ![0, 4 + t.val % 4] := (by decide +kernel : ∀ t : Fin grid0.N, _)
theorem idx_6 : ∀ t : Fin cfg0.N, win0_6.index t = ![t.val / 4, t.val % 4] := (by decide +kernel : ∀ t : Fin grid0.N, _)
theorem flush_6 : ∀ t : Fin cfg0.N, (cfg0.win 6).flush t = true := (by decide +kernel : ∀ t : Fin grid0.N, _)

abbrev argA : S4224x2048.Idx → EReal := m ((c.tc : Thread nD τ).loc main_arg0)
abbrev argC : S4224x2048.Idx → EReal := m ((c.tc : Thread nD τ).loc main_arg1)
abbrev argP : S4224x10240.Idx → EReal := m ((c.tc : Thread nD τ).loc main_arg2)
abbrev argB : S1x4096.Idx → EReal := m ((c.tc : Thread nD τ).loc main_arg3)
abbrev outM : S4224x2048.Idx → EReal := (dats m 0 c).arrAt 6 cfg0.N

/-- A point's row and column of the whole array. -/
abbrev row (t : Fin cfg0.N) (a : Fin 384) : Fin 4224 := ⟨t.val / 4 * 384 + a.val, by have := lt_of_lt_of_eq t.isLt N_0; omega⟩
abbrev col (t : Fin cfg0.N) (b : Fin 512) : Fin 2048 := ⟨t.val % 4 * 512 + b.val, by omega⟩

theorem in_0 (t : Fin cfg0.N) (a : Fin 384) (b : Fin 512) : (iblk m c 0 t : Vec Ideal S384x512 .bf16) (ix2 a b) = argA m c (ix2 (row t a) (col t b)) := by
  show ((cfg0.win 0).blk t).view.read (Elt Ideal) (argA m c) (ix2 a b) = _
  blk_ext [idx_0 t]
theorem in_1 (t : Fin cfg0.N) (a : Fin 384) (b : Fin 512) : (iblk m c 1 t : Vec Ideal S384x512 .bf16) (ix2 a b) = argC m c (ix2 (row t a) (col t b)) := by
  show ((cfg0.win 1).blk t).view.read (Elt Ideal) (argC m c) (ix2 a b) = _
  blk_ext [idx_1 t]
theorem in_2 (t : Fin cfg0.N) (a : Fin 384) (b : Fin 512) : (iblk m c 2 t : Vec Ideal S384x512 .bf16) (ix2 a b)
    = argP m c (ix2 (row t a) ⟨(12 + t.val % 4) * 512 + b.val, by omega⟩) := by
  show ((cfg0.win 2).blk t).view.read (Elt Ideal) (argP m c) (ix2 a b) = _
  blk_ext [idx_2 t]
theorem in_3 (t : Fin cfg0.N) (a : Fin 384) (b : Fin 512) : (iblk m c 3 t : Vec Ideal S384x512 .bf16) (ix2 a b)
    = argP m c (ix2 (row t a) ⟨(16 + t.val % 4) * 512 + b.val, by omega⟩) := by
  show ((cfg0.win 3).blk t).view.read (Elt Ideal) (argP m c) (ix2 a b) = _
  blk_ext [idx_3 t]
theorem in_4 (t : Fin cfg0.N) (b : Fin 512) : (iblk m c 4 t : Vec Ideal S1x512 .f32) (ix2 0 b) = argB m c (ix2 0 ⟨t.val % 4 * 512 + b.val, by omega⟩) := by
  show ((cfg0.win 4).blk t).view.read (Elt Ideal) (argB m c) (ix2 0 b) = _
  blk_ext [idx_4 t]
theorem in_5 (t : Fin cfg0.N) (b : Fin 512) : (iblk m c 5 t : Vec Ideal S1x512 .f32) (ix2 0 b) = argB m c (ix2 0 ⟨(4 + t.val % 4) * 512 + b.val, by omega⟩) := by
  show ((cfg0.win 5).blk t).view.read (Elt Ideal) (argB m c) (ix2 0 b) = _
  blk_ext [idx_5 t]
theorem blk_6 (t : Fin cfg0.N) (X : S4224x2048.Idx → Elt Ideal .bf16) (a : Fin 384) (b : Fin 512) :
    ((cfg0.win 6).blk t).view.read (Elt Ideal) X (ix2 a b) = X (ix2 (row t a) (col t b)) := by
  blk_ext [idx_6 t]

theorem out_6 (x0 x1 x2 x3 : Vec Ideal S384x512 .bf16) (x4 x5 : Vec Ideal S1x512 .f32) : out0_6 x0 x1 x2 x3 x4 x5 = k0_pay1 x2 x4 x3 x5 x0 x1 := by
  unfold out0_6 r0_0 r0_1
  simp only [View.canon_unit_zero (S := S384x512) off2, View.ld_unit_zero (S := S384x512) off2, View.ld_unit_zero (S := S1x512) off2]

theorem pay_apply (g0 g1 x y : Vec Ideal S384x512 .bf16) (b0 b1 : Vec Ideal S1x512 .f32) (a : Fin 384) (b : Fin 512) :
    (k0_pay1 g0 b0 g1 b1 x y (ix2 a b) : EReal) = Ideal.logistic ((g0 (ix2 a b) : EReal) + b0 (ix2 0 b)) * x (ix2 a b)
      + Ideal.logistic ((g1 (ix2 a b) : EReal) + b1 (ix2 0 b)) * y (ix2 a b) := by
  pointwise [k0_pay1]

variable (a : Fin 4224) (b : Fin 2048)

/-- One gate at a token and a channel of its mixer: the half `h` of the projection's gate channels. -/
def gate (h : Fin 2) : EReal := Ideal.logistic (argP m c (ix2 a ⟨6144 + (h.val * 2048 + b.val), by omega⟩) + argB m c (ix2 0 ⟨h.val * 2048 + b.val, by omega⟩))

/-- The point whose tile holds an entry. -/
def pt : Fin cfg0.N := ⟨4 * (a.val / 384) + b.val / 512, by rw [show cfg0.N = 44 from N_0]; omega⟩

theorem value : outM m c (ix2 a b) = gate m c a b 0 * argA m c (ix2 a b) + gate m c a b 1 * argC m c (ix2 a b) := by
  have h := congrFun (blocks6 m c (pt a b) (flush_6 _)) (ix2 (⟨a.val % 384, by omega⟩ : Fin 384) (⟨b.val % 512, by omega⟩ : Fin 512))
  have ea : (pt a b).val / 4 * 384 + a.val % 384 = a.val := by dsimp only [pt]; omega
  have eb : (pt a b).val % 4 * 512 + b.val % 512 = b.val := by dsimp only [pt]; omega
  have e0 : (12 + (pt a b).val % 4) * 512 + b.val % 512 = 6144 + (0 * 2048 + b.val) := by omega
  have e1 : (16 + (pt a b).val % 4) * 512 + b.val % 512 = 6144 + (1 * 2048 + b.val) := by omega
  have e2 : (4 + (pt a b).val % 4) * 512 + b.val % 512 = 1 * 2048 + b.val := by omega
  rw [blk_6, flushed6, out_6] at h
  have h' := h.trans (pay_apply ..)
  simp only [in_0, in_1, in_2, in_3, in_4, in_5, row, col, ea, eb, e0, e1, e2] at h'
  refine h'.trans ?_
  simp only [gate, Fin.val_zero, Fin.val_one, Nat.zero_mul, Nat.zero_add]

/-! ## The reference -/

section
open Cert.GateFwdRefIdeal.Read
open Cert.GateFwdRefIdeal (S4224x4096)

theorem ref_gate (y : S4224x4096.Idx) (h : Fin 2) (e0 : (y 0).val = a.val) (e1 : (y 1).val = h.val * 2048 + b.val) :
    (val_main_v11 (F := Ideal) (argP m c) (argB m c) : S4224x4096.Idx → EReal) y = gate m c a b h := by
  rw [val_main_v11_apply, val_main_v10_apply, val_main_v9_apply, val_main_v8_apply, val_main_v7_apply, val_main_v6_apply, val_main_v5_apply, val_main_v4_apply,
    val_main_v3_apply, val_main_v2_apply, val_main_cst_apply, val_main_cst_0_apply]
  have o : FloatOps.ofBits (F := Ideal) .f32 0x3F800000#32 = (1 : EReal) := Ideal.ofBits_one_f32
  rw [o]
  unfold gate
  refine congrArg Ideal.logistic (congrArg₂ (· + ·) (congrArg (argP m c) ?_) (congrArg (argB m c) ?_))
  · exact (ValueIdx.eq_ix2 _).trans (congrArg₂ ix2 (Fin.ext e0) (Fin.ext (congrArg (6144 + ·) e1)))
  · exact (ValueIdx.eq_ix2 _).trans (congrArg₂ ix2 (Fin.ext rfl) (Fin.ext e1))

theorem same : outM m c = val_main_v20 (F := Ideal) (argA m c) (argC m c) (argP m c) (argB m c) := by
  funext y
  obtain ⟨a, b, rfl⟩ : ∃ a b, y = ix2 a b := ⟨_, _, ValueIdx.eq_ix2 y⟩
  refine (value m c a b).trans ?_
  rw [val_main_v20_apply, val_main_v19_apply, val_main_v18_apply, val_main_v17_apply, val_main_v16_apply, val_main_v15_apply, val_main_v14_apply,
    val_main_v13_apply, val_main_v12_apply, val_main_v12_apply, val_main_v1_apply, val_main_v0_apply]
  refine congrArg₂ (· + ·) (congrArg (· * _) (ref_gate m c a b _ 0 ?_ ?_).symm) (congrArg (· * _) (ref_gate m c a b _ 1 ?_ ?_).symm)
  all_goals
    have hb : b.val < 2048 := b.isLt
    dsimp only [idx_main_v12, idx_main_v13, idx_main_v14, idx_main_v16, idx_main_v17, ix2, Fin.val_zero, Fin.val_one]
    try omega

end

theorem frame_ref : Cert.quiescent_GateFwdRefIdeal := fun m g _ =>
  (θ_run _ _ _).mono (fun r h => ⟨fun c => (h c).2, sem_eq_zero_of_no_sems (by decide) r.2⟩) (Cert.GateFwdRefIdeal.Value.run m g)

theorem values : Cert.algebraic_GateFwdIdeal_GateFwdRefIdeal := by
  intro m g m' g' _ hagree
  refine ⟨fun c => outM m c, run_blocks m g, ?_⟩
  refine (θ_run _ _ _).mono (fun r h c => ?_) (Cert.GateFwdRefIdeal.Value.run m' g')
  obtain ⟨h0, hargs⟩ := h c
  obtain ⟨e0, e1, e2, e3⟩ := hagree c
  rw [e0, e1, e2, e3] at h0
  exact ⟨h0.trans (same m c).symm, hargs⟩

end Cert.GateFwdIdeal.Hand

end
-- ==== Proof.GateBwd.lean ====
module

public import proofs.«01_k».proof.Defs
public import proofs.«01_k».proof.Proof.Gen.GateBwd.Frame
public import proofs.«01_k».proof.Proof.Gen.GateBwdIdeal.Value
public import proofs.«01_k».proof.Proof.Gen.GateBwdRefIdeal.Read
public import proofs.«01_k».proof.Proof.Blocked

@[expose] public section

set_option maxRecDepth 16384

noncomputable section

namespace Cert.GateBwdIdeal.Hand

open Idealize Idealize.ShloMosaic Idealize.SL.Sem
open Cert.GateBwdIdeal Cert.GateBwdIdeal.Gen Cert.GateBwdIdeal.Value Cert.Blocked

/-! # The gradients of the gated merge: four arrays tile by tile, two sums over the rows that grow from point to point -/

section
variable {F : FTy → Type} [FloatOps F]
variable (c : Dev nD) (i : grid0.Coords) (a2 : Memref sig .tc .vmem S384x512 .f32) (h2 : a2.IsWhole) (a3 : Memref sig .tc .vmem S384x512 .bf16) (h3 : a3.IsWhole) (a4 : Memref sig .tc .vmem S384x512 .bf16) (h4 : a4.IsWhole) (a5 : Memref sig .tc .vmem S384x512 .bf16) (h5 : a5.IsWhole) (a6 : Memref sig .tc .vmem S384x512 .bf16) (h6 : a6.IsWhole) (a7 : Memref sig .tc .vmem S1x512 .f32) (h7 : a7.IsWhole) (a8 : Memref sig .tc .vmem S1x512 .f32) (h8 : a8.IsWhole) (a9 : Memref sig .tc .vmem S384x512 .bf16) (h9 : a9.IsWhole) (a10 : Memref sig .tc .vmem S384x512 .bf16) (h10 : a10.IsWhole) (a11 : Memref sig .tc .vmem S384x512 .bf16) (h11 : a11.IsWhole) (a12 : Memref sig .tc .vmem S384x512 .bf16) (h12 : a12.IsWhole) (a13 : Memref sig .tc .vmem S1x512 .f32) (h13 : a13.IsWhole) (a14 : Memref sig .tc .vmem S1x512 .f32) (h14 : a14.IsWhole)
  (x0 : Vec F S384x512 .f32) (x1 x2 x3 x4 : Vec F S384x512 .bf16) (x5 x6 s r : Vec F S1x512 .f32)

/-- What a point leaves, the two halves alike: the gradients of the mixers, of the gates, and the sums grown from `s` and `r`. -/
def left : Vec F S384x512 .bf16 × Vec F S384x512 .bf16 × Vec F S384x512 .bf16 × Vec F S384x512 .bf16 × Vec F S1x512 .f32 × Vec F S1x512 .f32 :=
  (k0_pay10 x0 x3 x5, k0_pay10 x0 x4 x6, k0_pay2 (k0_pay12 x0 x3 x5 x1), k0_pay2 (k0_pay12 x0 x4 x6 x2),
    k0_pay4 (k0_pay12 x0 x3 x5 x1) s, k0_pay4 (k0_pay12 x0 x4 x6 x2) r)

/-- The first point of a column: the sums start at zero. -/
theorem left_A (q : cond0_0 i) : (out0_A_7 c i a2 h2 a3 h3 a4 h4 a5 h5 a6 h6 a7 h7 a8 h8 a9 h9 a10 h10 a11 h11 a12 h12 a13 h13 a14 h14 q x0 x1 x2 x3 x4 x5 x6, out0_A_8 c i a2 h2 a3 h3 a4 h4 a5 h5 a6 h6 a7 h7 a8 h8 a9 h9 a10 h10 a11 h11 a12 h12 a13 h13 a14 h14 q x0 x1 x2 x3 x4 x5 x6, out0_A_9 c i a2 h2 a3 h3 a4 h4 a5 h5 a6 h6 a7 h7 a8 h8 a9 h9 a10 h10 a11 h11 a12 h12 a13 h13 a14 h14 q x0 x1 x2 x3 x4 x5 x6, out0_A_10 c i a2 h2 a3 h3 a4 h4 a5 h5 a6 h6 a7 h7 a8 h8 a9 h9 a10 h10 a11 h11 a12 h12 a13 h13 a14 h14 q x0 x1 x2 x3 x4 x5 x6, out0_A_11 c i a2 h2 a3 h3 a4 h4 a5 h5 a6 h6 a7 h7 a8 h8 a9 h9 a10 h10 a11 h11 a12 h12 a13 h13 a14 h14 q x0 x1 x2 x3 x4 x5 x6, out0_A_12 c i a2 h2 a3 h3 a4 h4 a5 h5 a6 h6 a7 h7 a8 h8 a9 h9 a10 h10 a11 h11 a12 h12 a13 h13 a14 h14 q x0 x1 x2 x3 x4 x5 x6)
    = left x0 x1 x2 x3 x4 x5 x6 k0_pay6 k0_pay6 := by
  refine congrArg₂ Prod.mk ((View.read_writes_eq_canon _ _ _ (cover0_A_7 c i a2 h2 a3 h3 a4 h4 a5 h5 a6 h6 a7 h7 a8 h8 a9 h9 a10 h10 a11 h11 a12 h12 a13 h13 a14 h14 q x0 x1 x2 x3 x4 x5 x6)).trans ?_)
    <| congrArg₂ Prod.mk ((View.read_writes_eq_canon _ _ _ (cover0_A_8 c i a2 h2 a3 h3 a4 h4 a5 h5 a6 h6 a7 h7 a8 h8 a9 h9 a10 h10 a11 h11 a12 h12 a13 h13 a14 h14 q x0 x1 x2 x3 x4 x5 x6)).trans ?_)
    <| congrArg₂ Prod.mk ((View.read_writes_eq_canon _ _ _ (cover0_A_9 c i a2 h2 a3 h3 a4 h4 a5 h5 a6 h6 a7 h7 a8 h8 a9 h9 a10 h10 a11 h11 a12 h12 a13 h13 a14 h14 q x0 x1 x2 x3 x4 x5 x6)).trans ?_)
    <| congrArg₂ Prod.mk ((View.read_writes_eq_canon _ _ _ (cover0_A_10 c i a2 h2 a3 h3 a4 h4 a5 h5 a6 h6 a7 h7 a8 h8 a9 h9 a10 h10 a11 h11 a12 h12 a13 h13 a14 h14 q x0 x1 x2 x3 x4 x5 x6)).trans ?_)
    <| congrArg₂ Prod.mk ((View.read_writes_eq_canon _ _ _ (cover0_A_11 c i a2 h2 a3 h3 a4 h4 a5 h5 a6 h6 a7 h7 a8 h8 a9 h9 a10 h10 a11 h11 a12 h12 a13 h13 a14 h14 q x0 x1 x2 x3 x4 x5 x6)).trans ?_)
    <| ((View.read_writes_eq_canon _ _ _ (cover0_A_12 c i a2 h2 a3 h3 a4 h4 a5 h5 a6 h6 a7 h7 a8 h8 a9 h9 a10 h10 a11 h11 a12 h12 a13 h13 a14 h14 q x0 x1 x2 x3 x4 x5 x6)).trans ?_)
  all_goals
    unfold kernelRun0_A
    dsimp only
    sl_unfold_words
    simp only [View.canon_cons_unit_zero (S := S384x512) off2, View.canon_cons_unit_zero (S := S1x512) off2, View.readCov_unit_zero (S := S1x512) _ off2, View.readAt_eq_ld,
      h2.read_unread, h3.read_unread, h4.read_unread, h5.read_unread, h6.read_unread, h7.read_unread, h8.read_unread, View.ld_unit_zero (S := S384x512) off2, View.ld_unit_zero (S := S1x512) off2]
    first | rfl | done

/-- A later point. -/
theorem left_B (q : ¬cond0_0 i) : (out0_B_7 c i a2 h2 a3 h3 a4 h4 a5 h5 a6 h6 a7 h7 a8 h8 a9 h9 a10 h10 a11 h11 a12 h12 a13 h13 a14 h14 q x0 x1 x2 x3 x4 x5 x6 s r, out0_B_8 c i a2 h2 a3 h3 a4 h4 a5 h5 a6 h6 a7 h7 a8 h8 a9 h9 a10 h10 a11 h11 a12 h12 a13 h13 a14 h14 q x0 x1 x2 x3 x4 x5 x6 s r, out0_B_9 c i a2 h2 a3 h3 a4 h4 a5 h5 a6 h6 a7 h7 a8 h8 a9 h9 a10 h10 a11 h11 a12 h12 a13 h13 a14 h14 q x0 x1 x2 x3 x4 x5 x6 s r, out0_B_10 c i a2 h2 a3 h3 a4 h4 a5 h5 a6 h6 a7 h7 a8 h8 a9 h9 a10 h10 a11 h11 a12 h12 a13 h13 a14 h14 q x0 x1 x2 x3 x4 x5 x6 s r, out0_B_11 c i a2 h2 a3 h3 a4 h4 a5 h5 a6 h6 a7 h7 a8 h8 a9 h9 a10 h10 a11 h11 a12 h12 a13 h13 a14 h14 q x0 x1 x2 x3 x4 x5 x6 s r, out0_B_12 c i a2 h2 a3 h3 a4 h4 a5 h5 a6 h6 a7 h7 a8 h8 a9 h9 a10 h10 a11 h11 a12 h12 a13 h13 a14 h14 q x0 x1 x2 x3 x4 x5 x6 s r)
    = left x0 x1 x2 x3 x4 x5 x6 s r := by
  refine congrArg₂ Prod.mk ((View.read_writes_eq_canon _ _ _ (cover0_B_7 c i a2 h2 a3 h3 a4 h4 a5 h5 a6 h6 a7 h7 a8 h8 a9 h9 a10 h10 a11 h11 a12 h12 a13 h13 a14 h14 q x0 x1 x2 x3 x4 x5 x6 s r)).trans ?_)
    <| congrArg₂ Prod.mk ((View.read_writes_eq_canon _ _ _ (cover0_B_8 c i a2 h2 a3 h3 a4 h4 a5 h5 a6 h6 a7 h7 a8 h8 a9 h9 a10 h10 a11 h11 a12 h12 a13 h13 a14 h14 q x0 x1 x2 x3 x4 x5 x6 s r)).trans ?_)
    <| congrArg₂ Prod.mk ((View.read_writes_eq_canon _ _ _ (cover0_B_9 c i a2 h2 a3 h3 a4 h4 a5 h5 a6 h6 a7 h7 a8 h8 a9 h9 a10 h10 a11 h11 a12 h12 a13 h13 a14 h14 q x0 x1 x2 x3 x4 x5 x6 s r)).trans ?_)
    <| congrArg₂ Prod.mk ((View.read_writes_eq_canon _ _ _ (cover0_B_10 c i a2 h2 a3 h3 a4 h4 a5 h5 a6 h6 a7 h7 a8 h8 a9 h9 a10 h10 a11 h11 a12 h12 a13 h13 a14 h14 q x0 x1 x2 x3 x4 x5 x6 s r)).trans ?_)
    <| congrArg₂ Prod.mk ((View.read_writes_eq_canon _ _ _ (cover0_B_11 c i a2 h2 a3 h3 a4 h4 a5 h5 a6 h6 a7 h7 a8 h8 a9 h9 a10 h10 a11 h11 a12 h12 a13 h13 a14 h14 q x0 x1 x2 x3 x4 x5 x6 s r)).trans ?_)
    <| ((View.read_writes_eq_canon _ _ _ (cover0_B_12 c i a2 h2 a3 h3 a4 h4 a5 h5 a6 h6 a7 h7 a8 h8 a9 h9 a10 h10 a11 h11 a12 h12 a13 h13 a14 h14 q x0 x1 x2 x3 x4 x5 x6 s r)).trans ?_)
  all_goals
    unfold kernelRun0_B
    dsimp only
    sl_unfold_words
    simp only [View.canon_cons_unit_zero (S := S384x512) off2, View.canon_cons_unit_zero (S := S1x512) off2, View.readCov_unit_zero (S := S1x512) _ off2, View.readAt_eq_ld,
      h2.read_unread, h3.read_unread, h4.read_unread, h5.read_unread, h6.read_unread, h7.read_unread, h8.read_unread, h13.read_unread, h14.read_unread, View.ld_unit_zero (S := S384x512) off2, View.ld_unit_zero (S := S1x512) off2]
    first | rfl | done

end

variable (m : (ℓ : Loc nD τ sig) → Buf (Elt Ideal) ℓ) (c : Dev nD)

theorem outs_A (n : ℕ) (h : n < cfg0.N) (h0 : n % 11 = 0) : outsAt0 m c n h
    = left (F := Ideal) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (k0_pay6 (F := Ideal)) (k0_pay6 (F := Ideal)) :=
  (outsAt0_A m c ⟨n, h⟩ h0).trans (left_A ..)

theorem outs_B (n : ℕ) (h : n < cfg0.N) (h0 : n % 11 ≠ 0) : outsAt0 m c n h
    = left (F := Ideal) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩)
      (outsAt0 m c (n - 1) (Nat.lt_of_le_of_lt (Nat.sub_le _ _) h)).2.2.2.2.1 (outsAt0 m c (n - 1) (Nat.lt_of_le_of_lt (Nat.sub_le _ _) h)).2.2.2.2.2 :=
  (outsAt0_B m c ⟨n, h⟩ h0).trans (left_B ..)

theorem outs (n : ℕ) (h : n < cfg0.N) : ∃ s r, outsAt0 m c n h
    = left (F := Ideal) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) s r := by
  by_cases h0 : n % 11 = 0
  · exact ⟨_, _, outs_A m c n h h0⟩
  · exact ⟨_, _, outs_B m c n h h0⟩

theorem idx_0 : ∀ t : Fin cfg0.N, win0_0.index t = ![t.val % 11, t.val / 11] := (by decide +kernel : ∀ t : Fin grid0.N, _)
theorem idx_1 : ∀ t : Fin cfg0.N, win0_1.index t = ![t.val % 11, t.val / 11] := (by decide +kernel : ∀ t : Fin grid0.N, _)
theorem idx_2 : ∀ t : Fin cfg0.N, win0_2.index t = ![t.val % 11, t.val / 11] := (by decide +kernel : ∀ t : Fin grid0.N, _)
theorem idx_3 : ∀ t : Fin cfg0.N, win0_3.index t = ![t.val % 11, 12 + t.val / 11] := (by decide +kernel : ∀ t : Fin grid0.N, _)
theorem idx_4 : ∀ t : Fin cfg0.N, win0_4.index t = ![t.val % 11, 16 + t.val / 11] := (by decide +kernel : ∀ t : Fin grid0.N, _)
theorem idx_5 : ∀ t : Fin cfg0.N, win0_5.index t = ![0, t.val / 11] := (by decide +kernel : ∀ t : Fin grid0.N, _)
theorem idx_6 : ∀ t : Fin cfg0.N, win0_6.index t = ![0, 4 + t.val / 11] := (by decide +kernel : ∀ t : Fin grid0.N, _)
theorem idx_7 : ∀ t : Fin cfg0.N, win0_7.index t = ![t.val % 11, t.val / 11] := (by decide +kernel : ∀ t : Fin grid0.N, _)
theorem idx_8 : ∀ t : Fin cfg0.N, win0_8.index t = ![t.val % 11, t.val / 11] := (by decide +kernel : ∀ t : Fin grid0.N, _)
theorem idx_9 : ∀ t : Fin cfg0.N, win0_9.index t = ![t.val % 11, t.val / 11] := (by decide +kernel : ∀ t : Fin grid0.N, _)
theorem idx_10 : ∀ t : Fin cfg0.N, win0_10.index t = ![t.val % 11, t.val / 11] := (by decide +kernel : ∀ t : Fin grid0.N, _)
theorem idx_11 : ∀ t : Fin cfg0.N, win0_11.index t = ![0, t.val / 11] := (by decide +kernel : ∀ t : Fin grid0.N, _)
theorem idx_12 : ∀ t : Fin cfg0.N, win0_12.index t = ![0, t.val / 11] := (by decide +kernel : ∀ t : Fin grid0.N, _)
theorem flush_7 : ∀ t : Fin cfg0.N, (cfg0.win 7).flush t = true := (by decide +kernel : ∀ t : Fin grid0.N, _)
theorem flush_8 : ∀ t : Fin cfg0.N, (cfg0.win 8).flush t = true := (by decide +kernel : ∀ t : Fin grid0.N, _)
theorem flush_9 : ∀ t : Fin cfg0.N, (cfg0.win 9).flush t = true := (by decide +kernel : ∀ t : Fin grid0.N, _)
theorem flush_10 : ∀ t : Fin cfg0.N, (cfg0.win 10).flush t = true := (by decide +kernel : ∀ t : Fin grid0.N, _)

abbrev argD : S4224x2048.Idx → EReal := m ((c.tc : Thread nD τ).loc main_arg0)
abbrev argA : S4224x2048.Idx → EReal := m ((c.tc : Thread nD τ).loc main_arg1)
abbrev argC : S4224x2048.Idx → EReal := m ((c.tc : Thread nD τ).loc main_arg2)
abbrev argP : S4224x10240.Idx → EReal := m ((c.tc : Thread nD τ).loc main_arg3)
abbrev argB : S1x4096.Idx → EReal := m ((c.tc : Thread nD τ).loc main_arg4)

/-- A gate of its two summands. -/
abbrev opened (u v : EReal) : EReal := Ideal.logistic (u + v)

/-- A point's row and column of the whole array. -/
abbrev row (t : Fin cfg0.N) (a : Fin 384) : Fin 4224 := ⟨t.val % 11 * 384 + a.val, by omega⟩
abbrev col (t : Fin cfg0.N) (b : Fin 512) : Fin 2048 := ⟨t.val / 11 * 512 + b.val, by have := lt_of_lt_of_eq t.isLt N_0; omega⟩

variable (h : Fin 2) (a : Fin 4224) (b : Fin 2048)

/-- The half `h`'s mixer, its gate, and the gradients of the two. -/
def mixer : EReal := if h.val = 0 then argA m c (ix2 a b) else argC m c (ix2 a b)
def gate : EReal := Ideal.logistic (argP m c (ix2 a ⟨6144 + (h.val * 2048 + b.val), by omega⟩) + argB m c (ix2 0 ⟨h.val * 2048 + b.val, by omega⟩))
def dmix : EReal := argD m c (ix2 a b) * gate m c h a b
def dgate : EReal := argD m c (ix2 a b) * mixer m c h a b * (gate m c h a b * (1 - gate m c h a b))

section
variable (t : Fin cfg0.N) (a : Fin 384) (b : Fin 512)

theorem in_0 : (iblk m c 0 t : Vec Ideal S384x512 .f32) (ix2 a b) = argD m c (ix2 (row t a) (col t b)) := by
  show ((cfg0.win 0).blk t).view.read (Elt Ideal) (argD m c) (ix2 a b) = _
  blk_ext [idx_0 t]
theorem in_1 : (iblk m c 1 t : Vec Ideal S384x512 .bf16) (ix2 a b) = argA m c (ix2 (row t a) (col t b)) := by
  show ((cfg0.win 1).blk t).view.read (Elt Ideal) (argA m c) (ix2 a b) = _
  blk_ext [idx_1 t]
theorem in_2 : (iblk m c 2 t : Vec Ideal S384x512 .bf16) (ix2 a b) = argC m c (ix2 (row t a) (col t b)) := by
  show ((cfg0.win 2).blk t).view.read (Elt Ideal) (argC m c) (ix2 a b) = _
  blk_ext [idx_2 t]
theorem in_3 : (iblk m c 3 t : Vec Ideal S384x512 .bf16) (ix2 a b)
    = argP m c (ix2 (row t a) ⟨(12 + t.val / 11) * 512 + b.val, by have := lt_of_lt_of_eq t.isLt N_0; omega⟩) := by
  show ((cfg0.win 3).blk t).view.read (Elt Ideal) (argP m c) (ix2 a b) = _
  blk_ext [idx_3 t]
theorem in_4 : (iblk m c 4 t : Vec Ideal S384x512 .bf16) (ix2 a b)
    = argP m c (ix2 (row t a) ⟨(16 + t.val / 11) * 512 + b.val, by have := lt_of_lt_of_eq t.isLt N_0; omega⟩) := by
  show ((cfg0.win 4).blk t).view.read (Elt Ideal) (argP m c) (ix2 a b) = _
  blk_ext [idx_4 t]
theorem in_5 : (iblk m c 5 t : Vec Ideal S1x512 .f32) (ix2 0 b)
    = argB m c (ix2 0 ⟨t.val / 11 * 512 + b.val, by have := lt_of_lt_of_eq t.isLt N_0; omega⟩) := by
  show ((cfg0.win 5).blk t).view.read (Elt Ideal) (argB m c) (ix2 0 b) = _
  blk_ext [idx_5 t]
theorem in_6 : (iblk m c 6 t : Vec Ideal S1x512 .f32) (ix2 0 b)
    = argB m c (ix2 0 ⟨(4 + t.val / 11) * 512 + b.val, by have := lt_of_lt_of_eq t.isLt N_0; omega⟩) := by
  show ((cfg0.win 6).blk t).view.read (Elt Ideal) (argB m c) (ix2 0 b) = _
  blk_ext [idx_6 t]
theorem blk_7 (X : S4224x2048.Idx → Elt Ideal .bf16) : ((cfg0.win 7).blk t).view.read (Elt Ideal) X (ix2 a b) = X (ix2 (row t a) (col t b)) := by
  blk_ext [idx_7 t]
theorem blk_8 (X : S4224x2048.Idx → Elt Ideal .bf16) : ((cfg0.win 8).blk t).view.read (Elt Ideal) X (ix2 a b) = X (ix2 (row t a) (col t b)) := by
  blk_ext [idx_8 t]
theorem blk_9 (X : S4224x2048.Idx → Elt Ideal .bf16) : ((cfg0.win 9).blk t).view.read (Elt Ideal) X (ix2 a b) = X (ix2 (row t a) (col t b)) := by
  blk_ext [idx_9 t]
theorem blk_10 (X : S4224x2048.Idx → Elt Ideal .bf16) : ((cfg0.win 10).blk t).view.read (Elt Ideal) X (ix2 a b) = X (ix2 (row t a) (col t b)) := by
  blk_ext [idx_10 t]
theorem blk_11 (X : S1x2048.Idx → Elt Ideal .f32) : ((cfg0.win 11).blk t).view.read (Elt Ideal) X (ix2 0 b) = X (ix2 0 (col t b)) := by
  blk_ext [idx_11 t]
theorem blk_12 (X : S1x2048.Idx → Elt Ideal .f32) : ((cfg0.win 12).blk t).view.read (Elt Ideal) X (ix2 0 b) = X (ix2 0 (col t b)) := by
  blk_ext [idx_12 t]

theorem dmix_apply (x0 : Vec Ideal S384x512 .f32) (x3 : Vec Ideal S384x512 .bf16) (x5 : Vec Ideal S1x512 .f32) :
    (k0_pay10 x0 x3 x5 (ix2 a b) : EReal) = x0 (ix2 a b) * opened (x3 (ix2 a b)) (x5 (ix2 0 b)) := by
  pointwise [k0_pay10, k0_pay8]
theorem dgate_apply (x0 : Vec Ideal S384x512 .f32) (x3 : Vec Ideal S384x512 .bf16) (x5 : Vec Ideal S1x512 .f32) (x1 : Vec Ideal S384x512 .bf16) :
    (k0_pay12 x0 x3 x5 x1 (ix2 a b) : EReal) = x0 (ix2 a b) * x1 (ix2 a b)
      * (opened (x3 (ix2 a b)) (x5 (ix2 0 b)) * (1 - opened (x3 (ix2 a b)) (x5 (ix2 0 b)))) := by
  pointwise [k0_pay12, k0_pay8]
theorem cast_apply (z : FVec Ideal S384x512 .f32) : (k0_pay2 z (ix2 a b) : EReal) = z (ix2 a b) := by
  pointwise [k0_pay2]
theorem grow_apply (z : FVec Ideal S384x512 .f32) (s : Vec Ideal S1x512 .f32) :
    (k0_pay4 z s (ix2 0 b) : EReal) = s (ix2 0 b) + ∑ k : Fin 384, (z (ix2 k b) : EReal) := by
  pointwise [k0_pay4]
theorem zero_apply : ((k0_pay6 : FVec Ideal S1x512 .f32) (ix2 0 b) : EReal) = 0 := by
  pointwise [k0_pay6]

/-- The two blocks of a half's gate, read together. -/
theorem gate_0 : opened ((iblk m c 3 t : Vec Ideal S384x512 .bf16) (ix2 a b)) ((iblk m c 5 t : Vec Ideal S1x512 .f32) (ix2 0 b))
    = gate m c 0 (row t a) (col t b) := by
  rw [in_3, in_5]
  refine congrArg Ideal.logistic (congrArg₂ (· + ·) (congrArg (argP m c) (congrArg (ix2 _) (Fin.ext ?_))) (congrArg (argB m c) (congrArg (ix2 _) (Fin.ext ?_)))) <;>
    dsimp only [Fin.val_zero] <;> omega
theorem gate_1 : opened ((iblk m c 4 t : Vec Ideal S384x512 .bf16) (ix2 a b)) ((iblk m c 6 t : Vec Ideal S1x512 .f32) (ix2 0 b))
    = gate m c 1 (row t a) (col t b) := by
  rw [in_4, in_6]
  refine congrArg Ideal.logistic (congrArg₂ (· + ·) (congrArg (argP m c) (congrArg (ix2 _) (Fin.ext ?_))) (congrArg (argB m c) (congrArg (ix2 _) (Fin.ext ?_)))) <;>
    dsimp only [Fin.val_one] <;> omega

theorem dmix_0 : (k0_pay10 (iblk m c 0 t) (iblk m c 3 t) (iblk m c 5 t) (ix2 a b) : EReal) = dmix m c 0 (row t a) (col t b) := by
  rw [dmix_apply, gate_0, in_0]; rfl
theorem dmix_1 : (k0_pay10 (iblk m c 0 t) (iblk m c 4 t) (iblk m c 6 t) (ix2 a b) : EReal) = dmix m c 1 (row t a) (col t b) := by
  rw [dmix_apply, gate_1, in_0]; rfl
theorem dgate_0 : (k0_pay12 (iblk m c 0 t) (iblk m c 3 t) (iblk m c 5 t) (iblk m c 1 t) (ix2 a b) : EReal) = dgate m c 0 (row t a) (col t b) := by
  rw [dgate_apply, gate_0, in_0, in_1]; rfl
theorem dgate_1 : (k0_pay12 (iblk m c 0 t) (iblk m c 4 t) (iblk m c 6 t) (iblk m c 2 t) (ix2 a b) : EReal) = dgate m c 1 (row t a) (col t b) := by
  rw [dgate_apply, gate_1, in_0, in_2]; rfl

end

/-! ## The four arrays -/

/-- The point whose tile holds an entry. -/
def pt : Fin cfg0.N := ⟨11 * (b.val / 512) + a.val / 384, by rw [show cfg0.N = 44 from N_0]; omega⟩

theorem row_pt : row (pt a b) ⟨a.val % 384, by omega⟩ = a := Fin.ext (by dsimp only [row, pt]; omega)
theorem col_pt : col (pt a b) ⟨b.val % 512, by omega⟩ = b := Fin.ext (by dsimp only [col, pt]; omega)

theorem value_7 : ((dats m 0 c).arrAt 7 cfg0.N : S4224x2048.Idx → EReal) (ix2 a b) = dmix m c 0 a b := by
  have e := congrFun (blocks7 m c (pt a b) (flush_7 _)) (ix2 (⟨a.val % 384, by omega⟩ : Fin 384) (⟨b.val % 512, by omega⟩ : Fin 512))
  obtain ⟨s, r, ho⟩ := outs m c _ (pt a b).isLt
  rw [blk_7, flushed7, ho, row_pt, col_pt] at e
  exact e.trans ((dmix_0 ..).trans (by rw [row_pt, col_pt]))
theorem value_8 : ((dats m 0 c).arrAt 8 cfg0.N : S4224x2048.Idx → EReal) (ix2 a b) = dmix m c 1 a b := by
  have e := congrFun (blocks8 m c (pt a b) (flush_8 _)) (ix2 (⟨a.val % 384, by omega⟩ : Fin 384) (⟨b.val % 512, by omega⟩ : Fin 512))
  obtain ⟨s, r, ho⟩ := outs m c _ (pt a b).isLt
  rw [blk_8, flushed8, ho, row_pt, col_pt] at e
  exact e.trans ((dmix_1 ..).trans (by rw [row_pt, col_pt]))
theorem value_9 : ((dats m 0 c).arrAt 9 cfg0.N : S4224x2048.Idx → EReal) (ix2 a b) = dgate m c 0 a b := by
  have e := congrFun (blocks9 m c (pt a b) (flush_9 _)) (ix2 (⟨a.val % 384, by omega⟩ : Fin 384) (⟨b.val % 512, by omega⟩ : Fin 512))
  obtain ⟨s, r, ho⟩ := outs m c _ (pt a b).isLt
  rw [blk_9, flushed9, ho, row_pt, col_pt] at e
  exact e.trans ((cast_apply ..).trans ((dgate_0 ..).trans (by rw [row_pt, col_pt])))
theorem value_10 : ((dats m 0 c).arrAt 10 cfg0.N : S4224x2048.Idx → EReal) (ix2 a b) = dgate m c 1 a b := by
  have e := congrFun (blocks10 m c (pt a b) (flush_10 _)) (ix2 (⟨a.val % 384, by omega⟩ : Fin 384) (⟨b.val % 512, by omega⟩ : Fin 512))
  obtain ⟨s, r, ho⟩ := outs m c _ (pt a b).isLt
  rw [blk_10, flushed10, ho, row_pt, col_pt] at e
  exact e.trans ((cast_apply ..).trans ((dgate_1 ..).trans (by rw [row_pt, col_pt])))

/-! ## The two sums over the rows -/

/-- A value that starts with a block of rows and grows by one from point to point is, at a column's last point, the sum over all rows. -/
theorem column (held : (n : ℕ) → n < cfg0.N → EReal) (y : Fin 512)
    (h0 : ∀ n hn, n % 11 = 0 → held n hn = ∑ k : Fin 384, dgate m c h (row ⟨n, hn⟩ k) (col ⟨n, hn⟩ y))
    (h1 : ∀ n hn, n % 11 ≠ 0 → held n hn = held (n - 1) (Nat.lt_of_le_of_lt (Nat.sub_le _ _) hn) + ∑ k : Fin 384, dgate m c h (row ⟨n, hn⟩ k) (col ⟨n, hn⟩ y))
    (r : ℕ) (hr : 11 * r + 10 < cfg0.N) : held (11 * r + 10) hr = ∑ k : Fin 4224, dgate m c h k (col ⟨11 * r + 10, hr⟩ y) := by
  rw [running held _ h0 h1 r 10 (by omega) hr, ← sum_blocks 11 384 rfl fun k : Fin 4224 => dgate m c h k (col ⟨11 * r + 10, hr⟩ y)]
  refine Finset.sum_congr rfl fun i _ => Finset.sum_congr rfl fun k _ => congrArg₂ (dgate m c h) (Fin.ext ?_) (Fin.ext ?_)
  · have := i.isLt
    dsimp only [row]; omega
  · have := i.isLt
    dsimp only [col]; omega

theorem sum_0 (y : Fin 512) (r : ℕ) (hr : 11 * r + 10 < cfg0.N) : ((outsAt0 m c (11 * r + 10) hr).2.2.2.2.1 (ix2 0 y) : EReal)
    = ∑ k : Fin 4224, dgate m c 0 k (col ⟨11 * r + 10, hr⟩ y) :=
  column m c 0 (fun n hn => (outsAt0 m c n hn).2.2.2.2.1 (ix2 0 y)) y
    (fun n hn h0 => (congrArg (fun o => (o.2.2.2.2.1 (ix2 0 y) : EReal)) (outs_A m c n hn h0)).trans
      ((grow_apply ..).trans ((congrArg₂ (· + ·) (zero_apply y) (Finset.sum_congr rfl fun k _ => dgate_0 ..)).trans (zero_add _))))
    (fun n hn h0 => (congrArg (fun o => (o.2.2.2.2.1 (ix2 0 y) : EReal)) (outs_B m c n hn h0)).trans
      ((grow_apply ..).trans (congrArg _ (Finset.sum_congr rfl fun k _ => dgate_0 ..)))) r hr
theorem sum_1 (y : Fin 512) (r : ℕ) (hr : 11 * r + 10 < cfg0.N) : ((outsAt0 m c (11 * r + 10) hr).2.2.2.2.2 (ix2 0 y) : EReal)
    = ∑ k : Fin 4224, dgate m c 1 k (col ⟨11 * r + 10, hr⟩ y) :=
  column m c 1 (fun n hn => (outsAt0 m c n hn).2.2.2.2.2 (ix2 0 y)) y
    (fun n hn h0 => (congrArg (fun o => (o.2.2.2.2.2 (ix2 0 y) : EReal)) (outs_A m c n hn h0)).trans
      ((grow_apply ..).trans ((congrArg₂ (· + ·) (zero_apply y) (Finset.sum_congr rfl fun k _ => dgate_1 ..)).trans (zero_add _))))
    (fun n hn h0 => (congrArg (fun o => (o.2.2.2.2.2 (ix2 0 y) : EReal)) (outs_B m c n hn h0)).trans
      ((grow_apply ..).trans (congrArg _ (Finset.sum_congr rfl fun k _ => dgate_1 ..)))) r hr

theorem apart_11 : ∀ t t' : Fin cfg0.N, (cfg0.win 11).flush t = true → (cfg0.win 11).flush t' = true → t ≠ t' →
    Disjoint ((cfg0.win 11).blk t).view.set ((cfg0.win 11).blk t').view.set := fun t t' ht ht' hne =>
  (cfg0.win 11).disjoint_blk fun e => by
    have e' : win0_11.index t = win0_11.index t' := e
    have e1 := congrFun ((idx_11 t).symm.trans (e'.trans (idx_11 t'))) 1
    have h1 := (flush0_11 t).mp ht
    have h2 := (flush0_11 t').mp ht'
    have e2 : t.val / 11 = t'.val / 11 := e1
    exact hne (Fin.ext (by omega))
theorem apart_12 : ∀ t t' : Fin cfg0.N, (cfg0.win 12).flush t = true → (cfg0.win 12).flush t' = true → t ≠ t' →
    Disjoint ((cfg0.win 12).blk t).view.set ((cfg0.win 12).blk t').view.set := fun t t' ht ht' hne =>
  (cfg0.win 12).disjoint_blk fun e => by
    have e' : win0_12.index t = win0_12.index t' := e
    have e1 := congrFun ((idx_12 t).symm.trans (e'.trans (idx_12 t'))) 1
    have h1 := (flush0_12 t).mp ht
    have h2 := (flush0_12 t').mp ht'
    have e2 : t.val / 11 = t'.val / 11 := e1
    exact hne (Fin.ext (by omega))

/-- The last point of an entry's column. -/
def last : Fin cfg0.N := ⟨11 * (b.val / 512) + 10, by rw [show cfg0.N = 44 from N_0]; omega⟩

theorem col_last : col (last b) ⟨b.val % 512, by omega⟩ = b := Fin.ext (by dsimp only [col, last]; omega)

theorem value_11 : ((dats m 0 c).arrAt 11 cfg0.N : S1x2048.Idx → EReal) (ix2 0 b) = ∑ k : Fin 4224, dgate m c 0 k b := by
  have hf : (cfg0.win 11).flush (last b) = true := (flush0_11 _).mpr (by dsimp only [last]; omega)
  have e := congrFun ((dats m 0 c).read_blk_arrAt_eq_flushed 11 apart_11 cfg0.N (last b) (last b).isLt hf) (ix2 (0 : Fin 1) (⟨b.val % 512, by omega⟩ : Fin 512))
  rw [blk_11, flushed11, col_last] at e
  exact e.trans ((sum_0 m c _ _ _).trans (Finset.sum_congr rfl fun k _ => congrArg (dgate m c 0 k) (col_last b)))
theorem value_12 : ((dats m 0 c).arrAt 12 cfg0.N : S1x2048.Idx → EReal) (ix2 0 b) = ∑ k : Fin 4224, dgate m c 1 k b := by
  have hf : (cfg0.win 12).flush (last b) = true := (flush0_12 _).mpr (by dsimp only [last]; omega)
  have e := congrFun ((dats m 0 c).read_blk_arrAt_eq_flushed 12 apart_12 cfg0.N (last b) (last b).isLt hf) (ix2 (0 : Fin 1) (⟨b.val % 512, by omega⟩ : Fin 512))
  rw [blk_12, flushed12, col_last] at e
  exact e.trans ((sum_1 m c _ _ _).trans (Finset.sum_congr rfl fun k _ => congrArg (dgate m c 1 k) (col_last b)))

/-! ## The reference -/

section
open Cert.GateBwdRefIdeal.Read
open Cert.GateBwdRefIdeal (S4224x4096 S4224x2x2048 S4224x1x2048)

theorem ref_gate (y : S4224x4096.Idx) (e0 : (y 0).val = a.val) (e1 : (y 1).val = h.val * 2048 + b.val) :
    (val_main_v11 (F := Ideal) (argP m c) (argB m c) : S4224x4096.Idx → EReal) y = gate m c h a b := by
  rw [val_main_v11_apply, val_main_v10_apply, val_main_v9_apply, val_main_v8_apply, val_main_v7_apply, val_main_v6_apply, val_main_v5_apply, val_main_v4_apply,
    val_main_v3_apply, val_main_v2_apply, val_main_cst_apply, val_main_cst_0_apply]
  have o : FloatOps.ofBits (F := Ideal) .f32 0x3F800000#32 = (1 : EReal) := Ideal.ofBits_one_f32
  rw [o]
  unfold gate
  refine congrArg Ideal.logistic (congrArg₂ (· + ·) (congrArg (argP m c) ?_) (congrArg (argB m c) ?_))
  · exact (ValueIdx.eq_ix2 _).trans (congrArg₂ ix2 (Fin.ext e0) (Fin.ext (congrArg (6144 + ·) e1)))
  · exact (ValueIdx.eq_ix2 _).trans (congrArg₂ ix2 (Fin.ext rfl) (Fin.ext e1))

theorem ref_d (y : S4224x2048.Idx) (e0 : (y 0).val = a.val) (e1 : (y 1).val = b.val) :
    (val_main_v24 (F := Ideal) (argD m c) : S4224x2048.Idx → EReal) y = argD m c (ix2 a b) := by
  rw [val_main_v24_apply]
  refine congrArg (argD m c) ((ValueIdx.eq_ix2 _).trans (congrArg₂ ix2 (Fin.ext ?_) (Fin.ext ?_))) <;> dsimp only [idx_main_v24] <;> omega

theorem ref_mix (y : S4224x4096.Idx) (e0 : (y 0).val = a.val) (e1 : (y 1).val = h.val * 2048 + b.val) :
    (val_main_v34 (F := Ideal) (argD m c) (argA m c) (argC m c) : S4224x4096.Idx → EReal) y = argD m c (ix2 a b) * mixer m c h a b := by
  obtain ⟨i, hi⟩ : ∃ i, i = idx_main_v34 y := ⟨_, rfl⟩
  have i0 : (i 0).val = a.val := by rw [hi]; dsimp only [idx_main_v34]; omega
  have i1 : (i 1).val = h.val := by rw [hi]; dsimp only [idx_main_v34]; omega
  have i2 : (i 2).val = b.val := by rw [hi]; dsimp only [idx_main_v34]; omega
  rw [val_main_v34_apply, ← hi, val_main_v33_apply]
  have ht : ∀ j : S4224x2048.Idx, (j 0).val = a.val → (j 1).val = b.val → j = ix2 a b := fun j j0 j1 =>
    (ValueIdx.eq_ix2 j).trans (congrArg₂ ix2 (Fin.ext j0) (Fin.ext j1))
  have z : FloatOps.ofBits (F := Ideal) .f32 0x00000000#32 = (0 : EReal) := Ideal.ofBits_zero_f32
  unfold mixer
  by_cases hh : h.val = 0
  · have hA : (val_main_v28 (F := Ideal) (argD m c) (argC m c) : S4224x2x2048.Idx → EReal) i = 0 := by
      unfold val_main_v28 pad
      rw [dif_neg (fun hc => by have := (hc 1).1; have e : (i 1).val = 0 := i1.trans hh; have : 1 ≤ (i 1).val := this; omega)]
      exact z
    have hB : (val_main_v32 (F := Ideal) (argD m c) (argA m c) : S4224x2x2048.Idx → EReal) i = argD m c (ix2 a b) * argA m c (ix2 a b) := by
      unfold val_main_v32 pad
      have hp : ∀ x : Fin 3, (![0, 0, 0] : Fin 3 → ℕ) x ≤ (i x).val ∧ ((i x).val - (![0, 0, 0] : Fin 3 → ℕ) x) % ((![0, 0, 0] : Fin 3 → ℕ) x + 1) = 0
          ∧ ((i x).val - (![0, 0, 0] : Fin 3 → ℕ) x) / ((![0, 0, 0] : Fin 3 → ℕ) x + 1) < S4224x1x2048.size x := by
        intro x
        fin_cases x
        · exact ⟨Nat.zero_le _, Nat.mod_one _, by show ((i 0).val - 0) / 1 < 4224; omega⟩
        · exact ⟨Nat.zero_le _, Nat.mod_one _, by show ((i 1).val - 0) / 1 < 1; omega⟩
        · exact ⟨Nat.zero_le _, Nat.mod_one _, by show ((i 2).val - 0) / 1 < 2048; omega⟩
      refine (dif_pos ?_).trans ?_
      · exact hp
      rw [val_main_v31_apply, val_main_v30_apply, val_main_v0_apply]
      rw [ht (idx_main_v31 _) (by show ((i 0).val - 0) / 1 = _; omega) (by show ((i 2).val - 0) / 1 = _; omega)]
      exact congrArg (· * _) (ref_d m c a b _ rfl rfl)
    rw [hA, hB, if_pos hh]
    exact zero_add _
  · have hA : (val_main_v28 (F := Ideal) (argD m c) (argC m c) : S4224x2x2048.Idx → EReal) i = argD m c (ix2 a b) * argC m c (ix2 a b) := by
      unfold val_main_v28 pad
      have hp : ∀ x : Fin 3, (![0, 1, 0] : Fin 3 → ℕ) x ≤ (i x).val ∧ ((i x).val - (![0, 1, 0] : Fin 3 → ℕ) x) % ((![0, 0, 0] : Fin 3 → ℕ) x + 1) = 0
          ∧ ((i x).val - (![0, 1, 0] : Fin 3 → ℕ) x) / ((![0, 0, 0] : Fin 3 → ℕ) x + 1) < S4224x1x2048.size x := by
        intro x
        have := h.isLt
        fin_cases x
        · exact ⟨Nat.zero_le _, Nat.mod_one _, by show ((i 0).val - 0) / 1 < 4224; omega⟩
        · exact ⟨by show 1 ≤ (i 1).val; omega, Nat.mod_one _, by show ((i 1).val - 1) / 1 < 1; omega⟩
        · exact ⟨Nat.zero_le _, Nat.mod_one _, by show ((i 2).val - 0) / 1 < 2048; omega⟩
      refine (dif_pos ?_).trans ?_
      · exact hp
      rw [val_main_v27_apply, val_main_v26_apply, val_main_v1_apply]
      rw [ht (idx_main_v27 _) (by show ((i 0).val - 0) / 1 = _; omega) (by show ((i 2).val - 0) / 1 = _; omega)]
      exact congrArg (· * _) (ref_d m c a b _ rfl rfl)
    have hB : (val_main_v32 (F := Ideal) (argD m c) (argA m c) : S4224x2x2048.Idx → EReal) i = 0 := by
      unfold val_main_v32 pad
      rw [dif_neg (fun hc => by have := (hc 1).2.2; have : ((i 1).val - 0) / 1 < 1 := this; omega)]
      exact z
    rw [hA, hB, if_neg hh]
    exact add_zero _

theorem ref_dgate (y : S4224x4096.Idx) (e0 : (y 0).val = a.val) (e1 : (y 1).val = h.val * 2048 + b.val) :
    (val_main_v35 (F := Ideal) (argD m c) (argA m c) (argC m c) (argP m c) (argB m c) : S4224x4096.Idx → EReal) y = dgate m c h a b := by
  rw [val_main_v35_apply, val_main_v14_apply, val_main_v13_apply, val_main_v12_apply, val_main_cst_1_apply, ref_mix m c h a b y e0 e1, ref_gate m c h a b y e0 e1]
  have o : FloatOps.ofBits (F := Ideal) .f32 0x3F800000#32 = (1 : EReal) := Ideal.ofBits_one_f32
  rw [o]
  rfl

theorem same_7 : ((dats m 0 c).arrAt 7 cfg0.N : S4224x2048.Idx → EReal) = val_main_v38 (F := Ideal) (argD m c) (argP m c) (argB m c) := by
  funext y
  obtain ⟨a, b, rfl⟩ : ∃ a b, y = ix2 a b := ⟨_, _, ValueIdx.eq_ix2 y⟩
  refine (value_7 m c a b).trans ?_
  rw [val_main_v38_apply, val_main_v29_apply, val_main_v17_apply, val_main_v16_apply, val_main_v15_apply]
  refine (mul_comm _ _).trans (congrArg₂ (· * ·) (ref_gate m c 0 a b _ ?_ ?_).symm (ref_d m c a b (ix2 a b) rfl rfl).symm)
  all_goals
    have hb : b.val < 2048 := b.isLt
    dsimp only [idx_main_v15, idx_main_v16, idx_main_v17, ix2, Fin.val_zero]
    try omega
theorem same_8 : ((dats m 0 c).arrAt 8 cfg0.N : S4224x2048.Idx → EReal) = val_main_v39 (F := Ideal) (argD m c) (argP m c) (argB m c) := by
  funext y
  obtain ⟨a, b, rfl⟩ : ∃ a b, y = ix2 a b := ⟨_, _, ValueIdx.eq_ix2 y⟩
  refine (value_8 m c a b).trans ?_
  rw [val_main_v39_apply, val_main_v25_apply, val_main_v20_apply, val_main_v19_apply, val_main_v15_apply]
  refine (mul_comm _ _).trans (congrArg₂ (· * ·) (ref_gate m c 1 a b _ ?_ ?_).symm (ref_d m c a b (ix2 a b) rfl rfl).symm)
  all_goals
    have hb : b.val < 2048 := b.isLt
    dsimp only [idx_main_v15, idx_main_v19, idx_main_v20, ix2, Fin.val_one]
    try omega
theorem same_9 : ((dats m 0 c).arrAt 9 cfg0.N : S4224x2048.Idx → EReal) = val_main_v41 (F := Ideal) (argD m c) (argA m c) (argC m c) (argP m c) (argB m c) := by
  funext y
  obtain ⟨a, b, rfl⟩ : ∃ a b, y = ix2 a b := ⟨_, _, ValueIdx.eq_ix2 y⟩
  refine (value_9 m c a b).trans ?_
  rw [val_main_v41_apply, val_main_v40_apply]
  refine (ref_dgate m c 0 a b _ ?_ ?_).symm
  all_goals
    have hb : b.val < 2048 := b.isLt
    dsimp only [idx_main_v41, ix2, Fin.val_zero]
    try omega
theorem same_10 : ((dats m 0 c).arrAt 10 cfg0.N : S4224x2048.Idx → EReal) = val_main_v42 (F := Ideal) (argD m c) (argA m c) (argC m c) (argP m c) (argB m c) := by
  funext y
  obtain ⟨a, b, rfl⟩ : ∃ a b, y = ix2 a b := ⟨_, _, ValueIdx.eq_ix2 y⟩
  refine (value_10 m c a b).trans ?_
  rw [val_main_v42_apply, val_main_v40_apply]
  refine (ref_dgate m c 1 a b _ ?_ ?_).symm
  all_goals
    have hb : b.val < 2048 := b.isLt
    dsimp only [idx_main_v42, ix2, Fin.val_one]
    try omega

theorem ref_sum (y : S1x4096.Idx) (e1 : (y 1).val = h.val * 2048 + b.val) :
    (val_main_v37 (F := Ideal) (argD m c) (argA m c) (argC m c) (argP m c) (argB m c) : S1x4096.Idx → EReal) y = ∑ k : Fin 4224, dgate m c h k b := by
  rw [val_main_v37_apply, val_main_v36_apply, val_main_cst_4_apply]
  have z : FloatOps.ofBits (F := Ideal) .f32 0x00000000#32 = (0 : EReal) := Ideal.ofBits_zero_f32
  rw [z]
  refine (zero_add _).trans (Finset.sum_congr rfl fun k _ => ref_dgate m c h k b _ rfl ?_)
  have y0 : (y 0).val < 1 := (y 0).isLt
  dsimp only [idx_main_v36, idx_main_v37]
  omega

theorem same_11 : ((dats m 0 c).arrAt 11 cfg0.N : S1x2048.Idx → EReal) = val_main_v43 (F := Ideal) (argD m c) (argA m c) (argC m c) (argP m c) (argB m c) := by
  funext y
  obtain ⟨a, b, rfl⟩ : ∃ a b, y = ix2 a b := ⟨_, _, ValueIdx.eq_ix2 y⟩
  obtain rfl : a = 0 := Fin.ext (by omega)
  refine (value_11 m c b).trans ?_
  rw [val_main_v43_apply]
  refine (ref_sum m c 0 b _ ?_).symm
  dsimp only [idx_main_v43, ix2, Fin.val_zero]
  try omega
theorem same_12 : ((dats m 0 c).arrAt 12 cfg0.N : S1x2048.Idx → EReal) = val_main_v44 (F := Ideal) (argD m c) (argA m c) (argC m c) (argP m c) (argB m c) := by
  funext y
  obtain ⟨a, b, rfl⟩ : ∃ a b, y = ix2 a b := ⟨_, _, ValueIdx.eq_ix2 y⟩
  obtain rfl : a = 0 := Fin.ext (by omega)
  refine (value_12 m c b).trans ?_
  rw [val_main_v44_apply]
  refine (ref_sum m c 1 b _ ?_).symm
  dsimp only [idx_main_v44, ix2, Fin.val_one]
  try omega

end

theorem frame_ref : Cert.quiescent_GateBwdRefIdeal := fun m g _ =>
  (θ_run _ _ _).mono (fun r h => ⟨fun c => (h c).2.2.2.2.2.2, sem_eq_zero_of_no_sems (by decide) r.2⟩) (Cert.GateBwdRefIdeal.Value.run m g)

theorem values : Cert.algebraic_GateBwdIdeal_GateBwdRefIdeal := by
  intro m g m' g' _ hagree
  refine ⟨fun c => (dats m 0 c).arrAt 7 cfg0.N, fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, run_blocks m g, ?_⟩
  refine (θ_run _ _ _).mono (fun r h c => ?_) (Cert.GateBwdRefIdeal.Value.run m' g')
  obtain ⟨h0, h1, h2, h3, h4, h5, hargs⟩ := h c
  obtain ⟨e0, e1, e2, e3, e4⟩ := hagree c
  rw [e0, e3, e4] at h0 h1
  rw [e0, e1, e2, e3, e4] at h2 h3 h4 h5
  exact ⟨h0.trans (same_7 m c).symm, h1.trans (same_8 m c).symm, h2.trans (same_9 m c).symm, h3.trans (same_10 m c).symm,
    h4.trans (same_11 m c).symm, h5.trans (same_12 m c).symm, hargs⟩

end Cert.GateBwdIdeal.Hand

end
-- ==== Proof.lean ====
/- The proof of the certificate's claims: the arrays that the launches write are the references', and every program
   ends with its arguments unchanged and its semaphores at zero. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.MlpUp.Frame
public import proofs.«01_k».proof.Proof.Gen.MlpDownLoss.Frame
public import proofs.«01_k».proof.Proof.Gen.MlpDownWgrad.Frame
public import proofs.«01_k».proof.Proof.Gen.MlpDownBwd.Frame
public import proofs.«01_k».proof.Proof.Gen.MlpUpWgrad.Frame
public import proofs.«01_k».proof.Proof.Gen.MlpUpBwd.Frame
public import proofs.«01_k».proof.Proof.Gen.InProj.Frame
public import proofs.«01_k».proof.Proof.Gen.InProjBwd.Frame
public import proofs.«01_k».proof.Proof.Gen.InProjWgradA.Frame
public import proofs.«01_k».proof.Proof.Gen.InProjWgradB.Frame
public import proofs.«01_k».proof.Proof.Gen.InProjWgradC.Frame
public import proofs.«01_k».proof.Proof.Gen.OutProj.Frame
public import proofs.«01_k».proof.Proof.Gen.OutProjBwd.Frame
public import proofs.«01_k».proof.Proof.Gen.OutProjWgrad.Frame
public import proofs.«01_k».proof.Proof.Gen.AttnOut.Frame
public import proofs.«01_k».proof.Proof.Gen.AttnOutBwd.Frame
public import proofs.«01_k».proof.Proof.Gen.AttnOutWgrad.Frame
public import proofs.«01_k».proof.Proof.Gen.GateFwd.Frame
public import proofs.«01_k».proof.Proof.Gen.GateBwd.Frame
public import Idealize.ShloMosaic.Adequacy
public import proofs.«01_k».proof.Proof.Launch
public import proofs.«01_k».proof.Proof.Twin
public import proofs.«01_k».proof.Proof.Equal
public import proofs.«01_k».proof.Proof.Finite
public import proofs.«01_k».proof.Proof.MlpUp
public import proofs.«01_k».proof.Proof.MlpDownLoss
public import proofs.«01_k».proof.Proof.MlpDownWgrad
public import proofs.«01_k».proof.Proof.MlpDownBwd
public import proofs.«01_k».proof.Proof.MlpUpWgrad
public import proofs.«01_k».proof.Proof.MlpUpBwd
public import proofs.«01_k».proof.Proof.InProj
public import proofs.«01_k».proof.Proof.InProjBwd
public import proofs.«01_k».proof.Proof.InProjWgradA
public import proofs.«01_k».proof.Proof.InProjWgradB
public import proofs.«01_k».proof.Proof.InProjWgradC
public import proofs.«01_k».proof.Proof.OutProj
public import proofs.«01_k».proof.Proof.OutProjBwd
public import proofs.«01_k».proof.Proof.OutProjWgrad
public import proofs.«01_k».proof.Proof.AttnOut
public import proofs.«01_k».proof.Proof.AttnOutBwd
public import proofs.«01_k».proof.Proof.AttnOutWgrad
public import proofs.«01_k».proof.Proof.GateFwd
public import proofs.«01_k».proof.Proof.GateBwd
public import Idealize.ShloMosaic.Init

@[expose] public section

noncomputable section

namespace Cert.Proof

open Idealize.ShloMosaic Idealize.SL.Sem

section
open Cert.KernelIdeal Cert.KernelIdeal.Gen Cert.KernelIdeal.Hand

/-- The launch leaves its arguments and its semaphores as they were, whatever the floats are. -/
theorem frame_any {F : FTy → Type} [FloatOps F] (m : (ℓ : Loc nD τ sig) → Buf (Elt F) ℓ) (g : Dev nD → PrngReg) :
    θ_run defs (onTc (τ := τ) (main (F := F))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  θ_run_and (frame_of m g (dats m) (A_eq m) ((θ_run defs _ _).mono (fun _ h => h.1) (run_main m g)))
    ((θ_run defs _ _).mono (fun _ h => h.2) (run_main m g))

theorem frame_ideal : Cert.quiescent_KernelIdeal := fun m g _ => frame_any m g

set_option maxHeartbeats 2000000 in
/-- The two programs have one text, so one run serves both. -/
theorem frame_kernel : Cert.quiescent_Kernel := fun m g _ =>
  Cert.Twin.run_of_eq Cert.Twin.tables Cert.Twin.mains (frame_any (F := Bits) m g)

/-- The launch's five arrays. -/
theorem values_ideal (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v40_0) = dqArr m c
      ∧ r.2.mem ((c.tc : Thread nD τ).loc main_v40_1) = dkArr m c
      ∧ r.2.mem ((c.tc : Thread nD τ).loc main_v40_2) = dvArr m c
      ∧ r.2.mem ((c.tc : Thread nD τ).loc main_v40_3) = dckArr m c
      ∧ r.2.mem ((c.tc : Thread nD τ).loc main_v40_4) = drowArr m c :=
  (θ_run defs _ _).mono (fun _ h c => ⟨((h.1 c).1 7).trans (out_dq m c), ((h.1 c).1 8).trans (out_dk m c), ((h.1 c).1 9).trans (out_dv m c),
    ((h.1 c).1 10).trans (out_dck m c), ((h.1 c).1 11).trans (out_drow m c)⟩) (run_main m g)

end

section
open Cert.ReferenceIdeal Cert.ReferenceIdeal.Gen

/-- The reference leaves its arguments as they were; it has no semaphore. -/
theorem frame_reference : Cert.quiescent_ReferenceIdeal := fun m g _ =>
  (θ_run defs _ _).mono (fun r h => ⟨fun c => (h c).2.2.2.2.2, sem_eq_zero_of_no_sems (by decide) r.2⟩) (Cert.ReferenceIdeal.Value.run m g)

end

open Cert.Attn Cert.KernelIdeal.Hand Cert.ReferenceIdeal.Read in
theorem values : Cert.algebraic_KernelIdeal_ReferenceIdeal_pre_finite := by
  intro m g m' g' hpre hagree
  have H : ∀ c, AllReal (argQ m c) (argK m c) (argV m c) (argC m c) (argG m c) := fun c => allReal_of _ _ _ _ _ (hpre c)
  refine ⟨fun c => dqArr m c, fun c => dkArr m c, fun c => dvArr m c, fun c => dckArr m c, fun c => drowArr m c, ?_, ?_⟩
  · refine (θ_run Cert.KernelIdeal.defs _ _).mono (fun r h c => ?_) (θ_run_and (values_ideal m g) (frame_ideal m g trivial))
    obtain ⟨h0, h1, h2, h3, h4⟩ := h.1 c
    exact ⟨h0, h1, h2, h3, h4, h.2.1 c⟩
  · refine (θ_run Cert.ReferenceIdeal.defs _ _).mono (fun r h c => ?_) (Cert.ReferenceIdeal.Value.run m' g')
    obtain ⟨h0, h1, h2, h3, h4, hargs⟩ := h c
    obtain ⟨e0, e1, e2, e3, e4⟩ := hagree c
    refine ⟨h0.trans ?_, h1.trans ?_, h2.trans ?_, h3.trans ?_, h4.trans ?_, hargs⟩
    · refine (val_main_v99_eq m' c).trans ?_
      rw [e0, e1, e2, e3, e4]
      exact (same_dq (H c)).symm
    · refine (val_main_v98_eq m' c).trans ?_
      rw [e0, e1, e2, e3, e4]
      exact (same_dk (H c)).symm
    · refine (val_main_v100_eq m' c).trans ?_
      rw [e0, e1, e3, e4]
      exact (same_dv (H c)).symm
    · refine (val_main_v102_eq m' c).trans ?_
      rw [e0, e1, e2, e3, e4]
      exact (same_dck (H c)).symm
    · refine (val_main_v104_eq m' c).trans ?_
      rw [e0, e1, e2, e3, e4]
      exact (same_drow (H c)).symm

theorem claim : Cert.Claim := ⟨Cert.Kernel.Gen.facts, Cert.KernelIdeal.Gen.facts, Cert.ReferenceIdeal.Gen.facts,
  Cert.MlpUp.Gen.facts, Cert.MlpUpIdeal.Gen.facts, Cert.MlpUpRefIdeal.Gen.facts,
  Cert.MlpDownLoss.Gen.facts, Cert.MlpDownLossIdeal.Gen.facts, Cert.MlpDownLossRefIdeal.Gen.facts,
  Cert.MlpDownWgrad.Gen.facts, Cert.MlpDownWgradIdeal.Gen.facts, Cert.MlpDownWgradRefIdeal.Gen.facts,
  Cert.MlpDownBwd.Gen.facts, Cert.MlpDownBwdIdeal.Gen.facts, Cert.MlpDownBwdRefIdeal.Gen.facts,
  Cert.MlpUpWgrad.Gen.facts, Cert.MlpUpWgradIdeal.Gen.facts, Cert.MlpUpWgradRefIdeal.Gen.facts,
  Cert.MlpUpBwd.Gen.facts, Cert.MlpUpBwdIdeal.Gen.facts, Cert.MlpUpBwdRefIdeal.Gen.facts,
  Cert.InProj.Gen.facts, Cert.InProjIdeal.Gen.facts, Cert.InProjRefIdeal.Gen.facts,
  Cert.InProjBwd.Gen.facts, Cert.InProjBwdIdeal.Gen.facts, Cert.InProjBwdRefIdeal.Gen.facts,
  Cert.InProjWgradA.Gen.facts, Cert.InProjWgradAIdeal.Gen.facts, Cert.InProjWgradARefIdeal.Gen.facts,
  Cert.InProjWgradB.Gen.facts, Cert.InProjWgradBIdeal.Gen.facts, Cert.InProjWgradBRefIdeal.Gen.facts,
  Cert.InProjWgradC.Gen.facts, Cert.InProjWgradCIdeal.Gen.facts, Cert.InProjWgradCRefIdeal.Gen.facts,
  Cert.OutProj.Gen.facts, Cert.OutProjIdeal.Gen.facts, Cert.OutProjRefIdeal.Gen.facts,
  Cert.OutProjBwd.Gen.facts, Cert.OutProjBwdIdeal.Gen.facts, Cert.OutProjBwdRefIdeal.Gen.facts,
  Cert.OutProjWgrad.Gen.facts, Cert.OutProjWgradIdeal.Gen.facts, Cert.OutProjWgradRefIdeal.Gen.facts,
  Cert.AttnOut.Gen.facts, Cert.AttnOutIdeal.Gen.facts, Cert.AttnOutRefIdeal.Gen.facts,
  Cert.AttnOutBwd.Gen.facts, Cert.AttnOutBwdIdeal.Gen.facts, Cert.AttnOutBwdRefIdeal.Gen.facts,
  Cert.AttnOutWgrad.Gen.facts, Cert.AttnOutWgradIdeal.Gen.facts, Cert.AttnOutWgradRefIdeal.Gen.facts,
  Cert.GateFwd.Gen.facts, Cert.GateFwdIdeal.Gen.facts, Cert.GateFwdRefIdeal.Gen.facts,
  Cert.GateBwd.Gen.facts, Cert.GateBwdIdeal.Gen.facts, Cert.GateBwdRefIdeal.Gen.facts,
  Cert.Pre_finite.Gen.facts,
  frame_kernel, frame_ideal, fun m g _ => frame_ideal m g trivial, frame_reference, fun m g _ => frame_reference m g trivial,
  fun m g _ => Cert.MlpUp.Gen.frame m g, fun m g _ => Cert.MlpUpIdeal.Gen.frame m g, Cert.MlpUpIdeal.Hand.frame_ref,
  fun m g _ => Cert.MlpDownLoss.Gen.frame m g, fun m g _ => Cert.MlpDownLossIdeal.Gen.frame m g, Cert.MlpDownLossIdeal.Hand.frame_ref,
  fun m g _ => Cert.MlpDownWgrad.Gen.frame m g, fun m g _ => Cert.MlpDownWgradIdeal.Gen.frame m g, Cert.MlpDownWgradIdeal.Hand.frame_ref,
  fun m g _ => Cert.MlpDownBwd.Gen.frame m g, fun m g _ => Cert.MlpDownBwdIdeal.Gen.frame m g, Cert.MlpDownBwdIdeal.Hand.frame_ref,
  fun m g _ => Cert.MlpUpWgrad.Gen.frame m g, fun m g _ => Cert.MlpUpWgradIdeal.Gen.frame m g, Cert.MlpUpWgradIdeal.Hand.frame_ref,
  fun m g _ => Cert.MlpUpBwd.Gen.frame m g, fun m g _ => Cert.MlpUpBwdIdeal.Gen.frame m g, Cert.MlpUpBwdIdeal.Hand.frame_ref,
  fun m g _ => Cert.InProj.Gen.frame m g, fun m g _ => Cert.InProjIdeal.Gen.frame m g, Cert.InProjIdeal.Hand.frame_ref,
  fun m g _ => Cert.InProjBwd.Gen.frame m g, fun m g _ => Cert.InProjBwdIdeal.Gen.frame m g, Cert.InProjBwdIdeal.Hand.frame_ref,
  fun m g _ => Cert.InProjWgradA.Gen.frame m g, fun m g _ => Cert.InProjWgradAIdeal.Gen.frame m g, Cert.InProjWgradAIdeal.Hand.frame_ref,
  fun m g _ => Cert.InProjWgradB.Gen.frame m g, fun m g _ => Cert.InProjWgradBIdeal.Gen.frame m g, Cert.InProjWgradBIdeal.Hand.frame_ref,
  fun m g _ => Cert.InProjWgradC.Gen.frame m g, fun m g _ => Cert.InProjWgradCIdeal.Gen.frame m g, Cert.InProjWgradCIdeal.Hand.frame_ref,
  fun m g _ => Cert.OutProj.Gen.frame m g, fun m g _ => Cert.OutProjIdeal.Gen.frame m g, Cert.OutProjIdeal.Hand.frame_ref,
  fun m g _ => Cert.OutProjBwd.Gen.frame m g, fun m g _ => Cert.OutProjBwdIdeal.Gen.frame m g, Cert.OutProjBwdIdeal.Hand.frame_ref,
  fun m g _ => Cert.OutProjWgrad.Gen.frame m g, fun m g _ => Cert.OutProjWgradIdeal.Gen.frame m g, Cert.OutProjWgradIdeal.Hand.frame_ref,
  fun m g _ => Cert.AttnOut.Gen.frame m g, fun m g _ => Cert.AttnOutIdeal.Gen.frame m g, Cert.AttnOutIdeal.Hand.frame_ref,
  fun m g _ => Cert.AttnOutBwd.Gen.frame m g, fun m g _ => Cert.AttnOutBwdIdeal.Gen.frame m g, Cert.AttnOutBwdIdeal.Hand.frame_ref,
  fun m g _ => Cert.AttnOutWgrad.Gen.frame m g, fun m g _ => Cert.AttnOutWgradIdeal.Gen.frame m g, Cert.AttnOutWgradIdeal.Hand.frame_ref,
  fun m g _ => Cert.GateFwd.Gen.frame m g, fun m g _ => Cert.GateFwdIdeal.Gen.frame m g, Cert.GateFwdIdeal.Hand.frame_ref,
  fun m g _ => Cert.GateBwd.Gen.frame m g, fun m g _ => Cert.GateBwdIdeal.Gen.frame m g, Cert.GateBwdIdeal.Hand.frame_ref,
  trivial, values,
  trivial, Cert.MlpUpIdeal.Hand.values, trivial, Cert.MlpDownLossIdeal.Hand.values, trivial,
  Cert.MlpDownWgradIdeal.Hand.values, trivial, Cert.MlpDownBwdIdeal.Hand.values, trivial,
  Cert.MlpUpWgradIdeal.Hand.values, trivial, Cert.MlpUpBwdIdeal.Hand.values, trivial, Cert.InProjIdeal.Hand.values,
  trivial, Cert.InProjBwdIdeal.Hand.values, trivial, Cert.InProjWgradAIdeal.Hand.values, trivial,
  Cert.InProjWgradBIdeal.Hand.values, trivial, Cert.InProjWgradCIdeal.Hand.values, trivial,
  Cert.OutProjIdeal.Hand.values, trivial, Cert.OutProjBwdIdeal.Hand.values, trivial,
  Cert.OutProjWgradIdeal.Hand.values, trivial, Cert.AttnOutIdeal.Hand.values, trivial,
  Cert.AttnOutBwdIdeal.Hand.values, trivial, Cert.AttnOutWgradIdeal.Hand.values, trivial,
  Cert.GateFwdIdeal.Hand.values, trivial, Cert.GateBwdIdeal.Hand.values⟩

end Cert.Proof

end
